-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_tables_in_range2 : Cert.Pre_tables_in_range2.Facts] (m : (ℓ : Loc Cert.Kernel2.nD Cert.Kernel2.τ Cert.Kernel2.sig) → Buf (Elt Bits) ℓ) : Prop :=
  ∀ c : Dev Cert.Kernel2.nD,
    (Cert.Pre_tables_in_range2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_tables_in_range2 : Cert.Pre_tables_in_range2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_tables_in_range2 : Cert.Pre_tables_in_range2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tables_in_range2 : Cert.Pre_tables_in_range2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tables_in_range2 : Cert.Pre_tables_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_tables_in_range2 : Cert.Pre_tables_in_range2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_tables_in_range2 : Cert.Pre_tables_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v19)) (v1 : (c : Dev Cert.Kernel3Ideal.nD) → Buf (Elt Ideal) ((c.tc : Thread Cert.Kernel3Ideal.nD Cert.Kernel3Ideal.τ).loc Cert.Kernel3Ideal.main_v21)) (v2 : (c : Dev Cert.Kernel3Ideal.nD) → Buf (Elt Ideal) ((c.tc : Thread Cert.Kernel3Ideal.nD Cert.Kernel3Ideal.τ).loc Cert.Kernel3Ideal.main_v25)) (v3 : (c : Dev Cert.Kernel3Ideal.nD) → Buf (Elt Ideal) ((c.tc : Thread Cert.Kernel3Ideal.nD Cert.Kernel3Ideal.τ).loc Cert.Kernel3Ideal.main_v36)) (v4 : (c : Dev Cert.Kernel3Ideal.nD) → Buf (Elt Ideal) ((c.tc : Thread Cert.Kernel3Ideal.nD Cert.Kernel3Ideal.τ).loc Cert.Kernel3Ideal.main_v17)) (v5 : (c : Dev Cert.Kernel3Ideal.nD) → Buf (Elt Ideal) ((c.tc : Thread Cert.Kernel3Ideal.nD Cert.Kernel3Ideal.τ).loc Cert.Kernel3Ideal.main_v23)) (v6 : (c : Dev Cert.Kernel3Ideal.nD) → Buf (Elt Ideal) ((c.tc : Thread Cert.Kernel3Ideal.nD Cert.Kernel3Ideal.τ).loc Cert.Kernel3Ideal.main_v27)) (v7 : (c : Dev Cert.Kernel3Ideal.nD) → Buf (Elt Ideal) ((c.tc : Thread Cert.Kernel3Ideal.nD Cert.Kernel3Ideal.τ).loc Cert.Kernel3Ideal.main_v29)) (v8 : (c : Dev Cert.Kernel3Ideal.nD) → Buf (Elt Ideal) ((c.tc : Thread Cert.Kernel3Ideal.nD Cert.Kernel3Ideal.τ).loc Cert.Kernel3Ideal.main_v31)) (v9 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_v21) = v1 c
          ∧ r.2.mem ((c.tc : Thread Cert.Kernel3Ideal.nD Cert.Kernel3Ideal.τ).loc Cert.Kernel3Ideal.main_v25) = v2 c
          ∧ r.2.mem ((c.tc : Thread Cert.Kernel3Ideal.nD Cert.Kernel3Ideal.τ).loc Cert.Kernel3Ideal.main_v36) = v3 c
          ∧ r.2.mem ((c.tc : Thread Cert.Kernel3Ideal.nD Cert.Kernel3Ideal.τ).loc Cert.Kernel3Ideal.main_v17) = v4 c
          ∧ r.2.mem ((c.tc : Thread Cert.Kernel3Ideal.nD Cert.Kernel3Ideal.τ).loc Cert.Kernel3Ideal.main_v23) = v5 c
          ∧ r.2.mem ((c.tc : Thread Cert.Kernel3Ideal.nD Cert.Kernel3Ideal.τ).loc Cert.Kernel3Ideal.main_v27) = v6 c
          ∧ r.2.mem ((c.tc : Thread Cert.Kernel3Ideal.nD Cert.Kernel3Ideal.τ).loc Cert.Kernel3Ideal.main_v29) = v7 c
          ∧ r.2.mem ((c.tc : Thread Cert.Kernel3Ideal.nD Cert.Kernel3Ideal.τ).loc Cert.Kernel3Ideal.main_v31) = v8 c
          ∧ r.2.mem ((c.tc : Thread Cert.Kernel3Ideal.nD Cert.Kernel3Ideal.τ).loc Cert.Kernel3Ideal.main_v33) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v15) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v18) = v4 c
          ∧ r.2.mem ((c.tc : Thread Cert.Reference3Ideal.nD Cert.Reference3Ideal.τ).loc Cert.Reference3Ideal.main_v19) = v5 c
          ∧ r.2.mem ((c.tc : Thread Cert.Reference3Ideal.nD Cert.Reference3Ideal.τ).loc Cert.Reference3Ideal.main_v7) = v6 c
          ∧ r.2.mem ((c.tc : Thread Cert.Reference3Ideal.nD Cert.Reference3Ideal.τ).loc Cert.Reference3Ideal.main_v8) = v7 c
          ∧ r.2.mem ((c.tc : Thread Cert.Reference3Ideal.nD Cert.Reference3Ideal.τ).loc Cert.Reference3Ideal.main_v9) = v8 c
          ∧ r.2.mem ((c.tc : Thread Cert.Reference3Ideal.nD Cert.Reference3Ideal.τ).loc Cert.Reference3Ideal.main_v10) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v28)) (v1 : (c : Dev Cert.Kernel4Ideal.nD) → Buf (Elt Ideal) ((c.tc : Thread Cert.Kernel4Ideal.nD Cert.Kernel4Ideal.τ).loc Cert.Kernel4Ideal.main_v29)) (v2 : (c : Dev Cert.Kernel4Ideal.nD) → Buf (Elt Ideal) ((c.tc : Thread Cert.Kernel4Ideal.nD Cert.Kernel4Ideal.τ).loc Cert.Kernel4Ideal.main_v30)) (v3 : (c : Dev Cert.Kernel4Ideal.nD) → Buf (Elt Ideal) ((c.tc : Thread Cert.Kernel4Ideal.nD Cert.Kernel4Ideal.τ).loc Cert.Kernel4Ideal.main_v27)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28) = v0 c
          ∧ r.2.mem ((c.tc : Thread Cert.Kernel4Ideal.nD Cert.Kernel4Ideal.τ).loc Cert.Kernel4Ideal.main_v29) = v1 c
          ∧ r.2.mem ((c.tc : Thread Cert.Kernel4Ideal.nD Cert.Kernel4Ideal.τ).loc Cert.Kernel4Ideal.main_v30) = v2 c
          ∧ r.2.mem ((c.tc : Thread Cert.Kernel4Ideal.nD Cert.Kernel4Ideal.τ).loc Cert.Kernel4Ideal.main_v27) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v15) = v2 c
          ∧ r.2.mem ((c.tc : Thread Cert.Reference4Ideal.nD Cert.Reference4Ideal.τ).loc Cert.Reference4Ideal.main_v17) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v1)) (v3 : (c : Dev Cert.Kernel5Ideal.nD) → Buf (Elt Ideal) ((c.tc : Thread Cert.Kernel5Ideal.nD Cert.Kernel5Ideal.τ).loc Cert.Kernel5Ideal.main_v2)) (v4 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v1) = v2 c
          ∧ r.2.mem ((c.tc : Thread Cert.Kernel5Ideal.nD Cert.Kernel5Ideal.τ).loc Cert.Kernel5Ideal.main_v2) = v3 c
          ∧ r.2.mem ((c.tc : Thread Cert.Kernel5Ideal.nD Cert.Kernel5Ideal.τ).loc Cert.Kernel5Ideal.main_v3) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_v9) = v2 c
          ∧ r.2.mem ((c.tc : Thread Cert.Reference5Ideal.nD Cert.Reference5Ideal.τ).loc Cert.Reference5Ideal.main_v10) = v3 c
          ∧ r.2.mem ((c.tc : Thread Cert.Reference5Ideal.nD Cert.Reference5Ideal.τ).loc Cert.Reference5Ideal.main_v11) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v109) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.bf16_pair.BufferStatement Cert.Kernel8Ideal.S8192x2x1024 Cert.Kernel8Ideal.S8192x1x1024
  ∧ IdealRules.bf16_pair.BufferStatement Cert.Kernel8Ideal.S256x2x1024 Cert.Kernel8Ideal.S256x1x1024
  ∧ IdealRules.bf16_pair.Statement Cert.Kernel8Ideal.S256x2x1024 Cert.Kernel8Ideal.S256x1x1024
  ∧ IdealRules.bf16_pack.Statement Cert.Kernel8Ideal.S256x1024

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v13_0)) (v1 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13_0) = v0 c
          ∧ r.2.mem ((c.tc : Thread Cert.Kernel8Ideal.nD Cert.Kernel8Ideal.τ).loc Cert.Kernel8Ideal.main_v14) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  IdealRules.bf16_pair.BufferStatement Cert.Kernel10Ideal.S64x2x1024 Cert.Kernel10Ideal.S64x1x1024
  ∧ IdealRules.bf16_pair.Statement Cert.Kernel10Ideal.S64x2x1024 Cert.Kernel10Ideal.S64x1x1024
  ∧ IdealRules.bf16_pack.Statement Cert.Kernel10Ideal.S64x1024

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v13_0)) (v1 : (c : Dev Cert.Kernel10Ideal.nD) → Buf (Elt Ideal) ((c.tc : Thread Cert.Kernel10Ideal.nD Cert.Kernel10Ideal.τ).loc Cert.Kernel10Ideal.main_v14)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13_0) = v0 c
          ∧ r.2.mem ((c.tc : Thread Cert.Kernel10Ideal.nD Cert.Kernel10Ideal.τ).loc Cert.Kernel10Ideal.main_v14) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v33) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v10)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v111) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_tables_in_range : Cert.Pre_tables_in_range.Facts) (hPre_tables_in_range2 : Cert.Pre_tables_in_range2.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal) (hPre_tables_in_range := hPre_tables_in_range)
    ∧ quiescent_Kernel2 (hKernel2 := hKernel2) (hPre_tables_in_range2 := hPre_tables_in_range2)
    ∧ quiescent_Kernel2Ideal (hKernel2Ideal := hKernel2Ideal) (hPre_tables_in_range2 := hPre_tables_in_range2)
    ∧ quiescent_Reference2Ideal (hReference2Ideal := hReference2Ideal) (hPre_tables_in_range2 := hPre_tables_in_range2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal) (hPre_tables_in_range2 := hPre_tables_in_range2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_tables_in_range.lean ====
abbrev S168 : Shape := ⟨1, ![168]⟩
abbrev S1 : Shape := ⟨1, ![1]⟩
abbrev S41216x1024 : Shape := ⟨2, ![41216, 1024]⟩
abbrev S32x2048x4096 : Shape := ⟨3, ![32, 2048, 4096]⟩
abbrev S32x1x4096 : Shape := ⟨3, ![32, 1, 4096]⟩
abbrev S_ : Shape := ⟨0, ![]⟩

class Facts : Prop where
  bcast_S_S168 : S_.BroadcastsInDim S168 (![] : Fin 0 → Fin S168.rank)
  reducesTo_S168_S_d0 : S168.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S168 32) (main_arg1 : IVec S1 32) (main_arg2 : IVec S41216x1024 32) (main_arg3 : FVec F S32x2048x4096 .f32) (main_arg4 : FVec F S32x1x4096 .f32) : IVec S_ 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  let main_c_1 : IVec S_ 1 := constantI S_ 1 1#1
  let main_v5 : IVec S_ 1 := (fun x v => Host.reduce IntOp.andi x v reducesTo_S168_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 161#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_tables_in_range2.lean ====
abbrev S168 : Shape := ⟨1, ![168]⟩
abbrev S1 : Shape := ⟨1, ![1]⟩
abbrev S41216x2048 : Shape := ⟨2, ![41216, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S168 : S_.BroadcastsInDim S168 (![] : Fin 0 → Fin S168.rank)
  reducesTo_S168_S_d0 : S168.ReducesTo [0] S_
  h_S_ : 0 < S_.numel

variable [Facts]

def fn {F : FTy → Type} [FloatOps F] (main_arg0 : IVec S168 32) (main_arg1 : IVec S1 32) (main_arg2 : FVec F S41216x2048 .bf16) (main_arg3 : FVec F S32x2048x2048 .f32) (main_arg4 : FVec F S32x1x2048 .f32) : IVec S_ 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  let main_c_1 : IVec S_ 1 := constantI S_ 1 1#1
  let main_v5 : IVec S_ 1 := (fun x v => Host.reduce IntOp.andi x v reducesTo_S168_S_d0 h_S_) main_v4 main_c_1
  main_v5
-- ==== Kernel.lean ====
abbrev S168 : Shape := ⟨1, ![168]⟩
abbrev S1 : Shape := ⟨1, ![1]⟩
abbrev S41216x1024 : Shape := ⟨2, ![41216, 1024]⟩
abbrev S32x2048x4096 : Shape := ⟨3, ![32, 2048, 4096]⟩
abbrev S32x1x4096 : Shape := ⟨3, ![32, 1, 4096]⟩
abbrev S41216x2048 : Shape := ⟨2, ![41216, 2048]⟩
abbrev S256x1024 : Shape := ⟨2, ![256, 1024]⟩
abbrev S1x2048x1024 : Shape := ⟨3, ![1, 2048, 1024]⟩
abbrev S1x1x1024 : Shape := ⟨3, ![1, 1, 1024]⟩
abbrev S2048x1024 : Shape := ⟨2, ![2048, 1024]⟩
abbrev S256x2048 : Shape := ⟨2, ![256, 2048]⟩
abbrev S1x1024 : Shape := ⟨2, ![1, 1024]⟩

abbrev nBuf : Space → Nat
  | .hbm => 4
  | .vmem => 14
  | .smem => 2
  | _ => 0

abbrev bufTy : (tb : Table) → Fin (tcTables nBuf tb) → BufTy
  | .hbm, ⟨0, _⟩ => ⟨S41216x1024, .i32⟩
  | .hbm, ⟨1, _⟩ => ⟨S32x2048x4096, .f32⟩
  | .hbm, ⟨2, _⟩ => ⟨S32x1x4096, .f32⟩
  | .hbm, ⟨3, _⟩ => ⟨S41216x2048, .bf16⟩
  | .local _ .vmem, ⟨0, _⟩ => ⟨S256x1024, .i32⟩
  | .local _ .vmem, ⟨1, _⟩ => ⟨S256x1024, .i32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S2048x1024, .bf16⟩
  | .local _ .smem, ⟨0, _⟩ => ⟨S168, .i32⟩
  | .local _ .smem, ⟨1, _⟩ => ⟨S1, .i32⟩
  | _, _ => ⟨S41216x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 161], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S168 : Shape := ⟨1, ![168]⟩
abbrev S1 : Shape := ⟨1, ![1]⟩
abbrev S41216x1024 : Shape := ⟨2, ![41216, 1024]⟩
abbrev S32x2048x4096 : Shape := ⟨3, ![32, 2048, 4096]⟩
abbrev S32x1x4096 : Shape := ⟨3, ![32, 1, 4096]⟩
abbrev S_ : Shape := ⟨0, ![]⟩
abbrev S41216x2048 : Shape := ⟨2, ![41216, 2048]⟩
abbrev S161x256x2048 : Shape := ⟨3, ![161, 256, 2048]⟩
abbrev S161 : Shape := ⟨1, ![161]⟩
abbrev S161x1 : Shape := ⟨2, ![161, 1]⟩
abbrev S161x2048x4096 : Shape := ⟨3, ![161, 2048, 4096]⟩
abbrev S161x256x4096 : Shape := ⟨3, ![161, 256, 4096]⟩
abbrev S161x1x4096 : Shape := ⟨3, ![161, 1, 4096]⟩
abbrev S161x1x1 : Shape := ⟨3, ![161, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S168, .i32⟩
  | .hbm, ⟨1, _⟩ => ⟨S1, .i32⟩
  | .hbm, ⟨2, _⟩ => ⟨S41216x1024, .i32⟩
  | .hbm, ⟨3, _⟩ => ⟨S32x2048x4096, .f32⟩
  | .hbm, ⟨4, _⟩ => ⟨S32x1x4096, .f32⟩
  | .hbm, ⟨5, _⟩ => ⟨S_, .i32⟩
  | .hbm, ⟨6, _⟩ => ⟨S41216x1024, .i32⟩
  | .hbm, ⟨7, _⟩ => ⟨S41216x1024, .i32⟩
  | .hbm, ⟨8, _⟩ => ⟨S41216x1024, .f32⟩
  | .hbm, ⟨9, _⟩ => ⟨S_, .i32⟩
  | .hbm, ⟨10, _⟩ => ⟨S41216x1024, .i32⟩
  | .hbm, ⟨11, _⟩ => ⟨S41216x1024, .i32⟩
  | .hbm, ⟨12, _⟩ => ⟨S41216x1024, .f32⟩
  | .hbm, ⟨13, _⟩ => ⟨S41216x2048, .f32⟩
  | .hbm, ⟨14, _⟩ => ⟨S161x256x2048, .f32⟩
  | .hbm, ⟨15, _⟩ => ⟨S161, .i32⟩
  | .hbm, ⟨16, _⟩ => ⟨S_, .i32⟩
  | .hbm, ⟨17, _⟩ => ⟨S161, .i32⟩
  | .hbm, ⟨18, _⟩ => ⟨S161, .i1⟩
  | .hbm, ⟨19, _⟩ => ⟨S_, .i32⟩
  | .hbm, ⟨20, _⟩ => ⟨S161, .i32⟩
  | .hbm, ⟨21, _⟩ => ⟨S161, .i32⟩
  | .hbm, ⟨22, _⟩ => ⟨S161, .i32⟩
  | .hbm, ⟨23, _⟩ => ⟨S161x1, .i32⟩
  | .hbm, ⟨24, _⟩ => ⟨S161x2048x4096, .f32⟩
  | .hbm, ⟨25, _⟩ => ⟨S161x256x4096, .f32⟩
  | .hbm, ⟨26, _⟩ => ⟨S_, .i32⟩
  | .hbm, ⟨27, _⟩ => ⟨S161, .i32⟩
  | .hbm, ⟨28, _⟩ => ⟨S161, .i1⟩
  | .hbm, ⟨29, _⟩ => ⟨S_, .i32⟩
  | .hbm, ⟨30, _⟩ => ⟨S161, .i32⟩
  | .hbm, ⟨31, _⟩ => ⟨S161, .i32⟩
  | .hbm, ⟨32, _⟩ => ⟨S161, .i32⟩
  | .hbm, ⟨33, _⟩ => ⟨S161x1, .i32⟩
  | .hbm, ⟨34, _⟩ => ⟨S161x1x4096, .f32⟩
  | .hbm, ⟨35, _⟩ => ⟨S161x256x4096, .f32⟩
  | .hbm, ⟨36, _⟩ => ⟨S161x256x4096, .f32⟩
  | .hbm, ⟨37, _⟩ => ⟨S161x256x2048, .f32⟩
  | .hbm, ⟨38, _⟩ => ⟨S_, .f32⟩
  | .hbm, ⟨39, _⟩ => ⟨S161x256x2048, .f32⟩
  | .hbm, ⟨40, _⟩ => ⟨S161x256x2048, .f32⟩
  | .hbm, ⟨41, _⟩ => ⟨S161x256x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S161x256x2048, .f32⟩
  | .hbm, ⟨46, _⟩ => ⟨S161x256x2048, .f32⟩
  | .hbm, ⟨47, _⟩ => ⟨S_, .f32⟩
  | .hbm, ⟨48, _⟩ => ⟨S161x256x2048, .f32⟩
  | .hbm, ⟨49, _⟩ => ⟨S161x256x2048, .f32⟩
  | .hbm, ⟨50, _⟩ => ⟨S_, .f32⟩
  | .hbm, ⟨51, _⟩ => ⟨S161x256x2048, .f32⟩
  | .hbm, ⟨52, _⟩ => ⟨S161x256x2048, .f32⟩
  | .hbm, ⟨53, _⟩ => ⟨S_, .f32⟩
  | .hbm, ⟨54, _⟩ => ⟨S161x256x2048, .f32⟩
  | .hbm, ⟨55, _⟩ => ⟨S161x256x2048, .f32⟩
  | .hbm, ⟨56, _⟩ => ⟨S161x256x2048, .f32⟩
  | .hbm, ⟨57, _⟩ => ⟨S161x256x2048, .f32⟩
  | .hbm, ⟨58, _⟩ => ⟨S_, .f32⟩
  | .hbm, ⟨59, _⟩ => ⟨S161x256x2048, .f32⟩
  | .hbm, ⟨60, _⟩ => ⟨S161x256x2048, .f32⟩
  | .hbm, ⟨61, _⟩ => ⟨S_, .f32⟩
  | .hbm, ⟨62, _⟩ => ⟨S161x256x2048, .f32⟩
  | .hbm, ⟨63, _⟩ => ⟨S161x256x2048, .f32⟩
  | .hbm, ⟨64, _⟩ => ⟨S161x256x2048, .f32⟩
  | .hbm, ⟨65, _⟩ => ⟨S161x256x2048, .f32⟩
  | .hbm, ⟨66, _⟩ => ⟨S161, .i32⟩
  | .hbm, ⟨67, _⟩ => ⟨S_, .i32⟩
  | .hbm, ⟨68, _⟩ => ⟨S161, .i32⟩
  | .hbm, ⟨69, _⟩ => ⟨S161, .i1⟩
  | .hbm, ⟨70, _⟩ => ⟨S161x1x1, .i1⟩
  | .hbm, ⟨71, _⟩ => ⟨S_, .f32⟩
  | .hbm, ⟨72, _⟩ => ⟨S_, .f32⟩
  | .hbm, ⟨73, _⟩ => ⟨S161x256x2048, .i1⟩
  | .hbm, ⟨74, _⟩ => ⟨S161x256x2048, .f32⟩
  | .hbm, ⟨75, _⟩ => ⟨S161x256x2048, .f32⟩
  | .hbm, ⟨76, _⟩ => ⟨S41216x2048, .f32⟩
  | .hbm, ⟨77, _⟩ => ⟨S41216x2048, .bf16⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_cst_6 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]
-- ==== Kernel2.lean ====
abbrev S168 : Shape := ⟨1, ![168]⟩
abbrev S1 : Shape := ⟨1, ![1]⟩
abbrev S41216x2048 : Shape := ⟨2, ![41216, 2048]⟩
abbrev S32x2048x2048 : Shape := ⟨3, ![32, 2048, 2048]⟩
abbrev S32x1x2048 : Shape := ⟨3, ![32, 1, 2048]⟩
abbrev S256x2048 : Shape := ⟨2, ![256, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 4
  | .vmem => 9
  | .smem => 2
  | _ => 0

abbrev bufTy : (tb : Table) → Fin (tcTables nBuf tb) → BufTy
  | .hbm, ⟨0, _⟩ => ⟨S41216x2048, .bf16⟩
  | .hbm, ⟨1, _⟩ => ⟨S32x2048x2048, .f32⟩
  | .hbm, ⟨2, _⟩ => ⟨S32x1x2048, .f32⟩
  | .hbm, ⟨3, _⟩ => ⟨S41216x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .f32⟩
  | .local _ .vmem, ⟨3, _⟩ => ⟨S1x2048x2048, .f32⟩
  | .local _ .vmem, ⟨4, _⟩ => ⟨S1x1x2048, .f32⟩
  | .local _ .vmem, ⟨5, _⟩ => ⟨S1x1x2048, .f32⟩
  | .local _ .vmem, ⟨6, _⟩ => ⟨S256x2048, .f32⟩
  | .local _ .vmem, ⟨7, _⟩ => ⟨S256x2048, .f32⟩
  | .local _ .vmem, ⟨8, _⟩ => ⟨S2048x2048, .bf16⟩
  | .local _ .smem, ⟨0, _⟩ => ⟨S168, .i32⟩
  | .local _ .smem, ⟨1, _⟩ => ⟨S1, .i32⟩
  | _, _ => ⟨S41216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 161], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S168 : Shape := ⟨1, ![168]⟩
abbrev S1 : Shape := ⟨1, ![1]⟩
abbrev S41216x2048 : Shape := ⟨2, ![41216, 2048]⟩
abbrev S32x2048x2048 : Shape := ⟨3, ![32, 2048, 2048]⟩
abbrev S32x1x2048 : Shape := ⟨3, ![32, 1, 2048]⟩
abbrev S161x256x2048 : Shape := ⟨3, ![161, 256, 2048]⟩
abbrev S161 : Shape := ⟨1, ![161]⟩
abbrev S_ : Shape := ⟨0, ![]⟩
abbrev S161x1 : Shape := ⟨2, ![161, 1]⟩
abbrev S161x2048x2048 : Shape := ⟨3, ![161, 2048, 2048]⟩
abbrev S161x1x2048 : Shape := ⟨3, ![161, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S168, .i32⟩
  | .hbm, ⟨1, _⟩ => ⟨S1, .i32⟩
  | .hbm, ⟨2, _⟩ => ⟨S41216x2048, .bf16⟩
  | .hbm, ⟨3, _⟩ => ⟨S32x2048x2048, .f32⟩
  | .hbm, ⟨4, _⟩ => ⟨S32x1x2048, .f32⟩
  | .hbm, ⟨5, _⟩ => ⟨S41216x2048, .f32⟩
  | .hbm, ⟨6, _⟩ => ⟨S161x256x2048, .f32⟩
  | .hbm, ⟨7, _⟩ => ⟨S161, .i32⟩
  | .hbm, ⟨8, _⟩ => ⟨S_, .i32⟩
  | .hbm, ⟨9, _⟩ => ⟨S161, .i32⟩
  | .hbm, ⟨10, _⟩ => ⟨S161, .i1⟩
  | .hbm, ⟨11, _⟩ => ⟨S_, .i32⟩
  | .hbm, ⟨12, _⟩ => ⟨S161, .i32⟩
  | .hbm, ⟨13, _⟩ => ⟨S161, .i32⟩
  | .hbm, ⟨14, _⟩ => ⟨S161, .i32⟩
  | .hbm, ⟨15, _⟩ => ⟨S161x1, .i32⟩
  | .hbm, ⟨16, _⟩ => ⟨S161x2048x2048, .f32⟩
  | .hbm, ⟨17, _⟩ => ⟨S161x256x2048, .f32⟩
  | .hbm, ⟨18, _⟩ => ⟨S_, .i32⟩
  | .hbm, ⟨19, _⟩ => ⟨S161, .i32⟩
  | .hbm, ⟨20, _⟩ => ⟨S161, .i1⟩
  | .hbm, ⟨21, _⟩ => ⟨S_, .i32⟩
  | .hbm, ⟨22, _⟩ => ⟨S161, .i32⟩
  | .hbm, ⟨23, _⟩ => ⟨S161, .i32⟩
  | .hbm, ⟨24, _⟩ => ⟨S161, .i32⟩
  | .hbm, ⟨25, _⟩ => ⟨S161x1, .i32⟩
  | .hbm, ⟨26, _⟩ => ⟨S161x1x2048, .f32⟩
  | .hbm, ⟨27, _⟩ => ⟨S161x256x2048, .f32⟩
  | .hbm, ⟨28, _⟩ => ⟨S161x256x2048, .f32⟩
  | .hbm, ⟨29, _⟩ => ⟨S41216x2048, .f32⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel3.lean ====
abbrev S2x4096x2048 : Shape := ⟨3, ![2, 4096, 2048]⟩
abbrev S1x2048x7760 : Shape := ⟨3, ![1, 2048, 7760]⟩
abbrev S2048x7760 : Shape := ⟨2, ![2048, 7760]⟩
abbrev S7760x2048 : Shape := ⟨2, ![7760, 2048]⟩
abbrev S1024x2048 : Shape := ⟨2, ![1024, 2048]⟩
abbrev S2048x2048 : Shape := ⟨2, ![2048, 2048]⟩
abbrev S256x2048 : Shape := ⟨2, ![256, 2048]⟩
abbrev S64x2048 : Shape := ⟨2, ![64, 2048]⟩
abbrev S16x2048 : Shape := ⟨2, ![16, 2048]⟩
abbrev S_ : Shape := ⟨0, ![]⟩
abbrev S432x2048 : Shape := ⟨2, ![432, 2048]⟩
abbrev S8192x2048 : Shape := ⟨2, ![8192, 2048]⟩
abbrev S8192x8192 : Shape := ⟨2, ![8192, 8192]⟩
abbrev S512x2048 : Shape := ⟨2, ![512, 2048]⟩
abbrev S1024x512 : Shape := ⟨2, ![1024, 512]⟩
abbrev S8192x1024 : Shape := ⟨2, ![8192, 1024]⟩
abbrev S2x4096x16x64 : Shape := ⟨4, ![2, 4096, 16, 64]⟩
abbrev S8192x256 : Shape := ⟨2, ![8192, 256]⟩
abbrev S1x2x4096x4x64 : Shape := ⟨5, ![1, 2, 4096, 4, 64]⟩
abbrev S8192x64 : Shape := ⟨2, ![8192, 64]⟩
abbrev S1x2x4096x64 : Shape := ⟨4, ![1, 2, 4096, 64]⟩
abbrev S8192x16 : Shape := ⟨2, ![8192, 16]⟩
abbrev S2x4096x16 : Shape := ⟨3, ![2, 4096, 16]⟩
abbrev S2x4096x1024 : Shape := ⟨3, ![2, 4096, 1024]⟩
abbrev S2x4096x8192 : Shape := ⟨3, ![2, 4096, 8192]⟩
abbrev S2x15x1024 : Shape := ⟨3, ![2, 15, 1024]⟩
abbrev S1x2x15x1024 : Shape := ⟨4, ![1, 2, 15, 1024]⟩

abbrev nBuf : Space → Nat
  | .hbm => 40
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S1x2048x7760, .f32⟩
  | .hbm, ⟨2, _⟩ => ⟨S2048x7760, .f32⟩
  | .hbm, ⟨3, _⟩ => ⟨S7760x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S256x2048, .f32⟩
  | .hbm, ⟨10, _⟩ => ⟨S256x2048, .f32⟩
  | .hbm, ⟨11, _⟩ => ⟨S64x2048, .f32⟩
  | .hbm, ⟨12, _⟩ => ⟨S16x2048, .f32⟩
  | .hbm, ⟨13, _⟩ => ⟨S_, .f32⟩
  | .hbm, ⟨14, _⟩ => ⟨S432x2048, .f32⟩
  | .hbm, ⟨15, _⟩ => ⟨S8192x2048, .f32⟩
  | .hbm, ⟨16, _⟩ => ⟨S8192x2048, .bf16⟩
  | .hbm, ⟨17, _⟩ => ⟨S8192x2048, .f32⟩
  | .hbm, ⟨18, _⟩ => ⟨S8192x8192, .f32⟩
  | .hbm, ⟨19, _⟩ => ⟨S8192x1024, .f32⟩
  | .hbm, ⟨20, _⟩ => ⟨S2x4096x16x64, .f32⟩
  | .hbm, ⟨21, _⟩ => ⟨S8192x256, .f32⟩
  | .hbm, ⟨22, _⟩ => ⟨S1x2x4096x4x64, .f32⟩
  | .hbm, ⟨23, _⟩ => ⟨S8192x256, .f32⟩
  | .hbm, ⟨24, _⟩ => ⟨S1x2x4096x4x64, .f32⟩
  | .hbm, ⟨25, _⟩ => ⟨S8192x1024, .f32⟩
  | .hbm, ⟨26, _⟩ => ⟨S2x4096x16x64, .f32⟩
  | .hbm, ⟨27, _⟩ => ⟨S8192x64, .f32⟩
  | .hbm, ⟨28, _⟩ => ⟨S1x2x4096x64, .f32⟩
  | .hbm, ⟨29, _⟩ => ⟨S8192x16, .f32⟩
  | .hbm, ⟨30, _⟩ => ⟨S2x4096x16, .f32⟩
  | .hbm, ⟨31, _⟩ => ⟨S8192x1024, .f32⟩
  | .hbm, ⟨32, _⟩ => ⟨S2x4096x1024, .f32⟩
  | .hbm, ⟨33, _⟩ => ⟨S8192x2048, .f32⟩
  | .hbm, ⟨34, _⟩ => ⟨S2x4096x2048, .f32⟩
  | .hbm, ⟨35, _⟩ => ⟨S8192x2048, .f32⟩
  | .hbm, ⟨36, _⟩ => ⟨S2x4096x2048, .f32⟩
  | .hbm, ⟨37, _⟩ => ⟨S2x4096x8192, .f32⟩
  | .hbm, ⟨38, _⟩ => ⟨S2x15x1024, .f32⟩
  | .hbm, ⟨39, _⟩ => ⟨S1x2x15x1024, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x4096x2048 : Shape := ⟨3, ![2, 4096, 2048]⟩
abbrev S1x2048x7760 : Shape := ⟨3, ![1, 2048, 7760]⟩
abbrev S2048x7760 : Shape := ⟨2, ![2048, 7760]⟩
abbrev S2x4096x7760 : Shape := ⟨3, ![2, 4096, 7760]⟩
abbrev S2x4096x1024 : Shape := ⟨3, ![2, 4096, 1024]⟩
abbrev S2x4096x256 : Shape := ⟨3, ![2, 4096, 256]⟩
abbrev S2x4096x64 : Shape := ⟨3, ![2, 4096, 64]⟩
abbrev S2x4096x16 : Shape := ⟨3, ![2, 4096, 16]⟩
abbrev S_ : Shape := ⟨0, ![]⟩
abbrev S2x15x1024 : Shape := ⟨3, ![2, 15, 1024]⟩
abbrev S2x4111x1024 : Shape := ⟨3, ![2, 4111, 1024]⟩
abbrev S1x2x4096x4x64 : Shape := ⟨5, ![1, 2, 4096, 4, 64]⟩
abbrev S1x2x4096x64 : Shape := ⟨4, ![1, 2, 4096, 64]⟩
abbrev S1x2x15x1024 : Shape := ⟨4, ![1, 2, 15, 1024]⟩
abbrev S2x4096x16x64 : Shape := ⟨4, ![2, 4096, 16, 64]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x7760, .f32⟩
  | .hbm, ⟨2, _⟩ => ⟨S2048x7760, .f32⟩
  | .hbm, ⟨3, _⟩ => ⟨S2x4096x7760, .f32⟩
  | .hbm, ⟨4, _⟩ => ⟨S2x4096x1024, .f32⟩
  | .hbm, ⟨5, _⟩ => ⟨S2x4096x256, .f32⟩
  | .hbm, ⟨6, _⟩ => ⟨S2x4096x256, .f32⟩
  | .hbm, ⟨7, _⟩ => ⟨S2x4096x1024, .f32⟩
  | .hbm, ⟨8, _⟩ => ⟨S2x4096x64, .f32⟩
  | .hbm, ⟨9, _⟩ => ⟨S2x4096x16, .f32⟩
  | .hbm, ⟨10, _⟩ => ⟨S2x4096x1024, .f32⟩
  | .hbm, ⟨11, _⟩ => ⟨S2x4096x2048, .f32⟩
  | .hbm, ⟨12, _⟩ => ⟨S2x4096x2048, .f32⟩
  | .hbm, ⟨13, _⟩ => ⟨S_, .f32⟩
  | .hbm, ⟨14, _⟩ => ⟨S2x15x1024, .f32⟩
  | .hbm, ⟨15, _⟩ => ⟨S2x4111x1024, .f32⟩
  | .hbm, ⟨16, _⟩ => ⟨S1x2x4096x4x64, .f32⟩
  | .hbm, ⟨17, _⟩ => ⟨S1x2x4096x4x64, .f32⟩
  | .hbm, ⟨18, _⟩ => ⟨S1x2x4096x64, .f32⟩
  | .hbm, ⟨19, _⟩ => ⟨S2x15x1024, .f32⟩
  | .hbm, ⟨20, _⟩ => ⟨S1x2x15x1024, .f32⟩
  | .hbm, ⟨21, _⟩ => ⟨S2x4096x16x64, .f32⟩
  | .hbm, ⟨22, _⟩ => ⟨S2x4096x16x64, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel4.lean ====
abbrev S8x8x2048 : Shape := ⟨3, ![8, 8, 2048]⟩
abbrev S1x8x15x1024 : Shape := ⟨4, ![1, 8, 15, 1024]⟩
abbrev S1x2048x7760 : Shape := ⟨3, ![1, 2048, 7760]⟩
abbrev S2048x7760 : Shape := ⟨2, ![2048, 7760]⟩
abbrev S7760x2048 : Shape := ⟨2, ![7760, 2048]⟩
abbrev S1024x2048 : Shape := ⟨2, ![1024, 2048]⟩
abbrev S2048x2048 : Shape := ⟨2, ![2048, 2048]⟩
abbrev S256x2048 : Shape := ⟨2, ![256, 2048]⟩
abbrev S64x2048 : Shape := ⟨2, ![64, 2048]⟩
abbrev S16x2048 : Shape := ⟨2, ![16, 2048]⟩
abbrev S_ : Shape := ⟨0, ![]⟩
abbrev S432x2048 : Shape := ⟨2, ![432, 2048]⟩
abbrev S8192x2048 : Shape := ⟨2, ![8192, 2048]⟩
abbrev S64x8192 : Shape := ⟨2, ![64, 8192]⟩
abbrev S512x2048 : Shape := ⟨2, ![512, 2048]⟩
abbrev S64x512 : Shape := ⟨2, ![64, 512]⟩
abbrev S64x256 : Shape := ⟨2, ![64, 256]⟩
abbrev S8x8x256 : Shape := ⟨3, ![8, 8, 256]⟩
abbrev S64x64 : Shape := ⟨2, ![64, 64]⟩
abbrev S8x8x64 : Shape := ⟨3, ![8, 8, 64]⟩
abbrev S64x1024 : Shape := ⟨2, ![64, 1024]⟩
abbrev S8x8x1024 : Shape := ⟨3, ![8, 8, 1024]⟩
abbrev S8x15x1024 : Shape := ⟨3, ![8, 15, 1024]⟩
abbrev S8x23x1024 : Shape := ⟨3, ![8, 23, 1024]⟩
abbrev S1x8x8x4x64 : Shape := ⟨5, ![1, 8, 8, 4, 64]⟩
abbrev S1x8x8x64 : Shape := ⟨4, ![1, 8, 8, 64]⟩

abbrev nBuf : Space → Nat
  | .hbm => 35
  | .vmem => 6
  | .smem => 0
  | _ => 0

abbrev bufTy : (tb : Table) → Fin (tcTables nBuf tb) → BufTy
  | .hbm, ⟨0, _⟩ => ⟨S8x8x2048, .f32⟩
  | .hbm, ⟨1, _⟩ => ⟨S1x8x15x1024, .f32⟩
  | .hbm, ⟨2, _⟩ => ⟨S1x2048x7760, .f32⟩
  | .hbm, ⟨3, _⟩ => ⟨S2048x7760, .f32⟩
  | .hbm, ⟨4, _⟩ => ⟨S7760x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048x2048, .f32⟩
  | .hbm, ⟨10, _⟩ => ⟨S256x2048, .f32⟩
  | .hbm, ⟨11, _⟩ => ⟨S256x2048, .f32⟩
  | .hbm, ⟨12, _⟩ => ⟨S64x2048, .f32⟩
  | .hbm, ⟨13, _⟩ => ⟨S16x2048, .f32⟩
  | .hbm, ⟨14, _⟩ => ⟨S_, .f32⟩
  | .hbm, ⟨15, _⟩ => ⟨S432x2048, .f32⟩
  | .hbm, ⟨16, _⟩ => ⟨S8192x2048, .f32⟩
  | .hbm, ⟨17, _⟩ => ⟨S8192x2048, .bf16⟩
  | .hbm, ⟨18, _⟩ => ⟨S64x2048, .f32⟩
  | .hbm, ⟨19, _⟩ => ⟨S64x8192, .f32⟩
  | .hbm, ⟨20, _⟩ => ⟨S64x256, .f32⟩
  | .hbm, ⟨21, _⟩ => ⟨S8x8x256, .f32⟩
  | .hbm, ⟨22, _⟩ => ⟨S64x256, .f32⟩
  | .hbm, ⟨23, _⟩ => ⟨S8x8x256, .f32⟩
  | .hbm, ⟨24, _⟩ => ⟨S64x64, .f32⟩
  | .hbm, ⟨25, _⟩ => ⟨S8x8x64, .f32⟩
  | .hbm, ⟨26, _⟩ => ⟨S64x1024, .f32⟩
  | .hbm, ⟨27, _⟩ => ⟨S8x8x1024, .f32⟩
  | .hbm, ⟨28, _⟩ => ⟨S8x15x1024, .f32⟩
  | .hbm, ⟨29, _⟩ => ⟨S8x23x1024, .f32⟩
  | .hbm, ⟨30, _⟩ => ⟨S8x15x1024, .f32⟩
  | .hbm, ⟨31, _⟩ => ⟨S1x8x15x1024, .f32⟩
  | .hbm, ⟨32, _⟩ => ⟨S1x8x8x4x64, .f32⟩
  | .hbm, ⟨33, _⟩ => ⟨S1x8x8x4x64, .f32⟩
  | .hbm, ⟨34, _⟩ => ⟨S1x8x8x64, .f32⟩
  | .local _ .vmem, ⟨0, _⟩ => ⟨S64x2048, .f32⟩
  | .local _ .vmem, ⟨1, _⟩ => ⟨S512x2048, .bf16⟩
  | .local _ .vmem, ⟨2, _⟩ => ⟨S512x2048, .bf16⟩
  | .local _ .vmem, ⟨3, _⟩ => ⟨S64x512, .f32⟩
  | .local _ .vmem, ⟨4, _⟩ => ⟨S64x512, .f32⟩
  | .local _ .vmem, ⟨5, _⟩ => ⟨S64x2048, .bf16⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8x8x2048 : Shape := ⟨3, ![8, 8, 2048]⟩
abbrev S1x8x15x1024 : Shape := ⟨4, ![1, 8, 15, 1024]⟩
abbrev S1x2048x7760 : Shape := ⟨3, ![1, 2048, 7760]⟩
abbrev S2048x7760 : Shape := ⟨2, ![2048, 7760]⟩
abbrev S8x8x7760 : Shape := ⟨3, ![8, 8, 7760]⟩
abbrev S8x8x1024 : Shape := ⟨3, ![8, 8, 1024]⟩
abbrev S8x8x256 : Shape := ⟨3, ![8, 8, 256]⟩
abbrev S8x8x64 : Shape := ⟨3, ![8, 8, 64]⟩
abbrev S8x8x16 : Shape := ⟨3, ![8, 8, 16]⟩
abbrev S8x15x1024 : Shape := ⟨3, ![8, 15, 1024]⟩
abbrev S8x23x1024 : Shape := ⟨3, ![8, 23, 1024]⟩
abbrev S1x8x8x4x64 : Shape := ⟨5, ![1, 8, 8, 4, 64]⟩
abbrev S1x8x8x64 : Shape := ⟨4, ![1, 8, 8, 64]⟩

abbrev nBuf : Space → Nat
  | .hbm => 21
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S1x8x15x1024, .f32⟩
  | .hbm, ⟨2, _⟩ => ⟨S1x2048x7760, .f32⟩
  | .hbm, ⟨3, _⟩ => ⟨S2048x7760, .f32⟩
  | .hbm, ⟨4, _⟩ => ⟨S8x8x7760, .f32⟩
  | .hbm, ⟨5, _⟩ => ⟨S8x8x1024, .f32⟩
  | .hbm, ⟨6, _⟩ => ⟨S8x8x256, .f32⟩
  | .hbm, ⟨7, _⟩ => ⟨S8x8x256, .f32⟩
  | .hbm, ⟨8, _⟩ => ⟨S8x8x1024, .f32⟩
  | .hbm, ⟨9, _⟩ => ⟨S8x8x64, .f32⟩
  | .hbm, ⟨10, _⟩ => ⟨S8x8x16, .f32⟩
  | .hbm, ⟨11, _⟩ => ⟨S8x8x1024, .f32⟩
  | .hbm, ⟨12, _⟩ => ⟨S8x8x2048, .f32⟩
  | .hbm, ⟨13, _⟩ => ⟨S8x8x2048, .f32⟩
  | .hbm, ⟨14, _⟩ => ⟨S8x15x1024, .f32⟩
  | .hbm, ⟨15, _⟩ => ⟨S8x23x1024, .f32⟩
  | .hbm, ⟨16, _⟩ => ⟨S1x8x8x4x64, .f32⟩
  | .hbm, ⟨17, _⟩ => ⟨S1x8x8x4x64, .f32⟩
  | .hbm, ⟨18, _⟩ => ⟨S1x8x8x64, .f32⟩
  | .hbm, ⟨19, _⟩ => ⟨S8x15x1024, .f32⟩
  | .hbm, ⟨20, _⟩ => ⟨S1x8x15x1024, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel5.lean ====
abbrev S8192x8192 : Shape := ⟨2, ![8192, 8192]⟩
abbrev S4x8192x128 : Shape := ⟨3, ![4, 8192, 128]⟩
abbrev S8192x128 : Shape := ⟨2, ![8192, 128]⟩
abbrev S8192x4x64 : Shape := ⟨3, ![8192, 4, 64]⟩
abbrev S8192x64 : Shape := ⟨2, ![8192, 64]⟩
abbrev S1024x512 : Shape := ⟨2, ![1024, 512]⟩
abbrev S1024x128 : Shape := ⟨2, ![1024, 128]⟩
abbrev S4x1024x128 : Shape := ⟨3, ![4, 1024, 128]⟩
abbrev S1024x4x64 : Shape := ⟨3, ![1024, 4, 64]⟩
abbrev S1024x64 : Shape := ⟨2, ![1024, 64]⟩
abbrev S1x1024x128 : Shape := ⟨3, ![1, 1024, 128]⟩
abbrev S1024x1x64 : Shape := ⟨3, ![1024, 1, 64]⟩
abbrev S1x2x4096x4x64 : Shape := ⟨5, ![1, 2, 4096, 4, 64]⟩
abbrev S1x2x4096x64 : Shape := ⟨4, ![1, 2, 4096, 64]⟩

abbrev nBuf : Space → Nat
  | .hbm => 9
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S4x8192x128, .bf16⟩
  | .hbm, ⟨2, _⟩ => ⟨S8192x128, .bf16⟩
  | .hbm, ⟨3, _⟩ => ⟨S8192x4x64, .f32⟩
  | .hbm, ⟨4, _⟩ => ⟨S8192x4x64, .f32⟩
  | .hbm, ⟨5, _⟩ => ⟨S8192x64, .f32⟩
  | .hbm, ⟨6, _⟩ => ⟨S1x2x4096x4x64, .f32⟩
  | .hbm, ⟨7, _⟩ => ⟨S1x2x4096x4x64, .f32⟩
  | .hbm, ⟨8, _⟩ => ⟨S1x2x4096x64, .f32⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S4x1024x128, .bf16⟩
  | .local _ .vmem, ⟨5, _⟩ => ⟨S4x1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x4x64, .f32⟩
  | .local _ .vmem, ⟨9, _⟩ => ⟨S1024x4x64, .f32⟩
  | .local _ .vmem, ⟨10, _⟩ => ⟨S1024x4x64, .f32⟩
  | .local _ .vmem, ⟨11, _⟩ => ⟨S1024x4x64, .f32⟩
  | .local _ .vmem, ⟨12, _⟩ => ⟨S1024x64, .f32⟩
  | .local _ .vmem, ⟨13, _⟩ => ⟨S1024x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c60_i32 : BitVec 32 := 60#32
  let c0_i32 : BitVec 32 := 0#32
  ![arg0.toNat, c60_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8192x8192 : Shape := ⟨2, ![8192, 8192]⟩
abbrev S8192x256 : Shape := ⟨2, ![8192, 256]⟩
abbrev S8192x64 : Shape := ⟨2, ![8192, 64]⟩
abbrev S8192x512 : Shape := ⟨2, ![8192, 512]⟩
abbrev S8192x4x128 : Shape := ⟨3, ![8192, 4, 128]⟩
abbrev S4x8192x128 : Shape := ⟨3, ![4, 8192, 128]⟩
abbrev S8192x128 : Shape := ⟨2, ![8192, 128]⟩
abbrev S1x2x4096x4x64 : Shape := ⟨5, ![1, 2, 4096, 4, 64]⟩
abbrev S1x2x4096x64 : Shape := ⟨4, ![1, 2, 4096, 64]⟩

abbrev nBuf : Space → Nat
  | .hbm => 13
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S8192x256, .f32⟩
  | .hbm, ⟨3, _⟩ => ⟨S8192x64, .f32⟩
  | .hbm, ⟨4, _⟩ => ⟨S8192x512, .f32⟩
  | .hbm, ⟨5, _⟩ => ⟨S8192x512, .bf16⟩
  | .hbm, ⟨6, _⟩ => ⟨S8192x4x128, .bf16⟩
  | .hbm, ⟨7, _⟩ => ⟨S4x8192x128, .bf16⟩
  | .hbm, ⟨8, _⟩ => ⟨S8192x128, .f32⟩
  | .hbm, ⟨9, _⟩ => ⟨S8192x128, .bf16⟩
  | .hbm, ⟨10, _⟩ => ⟨S1x2x4096x4x64, .f32⟩
  | .hbm, ⟨11, _⟩ => ⟨S1x2x4096x4x64, .f32⟩
  | .hbm, ⟨12, _⟩ => ⟨S1x2x4096x64, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== Kernel6.lean ====
abbrev S8192x1024 : Shape := ⟨2, ![8192, 1024]⟩
abbrev S8192x8192 : Shape := ⟨2, ![8192, 8192]⟩
abbrev S1x1024x2048 : Shape := ⟨3, ![1, 1024, 2048]⟩
abbrev S1024x2048 : Shape := ⟨2, ![1024, 2048]⟩
abbrev S8192x2048 : Shape := ⟨2, ![8192, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .f32⟩
  | .hbm, ⟨3, _⟩ => ⟨S1x1024x2048, .f32⟩
  | .hbm, ⟨4, _⟩ => ⟨S1x1024x2048, .f32⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S1024x2048, .bf16⟩
  | .hbm, ⟨9, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x1024 : Shape := ⟨2, ![8192, 1024]⟩
abbrev S8192x8192 : Shape := ⟨2, ![8192, 8192]⟩
abbrev S1x1024x2048 : Shape := ⟨3, ![1, 1024, 2048]⟩
abbrev S8192x2048 : Shape := ⟨2, ![8192, 2048]⟩
abbrev S_ : Shape := ⟨0, ![]⟩
abbrev S1024x2048 : Shape := ⟨2, ![1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .f32⟩
  | .hbm, ⟨3, _⟩ => ⟨S1x1024x2048, .f32⟩
  | .hbm, ⟨4, _⟩ => ⟨S1x1024x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x1024, .f32⟩
  | .hbm, ⟨16, _⟩ => ⟨S1024x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S1024x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel7.lean ====
abbrev S8192x8192 : Shape := ⟨2, ![8192, 8192]⟩
abbrev S1x4x256x256 : Shape := ⟨4, ![1, 4, 256, 256]⟩
abbrev S1x1024 : Shape := ⟨2, ![1, 1024]⟩
abbrev S4x256x256 : Shape := ⟨3, ![4, 256, 256]⟩
abbrev S1024 : Shape := ⟨1, ![1024]⟩
abbrev S8192x1024 : Shape := ⟨2, ![8192, 1024]⟩
abbrev S16x1024 : Shape := ⟨2, ![16, 1024]⟩
abbrev S512x1024 : Shape := ⟨2, ![512, 1024]⟩
abbrev S512x1 : Shape := ⟨2, ![512, 1]⟩
abbrev S16x256 : Shape := ⟨2, ![16, 256]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S1x4x256x256, .f32⟩
  | .hbm, ⟨2, _⟩ => ⟨S1x1024, .f32⟩
  | .hbm, ⟨3, _⟩ => ⟨S4x256x256, .f32⟩
  | .hbm, ⟨4, _⟩ => ⟨S4x256x256, .bf16⟩
  | .hbm, ⟨5, _⟩ => ⟨S1024, .f32⟩
  | .hbm, ⟨6, _⟩ => ⟨S1x1024, .f32⟩
  | .hbm, ⟨7, _⟩ => ⟨S8192x1024, .bf16⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S4x256x256, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let c512_i32 : BitVec 32 := 512#32
  let v1 : BitVec 32 := Scalar.muli arg1 c512_i32
  let v2 : BitVec 32 := Scalar.addi v0 v1
  let c16_i32 : BitVec 32 := 16#32
  let v3 : BitVec 32 := Scalar.divsi v2 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c2_i32 : BitVec 32 := 2#32
  let c0_i32_6 : BitVec 32 := 0#32
  ![v21.toNat, c2_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8192x8192 : Shape := ⟨2, ![8192, 8192]⟩
abbrev S1x4x256x256 : Shape := ⟨4, ![1, 4, 256, 256]⟩
abbrev S1x1024 : Shape := ⟨2, ![1, 1024]⟩
abbrev S8192x1024 : Shape := ⟨2, ![8192, 1024]⟩
abbrev S2x4096x1024 : Shape := ⟨3, ![2, 4096, 1024]⟩
abbrev S_ : Shape := ⟨0, ![]⟩
abbrev S2x15x1024 : Shape := ⟨3, ![2, 15, 1024]⟩
abbrev S2x4111x1024 : Shape := ⟨3, ![2, 4111, 1024]⟩
abbrev S4096 : Shape := ⟨1, ![4096]⟩
abbrev S2x4096x256 : Shape := ⟨3, ![2, 4096, 256]⟩
abbrev S1x4096x1 : Shape := ⟨3, ![1, 4096, 1]⟩
abbrev S2x4096x1x256 : Shape := ⟨4, ![2, 4096, 1, 256]⟩
abbrev S2x4096x4x256 : Shape := ⟨4, ![2, 4096, 4, 256]⟩
abbrev S4x256x256 : Shape := ⟨3, ![4, 256, 256]⟩
abbrev S4x256x2x4096 : Shape := ⟨4, ![4, 256, 2, 4096]⟩
abbrev S1024 : Shape := ⟨1, ![1024]⟩
abbrev S1x1x1024 : Shape := ⟨3, ![1, 1, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1x4x256x256, .f32⟩
  | .hbm, ⟨2, _⟩ => ⟨S1x1024, .f32⟩
  | .hbm, ⟨3, _⟩ => ⟨S8192x1024, .f32⟩
  | .hbm, ⟨4, _⟩ => ⟨S2x4096x1024, .f32⟩
  | .hbm, ⟨5, _⟩ => ⟨S_, .f32⟩
  | .hbm, ⟨6, _⟩ => ⟨S2x15x1024, .f32⟩
  | .hbm, ⟨7, _⟩ => ⟨S2x4111x1024, .f32⟩
  | .hbm, ⟨8, _⟩ => ⟨S4096, .i32⟩
  | .hbm, ⟨9, _⟩ => ⟨S2x4096x256, .f32⟩
  | .hbm, ⟨10, _⟩ => ⟨S2x4096x256, .f32⟩
  | .hbm, ⟨11, _⟩ => ⟨S2x4096x256, .f32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .f32⟩
  | .hbm, ⟨19, _⟩ => ⟨S1x4096x1, .f32⟩
  | .hbm, ⟨20, _⟩ => ⟨S2x4096x256, .f32⟩
  | .hbm, ⟨21, _⟩ => ⟨S2x4096x256, .f32⟩
  | .hbm, ⟨22, _⟩ => ⟨S2x4096x256, .f32⟩
  | .hbm, ⟨23, _⟩ => ⟨S2x4096x256, .f32⟩
  | .hbm, ⟨24, _⟩ => ⟨S2x4096x256, .f32⟩
  | .hbm, ⟨25, _⟩ => ⟨S2x4096x256, .f32⟩
  | .hbm, ⟨26, _⟩ => ⟨S2x4096x256, .f32⟩
  | .hbm, ⟨27, _⟩ => ⟨S2x4096x256, .f32⟩
  | .hbm, ⟨28, _⟩ => ⟨S2x4096x256, .f32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .f32⟩
  | .hbm, ⟨36, _⟩ => ⟨S1x4096x1, .f32⟩
  | .hbm, ⟨37, _⟩ => ⟨S2x4096x256, .f32⟩
  | .hbm, ⟨38, _⟩ => ⟨S2x4096x256, .f32⟩
  | .hbm, ⟨39, _⟩ => ⟨S2x4096x256, .f32⟩
  | .hbm, ⟨40, _⟩ => ⟨S2x4096x256, .f32⟩
  | .hbm, ⟨41, _⟩ => ⟨S2x4096x256, .f32⟩
  | .hbm, ⟨42, _⟩ => ⟨S2x4096x256, .f32⟩
  | .hbm, ⟨43, _⟩ => ⟨S2x4096x256, .f32⟩
  | .hbm, ⟨44, _⟩ => ⟨S2x4096x256, .f32⟩
  | .hbm, ⟨45, _⟩ => ⟨S2x4096x256, .f32⟩
  | .hbm, ⟨46, _⟩ => ⟨S2x4096x256, .f32⟩
  | .hbm, ⟨47, _⟩ => ⟨S2x4096x256, .f32⟩
  | .hbm, ⟨48, _⟩ => ⟨S2x4096x256, .f32⟩
  | .hbm, ⟨49, _⟩ => ⟨S2x4096x256, .f32⟩
  | .hbm, ⟨50, _⟩ => ⟨S2x4096x256, .f32⟩
  | .hbm, ⟨51, _⟩ => ⟨S2x4096x256, .f32⟩
  | .hbm, ⟨52, _⟩ => ⟨S2x4096x256, .f32⟩
  | .hbm, ⟨53, _⟩ => ⟨S2x4096x256, .f32⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .f32⟩
  | .hbm, ⟨61, _⟩ => ⟨S1x4096x1, .f32⟩
  | .hbm, ⟨62, _⟩ => ⟨S2x4096x256, .f32⟩
  | .hbm, ⟨63, _⟩ => ⟨S2x4096x256, .f32⟩
  | .hbm, ⟨64, _⟩ => ⟨S2x4096x256, .f32⟩
  | .hbm, ⟨65, _⟩ => ⟨S2x4096x256, .f32⟩
  | .hbm, ⟨66, _⟩ => ⟨S2x4096x256, .f32⟩
  | .hbm, ⟨67, _⟩ => ⟨S2x4096x256, .f32⟩
  | .hbm, ⟨68, _⟩ => ⟨S2x4096x256, .f32⟩
  | .hbm, ⟨69, _⟩ => ⟨S2x4096x256, .f32⟩
  | .hbm, ⟨70, _⟩ => ⟨S2x4096x256, .f32⟩
  | .hbm, ⟨71, _⟩ => ⟨S2x4096x256, .f32⟩
  | .hbm, ⟨72, _⟩ => ⟨S2x4096x256, .f32⟩
  | .hbm, ⟨73, _⟩ => ⟨S2x4096x256, .f32⟩
  | .hbm, ⟨74, _⟩ => ⟨S2x4096x256, .f32⟩
  | .hbm, ⟨75, _⟩ => ⟨S2x4096x256, .f32⟩
  | .hbm, ⟨76, _⟩ => ⟨S2x4096x256, .f32⟩
  | .hbm, ⟨77, _⟩ => ⟨S2x4096x256, .f32⟩
  | .hbm, ⟨78, _⟩ => ⟨S2x4096x256, .f32⟩
  | .hbm, ⟨79, _⟩ => ⟨S2x4096x256, .f32⟩
  | .hbm, ⟨80, _⟩ => ⟨S2x4096x256, .f32⟩
  | .hbm, ⟨81, _⟩ => ⟨S2x4096x256, .f32⟩
  | .hbm, ⟨82, _⟩ => ⟨S2x4096x256, .f32⟩
  | .hbm, ⟨83, _⟩ => ⟨S2x4096x256, .f32⟩
  | .hbm, ⟨84, _⟩ => ⟨S2x4096x256, .f32⟩
  | .hbm, ⟨85, _⟩ => ⟨S2x4096x256, .f32⟩
  | .hbm, ⟨86, _⟩ => ⟨S2x4096x256, .f32⟩
  | .hbm, ⟨87, _⟩ => ⟨S2x4096x256, .f32⟩
  | .hbm, ⟨88, _⟩ => ⟨S2x4096x256, .f32⟩
  | .hbm, ⟨89, _⟩ => ⟨S2x4096x256, .f32⟩
  | .hbm, ⟨90, _⟩ => ⟨S2x4096x256, .f32⟩
  | .hbm, ⟨91, _⟩ => ⟨S2x4096x256, .f32⟩
  | .hbm, ⟨92, _⟩ => ⟨S2x4096x256, .f32⟩
  | .hbm, ⟨93, _⟩ => ⟨S2x4096x256, .f32⟩
  | .hbm, ⟨94, _⟩ => ⟨S2x4096x256, .f32⟩
  | .hbm, ⟨95, _⟩ => ⟨S_, .i32⟩
  | .hbm, ⟨96, _⟩ => ⟨S4096, .i32⟩
  | .hbm, ⟨97, _⟩ => ⟨S4096, .i32⟩
  | .hbm, ⟨98, _⟩ => ⟨S_, .i32⟩
  | .hbm, ⟨99, _⟩ => ⟨S4096, .i32⟩
  | .hbm, ⟨100, _⟩ => ⟨S4096, .i32⟩
  | .hbm, ⟨101, _⟩ => ⟨S4096, .f32⟩
  | .hbm, ⟨102, _⟩ => ⟨S1x4096x1, .f32⟩
  | .hbm, ⟨103, _⟩ => ⟨S2x4096x256, .f32⟩
  | .hbm, ⟨104, _⟩ => ⟨S2x4096x256, .f32⟩
  | .hbm, ⟨105, _⟩ => ⟨S2x4096x1x256, .f32⟩
  | .hbm, ⟨106, _⟩ => ⟨S2x4096x1x256, .f32⟩
  | .hbm, ⟨107, _⟩ => ⟨S2x4096x1x256, .f32⟩
  | .hbm, ⟨108, _⟩ => ⟨S2x4096x1x256, .f32⟩
  | .hbm, ⟨109, _⟩ => ⟨S2x4096x4x256, .f32⟩
  | .hbm, ⟨110, _⟩ => ⟨S2x4096x4x256, .f32⟩
  | .hbm, ⟨111, _⟩ => ⟨S2x4096x4x256, .f32⟩
  | .hbm, ⟨112, _⟩ => ⟨S4x256x256, .f32⟩
  | .hbm, ⟨113, _⟩ => ⟨S4x256x2x4096, .f32⟩
  | .hbm, ⟨114, _⟩ => ⟨S2x4096x4x256, .f32⟩
  | .hbm, ⟨115, _⟩ => ⟨S2x4096x1024, .f32⟩
  | .hbm, ⟨116, _⟩ => ⟨S1024, .f32⟩
  | .hbm, ⟨117, _⟩ => ⟨S1x1x1024, .f32⟩
  | .hbm, ⟨118, _⟩ => ⟨S2x4096x1024, .f32⟩
  | .hbm, ⟨119, _⟩ => ⟨S2x4096x1024, .f32⟩
  | .hbm, ⟨120, _⟩ => ⟨S8192x1024, .f32⟩
  | .hbm, ⟨121, _⟩ => ⟨S8192x1024, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_3 : Ref sig .tc := ⟨.hbm, 54, rfl⟩
abbrev main_v46 : Ref sig .tc := ⟨.hbm, 55, rfl⟩
abbrev main_v47 : Ref sig .tc := ⟨.hbm, 56, rfl⟩
abbrev main_c_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_c_5 : Ref sig .tc := ⟨.hbm, 95, rfl⟩
abbrev main_v85 : Ref sig .tc := ⟨.hbm, 96, rfl⟩
abbrev main_v86 : Ref sig .tc := ⟨.hbm, 97, rfl⟩
abbrev main_c_6 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩

abbrev nD : Nat := 1
abbrev τ : Topo := Topo.v7x

variable {F : FTy → Type} [FloatOps F]
-- ==== Kernel8.lean ====
abbrev S2x4096x2048 : Shape := ⟨3, ![2, 4096, 2048]⟩
abbrev S8192x2048 : Shape := ⟨2, ![8192, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S2048x2048 : Shape := ⟨2, ![2048, 2048]⟩
abbrev S2048 : Shape := ⟨1, ![2048]⟩
abbrev S2048x32 : Shape := ⟨2, ![2048, 32]⟩
abbrev S_ : Shape := ⟨0, ![]⟩
abbrev S2048x128 : Shape := ⟨2, ![2048, 128]⟩
abbrev S32 : Shape := ⟨1, ![32]⟩
abbrev S128 : Shape := ⟨1, ![128]⟩
abbrev S1x128 : Shape := ⟨2, ![1, 128]⟩
abbrev S8192x1024 : Shape := ⟨2, ![8192, 1024]⟩
abbrev S8192x128 : Shape := ⟨2, ![8192, 128]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S8192x32 : Shape := ⟨2, ![8192, 32]⟩

abbrev nBuf : Space → Nat
  | .hbm => 28
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .bf16⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S1x2048x32, .f32⟩
  | .hbm, ⟨6, _⟩ => ⟨S1x32, .f32⟩
  | .hbm, ⟨7, _⟩ => ⟨S8192x2048, .f32⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S8192x2048, .f32⟩
  | .hbm, ⟨25, _⟩ => ⟨S8192x1024, .i32⟩
  | .hbm, ⟨26, _⟩ => ⟨S8192x128, .f32⟩
  | .hbm, ⟨27, _⟩ => ⟨S8192x32, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S2048x128, .bf16⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x1024, .i32⟩
  | .local _ .vmem, ⟨12, _⟩ => ⟨S256x1024, .i32⟩
  | .local _ .vmem, ⟨13, _⟩ => ⟨S256x128, .f32⟩
  | .local _ .vmem, ⟨14, _⟩ => ⟨S256x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel8Ideal.lean ====
abbrev S2x4096x2048 : Shape := ⟨3, ![2, 4096, 2048]⟩
abbrev S8192x2048 : Shape := ⟨2, ![8192, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S2048x2048 : Shape := ⟨2, ![2048, 2048]⟩
abbrev S2048 : Shape := ⟨1, ![2048]⟩
abbrev S2048x32 : Shape := ⟨2, ![2048, 32]⟩
abbrev S_ : Shape := ⟨0, ![]⟩
abbrev S2048x128 : Shape := ⟨2, ![2048, 128]⟩
abbrev S32 : Shape := ⟨1, ![32]⟩
abbrev S128 : Shape := ⟨1, ![128]⟩
abbrev S1x128 : Shape := ⟨2, ![1, 128]⟩
abbrev S8192x2x1024 : Shape := ⟨3, ![8192, 2, 1024]⟩
abbrev S8192x128 : Shape := ⟨2, ![8192, 128]⟩
abbrev S8192x1x1024 : Shape := ⟨3, ![8192, 1, 1024]⟩
abbrev S8192x1024 : Shape := ⟨2, ![8192, 1024]⟩
abbrev S256x2048 : Shape := ⟨2, ![256, 2048]⟩
abbrev S256x1024 : Shape := ⟨2, ![256, 1024]⟩
abbrev S256x2x1024 : Shape := ⟨3, ![256, 2, 1024]⟩
abbrev S256x1x1024 : Shape := ⟨3, ![256, 1, 1024]⟩
abbrev S256x128 : Shape := ⟨2, ![256, 128]⟩
abbrev S256 : Shape := ⟨1, ![256]⟩
abbrev S256x1 : Shape := ⟨2, ![256, 1]⟩
abbrev S8192x32 : Shape := ⟨2, ![8192, 32]⟩

abbrev nBuf : Space → Nat
  | .hbm => 28
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .bf16⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S1x2048x32, .f32⟩
  | .hbm, ⟨6, _⟩ => ⟨S1x32, .f32⟩
  | .hbm, ⟨7, _⟩ => ⟨S8192x2048, .f32⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S8192x2048, .f32⟩
  | .hbm, ⟨25, _⟩ => ⟨S8192x2x1024, .bf16⟩
  | .hbm, ⟨26, _⟩ => ⟨S8192x128, .f32⟩
  | .hbm, ⟨27, _⟩ => ⟨S8192x32, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S2048x128, .bf16⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x2x1024, .bf16⟩
  | .local _ .vmem, ⟨12, _⟩ => ⟨S256x2x1024, .bf16⟩
  | .local _ .vmem, ⟨13, _⟩ => ⟨S256x128, .f32⟩
  | .local _ .vmem, ⟨14, _⟩ => ⟨S256x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S2x4096x2048 : Shape := ⟨3, ![2, 4096, 2048]⟩
abbrev S8192x2048 : Shape := ⟨2, ![8192, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S2048 : Shape := ⟨1, ![2048]⟩
abbrev S1x1x2048 : Shape := ⟨3, ![1, 1, 2048]⟩
abbrev S2048x32 : Shape := ⟨2, ![2048, 32]⟩
abbrev S8192x32 : Shape := ⟨2, ![8192, 32]⟩
abbrev S32 : Shape := ⟨1, ![32]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .bf16⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S1x2048x32, .f32⟩
  | .hbm, ⟨6, _⟩ => ⟨S1x32, .f32⟩
  | .hbm, ⟨7, _⟩ => ⟨S8192x2048, .f32⟩
  | .hbm, ⟨8, _⟩ => ⟨S2x4096x2048, .f32⟩
  | .hbm, ⟨9, _⟩ => ⟨S2048x2048, .f32⟩
  | .hbm, ⟨10, _⟩ => ⟨S2x4096x2048, .f32⟩
  | .hbm, ⟨11, _⟩ => ⟨S_, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x2048, .f32⟩
  | .hbm, ⟨22, _⟩ => ⟨S2x4096x2048, .f32⟩
  | .hbm, ⟨23, _⟩ => ⟨S2x4096x2048, .f32⟩
  | .hbm, ⟨24, _⟩ => ⟨S_, .f32⟩
  | .hbm, ⟨25, _⟩ => ⟨S2x4096, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x2048, .f32⟩
  | .hbm, ⟨31, _⟩ => ⟨S2x4096x2048, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S2x4096x1, .f32⟩
  | .hbm, ⟨36, _⟩ => ⟨S2x4096x2048, .f32⟩
  | .hbm, ⟨37, _⟩ => ⟨S2x4096x2048, .f32⟩
  | .hbm, ⟨38, _⟩ => ⟨S2048, .f32⟩
  | .hbm, ⟨39, _⟩ => ⟨S1x1x2048, .f32⟩
  | .hbm, ⟨40, _⟩ => ⟨S2x4096x2048, .f32⟩
  | .hbm, ⟨41, _⟩ => ⟨S2x4096x2048, .f32⟩
  | .hbm, ⟨42, _⟩ => ⟨S2048, .f32⟩
  | .hbm, ⟨43, _⟩ => ⟨S1x1x2048, .f32⟩
  | .hbm, ⟨44, _⟩ => ⟨S2x4096x2048, .f32⟩
  | .hbm, ⟨45, _⟩ => ⟨S2x4096x2048, .f32⟩
  | .hbm, ⟨46, _⟩ => ⟨S8192x2048, .f32⟩
  | .hbm, ⟨47, _⟩ => ⟨S2048x32, .f32⟩
  | .hbm, ⟨48, _⟩ => ⟨S8192x32, .f32⟩
  | .hbm, ⟨49, _⟩ => ⟨S32, .f32⟩
  | .hbm, ⟨50, _⟩ => ⟨S1x32, .f32⟩
  | .hbm, ⟨51, _⟩ => ⟨S8192x32, .f32⟩
  | .hbm, ⟨52, _⟩ => ⟨S8192x32, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel9.lean ====
abbrev S64x1024 : Shape := ⟨2, ![64, 1024]⟩
abbrev S64x8192 : Shape := ⟨2, ![64, 8192]⟩
abbrev S1x1024x2048 : Shape := ⟨3, ![1, 1024, 2048]⟩
abbrev S1024x2048 : Shape := ⟨2, ![1024, 2048]⟩
abbrev S64x2048 : Shape := ⟨2, ![64, 2048]⟩
abbrev S1024x512 : Shape := ⟨2, ![1024, 512]⟩
abbrev S64x512 : Shape := ⟨2, ![64, 512]⟩

abbrev nBuf : Space → Nat
  | .hbm => 10
  | .vmem => 12
  | .smem => 0
  | _ => 0

abbrev bufTy : (tb : Table) → Fin (tcTables nBuf tb) → BufTy
  | .hbm, ⟨0, _⟩ => ⟨S64x1024, .bf16⟩
  | .hbm, ⟨1, _⟩ => ⟨S64x1024, .bf16⟩
  | .hbm, ⟨2, _⟩ => ⟨S64x8192, .f32⟩
  | .hbm, ⟨3, _⟩ => ⟨S1x1024x2048, .f32⟩
  | .hbm, ⟨4, _⟩ => ⟨S1x1024x2048, .f32⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S1024x2048, .bf16⟩
  | .hbm, ⟨9, _⟩ => ⟨S64x2048, .bf16⟩
  | .local _ .vmem, ⟨0, _⟩ => ⟨S64x1024, .bf16⟩
  | .local _ .vmem, ⟨1, _⟩ => ⟨S64x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .bf16⟩
  | .local _ .vmem, ⟨11, _⟩ => ⟨S64x512, .bf16⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S64x1024 : Shape := ⟨2, ![64, 1024]⟩
abbrev S64x8192 : Shape := ⟨2, ![64, 8192]⟩
abbrev S1x1024x2048 : Shape := ⟨3, ![1, 1024, 2048]⟩
abbrev S64x2048 : Shape := ⟨2, ![64, 2048]⟩
abbrev S_ : Shape := ⟨0, ![]⟩
abbrev S1024x2048 : Shape := ⟨2, ![1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S64x1024, .bf16⟩
  | .hbm, ⟨1, _⟩ => ⟨S64x1024, .bf16⟩
  | .hbm, ⟨2, _⟩ => ⟨S64x8192, .f32⟩
  | .hbm, ⟨3, _⟩ => ⟨S1x1024x2048, .f32⟩
  | .hbm, ⟨4, _⟩ => ⟨S1x1024x2048, .f32⟩
  | .hbm, ⟨5, _⟩ => ⟨S64x2048, .f32⟩
  | .hbm, ⟨6, _⟩ => ⟨S64x2048, .f32⟩
  | .hbm, ⟨7, _⟩ => ⟨S64x2048, .f32⟩
  | .hbm, ⟨8, _⟩ => ⟨S64x2048, .f32⟩
  | .hbm, ⟨9, _⟩ => ⟨S_, .f32⟩
  | .hbm, ⟨10, _⟩ => ⟨S64x2048, .f32⟩
  | .hbm, ⟨11, _⟩ => ⟨S64x2048, .f32⟩
  | .hbm, ⟨12, _⟩ => ⟨S_, .f32⟩
  | .hbm, ⟨13, _⟩ => ⟨S64x2048, .f32⟩
  | .hbm, ⟨14, _⟩ => ⟨S64x2048, .f32⟩
  | .hbm, ⟨15, _⟩ => ⟨S64x1024, .f32⟩
  | .hbm, ⟨16, _⟩ => ⟨S1024x2048, .f32⟩
  | .hbm, ⟨17, _⟩ => ⟨S64x2048, .f32⟩
  | .hbm, ⟨18, _⟩ => ⟨S64x2048, .f32⟩
  | .hbm, ⟨19, _⟩ => ⟨S64x2048, .f32⟩
  | .hbm, ⟨20, _⟩ => ⟨S64x2048, .f32⟩
  | .hbm, ⟨21, _⟩ => ⟨S_, .f32⟩
  | .hbm, ⟨22, _⟩ => ⟨S64x2048, .f32⟩
  | .hbm, ⟨23, _⟩ => ⟨S64x2048, .f32⟩
  | .hbm, ⟨24, _⟩ => ⟨S_, .f32⟩
  | .hbm, ⟨25, _⟩ => ⟨S64x2048, .f32⟩
  | .hbm, ⟨26, _⟩ => ⟨S64x2048, .f32⟩
  | .hbm, ⟨27, _⟩ => ⟨S64x1024, .f32⟩
  | .hbm, ⟨28, _⟩ => ⟨S1024x2048, .f32⟩
  | .hbm, ⟨29, _⟩ => ⟨S64x2048, .f32⟩
  | .hbm, ⟨30, _⟩ => ⟨S64x2048, .f32⟩
  | .hbm, ⟨31, _⟩ => ⟨S64x2048, .f32⟩
  | .hbm, ⟨32, _⟩ => ⟨S64x2048, .bf16⟩
  | _, _ => ⟨S64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel10.lean ====
abbrev S8x8x2048 : Shape := ⟨3, ![8, 8, 2048]⟩
abbrev S64x2048 : Shape := ⟨2, ![64, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S2048x2048 : Shape := ⟨2, ![2048, 2048]⟩
abbrev S2048 : Shape := ⟨1, ![2048]⟩
abbrev S2048x32 : Shape := ⟨2, ![2048, 32]⟩
abbrev S_ : Shape := ⟨0, ![]⟩
abbrev S2048x128 : Shape := ⟨2, ![2048, 128]⟩
abbrev S32 : Shape := ⟨1, ![32]⟩
abbrev S128 : Shape := ⟨1, ![128]⟩
abbrev S1x128 : Shape := ⟨2, ![1, 128]⟩
abbrev S64x1024 : Shape := ⟨2, ![64, 1024]⟩
abbrev S64x128 : Shape := ⟨2, ![64, 128]⟩
abbrev S64 : Shape := ⟨1, ![64]⟩
abbrev S64x1 : Shape := ⟨2, ![64, 1]⟩
abbrev S64x32 : Shape := ⟨2, ![64, 32]⟩

abbrev nBuf : Space → Nat
  | .hbm => 28
  | .vmem => 10
  | .smem => 0
  | _ => 0

abbrev bufTy : (tb : Table) → Fin (tcTables nBuf tb) → BufTy
  | .hbm, ⟨0, _⟩ => ⟨S8x8x2048, .f32⟩
  | .hbm, ⟨1, _⟩ => ⟨S64x2048, .bf16⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S1x2048x32, .f32⟩
  | .hbm, ⟨6, _⟩ => ⟨S1x32, .f32⟩
  | .hbm, ⟨7, _⟩ => ⟨S64x2048, .f32⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S64x2048, .f32⟩
  | .hbm, ⟨25, _⟩ => ⟨S64x1024, .i32⟩
  | .hbm, ⟨26, _⟩ => ⟨S64x128, .f32⟩
  | .hbm, ⟨27, _⟩ => ⟨S64x32, .f32⟩
  | .local _ .vmem, ⟨0, _⟩ => ⟨S64x2048, .f32⟩
  | .local _ .vmem, ⟨1, _⟩ => ⟨S64x2048, .bf16⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S2048x128, .bf16⟩
  | .local _ .vmem, ⟨6, _⟩ => ⟨S1x128, .f32⟩
  | .local _ .vmem, ⟨7, _⟩ => ⟨S64x2048, .f32⟩
  | .local _ .vmem, ⟨8, _⟩ => ⟨S64x1024, .i32⟩
  | .local _ .vmem, ⟨9, _⟩ => ⟨S64x128, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v14 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [BitOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x1024 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Kernel10Ideal.lean ====
abbrev S8x8x2048 : Shape := ⟨3, ![8, 8, 2048]⟩
abbrev S64x2048 : Shape := ⟨2, ![64, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S2048x2048 : Shape := ⟨2, ![2048, 2048]⟩
abbrev S2048 : Shape := ⟨1, ![2048]⟩
abbrev S2048x32 : Shape := ⟨2, ![2048, 32]⟩
abbrev S_ : Shape := ⟨0, ![]⟩
abbrev S2048x128 : Shape := ⟨2, ![2048, 128]⟩
abbrev S32 : Shape := ⟨1, ![32]⟩
abbrev S128 : Shape := ⟨1, ![128]⟩
abbrev S1x128 : Shape := ⟨2, ![1, 128]⟩
abbrev S64x2x1024 : Shape := ⟨3, ![64, 2, 1024]⟩
abbrev S64x128 : Shape := ⟨2, ![64, 128]⟩
abbrev S64x1x1024 : Shape := ⟨3, ![64, 1, 1024]⟩
abbrev S64x1024 : Shape := ⟨2, ![64, 1024]⟩
abbrev S64 : Shape := ⟨1, ![64]⟩
abbrev S64x1 : Shape := ⟨2, ![64, 1]⟩
abbrev S64x32 : Shape := ⟨2, ![64, 32]⟩

abbrev nBuf : Space → Nat
  | .hbm => 28
  | .vmem => 10
  | .smem => 0
  | _ => 0

abbrev bufTy : (tb : Table) → Fin (tcTables nBuf tb) → BufTy
  | .hbm, ⟨0, _⟩ => ⟨S8x8x2048, .f32⟩
  | .hbm, ⟨1, _⟩ => ⟨S64x2048, .bf16⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S1x2048x32, .f32⟩
  | .hbm, ⟨6, _⟩ => ⟨S1x32, .f32⟩
  | .hbm, ⟨7, _⟩ => ⟨S64x2048, .f32⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S64x2048, .f32⟩
  | .hbm, ⟨25, _⟩ => ⟨S64x2x1024, .bf16⟩
  | .hbm, ⟨26, _⟩ => ⟨S64x128, .f32⟩
  | .hbm, ⟨27, _⟩ => ⟨S64x32, .f32⟩
  | .local _ .vmem, ⟨0, _⟩ => ⟨S64x2048, .f32⟩
  | .local _ .vmem, ⟨1, _⟩ => ⟨S64x2048, .bf16⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S2048x128, .bf16⟩
  | .local _ .vmem, ⟨6, _⟩ => ⟨S1x128, .f32⟩
  | .local _ .vmem, ⟨7, _⟩ => ⟨S64x2048, .f32⟩
  | .local _ .vmem, ⟨8, _⟩ => ⟨S64x2x1024, .bf16⟩
  | .local _ .vmem, ⟨9, _⟩ => ⟨S64x128, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v14 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x2x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference10Ideal.lean ====
abbrev S8x8x2048 : Shape := ⟨3, ![8, 8, 2048]⟩
abbrev S64x2048 : Shape := ⟨2, ![64, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S2048x2048 : Shape := ⟨2, ![2048, 2048]⟩
abbrev S_ : Shape := ⟨0, ![]⟩
abbrev S8x8 : Shape := ⟨2, ![8, 8]⟩
abbrev S8x8x1 : Shape := ⟨3, ![8, 8, 1]⟩
abbrev S2048 : Shape := ⟨1, ![2048]⟩
abbrev S1x1x2048 : Shape := ⟨3, ![1, 1, 2048]⟩
abbrev S2048x32 : Shape := ⟨2, ![2048, 32]⟩
abbrev S64x32 : Shape := ⟨2, ![64, 32]⟩
abbrev S32 : Shape := ⟨1, ![32]⟩

abbrev nBuf : Space → Nat
  | .hbm => 53
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S64x2048, .bf16⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S1x2048x32, .f32⟩
  | .hbm, ⟨6, _⟩ => ⟨S1x32, .f32⟩
  | .hbm, ⟨7, _⟩ => ⟨S64x2048, .f32⟩
  | .hbm, ⟨8, _⟩ => ⟨S8x8x2048, .f32⟩
  | .hbm, ⟨9, _⟩ => ⟨S2048x2048, .f32⟩
  | .hbm, ⟨10, _⟩ => ⟨S8x8x2048, .f32⟩
  | .hbm, ⟨11, _⟩ => ⟨S_, .f32⟩
  | .hbm, ⟨12, _⟩ => ⟨S8x8x2048, .f32⟩
  | .hbm, ⟨13, _⟩ => ⟨S8x8x2048, .f32⟩
  | .hbm, ⟨14, _⟩ => ⟨S8x8x2048, .f32⟩
  | .hbm, ⟨15, _⟩ => ⟨S_, .f32⟩
  | .hbm, ⟨16, _⟩ => ⟨S8x8, .f32⟩
  | .hbm, ⟨17, _⟩ => ⟨S8x8x1, .f32⟩
  | .hbm, ⟨18, _⟩ => ⟨S_, .f32⟩
  | .hbm, ⟨19, _⟩ => ⟨S8x8x1, .f32⟩
  | .hbm, ⟨20, _⟩ => ⟨S8x8x1, .f32⟩
  | .hbm, ⟨21, _⟩ => ⟨S8x8x2048, .f32⟩
  | .hbm, ⟨22, _⟩ => ⟨S8x8x2048, .f32⟩
  | .hbm, ⟨23, _⟩ => ⟨S8x8x2048, .f32⟩
  | .hbm, ⟨24, _⟩ => ⟨S_, .f32⟩
  | .hbm, ⟨25, _⟩ => ⟨S8x8, .f32⟩
  | .hbm, ⟨26, _⟩ => ⟨S8x8x1, .f32⟩
  | .hbm, ⟨27, _⟩ => ⟨S_, .f32⟩
  | .hbm, ⟨28, _⟩ => ⟨S8x8x1, .f32⟩
  | .hbm, ⟨29, _⟩ => ⟨S8x8x1, .f32⟩
  | .hbm, ⟨30, _⟩ => ⟨S8x8x2048, .f32⟩
  | .hbm, ⟨31, _⟩ => ⟨S8x8x2048, .f32⟩
  | .hbm, ⟨32, _⟩ => ⟨S_, .f32⟩
  | .hbm, ⟨33, _⟩ => ⟨S8x8x1, .f32⟩
  | .hbm, ⟨34, _⟩ => ⟨S8x8x1, .f32⟩
  | .hbm, ⟨35, _⟩ => ⟨S8x8x1, .f32⟩
  | .hbm, ⟨36, _⟩ => ⟨S8x8x2048, .f32⟩
  | .hbm, ⟨37, _⟩ => ⟨S8x8x2048, .f32⟩
  | .hbm, ⟨38, _⟩ => ⟨S2048, .f32⟩
  | .hbm, ⟨39, _⟩ => ⟨S1x1x2048, .f32⟩
  | .hbm, ⟨40, _⟩ => ⟨S8x8x2048, .f32⟩
  | .hbm, ⟨41, _⟩ => ⟨S8x8x2048, .f32⟩
  | .hbm, ⟨42, _⟩ => ⟨S2048, .f32⟩
  | .hbm, ⟨43, _⟩ => ⟨S1x1x2048, .f32⟩
  | .hbm, ⟨44, _⟩ => ⟨S8x8x2048, .f32⟩
  | .hbm, ⟨45, _⟩ => ⟨S8x8x2048, .f32⟩
  | .hbm, ⟨46, _⟩ => ⟨S64x2048, .f32⟩
  | .hbm, ⟨47, _⟩ => ⟨S2048x32, .f32⟩
  | .hbm, ⟨48, _⟩ => ⟨S64x32, .f32⟩
  | .hbm, ⟨49, _⟩ => ⟨S32, .f32⟩
  | .hbm, ⟨50, _⟩ => ⟨S1x32, .f32⟩
  | .hbm, ⟨51, _⟩ => ⟨S64x32, .f32⟩
  | .hbm, ⟨52, _⟩ => ⟨S64x32, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel11.lean ====
abbrev S1x8x15x1024 : Shape := ⟨4, ![1, 8, 15, 1024]⟩
abbrev S64x8192 : Shape := ⟨2, ![64, 8192]⟩
abbrev S1x4x256x256 : Shape := ⟨4, ![1, 4, 256, 256]⟩
abbrev S1x1024 : Shape := ⟨2, ![1, 1024]⟩
abbrev S4x256x256 : Shape := ⟨3, ![4, 256, 256]⟩
abbrev S1024 : Shape := ⟨1, ![1024]⟩
abbrev S64x1024 : Shape := ⟨2, ![64, 1024]⟩
abbrev S8x8x1024 : Shape := ⟨3, ![8, 8, 1024]⟩
abbrev S_ : Shape := ⟨0, ![]⟩
abbrev S8x1x1024 : Shape := ⟨3, ![8, 1, 1024]⟩
abbrev S8x15x1024 : Shape := ⟨3, ![8, 15, 1024]⟩
abbrev S8x16x1024 : Shape := ⟨3, ![8, 16, 1024]⟩
abbrev S1x16x1024 : Shape := ⟨3, ![1, 16, 1024]⟩
abbrev S1x8x1024 : Shape := ⟨3, ![1, 8, 1024]⟩
abbrev S16x1024 : Shape := ⟨2, ![16, 1024]⟩
abbrev S8x1024 : Shape := ⟨2, ![8, 1024]⟩
abbrev S8x1 : Shape := ⟨2, ![8, 1]⟩
abbrev S16x256 : Shape := ⟨2, ![16, 256]⟩
abbrev S8x256 : Shape := ⟨2, ![8, 256]⟩
abbrev S24x256 : Shape := ⟨2, ![24, 256]⟩
abbrev S1x256x256 : Shape := ⟨3, ![1, 256, 256]⟩
abbrev S256x256 : Shape := ⟨2, ![256, 256]⟩
abbrev S1x256 : Shape := ⟨2, ![1, 256]⟩
abbrev S1x8x256 : Shape := ⟨3, ![1, 8, 256]⟩

abbrev nBuf : Space → Nat
  | .hbm => 16
  | .vmem => 8
  | .smem => 0
  | _ => 0

abbrev bufTy : (tb : Table) → Fin (tcTables nBuf tb) → BufTy
  | .hbm, ⟨0, _⟩ => ⟨S1x8x15x1024, .f32⟩
  | .hbm, ⟨1, _⟩ => ⟨S64x8192, .f32⟩
  | .hbm, ⟨2, _⟩ => ⟨S1x4x256x256, .f32⟩
  | .hbm, ⟨3, _⟩ => ⟨S1x1024, .f32⟩
  | .hbm, ⟨4, _⟩ => ⟨S4x256x256, .f32⟩
  | .hbm, ⟨5, _⟩ => ⟨S4x256x256, .bf16⟩
  | .hbm, ⟨6, _⟩ => ⟨S1024, .f32⟩
  | .hbm, ⟨7, _⟩ => ⟨S1x1024, .f32⟩
  | .hbm, ⟨8, _⟩ => ⟨S64x1024, .f32⟩
  | .hbm, ⟨9, _⟩ => ⟨S8x8x1024, .f32⟩
  | .hbm, ⟨10, _⟩ => ⟨S_, .f32⟩
  | .hbm, ⟨11, _⟩ => ⟨S8x1x1024, .f32⟩
  | .hbm, ⟨12, _⟩ => ⟨S8x15x1024, .f32⟩
  | .hbm, ⟨13, _⟩ => ⟨S8x16x1024, .f32⟩
  | .hbm, ⟨14, _⟩ => ⟨S8x8x1024, .bf16⟩
  | .hbm, ⟨15, _⟩ => ⟨S64x1024, .bf16⟩
  | .local _ .vmem, ⟨0, _⟩ => ⟨S1x16x1024, .f32⟩
  | .local _ .vmem, ⟨1, _⟩ => ⟨S1x16x1024, .f32⟩
  | .local _ .vmem, ⟨2, _⟩ => ⟨S1x8x1024, .f32⟩
  | .local _ .vmem, ⟨3, _⟩ => ⟨S1x8x1024, .f32⟩
  | .local _ .vmem, ⟨4, _⟩ => ⟨S4x256x256, .bf16⟩
  | .local _ .vmem, ⟨5, _⟩ => ⟨S1x1024, .f32⟩
  | .local _ .vmem, ⟨6, _⟩ => ⟨S1x8x1024, .bf16⟩
  | .local _ .vmem, ⟨7, _⟩ => ⟨S1x8x1024, .bf16⟩
  | _, _ => ⟨S1x8x15x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S1x8x15x1024 : Shape := ⟨4, ![1, 8, 15, 1024]⟩
abbrev S64x8192 : Shape := ⟨2, ![64, 8192]⟩
abbrev S1x4x256x256 : Shape := ⟨4, ![1, 4, 256, 256]⟩
abbrev S1x1024 : Shape := ⟨2, ![1, 1024]⟩
abbrev S64x1024 : Shape := ⟨2, ![64, 1024]⟩
abbrev S8x8x1024 : Shape := ⟨3, ![8, 8, 1024]⟩
abbrev S8x15x1024 : Shape := ⟨3, ![8, 15, 1024]⟩
abbrev S8x23x1024 : Shape := ⟨3, ![8, 23, 1024]⟩
abbrev S8 : Shape := ⟨1, ![8]⟩
abbrev S_ : Shape := ⟨0, ![]⟩
abbrev S8x8x256 : Shape := ⟨3, ![8, 8, 256]⟩
abbrev S1x8x1 : Shape := ⟨3, ![1, 8, 1]⟩
abbrev S8x8x1x256 : Shape := ⟨4, ![8, 8, 1, 256]⟩
abbrev S8x8x4x256 : Shape := ⟨4, ![8, 8, 4, 256]⟩
abbrev S4x256x256 : Shape := ⟨3, ![4, 256, 256]⟩
abbrev S4x256x8x8 : Shape := ⟨4, ![4, 256, 8, 8]⟩
abbrev S1024 : Shape := ⟨1, ![1024]⟩
abbrev S1x1x1024 : Shape := ⟨3, ![1, 1, 1024]⟩

abbrev nBuf : Space → Nat
  | .hbm => 125
  | .vmem => 0
  | .smem => 0
  | _ => 0

abbrev bufTy : (tb : Table) → Fin (tcTables nBuf tb) → BufTy
  | .hbm, ⟨0, _⟩ => ⟨S1x8x15x1024, .f32⟩
  | .hbm, ⟨1, _⟩ => ⟨S64x8192, .f32⟩
  | .hbm, ⟨2, _⟩ => ⟨S1x4x256x256, .f32⟩
  | .hbm, ⟨3, _⟩ => ⟨S1x1024, .f32⟩
  | .hbm, ⟨4, _⟩ => ⟨S64x1024, .f32⟩
  | .hbm, ⟨5, _⟩ => ⟨S8x8x1024, .f32⟩
  | .hbm, ⟨6, _⟩ => ⟨S8x15x1024, .f32⟩
  | .hbm, ⟨7, _⟩ => ⟨S8x23x1024, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8x8x256, .f32⟩
  | .hbm, ⟨13, _⟩ => ⟨S8x8x256, .f32⟩
  | .hbm, ⟨14, _⟩ => ⟨S8x8x256, .f32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .f32⟩
  | .hbm, ⟨22, _⟩ => ⟨S1x8x1, .f32⟩
  | .hbm, ⟨23, _⟩ => ⟨S8x8x256, .f32⟩
  | .hbm, ⟨24, _⟩ => ⟨S8x8x256, .f32⟩
  | .hbm, ⟨25, _⟩ => ⟨S8x8x256, .f32⟩
  | .hbm, ⟨26, _⟩ => ⟨S8x8x256, .f32⟩
  | .hbm, ⟨27, _⟩ => ⟨S8x8x256, .f32⟩
  | .hbm, ⟨28, _⟩ => ⟨S8x8x256, .f32⟩
  | .hbm, ⟨29, _⟩ => ⟨S8x8x256, .f32⟩
  | .hbm, ⟨30, _⟩ => ⟨S8x8x256, .f32⟩
  | .hbm, ⟨31, _⟩ => ⟨S8x8x256, .f32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .f32⟩
  | .hbm, ⟨39, _⟩ => ⟨S1x8x1, .f32⟩
  | .hbm, ⟨40, _⟩ => ⟨S8x8x256, .f32⟩
  | .hbm, ⟨41, _⟩ => ⟨S8x8x256, .f32⟩
  | .hbm, ⟨42, _⟩ => ⟨S8x8x256, .f32⟩
  | .hbm, ⟨43, _⟩ => ⟨S8x8x256, .f32⟩
  | .hbm, ⟨44, _⟩ => ⟨S8x8x256, .f32⟩
  | .hbm, ⟨45, _⟩ => ⟨S8x8x256, .f32⟩
  | .hbm, ⟨46, _⟩ => ⟨S8x8x256, .f32⟩
  | .hbm, ⟨47, _⟩ => ⟨S8x8x256, .f32⟩
  | .hbm, ⟨48, _⟩ => ⟨S8x8x256, .f32⟩
  | .hbm, ⟨49, _⟩ => ⟨S8x8x256, .f32⟩
  | .hbm, ⟨50, _⟩ => ⟨S8x8x256, .f32⟩
  | .hbm, ⟨51, _⟩ => ⟨S8x8x256, .f32⟩
  | .hbm, ⟨52, _⟩ => ⟨S8x8x256, .f32⟩
  | .hbm, ⟨53, _⟩ => ⟨S8x8x256, .f32⟩
  | .hbm, ⟨54, _⟩ => ⟨S8x8x256, .f32⟩
  | .hbm, ⟨55, _⟩ => ⟨S8x8x256, .f32⟩
  | .hbm, ⟨56, _⟩ => ⟨S8x8x256, .f32⟩
  | .hbm, ⟨57, _⟩ => ⟨S_, .i32⟩
  | .hbm, ⟨58, _⟩ => ⟨S8, .i32⟩
  | .hbm, ⟨59, _⟩ => ⟨S8, .i32⟩
  | .hbm, ⟨60, _⟩ => ⟨S_, .i32⟩
  | .hbm, ⟨61, _⟩ => ⟨S8, .i32⟩
  | .hbm, ⟨62, _⟩ => ⟨S8, .i32⟩
  | .hbm, ⟨63, _⟩ => ⟨S8, .f32⟩
  | .hbm, ⟨64, _⟩ => ⟨S1x8x1, .f32⟩
  | .hbm, ⟨65, _⟩ => ⟨S8x8x256, .f32⟩
  | .hbm, ⟨66, _⟩ => ⟨S8x8x256, .f32⟩
  | .hbm, ⟨67, _⟩ => ⟨S8x8x256, .f32⟩
  | .hbm, ⟨68, _⟩ => ⟨S8x8x256, .f32⟩
  | .hbm, ⟨69, _⟩ => ⟨S8x8x256, .f32⟩
  | .hbm, ⟨70, _⟩ => ⟨S8x8x256, .f32⟩
  | .hbm, ⟨71, _⟩ => ⟨S8x8x256, .f32⟩
  | .hbm, ⟨72, _⟩ => ⟨S8x8x256, .f32⟩
  | .hbm, ⟨73, _⟩ => ⟨S8x8x256, .f32⟩
  | .hbm, ⟨74, _⟩ => ⟨S8x8x256, .f32⟩
  | .hbm, ⟨75, _⟩ => ⟨S8x8x256, .f32⟩
  | .hbm, ⟨76, _⟩ => ⟨S8x8x256, .f32⟩
  | .hbm, ⟨77, _⟩ => ⟨S8x8x256, .f32⟩
  | .hbm, ⟨78, _⟩ => ⟨S8x8x256, .f32⟩
  | .hbm, ⟨79, _⟩ => ⟨S8x8x256, .f32⟩
  | .hbm, ⟨80, _⟩ => ⟨S8x8x256, .f32⟩
  | .hbm, ⟨81, _⟩ => ⟨S8x8x256, .f32⟩
  | .hbm, ⟨82, _⟩ => ⟨S8x8x256, .f32⟩
  | .hbm, ⟨83, _⟩ => ⟨S8x8x256, .f32⟩
  | .hbm, ⟨84, _⟩ => ⟨S8x8x256, .f32⟩
  | .hbm, ⟨85, _⟩ => ⟨S8x8x256, .f32⟩
  | .hbm, ⟨86, _⟩ => ⟨S8x8x256, .f32⟩
  | .hbm, ⟨87, _⟩ => ⟨S8x8x256, .f32⟩
  | .hbm, ⟨88, _⟩ => ⟨S8x8x256, .f32⟩
  | .hbm, ⟨89, _⟩ => ⟨S8x8x256, .f32⟩
  | .hbm, ⟨90, _⟩ => ⟨S8x8x256, .f32⟩
  | .hbm, ⟨91, _⟩ => ⟨S8x8x256, .f32⟩
  | .hbm, ⟨92, _⟩ => ⟨S8x8x256, .f32⟩
  | .hbm, ⟨93, _⟩ => ⟨S8x8x256, .f32⟩
  | .hbm, ⟨94, _⟩ => ⟨S8x8x256, .f32⟩
  | .hbm, ⟨95, _⟩ => ⟨S8x8x256, .f32⟩
  | .hbm, ⟨96, _⟩ => ⟨S8x8x256, .f32⟩
  | .hbm, ⟨97, _⟩ => ⟨S8x8x256, .f32⟩
  | .hbm, ⟨98, _⟩ => ⟨S_, .i32⟩
  | .hbm, ⟨99, _⟩ => ⟨S8, .i32⟩
  | .hbm, ⟨100, _⟩ => ⟨S8, .i32⟩
  | .hbm, ⟨101, _⟩ => ⟨S_, .i32⟩
  | .hbm, ⟨102, _⟩ => ⟨S8, .i32⟩
  | .hbm, ⟨103, _⟩ => ⟨S8, .i32⟩
  | .hbm, ⟨104, _⟩ => ⟨S8, .f32⟩
  | .hbm, ⟨105, _⟩ => ⟨S1x8x1, .f32⟩
  | .hbm, ⟨106, _⟩ => ⟨S8x8x256, .f32⟩
  | .hbm, ⟨107, _⟩ => ⟨S8x8x256, .f32⟩
  | .hbm, ⟨108, _⟩ => ⟨S8x8x1x256, .f32⟩
  | .hbm, ⟨109, _⟩ => ⟨S8x8x1x256, .f32⟩
  | .hbm, ⟨110, _⟩ => ⟨S8x8x1x256, .f32⟩
  | .hbm, ⟨111, _⟩ => ⟨S8x8x1x256, .f32⟩
  | .hbm, ⟨112, _⟩ => ⟨S8x8x4x256, .f32⟩
  | .hbm, ⟨113, _⟩ => ⟨S8x8x4x256, .f32⟩
  | .hbm, ⟨114, _⟩ => ⟨S8x8x4x256, .f32⟩
  | .hbm, ⟨115, _⟩ => ⟨S4x256x256, .f32⟩
  | .hbm, ⟨116, _⟩ => ⟨S4x256x8x8, .f32⟩
  | .hbm, ⟨117, _⟩ => ⟨S8x8x4x256, .f32⟩
  | .hbm, ⟨118, _⟩ => ⟨S8x8x1024, .f32⟩
  | .hbm, ⟨119, _⟩ => ⟨S1024, .f32⟩
  | .hbm, ⟨120, _⟩ => ⟨S1x1x1024, .f32⟩
  | .hbm, ⟨121, _⟩ => ⟨S8x8x1024, .f32⟩
  | .hbm, ⟨122, _⟩ => ⟨S8x8x1024, .f32⟩
  | .hbm, ⟨123, _⟩ => ⟨S64x1024, .f32⟩
  | .hbm, ⟨124, _⟩ => ⟨S64x1024, .bf16⟩
  | _, _ => ⟨S1x8x15x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_c_4 : Ref sig .tc := ⟨.hbm, 57, rfl⟩
abbrev main_v48 : Ref sig .tc := ⟨.hbm, 58, rfl⟩
abbrev main_v49 : Ref sig .tc := ⟨.hbm, 59, rfl⟩
abbrev main_c_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_c_6 : Ref sig .tc := ⟨.hbm, 98, rfl⟩
abbrev main_v87 : Ref sig .tc := ⟨.hbm, 99, rfl⟩
abbrev main_v88 : Ref sig .tc := ⟨.hbm, 100, rfl⟩
abbrev main_c_7 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩

abbrev nD : Nat := 1
abbrev τ : Topo := Topo.v7x

variable {F : FTy → Type} [FloatOps F]
-- ==== Proof.Tables.lean ====
/- Words in a range, and what the down projection's precondition says: every word of the table of experts is the number
   of an expert. -/
module

public import proofs.«01_k».proof.Defs
public import Idealize.ShloMosaic.Lib.ReduceAll
public import Idealize.ShloMosaic.Lib.StableHlo.Predicate
public import Idealize.ShloMosaic.Lib.Affine

@[expose] public section

namespace Cert.Tables

open Idealize.ShloMosaic

variable {F : FTy → Type} [FloatOps F]

/-- A word that reads, signed, at least a small `a` and at most a small `b` lies between them as a natural number. -/
theorem between (w : BitVec 32) (a b : Nat) (h0 : (a : Int) ≤ w.toInt) (h1 : w.toInt ≤ b) (hb : b < 2 ^ 31) :
    a ≤ w.toNat ∧ w.toNat ≤ b := by
  have e := BitVec.toInt_eq_toNat_cond w
  have hw := w.isLt
  split at e <;> omega

/-- A word between 0 and 32, compared as signed, is below 32 as a natural number. -/
theorem lt_of_range (w : BitVec 32) (h0 : IntOp.cmpi .sge w 0#32 = 1#1) (h1 : IntOp.cmpi .slt w 32#32 = 1#1) : w.toNat < 32 := by
  unfold IntOp.cmpi at h0 h1
  simp only [StableHlo.Predicate.ofBool_eq_one_iff, BitVec.sle, BitVec.slt, decide_eq_true_eq] at h0 h1
  have h0' : (0#32 : BitVec 32).toInt = 0 := by decide
  have h1' : (32#32 : BitVec 32).toInt = 32 := by decide
  have := between w 0 31 (by omega) (by omega) (by decide)
  omega

/-- A word between 1 and 161, compared as signed, lies between them as a natural number. -/
theorem count_of_range (w : BitVec 32) (h0 : IntOp.cmpi .sge w 1#32 = 1#1) (h1 : IntOp.cmpi .sle w 161#32 = 1#1) : 1 ≤ w.toNat ∧ w.toNat ≤ 161 := by
  unfold IntOp.cmpi at h0 h1
  simp only [StableHlo.Predicate.ofBool_eq_one_iff, BitVec.sle, BitVec.slt, decide_eq_true_eq] at h0 h1
  have h0' : (1#32 : BitVec 32).toInt = 1 := by decide
  have h1' : (161#32 : BitVec 32).toInt = 161 := by decide
  exact between w 1 161 (by omega) (by omega) (by decide)

instance : Subsingleton Pre_tables_in_range2.S_.Idx := ⟨fun a b => funext fun x => x.elim0⟩

/-- The down projection's precondition: the words of its table name experts. -/
theorem words2 [Pre_tables_in_range2.Facts] (t0 : IVec Pre_tables_in_range2.S168 32) (t1 : IVec Pre_tables_in_range2.S1 32)
    (x : FVec F Pre_tables_in_range2.S41216x2048 .bf16) (w : FVec F Pre_tables_in_range2.S32x2048x2048 .f32) (b : FVec F Pre_tables_in_range2.S32x1x2048 .f32)
    (h : Pre_tables_in_range2.fn t0 t1 x w b = fun _ => 1#1) (i : Pre_tables_in_range2.S168.Idx) : (t0 i).toNat < 32 := by
  have h' := congrFun h (fun x => x.elim0)
  unfold Pre_tables_in_range2.fn at h'
  have hi := Host.reduce_andi_all _ _ _ _ _ h' i
  have hand := IntOp.andi_eq_one.mp hi
  exact lt_of_range _ hand.1 hand.2

end Cert.Tables

end
-- ==== Proof.DownIdealRun.lean ====
/- The down projection's body, one grid point at a time: what it reads, and what it leaves in the carried cast of the
   weights and in the output block, in each of its two cases (the block of weights changed, or not). -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Pipeline.ValueKit
public import Idealize.ShloMosaic.Lib.Tactic
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts and the word of used blocks, as the body is handed them. -/
abbrev tbE : Memref sig .tc .smem S168 .i32 := Memref.whole main_arg0
abbrev tbN : Memref sig .tc .smem S1 .i32 := Memref.whole main_arg1

/-- A table on core `c`, held read-only at contents `f`. -/
abbrev TbC (c : Dev nD) {S : Shape} {e : EltTy} (M : Memref sig .tc .smem S e) : Type := Buf (Elt F) (M.view.loc (c : Thread nD τ))
abbrev tbHeld (c : Dev nD) {S : Shape} {e : EltTy} (M : Memref sig .tc .smem S e) (f : TbC (F := F) c M) : sProp 𝕄 :=
  M.view.loc (c : Thread nD τ) ↦{fullShare.right} f

/-- The word of the table at the block before point `i`'s, and at point `i`'s block, as the body reads them. -/
abbrev prevWord (c : Dev nD) (i : grid0.Coords) (f : TbC (F := F) c tbE) : BitVec 32 :=
  tbE.view.readAt (Elt F) (Rect.unit (s := S168) (k0_off2 i) S1.size (k0_off2_inb i)).toLoadRect f (Shape.Idx.first (numel1_S1.symm ▸ Nat.one_pos))
abbrev curWord (c : Dev nD) (i : grid0.Coords) (f : TbC (F := F) c tbE) : BitVec 32 :=
  tbE.view.readAt (Elt F) (Rect.unit (s := S168) (k0_off1 i) S1.size (k0_off1_inb i)).toLoadRect f (Shape.Idx.first (numel1_S1.symm ▸ Nat.one_pos))

/-- The body's test of a change of weights: the first block of a sweep, or a word that differs from the one before. -/
abbrev changed (i : grid0.Coords) (v3 v6 : BitVec 32) : Prop :=
  (Scalar.cmpi .ne (Scalar.extui (Scalar.ori (Scalar.cmpi .eq (BitVec.ofNat 32 (i 1).val) 0#32) (Scalar.cmpi .ne v6 v3))) 0#32) = 1#1

set_option maxHeartbeats 1000000 in
/-- The body where the weights changed: the scratch ends at the cast of the point's weights, the output at the product
    with that cast. -/
theorem run_changed (c : Dev nD) (i : grid0.Coords) (arg4 : Memref sig .tc .vmem S256x2048 .bf16) (harg4 : arg4.IsWhole)
    (arg5 : Memref sig .tc .vmem S1x2048x2048 .f32) (harg5 : arg5.IsWhole) (arg6 : Memref sig .tc .vmem S1x1x2048 .f32) (harg6 : arg6.IsWhole)
    (arg7 : Memref sig .tc .vmem S256x2048 .f32) (harg7 : arg7.IsWhole) (arg8 : Memref sig .tc .vmem S2048x2048 .bf16) (harg8 : arg8.IsWhole)
    (x0 : Vec F S256x2048 .bf16) (x1 : Vec F S1x2048x2048 .f32) (x2 : Vec F S1x1x2048 .f32) (xt0 : TbC (F := F) c tbE) (xt1 : TbC (F := F) c tbN)
    (hc : changed i (prevWord c i xt0) (curWord c i xt0)) (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ (∃ d, owns (c : Thread nD τ) arg8 fullShare d) ∗ tbHeld c tbE xt0 ∗ tbHeld c tbN xt1
        ∗ (iprop(owns (c : Thread nD τ) arg4 fullShare x0 ∗ owns (c : Thread nD τ) arg5 fullShare x1 ∗ owns (c : Thread nD τ) arg6 fullShare x2
            ∗ owns (c : Thread nD τ) arg7 fullShare (k0_pay2 x0 (k0_pay1 x1) x2) ∗ owns (c : Thread nD τ) arg8 fullShare (k0_pay1 x1)
            ∗ tbHeld c tbE xt0 ∗ tbHeld c tbN xt1) -∗ K ⟨⟩))
      ⊢ wp frame (wpE (defs₀ (F := F)) Variants.none c none) E
          (cc0_moe_down i tbE (Memref.isWhole_whole _) tbN (Memref.isWhole_whole _) arg4 harg4 arg5 harg5 arg6 harg6 arg7 harg7 arg8 harg8) K := by
  simp only [cc0_moe_down_eq_skeleton]; unfold cc0_moe_down_skel
  unfold owns
  iintro ⟨⟨%f0, %hf0, H0⟩, ⟨%f1, %hf1, H1⟩, ⟨%f2, %hf2, H2⟩, ⟨%d3, %f3, -, H3⟩, ⟨%ds0, %fs0, -, HS0⟩, HT0, HT1, Hk⟩
  obtain rfl := harg4.eq_unread hf0; obtain rfl := harg5.eq_unread hf1; obtain rfl := harg6.eq_unread hf2
  sl_exec (disch := first | sl_exact hc)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    refine (View.read_writes_eq_canon _ _ _ (View.cover_of_tiledL _ S256x2048.size (by sl_kernel_rfl))).trans ?_
    frame_out
  isplitl [HS0]
  · iexists _; isplitr; swap; · iexact HS0
    ipureintro
    refine (View.read_writes_eq_canon _ _ _ (View.cover_of_tiledL _ S2048x2048.size (by sl_kernel_rfl))).trans ?_
    frame_out
  isplitl [HT0]; · iexact HT0
  iexact HT1

set_option maxHeartbeats 1000000 in
/-- The body where the weights are those of the point before: the scratch stays as it was found, and the output is the
    product with what it holds. -/
theorem run_same (c : Dev nD) (i : grid0.Coords) (arg4 : Memref sig .tc .vmem S256x2048 .bf16) (harg4 : arg4.IsWhole)
    (arg5 : Memref sig .tc .vmem S1x2048x2048 .f32) (harg5 : arg5.IsWhole) (arg6 : Memref sig .tc .vmem S1x1x2048 .f32) (harg6 : arg6.IsWhole)
    (arg7 : Memref sig .tc .vmem S256x2048 .f32) (harg7 : arg7.IsWhole) (arg8 : Memref sig .tc .vmem S2048x2048 .bf16) (harg8 : arg8.IsWhole)
    (x0 : Vec F S256x2048 .bf16) (x1 : Vec F S1x2048x2048 .f32) (x2 : Vec F S1x1x2048 .f32) (xt0 : TbC (F := F) c tbE) (xt1 : TbC (F := F) c tbN)
    (xs : Vec F S2048x2048 .bf16) (hc : ¬changed i (prevWord c i xt0) (curWord c i xt0)) (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ owns (c : Thread nD τ) arg8 fullShare xs ∗ tbHeld c tbE xt0 ∗ tbHeld c tbN xt1
        ∗ (iprop(owns (c : Thread nD τ) arg4 fullShare x0 ∗ owns (c : Thread nD τ) arg5 fullShare x1 ∗ owns (c : Thread nD τ) arg6 fullShare x2
            ∗ owns (c : Thread nD τ) arg7 fullShare (k0_pay2 x0 xs x2) ∗ owns (c : Thread nD τ) arg8 fullShare xs
            ∗ tbHeld c tbE xt0 ∗ tbHeld c tbN xt1) -∗ K ⟨⟩))
      ⊢ wp frame (wpE (defs₀ (F := F)) Variants.none c none) E
          (cc0_moe_down i tbE (Memref.isWhole_whole _) tbN (Memref.isWhole_whole _) arg4 harg4 arg5 harg5 arg6 harg6 arg7 harg7 arg8 harg8) K := by
  simp only [cc0_moe_down_eq_skeleton]; unfold cc0_moe_down_skel
  unfold owns
  iintro ⟨⟨%f0, %hf0, H0⟩, ⟨%f1, %hf1, H1⟩, ⟨%f2, %hf2, H2⟩, ⟨%d3, %f3, -, H3⟩, ⟨%fs0, %hfs0, HS0⟩, HT0, HT1, Hk⟩
  obtain rfl := harg4.eq_unread hf0; obtain rfl := harg5.eq_unread hf1; obtain rfl := harg6.eq_unread hf2
  obtain rfl := harg8.eq_unread hfs0
  sl_exec (disch := first | sl_exact hc)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    refine (View.read_writes_eq_canon _ _ _ (View.cover_of_tiledL _ S256x2048.size (by sl_kernel_rfl))).trans ?_
    frame_out
  isplitl [HS0]
  · iexists _; isplitr; · ipureintro; exact harg8.read_unread _
    iexact HS0
  isplitl [HT0]; · iexact HT0
  iexact HT1

end Cert.Kernel2Ideal.Hand

end
-- ==== Proof.DownIdealFrame.lean ====
/- The down projection's launch: the tables read off the launch memory, the blocks of its windows, the invariant of the
   carried cast of the weights, the body at a generic point, and the run to its final arrays. -/
module

public import proofs.«01_k».proof.Proof.DownIdealRun
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entry: the arrays and the tables -/

/-- Core `c`'s buffers when the pipeline starts: those of the launch, the program being the call alone. -/
abbrev V (c : Dev nD) (b : Ref sig .tc) : Buf (Elt F) ((c : Thread nD τ).loc b) := m ((c : Thread nD τ).loc b)

set_option maxHeartbeats 800000 in
/-- The program is the one call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The contents of the two tables (the machine has one device). -/
def tbl : pre0.Contents (Elt F) := fun j => V m (0 : Dev nD) (pre0.ref j)

/-- The region finds the prefetched words as the arguments give them. -/
theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables that the pipeline lends the body, one by one. -/
theorem tables_eq (c : Dev nD) : (Pipeline.ΦT pre0 (tbl m) c : sProp 𝕄) = iprop(tbHeld c tbE (tbl m 0) ∗ tbHeld c tbN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, as the launch left its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The cast of point `t`'s weights. -/
def wcast (hO : Ok m) (c : Dev nD) (t : Fin (cfgM m hO).N) : Vec F S2048x2048 .bf16 := k0_pay1 (iblk m hO c 1 t)

/-- The block of results of point `t`. -/
def oblk (hO : Ok m) (c : Dev nD) (t : Fin (cfgM m hO).N) : Vec F S256x2048 .f32 :=
  k0_pay2 (iblk m hO c 0 t) (wcast m hO c t) (iblk m hO c 2 t)

/-- The scratch with the carried cast. -/
abbrev scM : Memref sig .tc .vmem S2048x2048 .bf16 := Memref.whole cc0_scratch0

/-- What the body finds and leaves besides its windows: before the first point the scratch at anything; after point
    `n - 1` the scratch at the cast of that point's weights. -/
def carryAt (hO : Ok m) (c : Dev nD) : (n : ℕ) → n < (cfgM m hO).N + 1 → sProp 𝕄
  | 0, _ => Pipeline.ΦA spec0 c
  | k + 1, h => iprop(owns (c : Thread nD τ) scM fullShare (wcast m hO c ⟨k, Nat.lt_of_succ_lt_succ h⟩) ∗ (∃ r, prngReg c r))

/-- The same, at the pipeline's position `n`. -/
def carry (hO : Ok m) (c : Dev nD) (n : Fin ((cfgM m hO).N + 1)) : sProp 𝕄 := carryAt m hO c n.val n.isLt

/-- What the region holds beside its windows: its scratch, with any contents, and the register of random bits. -/
theorem scoped_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before the first point the scratch holds anything. -/
theorem carry_zero (hO : Ok m) (c : Dev nD) : carry m hO c 0 = Pipeline.ΦA spec0 c := rfl

/-- Before a later point the scratch holds the cast weights of the point before. -/
theorem carryAt_pos (hO : Ok m) (c : Dev nD) : ∀ (n : ℕ) (hn : n < (cfgM m hO).N) (h0 : n ≠ 0),
    carryAt m hO c n (Nat.lt_succ_of_lt hn)
      = iprop(owns (c : Thread nD τ) scM fullShare (wcast m hO c ⟨n - 1, lt_of_le_of_lt (Nat.sub_le _ _) hn⟩) ∗ (∃ r, prngReg c r))
  | 0, _, h0 => absurd rfl h0
  | _ + 1, _, _ => rfl

/-- What is carried to a point, by the point's number. -/
theorem carry_castSucc (hO : Ok m) (c : Dev nD) (t : Fin (cfgM m hO).N) :
    carry m hO c t.castSucc = carryAt m hO c t.val (Nat.lt_succ_of_lt t.isLt) := by
  unfold carry
  have e : ∀ (a b : ℕ) (ha : a < (cfgM m hO).N + 1) (hb : b < (cfgM m hO).N + 1), a = b → carryAt m hO c a ha = carryAt m hO c b hb :=
    fun a b ha hb h => by subst h; rfl
  exact e _ _ _ _ (Fin.val_castSucc t)

/-- After a point the scratch holds that point's cast weights. -/
theorem carry_succ (hO : Ok m) (c : Dev nD) (t : Fin (cfgM m hO).N) :
    carry m hO c t.succ = iprop(owns (c : Thread nD τ) scM fullShare (wcast m hO c t) ∗ (∃ r, prngReg c r)) := rfl

/-- At every point what is carried gives the scratch with some contents. -/
theorem carryAt_any (hO : Ok m) (c : Dev nD) : ∀ (n : ℕ) (hn : n < (cfgM m hO).N + 1),
    carryAt m hO c n hn ⊢ iprop(iprop((∃ d, owns (c : Thread nD τ) scM fullShare d)) ∗ (∃ r, prngReg c r))
  | 0, _ => by
    rw [show carryAt m hO c 0 _ = Pipeline.ΦA spec0 c from rfl, scoped_eq]
  | k + 1, h => by
    rw [show carryAt m hO c (k + 1) h
      = iprop(owns (c : Thread nD τ) scM fullShare (wcast m hO c ⟨k, Nat.lt_of_succ_lt_succ h⟩) ∗ (∃ r, prngReg c r)) from rfl]
    iintro ⟨H, Hg⟩
    isplitl [H]; · iexists _; iexact H
    iexact Hg

/-- Whatever the point, the scratch is there at some contents. -/
theorem carry_any (hO : Ok m) (c : Dev nD) (n : Fin ((cfgM m hO).N + 1)) :
    carry m hO c n ⊢ iprop(iprop((∃ d, owns (c : Thread nD τ) scM fullShare d)) ∗ (∃ r, prngReg c r)) :=
  carryAt_any m hO c n.val n.isLt

/-- The pipeline's proof data: inputs keep their blocks, the output's buffer ends each point at `oblk`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => oblk m hO c t
  Φ n := iprop(carry m hO c n ∗ Pipeline.ΦT pre0 (tbl m) c)
  q _ := fullShare
  owed _ := 0

/-- The arrays of the windows are those the region finds. -/
theorem A_eq (hO : Ok m) (c : Dev nD) (w : Fin (cfgM m hO).W) : (dats m hO 0 c).A w = V m c (Pipeline.arrRef spec0 w) := by
  dsimp only [dats]

/-- What a point leaves in window 0. -/
theorem after_0 (hO : Ok m) (c : Dev nD) (t : Fin (cfgM m hO).N) : (dats m hO 0 c).after 0 t = iblk m hO c 0 t := by dsimp only [dats]; try rfl

/-- What a point leaves in window 1. -/
theorem after_1 (hO : Ok m) (c : Dev nD) (t : Fin (cfgM m hO).N) : (dats m hO 0 c).after 1 t = iblk m hO c 1 t := by dsimp only [dats]; try rfl

/-- What a point leaves in window 2. -/
theorem after_2 (hO : Ok m) (c : Dev nD) (t : Fin (cfgM m hO).N) : (dats m hO 0 c).after 2 t = iblk m hO c 2 t := by dsimp only [dats]; try rfl

/-- What a point leaves in window 3. -/
theorem after_3 (hO : Ok m) (c : Dev nD) (t : Fin (cfgM m hO).N) : (dats m hO 0 c).after 3 t = oblk m hO c t := by dsimp only [dats]; try rfl

/-- At every point the buffers of the three inputs hold their blocks. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- What a point finds in window 1. -/
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What a point finds in window 2. -/
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## Unchanged weights -/

/-- The second coordinate of point `t` is its position, the first is zero. -/
theorem coords_one : ∀ t : Fin grid0.N, (grid0.coords t 1).val = t.val := by decide +kernel

/-- The first coordinate of a point is zero. -/
theorem coords_zero (t : Fin grid0.N) : (grid0.coords t 0).val = 0 := by
  have := (grid0.coords t 0).isLt
  exact Nat.lt_one_iff.mp this

/-- The offset of the word before, at a point that is not the first, is the offset of the previous point's word. -/
theorem off_prev : ∀ t : Fin grid0.N, (h : t.val ≠ 0) →
    k0_off2 (grid0.coords t) = k0_off1 (grid0.coords ⟨t.val - 1, by have := t.isLt; omega⟩) := by decide +kernel

/-- The test's last steps: a set bit among the two makes the condition true. -/
theorem or_true_word : ∀ p q : Bool, (p || q) = true →
    Scalar.cmpi .ne (Scalar.extui (Scalar.ori (BitVec.ofBool p) (BitVec.ofBool q)) : BitVec 32) 0#32 = 1#1 := by decide

/-- What the test of a change says when it fails: not the first point, and equal words. -/
theorem of_unchanged (t : Fin grid0.N) (v3 v6 : BitVec 32) (h : ¬changed (grid0.coords t) v3 v6) : t.val ≠ 0 ∧ v6 = v3 := by
  have h1 := coords_one t
  constructor
  · intro h0
    apply h
    unfold changed
    rw [h1, h0]
    exact or_true_word (0#32 == 0#32) (v6 != v3) rfl
  · by_contra hne
    apply h
    unfold changed
    refine or_true_word (BitVec.ofNat 32 (grid0.coords t 1).val == 0#32) (v6 != v3) ?_
    simp [hne]

/-- A word of the table depends on its offset alone. -/
theorem word_congr (c : Dev nD) (f : TbC (F := F) c tbE) {off off' : Fin 1 → Nat} (h : off = off')
    (h1 : ∀ a, off a + S1.size a ≤ S168.size a) (h2 : ∀ a, off' a + S1.size a ≤ S168.size a) :
    tbE.view.readAt (Elt F) (Rect.unit (s := S168) off S1.size h1).toLoadRect f (Shape.Idx.first (numel1_S1.symm ▸ Nat.one_pos))
      = tbE.view.readAt (Elt F) (Rect.unit (s := S168) off' S1.size h2).toLoadRect f (Shape.Idx.first (numel1_S1.symm ▸ Nat.one_pos)) := by
  subst h; rfl

/-- Equal words at a point and the one before name the same block of weights, so its cast is the carried one. -/
theorem wcast_same (hO : Ok m) (c : Dev nD) (t : Fin (cfgM m hO).N)
    (h : ¬changed (grid0.coords t) (prevWord c (grid0.coords t) (tbl m 0)) (curWord c (grid0.coords t) (tbl m 0))) :
    t.val ≠ 0 ∧ wcast m hO c ⟨t.val - 1, lt_of_le_of_lt (Nat.sub_le _ _) t.isLt⟩ = wcast m hO c t := by
  obtain ⟨h0, hw⟩ := of_unchanged t _ _ h
  refine ⟨h0, ?_⟩
  have hoff := off_prev t h0
  generalize hs : (⟨t.val - 1, lt_of_le_of_lt (Nat.sub_le _ _) t.isLt⟩ : Fin grid0.N) = s at hoff
  have hword : curWord c (grid0.coords t) (tbl m 0) = curWord c (grid0.coords s) (tbl m 0) := by
    rw [hw]; exact word_congr c (tbl m 0) hoff _ _
  have hix : ((cfgM m hO).win 1).index s = ((cfgM m hO).win 1).index t := by
    show ![BitVec.toNat (curWord c (grid0.coords s) (tbl m 0)), (0#32).toNat, (BitVec.ofNat 32 (grid0.coords s 0).val).toNat]
      = ![BitVec.toNat (curWord c (grid0.coords t) (tbl m 0)), (0#32).toNat, (BitVec.ofNat 32 (grid0.coords t 0).val).toNat]
    rw [hword, coords_zero, coords_zero]
  have hf := (dats m hO 0 c).fetched_congr 1 hix rfl (fun _ => Classical.arbitrary _)
  have hsf : (dats m hO 0 c).fetched 1 s (fun _ => Classical.arbitrary _) = iblk m hO c 1 s := by
    unfold Dat.fetched Dat.blockOf iblk; rw [A_eq]; try rfl
  have htf : (dats m hO 0 c).fetched 1 t (fun _ => Classical.arbitrary _) = iblk m hO c 1 t := by
    unfold Dat.fetched Dat.blockOf iblk; rw [A_eq]; try rfl
  unfold wcast
  exact congrArg k0_pay1 (hsf.symm.trans (hf.trans htf))

/-! ## The body at a generic point -/

abbrev ms_0 (hO : Ok m) (t : Fin (cfgM m hO).N) : Memref sig .tc .vmem S256x2048 .bf16 := spec0_0.stage ((cfgM m hO).slots t 0)
abbrev ms_1 (hO : Ok m) (t : Fin (cfgM m hO).N) : Memref sig .tc .vmem S1x2048x2048 .f32 := spec0_1.stage ((cfgM m hO).slots t 1)
abbrev ms_2 (hO : Ok m) (t : Fin (cfgM m hO).N) : Memref sig .tc .vmem S1x1x2048 .f32 := spec0_2.stage ((cfgM m hO).slots t 2)
abbrev ms_3 (hO : Ok m) (t : Fin (cfgM m hO).N) : Memref sig .tc .vmem S256x2048 .f32 := spec0_3.stage ((cfgM m hO).slots t 3)

/-- The body as the pipeline calls it at point `t`. -/
abbrev bodyAt (hO : Ok m) (t : Fin (cfgM m hO).N) : Prog (TpuEff nD τ sig (Elt F) Λ₀ .tc) PUnit :=
  cc0_moe_down (grid0.coords t) (Memref.whole main_arg0) (Memref.isWhole_whole _) (Memref.whole main_arg1) (Memref.isWhole_whole _)
    (ms_0 m hO t) (hstage0_0 (((cfgM m hO).slots t 0).cast nbuf0_0)) (ms_1 m hO t) (hstage0_1 (((cfgM m hO).slots t 1).cast nbuf0_1))
    (ms_2 m hO t) (hstage0_2 (((cfgM m hO).slots t 2).cast nbuf0_2)) (ms_3 m hO t) (hstage0_3 (((cfgM m hO).slots t 3).cast nbuf0_3))
    (Memref.whole cc0_scratch0) (Memref.isWhole_whole _)

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t))

set_option maxHeartbeats 800000 in
/-- The body at any point: with changed weights it fills the scratch, with unchanged ones it finds it filled. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).owesAt () t.succ = (dats m hO 0 c).owesAt () t.castSucc from rfl, after_0, after_1, after_2, after_3]
  rw [show (dats m hO 0 c).Φ t.castSucc = iprop(carry m hO c t.castSucc ∗ Pipeline.ΦT pre0 (tbl m) c) from rfl,
    show (dats m hO 0 c).Φ t.succ = iprop(carry m hO c t.succ ∗ Pipeline.ΦT pre0 (tbl m) c) from rfl, tables_eq, carry_succ]
  by_cases hc : changed (grid0.coords t) (prevWord c (grid0.coords t) (tbl m 0)) (curWord c (grid0.coords t) (tbl m 0))
  · refine (sep_mono (sep_mono (carry_any m hO c t.castSucc) .rfl) .rfl).trans ?_
    iintro ⟨⟨⟨HS, Hg⟩, ⟨HT0, HT1⟩⟩, Ho, ⟨%d0, H0⟩, ⟨%d1, H1⟩, ⟨%d2, H2⟩, ⟨%d3, H3⟩⟩
    iapply ((run_changed c (grid0.coords t) _ _ _ _ _ _ _ _ _ _ (iblk m hO c 0 t) (iblk m hO c 1 t) (iblk m hO c 2 t) (tbl m 0) (tbl m 1) hc) Set.univ _)
    isplitl [H0]; · iexact H0
    isplitl [H1]; · iexact H1
    isplitl [H2]; · iexact H2
    isplitl [H3]; · iexists _; iexact H3
    isplitl [HS]; · iexact HS
    isplitl [HT0]; · iexact HT0
    isplitl [HT1]; · iexact HT1
    iintro ⟨H0, H1, H2, H3, HS, HT0, HT1⟩
    isplitl [HS Hg HT0 HT1]
    · isplitl [HS Hg]
      · isplitl [HS]
        · iexact HS
        iexact Hg
      isplitl [HT0]; · iexact HT0
      iexact HT1
    isplitl [Ho]; · iexact Ho
    isplitl [H0]; · iexact H0
    isplitl [H1]; · iexact H1
    isplitl [H2]; · iexact H2
    iexact H3
  · obtain ⟨h0, hw⟩ := wcast_same m hO c t hc
    rw [carry_castSucc, carryAt_pos m hO c t.val t.isLt h0, hw]
    iintro ⟨⟨⟨HS, Hg⟩, ⟨HT0, HT1⟩⟩, Ho, ⟨%d0, H0⟩, ⟨%d1, H1⟩, ⟨%d2, H2⟩, ⟨%d3, H3⟩⟩
    iapply ((run_same c (grid0.coords t) _ _ _ _ _ _ _ _ _ _ (iblk m hO c 0 t) (iblk m hO c 1 t) (iblk m hO c 2 t) (tbl m 0) (tbl m 1) (wcast m hO c t) hc) Set.univ _)
    isplitl [H0]; · iexact H0
    isplitl [H1]; · iexact H1
    isplitl [H2]; · iexact H2
    isplitl [H3]; · iexists _; iexact H3
    isplitl [HS]; · iexact HS
    isplitl [HT0]; · iexact HT0
    isplitl [HT1]; · iexact HT1
    iintro ⟨H0, H1, H2, H3, HS, HT0, HT1⟩
    isplitl [HS Hg HT0 HT1]
    · isplitl [HS Hg]
      · isplitl [HS]
        · iexact HS
        iexact Hg
      isplitl [HT0]; · iexact HT0
      iexact HT1
    isplitl [Ho]; · iexact Ho
    isplitl [H0]; · iexact H0
    isplitl [H1]; · iexact H1
    isplitl [H2]; · iexact H2
    iexact H3

/-- The body the run calls at a point is the kernel's body there. -/
theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body does at every point what the run asks of it. -/
theorem body_obligation (hO : Ok m) (c : Dev nD) : BodyObligation (dats (F := F) m hO 0 c) (defs₀ (F := F)) Variants.none () Set.univ := fun t => by
  rw [bigSep_W0, bigSep_W0, defs_row m hO]
  exact triple_restated (sound_body m hO c t) rfl .rfl fun _ => .rfl

/-! ## The run -/

set_option backward.isDefEq.respectTransparency.types false in
/-- Every weakly fair execution ends, with each array at what the write-backs left and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => by
      rw [show (dats m hO 0 c).Φ 0 = iprop(carry m hO c 0 ∗ Pipeline.ΦT pre0 (tbl m) c) from rfl, carry_zero m hO c])
    (hout := fun c => by
      rw [show (dats m hO 0 c).Φ (Fin.last _) = iprop(carry m hO c (Fin.last _) ∗ Pipeline.ΦT pre0 (tbl m) c) from rfl]
      exact (sep_mono (carry_any m hO c _) .rfl).trans ((sep_mono (.of_eq (scoped_eq c).symm) .rfl).trans sep_elim_left))

/-- The final state: the arguments as launched, the result at what the last write-back left, the counters at zero. -/
theorem run_final (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_main m ρ hO)

end Cert.Kernel2Ideal.Hand

end
-- ==== Proof.DownIdealOk.lean ====
/- The down projection's tables name blocks inside their arrays: the side condition of the launch, from words below 32. -/
module

public import proofs.«01_k».proof.Proof.DownIdealFrame
public import Idealize.ShloMosaic.Lib.Pointwise.Index

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The index in the table of the word of coordinates `i`. -/
abbrev wordIdx (i : grid0.Coords) : S168.Idx := ix1 (n0 := 168) ⟨(i 1).val, lt_trans (show (i 1).val < 161 from (i 1).isLt) (by decide)⟩

/-- The word the body reads at coordinates `i` is the table's at the second of them. -/
theorem curWord_eq (c : Dev nD) (i : grid0.Coords) (f : TbC (F := F) c tbE) :
    curWord c i f = f (wordIdx i) := by
  unfold curWord
  refine congrArg f ?_
  funext a
  refine Fin.ext ?_
  obtain rfl : a = (0 : Fin 1) := Subsingleton.elim (α := Fin 1) _ _
  have h : (i 1).val < 161 := (i 1).isLt
  show (Scalar.indexCast (BitVec.ofNat 32 (i 1).val) : Index).toNat + 1 * 0 = (i 1).val
  show ((BitVec.ofNat 32 (i 1).val)).toNat + 1 * 0 = (i 1).val
  rw [BitVec.toNat_ofNat, Nat.mod_eq_of_lt (by omega)]; omega

/-- The first coordinate of a point is zero. -/
theorem first_zero (i : grid0.Coords) : (i 0).val = 0 := Nat.lt_one_iff.mp (show (i 0).val < 1 from (i 0).isLt)

/-- The index of window 1's block, and of window 2's: the word read, then zeros. -/
theorem transform_1 (i : grid0.Coords) : cc0_transform_1 k0_off1_inb numel1_S1 (tbl m) i = ![(tbl m 0 (wordIdx i)).toNat, 0, 0] := by
  rw [← curWord_eq (0 : Dev nD) i (tbl m 0)]
  show ![BitVec.toNat (curWord (0 : Dev nD) i (tbl m 0)), (0#32).toNat, (BitVec.ofNat 32 (i 0).val).toNat] = _
  rw [first_zero i]; rfl

/-- The index of window 2's block. -/
theorem transform_2 (i : grid0.Coords) : cc0_transform_2 k0_off1_inb numel1_S1 (tbl m) i = ![(tbl m 0 (wordIdx i)).toNat, 0, 0] := by
  rw [← curWord_eq (0 : Dev nD) i (tbl m 0)]
  show ![BitVec.toNat (curWord (0 : Dev nD) i (tbl m 0)), (0#32).toNat, (BitVec.ofNat 32 (i 0).val).toNat] = _
  rw [first_zero i]; rfl

/-- Words below 32 name blocks inside the arrays of weights and of biases. -/
theorem ok_of_words (h : ∀ i : S168.Idx, (tbl m 0 i).toNat < 32) : Ok m := by
  refine ⟨fun i => ⟨fun a => ?_, Or.inl rfl⟩, fun i => ⟨fun a => ?_, Or.inl rfl⟩⟩
  · rw [transform_1]
    have := h (wordIdx i)
    match a with
    | ⟨0, _⟩ => show ((tbl m 0 _).toNat + 1) * 1 ≤ 32; omega
    | ⟨1, _⟩ => show (0 + 1) * 2048 ≤ 2048; omega
    | ⟨2, _⟩ => show (0 + 1) * 2048 ≤ 2048; omega
  · rw [transform_2]
    have := h (wordIdx i)
    match a with
    | ⟨0, _⟩ => show ((tbl m 0 _).toNat + 1) * 1 ≤ 32; omega
    | ⟨1, _⟩ => show (0 + 1) * 1 ≤ 1; omega
    | ⟨2, _⟩ => show (0 + 1) * 2048 ≤ 2048; omega

end Cert.Kernel2Ideal.Hand

end
-- ==== Proof.DownSpec.lean ====
/- The down projection as mathematics: block by block of 256 rows, the rows against the matrix of the block's expert,
   plus that expert's bias. -/
module

public import Idealize.ShloMosaic.Lib.Pointwise.Index
public import proofs.«01_k».proof.Defs

@[expose] public section

noncomputable section

namespace Cert.Spec

open Idealize.ShloMosaic

/-- The block of 256 rows that row `r` lies in. -/
def blockOf (r : Fin 41216) : Fin 168 := ⟨r.val / 256, by have := r.isLt; omega⟩

/-- The expert of row `r`: the number in the table at the row's block. -/
def expert (t : (⟨1, ![168]⟩ : Shape).Idx → BitVec 32) (h : ∀ i, (t i).toNat < 32) (r : Fin 41216) : Fin 32 :=
  ⟨(t (ix1 (blockOf r))).toNat, h _⟩

/-- Row `r` of `x` against the matrix of the row's expert, plus the expert's bias. -/
def down (t : (⟨1, ![168]⟩ : Shape).Idx → BitVec 32) (h : ∀ i, (t i).toNat < 32)
    (x : (⟨2, ![41216, 2048]⟩ : Shape).Idx → Elt Ideal .bf16) (w : (⟨3, ![32, 2048, 2048]⟩ : Shape).Idx → Elt Ideal .f32)
    (b : (⟨3, ![32, 1, 2048]⟩ : Shape).Idx → Elt Ideal .f32) (r : Fin 41216) (q : Fin 2048) : Elt Ideal .f32 :=
  ((∑ k : Fin 2048, x (ix2 r k) * w (ix3 (expert t h r) k q) : Ideal .f32) + b (ix3 (expert t h r) 0 q) : Ideal .f32)

end Cert.Spec

end
-- ==== Proof.DownIdealValue.lean ====
/- The down projection's value over the reals: the block of each point at its indices, and the array after the run. -/
module

public import proofs.«01_k».proof.Proof.DownIdealOk
public import proofs.«01_k».proof.Proof.DownSpec
public import Idealize.ShloMosaic.Lib.Pointwise.Tactic
public import Idealize.ShloMosaic.Lib.Pipeline.ValueKit.Basic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The payload at row `r` and column `q`: the row against the column, plus the bias. -/
theorem pay2_apply (x : Vec Ideal S256x2048 .bf16) (w : Vec Ideal S1x2048x2048 .f32) (b : Vec Ideal S1x1x2048 .f32) (r : Fin 256) (q : Fin 2048) :
    k0_pay2 x (k0_pay1 w) b (ix2 r q) = ((∑ k : Fin 2048, x (ix2 r k) * w (ix3 0 k q) : Ideal .f32) + b (ix3 0 0 q) : Ideal .f32) := by
  pointwise [k0_pay2, k0_pay1]

/-- Row `r` of point `t`'s block in the whole array. -/
def rowOf (hO : Ok m) (t : Fin (cfgM m hO).N) (r : Fin 256) : Fin 41216 :=
  ⟨t.val * 256 + r.val, by have h : t.val < 161 := t.isLt; have := r.isLt; omega⟩

/-- The index in the table of the word of point `t`. -/
def wordAt (hO : Ok m) (t : Fin (cfgM m hO).N) : S168.Idx := ix1 (n0 := 168) ⟨t.val, by have h : t.val < 161 := t.isLt; omega⟩

/-- The word a point looks up, by its coordinates and by its number. -/
theorem wordIdx_coords (hO : Ok m) (t : Fin (cfgM m hO).N) : wordIdx (grid0.coords t) = wordAt m hO t := by
  unfold wordIdx wordAt
  congr 1
  exact Fin.ext (coords_one t)

/-- The blocks' indices at point `t`. -/
theorem index_0 (hO : Ok m) (t : Fin (cfgM m hO).N) : ((cfgM m hO).win 0).index t = ![t.val, 0] := by
  show ![(BitVec.ofNat 32 (grid0.coords t 1).val).toNat, (0#32).toNat] = _
  have h : t.val < 161 := t.isLt
  rw [coords_one, BitVec.toNat_ofNat, Nat.mod_eq_of_lt (by omega)]; rfl

/-- The block of window 1 at a point: the expert's weights. -/
theorem index_1 (hO : Ok m) (t : Fin (cfgM m hO).N) : ((cfgM m hO).win 1).index t = ![(tbl m 0 (wordAt m hO t)).toNat, 0, 0] := by
  rw [← wordIdx_coords]; exact transform_1 m (grid0.coords t)

/-- The block of window 2 at a point: the expert's bias. -/
theorem index_2 (hO : Ok m) (t : Fin (cfgM m hO).N) : ((cfgM m hO).win 2).index t = ![(tbl m 0 (wordAt m hO t)).toNat, 0, 0] := by
  rw [← wordIdx_coords]; exact transform_2 m (grid0.coords t)

/-- The block of window 3 at a point: its rows of the result. -/
theorem index_3 (hO : Ok m) (t : Fin (cfgM m hO).N) : ((cfgM m hO).win 3).index t = ![t.val, 0] := by
  show ![(BitVec.ofNat 32 (grid0.coords t 1).val).toNat, (BitVec.ofNat 32 (grid0.coords t 0).val).toNat] = _
  have h : t.val < 161 := t.isLt
  rw [coords_one, coords_zero, BitVec.toNat_ofNat, Nat.mod_eq_of_lt (by omega)]; rfl

/-- The block of rows at its indices. -/
theorem iblk_0 (hO : Ok m) (c : Dev nD) (t : Fin (cfgM m hO).N) (r : Fin 256) (k : Fin 2048) :
    iblk m hO c 0 t (ix2 r k) = V m c main_arg2 (ix2 (rowOf m hO t r) k) := by
  show V m c main_arg2 ((((cfgM m hO).win 0).rect t).emb (ix2 r k)) = _
  refine congrArg (V m c main_arg2) ?_
  funext a
  refine Fin.ext ?_
  refine (Window.rect_emb_val ((cfgM m hO).win 0) t (ix2 r k) a).trans ?_
  rw [index_0]
  match a with
  | ⟨0, _⟩ => rfl
  | ⟨1, _⟩ => show 0 * 2048 + k.val = k.val; omega

variable (h : ∀ i : S168.Idx, (tbl m 0 i).toNat < 32)

/-- The block of weights at its indices: the matrix of the expert that the table names. -/
theorem iblk_1 (hO : Ok m) (c : Dev nD) (t : Fin (cfgM m hO).N) (k q : Fin 2048) :
    iblk m hO c 1 t (ix3 0 k q) = V m c main_arg3 (ix3 (⟨(tbl m 0 (wordAt m hO t)).toNat, h _⟩ : Fin 32) k q) := by
  show V m c main_arg3 ((((cfgM m hO).win 1).rect t).emb (ix3 0 k q)) = _
  refine congrArg (V m c main_arg3) ?_
  funext a
  refine Fin.ext ?_
  refine (Window.rect_emb_val ((cfgM m hO).win 1) t (ix3 0 k q) a).trans ?_
  rw [index_1]
  match a with
  | ⟨0, _⟩ => show (tbl m 0 (wordAt m hO t)).toNat * 1 + 0 = (tbl m 0 (wordAt m hO t)).toNat; omega
  | ⟨1, _⟩ => show 0 * 2048 + k.val = k.val; omega
  | ⟨2, _⟩ => show 0 * 2048 + q.val = q.val; omega

/-- The block of the bias at its indices. -/
theorem iblk_2 (hO : Ok m) (c : Dev nD) (t : Fin (cfgM m hO).N) (q : Fin 2048) :
    iblk m hO c 2 t (ix3 0 0 q) = V m c main_arg4 (ix3 (⟨(tbl m 0 (wordAt m hO t)).toNat, h _⟩ : Fin 32) 0 q) := by
  show V m c main_arg4 ((((cfgM m hO).win 2).rect t).emb (ix3 0 0 q)) = _
  refine congrArg (V m c main_arg4) ?_
  funext a
  refine Fin.ext ?_
  refine (Window.rect_emb_val ((cfgM m hO).win 2) t (ix3 0 0 q) a).trans ?_
  rw [index_2]
  match a with
  | ⟨0, _⟩ => show (tbl m 0 (wordAt m hO t)).toNat * 1 + 0 = (tbl m 0 (wordAt m hO t)).toNat; omega
  | ⟨1, _⟩ => show 0 * 1 + 0 = 0; omega
  | ⟨2, _⟩ => show 0 * 2048 + q.val = q.val; omega

/-- The number of the point that a row's block is worked at. -/
def pointOf (hO : Ok m) (r : Fin 41216) : Fin (cfgM m hO).N := ⟨r.val / 256, show r.val / 256 < 161 by have := r.isLt; omega⟩

/-- The whole result: the mathematical down projection of the launch memory. -/
def out (c : Dev nD) : S41216x2048.Idx → Elt Ideal .f32 :=
  fun i => Cert.Spec.down (tbl m 0) h (V m c main_arg2) (V m c main_arg3) (V m c main_arg4) (i 0) (i 1)

/-- The block that point `t` writes is the block of `out`. -/
theorem oblk_apply (hO : Ok m) (c : Dev nD) (t : Fin (cfgM m hO).N) (r : Fin 256) (q : Fin 2048) :
    oblk m hO c t (ix2 r q) = out m h c (ix2 (rowOf m hO t r) q) := by
  have hw : wordAt m hO t = ix1 (Cert.Spec.blockOf (rowOf m hO t r)) := by
    unfold wordAt Cert.Spec.blockOf rowOf
    congr 1
    refine Fin.ext ?_
    show t.val = (t.val * 256 + r.val) / 256
    have := r.isLt; omega
  have he : (⟨(tbl m 0 (wordAt m hO t)).toNat, h _⟩ : Fin 32) = Cert.Spec.expert (tbl m 0) h (rowOf m hO t r) := by
    refine Fin.ext ?_
    show (tbl m 0 (wordAt m hO t)).toNat = (tbl m 0 (ix1 (Cert.Spec.blockOf (rowOf m hO t r)))).toNat
    rw [hw]
  have e0 := iblk_0 m hO c t r
  have e1 := fun k => iblk_1 m h hO c t k q
  have e2 := iblk_2 m h hO c t q
  rw [he] at e2
  simp only [he] at e1
  refine (pay2_apply (iblk m hO c 0 t) (iblk m hO c 1 t) (iblk m hO c 2 t) r q).trans ?_
  exact congrArg₂ (fun a b : Ideal .f32 => a + b)
    (Finset.sum_congr rfl fun k _ => congrArg₂ (fun a b : Ideal .f32 => a * b) (e0 k) (e1 k)) e2

/-- Every point writes its block back. -/
theorem flush_3 (hO : Ok m) (t : Fin (cfgM m hO).N) : ((cfgM m hO).win 3).flush t = true :=
  (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _)

/-- After the run the result array is `out`. -/
theorem final_3 (hO : Ok m) (c : Dev nD) : (dats m hO 0 c).arrAt 3 (cfgM m hO).N = out m h c := by
  refine (dats m hO 0 c).arrAt_eq_of_cover 3 (out m h c) (fun t _ => ?_) fun (i : S41216x2048.Idx) => ?_
  · show (dats m hO 0 c).after 3 t = _
    rw [after_3]
    funext j
    obtain ⟨r, q, rfl⟩ : ∃ (r : Fin 256) (q : Fin 2048), j = ix2 r q := ⟨j 0, j 1, eq_ix2 j⟩
    rw [oblk_apply m h]
    show _ = out m h c ((((cfgM m hO).win 3).rect t).emb (ix2 r q))
    refine congrArg (out m h c) ?_
    funext a
    refine Fin.ext ?_
    refine Eq.symm ((Window.rect_emb_val ((cfgM m hO).win 3) t (ix2 r q) a).trans ?_)
    rw [index_3]
    match a with
    | ⟨0, _⟩ => rfl
    | ⟨1, _⟩ => show 0 * 2048 + q.val = q.val; omega
  · refine ⟨pointOf m hO (i 0), flush_3 m hO _, ?_⟩
    have hm := (((cfgM m hO).win 3).blk (pointOf m hO (i 0))).view.emb_mem_set (ix2 (⟨(i 0).val % 256, Nat.mod_lt _ (by decide)⟩ : Fin 256) (i 1 : Fin 2048))
    have he : (((cfgM m hO).win 3).rect (pointOf m hO (i 0))).emb (ix2 (⟨(i 0).val % 256, Nat.mod_lt _ (by decide)⟩ : Fin 256) (i 1 : Fin 2048)) = i := by
      funext a
      refine Fin.ext ((Window.rect_emb_val ((cfgM m hO).win 3) (pointOf m hO (i 0)) _ a).trans ?_)
      rw [index_3]
      match a with
      | ⟨0, _⟩ => show (i 0).val / 256 * 256 + (i 0).val % 256 = (i 0).val; omega
      | ⟨1, _⟩ => show 0 * 2048 + (i 1).val = (i 1).val; omega
    exact Eq.mp (congrArg (fun x : S41216x2048.Idx => x ∈ (((cfgM m hO).win 3).blk (pointOf m hO (i 0))).view.set) he) hm

end Cert.Kernel2Ideal.Hand

end
-- ==== Proof.Gather.lean ====
/- The gather that reads one matrix per index word: `table[idx]` of a `[E, P, Q]` table at `[N, 1]` words. -/
module

public import Idealize.ShloMosaic.Lib.Routing.Ops
public import Idealize.ShloMosaic.Lib.ValueIdx

@[expose] public section

namespace Cert.Layout

open Idealize.ShloMosaic

/-- A `[E, P, Q]` table indexed on its first axis by `N` words. -/
abbrev tableDims (E P Q N : ℕ)
    (wf : GatherDims.WF (⟨3, ![E, P, Q]⟩ : Shape) (⟨2, ![N, 1]⟩ : Shape) (⟨3, ![N, P, Q]⟩ : Shape) [1, 2] [0] [] [0] [] 1 ![1, P, Q]) :
    GatherDims (⟨3, ![E, P, Q]⟩ : Shape) (⟨2, ![N, 1]⟩ : Shape) (⟨3, ![N, P, Q]⟩ : Shape) where
  offsetDims := [1, 2]
  collapsedSliceDims := [0]
  operandBatchingDims := []
  startIndicesBatchingDims := []
  startIndexMap := [0]
  indexVectorDim := 1
  sliceSizes := ![1, P, Q]
  wf := wf

/-- Where the word of row `n` is the number `e` of a matrix, the gather reads that matrix. -/
theorem gather_matrix {α : Type} (E P Q N : ℕ) (wf) (x : (⟨3, ![E, P, Q]⟩ : Shape).Idx → α) (idx : IVec (⟨2, ![N, 1]⟩ : Shape) 32)
    (n : Fin N) (p : Fin P) (q : Fin Q) (e : Fin E) (he : (idx (ValueIdx.ix2 n (0 : Fin 1))).toInt = e.val) :
    Host.gather (tableDims E P Q N wf) x idx (ValueIdx.ix3 n p q) = x (ValueIdx.ix3 e p q) := by
  unfold Host.gather
  refine congrArg x (funext fun a => Fin.ext ?_)
  have hsi : (tableDims E P Q N wf).siIdx (ValueIdx.ix3 n p q) ⟨0, Nat.one_pos⟩ = ValueIdx.ix2 n (0 : Fin 1) := by
    funext b
    match b with
    | ⟨0, _⟩ => rfl
    | ⟨1, _⟩ => rfl
  match a with
  | ⟨0, _⟩ =>
    show (tableDims E P Q N wf).start (ValueIdx.ix3 n p q) idx 0 + 0 + 0 = e.val
    have : (tableDims E P Q N wf).start (ValueIdx.ix3 n p q) idx 0
        = min (idx ((tableDims E P Q N wf).siIdx (ValueIdx.ix3 n p q) ⟨0, Nat.one_pos⟩)).toInt.toNat (E - 1) := rfl
    rw [this, hsi, he]
    have := e.isLt
    simp only [Int.toNat_natCast]
    omega
  | ⟨1, _⟩ =>
    show 0 + 0 + p.val = p.val
    omega
  | ⟨2, _⟩ =>
    show 0 + 0 + q.val = q.val
    omega

end Cert.Layout

end
-- ==== Proof.DownReference.lean ====
/- The down projection's reference at an index: the mathematical down projection. -/
module

public import proofs.«01_k».proof.Proof.Gather
public import proofs.«01_k».proof.Proof.DownSpec
public import proofs.«01_k».proof.Proof.Gen.Reference2Ideal.Run
public import Idealize.ShloMosaic.Lib.Routing.OpsPair
public import Idealize.ShloMosaic.Lib.StableHlo.Predicate
public import Idealize.ShloMosaic.Lib.Pointwise
public import Idealize.ShloMosaic.Lib.Pointwise.IndexBridge

@[expose] public section

noncomputable section

namespace Cert.Reference2Ideal.Hand

open Cert.Reference2Ideal Cert.Reference2Ideal.Gen
open Idealize.ShloMosaic

/-- The words at which the reference reads its tables: those of the table of experts, a negative one moved up by 32. -/
def words (t : S168.Idx → BitVec 32) : IVec S161x1 32 :=
  broadcastInDim S161x1 ![0] bcast_S161_S161x1_0 (select (cmpi .slt (extractStridedSlice S161 ![0] t slices_S168_S161_0) (broadcastInDim S161 ![] bcast_S_S161 (constantI S_ 32 0#32))) (addi (extractStridedSlice S161 ![0] t slices_S168_S161_0) (broadcastInDim S161 ![] bcast_S_S161 (constantI S_ 32 32#32))) (extractStridedSlice S161 ![0] t slices_S168_S161_0))

/-- No word is negative, so each is the table's. -/
theorem words_apply (t : S168.Idx → BitVec 32) (h : ∀ i, (t i).toNat < 32) (n : Fin 161) :
    (words t (ix2 n 0)).toInt = (t (ix1 (⟨n.val, by have := n.isLt; omega⟩ : Fin 168))).toNat := by
  have e : words t (ix2 n 0) = Scalar.select (IntOp.cmpi .slt (t (ix1 (⟨n.val, by have := n.isLt; omega⟩ : Fin 168))) 0#32) (t (ix1 (⟨n.val, by have := n.isLt; omega⟩ : Fin 168)) + 32#32) (t (ix1 (⟨n.val, by have := n.isLt; omega⟩ : Fin 168))) := by
    pointwise [words]
    rfl
  have hh := h (ix1 (⟨n.val, by have := n.isLt; omega⟩ : Fin 168))
  rw [e, Routing.wrap_of_lt _ _ (by omega)]
  exact StableHlo.Predicate.toInt_eq_toNat_of_lt (by omega)

/-- The reference's result as a function of its arguments. -/
def value (t : S168.Idx → BitVec 32) (x : FVec Ideal S41216x2048 .bf16) (w : FVec Ideal S32x2048x2048 .f32) (b : FVec Ideal S32x1x2048 .f32) : FVec Ideal S41216x2048 .f32 :=
  shapeCast _ (addf (Host.dotGeneral dot_S161x256x2048_S161x2048x2048_S161x256x2048_2_1_1_2_0_0 none (shapeCast _ (extf .f32 x bitsLt_bf16_f32) shapeCasts_S41216x2048_S161x256x2048) (Host.gather gather_S32x2048x2048_S161x1_S161x2048x2048_12_0_n_n_0_1_120482048 w (words t))) (broadcastInDim S161x256x2048 ![0, 1, 2] bcast_S161x1x2048_S161x256x2048_0_1_2 (Host.gather gather_S32x1x2048_S161x1_S161x1x2048_12_0_n_n_0_1_112048 b (words t)))) shapeCasts_S161x256x2048_S41216x2048

/-- The gathered matrices at their indices. -/
theorem gather_w (t : S168.Idx → BitVec 32) (h : ∀ i, (t i).toNat < 32) (w : FVec Ideal S32x2048x2048 .f32) (n : Fin 161) (p q : Fin 2048) :
    Host.gather gather_S32x2048x2048_S161x1_S161x2048x2048_12_0_n_n_0_1_120482048 w (words t) (ix3 n p q)
      = w (ix3 (⟨(t (ix1 (⟨n.val, by have := n.isLt; omega⟩ : Fin 168))).toNat, h _⟩ : Fin 32) p q) := by
  have e := words_apply t h n
  rw [ix2_eq_valueIdx] at e
  rw [ix3_eq_valueIdx, ix3_eq_valueIdx]
  exact Cert.Layout.gather_matrix 32 2048 2048 161 _ w (words t) n p q ⟨_, h _⟩ e

/-- The gathered biases at their indices. -/
theorem gather_b (t : S168.Idx → BitVec 32) (h : ∀ i, (t i).toNat < 32) (b : FVec Ideal S32x1x2048 .f32) (n : Fin 161) (p : Fin 1) (q : Fin 2048) :
    Host.gather gather_S32x1x2048_S161x1_S161x1x2048_12_0_n_n_0_1_112048 b (words t) (ix3 n p q)
      = b (ix3 (⟨(t (ix1 (⟨n.val, by have := n.isLt; omega⟩ : Fin 168))).toNat, h _⟩ : Fin 32) p q) := by
  have e := words_apply t h n
  rw [ix2_eq_valueIdx] at e
  rw [ix3_eq_valueIdx, ix3_eq_valueIdx]
  exact Cert.Layout.gather_matrix 32 1 2048 161 _ b (words t) n p q ⟨_, h _⟩ e

/-- The reference's result at row `r` and column `q`. -/
theorem value_apply (t : S168.Idx → BitVec 32) (h : ∀ i, (t i).toNat < 32) (x : FVec Ideal S41216x2048 .bf16) (w : FVec Ideal S32x2048x2048 .f32) (b : FVec Ideal S32x1x2048 .f32)
    (r : Fin 41216) (q : Fin 2048) : value t x w b (ix2 r q) = Cert.Spec.down t h x w b r q := by
  pointwise [value]
  simp only [gather_w t h, gather_b t h]
  rfl

end Cert.Reference2Ideal.Hand

end
-- ==== Proof.DownClaim.lean ====
/- The claims about the down projection: the two runs of the kernel, the reference's, and their common result. -/
module

public import proofs.«01_k».proof.Proof.Tables
public import proofs.«01_k».proof.Proof.DownOk
public import proofs.«01_k».proof.Proof.DownIdealValue
public import proofs.«01_k».proof.Proof.DownReference
public import proofs.«01_k».proof.Proof.Gen.Pre_tables_in_range2

@[expose] public section

noncomputable section

namespace Cert.Proof.Down

open Idealize.ShloMosaic Idealize.SL.Sem

/-- The precondition makes every word of the table the number of an expert: at the bit patterns, and over the reals. -/
theorem words_bits (m : (ℓ : Loc Cert.Kernel2.nD Cert.Kernel2.τ Cert.Kernel2.sig) → Buf (Elt Bits) ℓ)
    (h : Pre_Kernel2 (hPre_tables_in_range2 := Cert.Pre_tables_in_range2.Gen.facts) m) (i : Cert.Kernel2.S168.Idx) :
    (Cert.Kernel2.Hand.tbl m 0 i : BitVec 32).toNat < 32 :=
  Cert.Tables.words2 _ _ _ _ _ (h 0) i

/-- Under the precondition the table's words, as the kernel over the reals holds them, are numbers of experts. -/
theorem words_ideal (m : (ℓ : Loc Cert.Kernel2Ideal.nD Cert.Kernel2Ideal.τ Cert.Kernel2Ideal.sig) → Buf (Elt Ideal) ℓ)
    (h : Pre_Kernel2Ideal (hPre_tables_in_range2 := Cert.Pre_tables_in_range2.Gen.facts) m) (i : Cert.Kernel2Ideal.S168.Idx) :
    (Cert.Kernel2Ideal.Hand.tbl m 0 i : BitVec 32).toNat < 32 :=
  Cert.Tables.words2 _ _ _ _ _ (h 0) i

/-- The kernel runs, leaves its arguments, and ends quiescent. -/
theorem frame_kernel : quiescent_Kernel2 (hKernel2 := Cert.Kernel2.Gen.facts) (hPre_tables_in_range2 := Cert.Pre_tables_in_range2.Gen.facts) :=
  fun m ρ hp => (θ_run Cert.Kernel2.defs _ _).mono (fun _ h => ⟨fun c => (h.1 c).2, h.2⟩)
    (Cert.Kernel2.Hand.run_final (F := Bits) m ρ (Cert.Kernel2.Hand.ok_of_words m (words_bits m hp)))

/-- So does the kernel over the reals. -/
theorem frame_ideal : quiescent_Kernel2Ideal (hKernel2Ideal := Cert.Kernel2Ideal.Gen.facts) (hPre_tables_in_range2 := Cert.Pre_tables_in_range2.Gen.facts) :=
  fun m ρ hp => (θ_run Cert.Kernel2Ideal.defs _ _).mono (fun _ h => ⟨fun c => (h.1 c).2, h.2⟩)
    (Cert.Kernel2Ideal.Hand.run_final (F := Ideal) m ρ (Cert.Kernel2Ideal.Hand.ok_of_words m (words_ideal m hp)))

/-- So does the reference. -/
theorem frame_reference : quiescent_Reference2Ideal (hReference2Ideal := Cert.Reference2Ideal.Gen.facts) (hPre_tables_in_range2 := Cert.Pre_tables_in_range2.Gen.facts) :=
  fun m ρ _ => (θ_run Cert.Reference2Ideal.defs _ _).mono
    (fun r h => ⟨fun c => (h c).2, sem_eq_zero_of_no_sems (by decide) r.2⟩)
    (Cert.Reference2Ideal.Value.run (F := Ideal) m ρ)

/-- Kernel and reference end with the same result: the mathematical down projection of the arguments. -/
theorem value : algebraic_Kernel2Ideal_Reference2Ideal (hKernel2Ideal := Cert.Kernel2Ideal.Gen.facts)
    (hReference2Ideal := Cert.Reference2Ideal.Gen.facts) (hPre_tables_in_range2 := Cert.Pre_tables_in_range2.Gen.facts) := by
  intro m g m' g' hp he
  have hw := words_ideal m hp
  have hO := Cert.Kernel2Ideal.Hand.ok_of_words m hw
  refine ⟨fun c => Cert.Kernel2Ideal.Hand.out m hw c, ?_, ?_⟩
  · exact (θ_run Cert.Kernel2Ideal.defs _ _).mono
      (fun _ h c => ⟨(h.1 c).1.trans (Cert.Kernel2Ideal.Hand.final_3 m hw hO c), (h.1 c).2⟩)
      (Cert.Kernel2Ideal.Hand.run_final (F := Ideal) m g hO)
  · refine (θ_run Cert.Reference2Ideal.defs _ _).mono (fun _ h c => ⟨(h c).1.trans ?_, (h c).2⟩)
      (Cert.Reference2Ideal.Value.run (F := Ideal) m' g')
    obtain ⟨e0, e1, e2, e3, e4⟩ := he c
    rw [e0, e2, e3, e4]
    obtain rfl : c = 0 := Subsingleton.elim _ _
    funext (j : Cert.Reference2Ideal.S41216x2048.Idx)
    obtain ⟨r, q, rfl⟩ : ∃ (r : Fin 41216) (q : Fin 2048), j = ix2 r q := ⟨j 0, j 1, eq_ix2 j⟩
    exact Cert.Reference2Ideal.Hand.value_apply _ hw _ _ _ r q

end Cert.Proof.Down

end
-- ==== Proof.ProjSpec.lean ====
/- The input projection: a row of the input against a column of the weights, and where the packing puts each column. -/
module

public import Idealize.ShloMosaic.Lib.Pointwise

@[expose] public section

noncomputable section

namespace Cert.Spec

open Idealize.ShloMosaic

/-- Column `j` of the packed weights is column `p` of the weights as they are given. -/
def Moved (j p : Nat) : Prop :=
  (j < 1024 ∧ p = j) ∨ (1024 ≤ j ∧ j < 2048 ∧ p = j + 512) ∨ (2048 ≤ j ∧ j < 7168 ∧ p = j + 592)
    ∨ (7168 ≤ j ∧ j < 7680 ∧ p + 6144 = j) ∨ (7680 ≤ j ∧ j < 7760 ∧ p + 5120 = j)

/-- Position `s` of sequence `b` of the input against column `p` of the weights. -/
def proj {B L : Nat} (x : (⟨3, ![B, L, 2048]⟩ : Shape).Idx → EReal) (w : (⟨3, ![1, 2048, 7760]⟩ : Shape).Idx → EReal)
    (b : Fin B) (s : Fin L) (p : Fin 7760) : EReal :=
  ∑ k : Fin 2048, x (ix3 b s k) * w (ix3 0 k p)

/-- The same with the column as a number. -/
def projN {B L : Nat} (x : (⟨3, ![B, L, 2048]⟩ : Shape).Idx → EReal) (w : (⟨3, ![1, 2048, 7760]⟩ : Shape).Idx → EReal)
    (b : Fin B) (s : Fin L) (p : Nat) : EReal :=
  if h : p < 7760 then proj x w b s ⟨p, h⟩ else 0

/-- The projection by the number of a column is the projection at that column. -/
theorem projN_of {B L : Nat} (x : (⟨3, ![B, L, 2048]⟩ : Shape).Idx → EReal) (w : (⟨3, ![1, 2048, 7760]⟩ : Shape).Idx → EReal)
    (b : Fin B) (s : Fin L) (p : Fin 7760) (n : Nat) (h : p.val = n) : projN x w b s n = proj x w b s p := by
  subst h
  exact dif_pos p.isLt

/-- A moved column is a column of the weights. -/
theorem Moved.lt {j p : Nat} (h : Moved j p) : p < 7760 := by
  unfold Moved at h
  omega

/-- The columns from `off` on as heads of `D` columns each, with a leading axis of one layer. -/
def layerHeads {B L : Nat} (H D off : Nat) (x : (⟨3, ![B, L, 2048]⟩ : Shape).Idx → EReal)
    (w : (⟨3, ![1, 2048, 7760]⟩ : Shape).Idx → EReal) : (⟨5, ![1, B, L, H, D]⟩ : Shape).Idx → EReal :=
  fun i => projN x w (i 1) (i 2) (off + ((i 3).val * D + (i 4).val))

/-- The same without that axis. -/
def heads {B L : Nat} (H D off : Nat) (x : (⟨3, ![B, L, 2048]⟩ : Shape).Idx → EReal)
    (w : (⟨3, ![1, 2048, 7760]⟩ : Shape).Idx → EReal) : (⟨4, ![B, L, H, D]⟩ : Shape).Idx → EReal :=
  fun i => projN x w (i 0) (i 1) (off + ((i 2).val * D + (i 3).val))

/-- `D` columns from `off` on, with a leading axis of one layer. -/
def layerSlab {B L : Nat} (D off : Nat) (x : (⟨3, ![B, L, 2048]⟩ : Shape).Idx → EReal)
    (w : (⟨3, ![1, 2048, 7760]⟩ : Shape).Idx → EReal) : (⟨4, ![1, B, L, D]⟩ : Shape).Idx → EReal :=
  fun i => projN x w (i 1) (i 2) (off + (i 3).val)

/-- The same without that axis. -/
def slab {B L : Nat} (D off : Nat) (x : (⟨3, ![B, L, 2048]⟩ : Shape).Idx → EReal)
    (w : (⟨3, ![1, 2048, 7760]⟩ : Shape).Idx → EReal) : (⟨3, ![B, L, D]⟩ : Shape).Idx → EReal :=
  fun i => projN x w (i 0) (i 1) (off + (i 2).val)

/-- The pooling state the prompt leaves: its last fifteen positions of the pooled columns. -/
def lastOfPrompt (x : (⟨3, ![2, 4096, 2048]⟩ : Shape).Idx → EReal)
    (w : (⟨3, ![1, 2048, 7760]⟩ : Shape).Idx → EReal) : (⟨4, ![1, 2, 15, 1024]⟩ : Shape).Idx → EReal :=
  fun i => projN x w (i 1) ⟨4081 + (i 2).val, by have : (i 2).val < 15 := (i 2).isLt; omega⟩ (2640 + (i 3).val)

/-- The pooling state the samples leave: the state's last seven positions, then the eight new ones. -/
def lastOfSample (x : (⟨3, ![8, 8, 2048]⟩ : Shape).Idx → EReal) (st : (⟨4, ![1, 8, 15, 1024]⟩ : Shape).Idx → EReal)
    (w : (⟨3, ![1, 2048, 7760]⟩ : Shape).Idx → EReal) : (⟨4, ![1, 8, 15, 1024]⟩ : Shape).Idx → EReal :=
  fun i => if h : (i 2).val < 7 then st (ix4 0 (i 1) ⟨8 + (i 2).val, by omega⟩ (i 3))
    else projN x w (i 1) ⟨(i 2).val - 7, by have : (i 2).val < 15 := (i 2).isLt; omega⟩ (2640 + (i 3).val)

end Cert.Spec

end
-- ==== Proof.ProjPromptValue.lean ====
/- The input projection of the prompt over the reals: the packed weights at their indices, what a point leaves, and the array
   after the run. -/
module

public import proofs.«01_k».proof.Defs
public import proofs.«01_k».proof.Proof.ProjSpec
public import proofs.«01_k».proof.Proof.Gen.Kernel3Ideal.Frame
public import Idealize.ShloMosaic.Lib.Claim
public import Idealize.ShloMosaic.Lib.Pointwise
public import Idealize.ShloMosaic.Lib.Pipeline.Value
public import Idealize.ShloMosaic.Lib.Pipeline.ValueKit.Basic
public import Idealize.ShloMosaic.Lib.Pipeline.ValueKit.Acc
public import Idealize.ShloMosaic.Lib.Pipeline.ValueKit.Point
public import Idealize.ShloMosaic.Lib.StableHlo.Run
public import Idealize.ShloMosaic.Lib.Tactic

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The scratch's payload is the row block it is given: a cast keeps every real. -/
theorem pay1_apply (x : Vec Ideal S1024x2048 .f32) (r : Fin 1024) (k : Fin 2048) : k0_pay1 x (ix2 r k) = x (ix2 r k) := by
  pointwise [k0_pay1]

/-- The product's payload: row `r` of the one factor against row `q` of the other. -/
theorem pay2_apply (x : Vec Ideal S1024x2048 .bf16) (w : Vec Ideal S512x2048 .bf16) (r : Fin 1024) (q : Fin 512) :
    k0_pay2 x w (ix2 r q) = ∑ k : Fin 2048, x (ix2 r k) * w (ix2 q k) := by
  pointwise [k0_pay2]

/-! ## What a point leaves -/

/-- A point that begins a row of blocks leaves the cast row block in the scratch. -/
theorem scratch_first (c : Dev nD) (t : Fin cfg0.N) (h0 : t.val % 16 = 0) :
    (outsAt0 m c t.val t.isLt).2 = k0_pay1 (iblk m c 0 t) := by
  rw [outsAt0_A m c t h0]
  frame_out

/-- Any other point leaves the scratch as it found it. -/
theorem scratch_next (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- The first point of a row of blocks casts its rows and multiplies. -/
theorem out_first (c : Dev nD) (t : Fin cfg0.N) (h0 : t.val % 16 = 0) :
    (outsAt0 m c t.val t.isLt).1 = k0_pay2 (k0_pay1 (iblk m c 0 t)) (iblk m c 1 t) := by
  rw [outsAt0_A m c t h0]
  frame_out

/-- A later point multiplies the rows cast before. -/
theorem out_next (c : Dev nD) (t : Fin cfg0.N) (h0 : ¬t.val % 16 = 0) :
    (outsAt0 m c t.val t.isLt).1 = k0_pay2 (outsAt0 m c (t.val - 1) (Nat.lt_of_le_of_lt (Nat.sub_le _ _) t.isLt)).2 (iblk m c 1 t) := by
  rw [outsAt0_B m c t h0]
  frame_out
  exact congrArg (fun x => k0_pay2 x (iblk m c 1 t)) ((Memref.isWhole_whole cc0_scratch0).read_unread _)

/-! ## The weights as packed -/

/-- The columns of the weights as rows. -/
def columns (w : Vec Ideal S1x2048x7760 .f32) : Vec Ideal S7760x2048 .f32 :=
  transpose S7760x2048 [1, 0] (shapeCast S2048x7760 w shapeCasts_S1x2048x7760_S2048x7760) transposes_S2048x7760_S7760x2048_1_0

/-- The weights of a column, at an index. -/
theorem columns_apply (w : Vec Ideal S1x2048x7760 .f32) (p : Fin 7760) (k : Fin 2048) : columns w (ix2 p k) = w (ix3 0 k p) := by
  pointwise [columns]

/-- The packed weights: the groups of columns in the kernel's order, and rows of zeros up to a whole number of blocks. -/
def packed (w : Vec Ideal S1x2048x7760 .f32) : Vec Ideal S8192x2048 .bf16 :=
  truncf .bf16
    (concatenate S8192x2048 0
      [⟨S1024x2048, extractStridedSlice S1024x2048 ![0, 0] (columns w) slices_S7760x2048_S1024x2048_0_0⟩,
       ⟨S1024x2048, extractStridedSlice S1024x2048 ![1536, 0] (columns w) slices_S7760x2048_S1024x2048_1536_0⟩,
       ⟨S1024x2048, extractStridedSlice S1024x2048 ![2640, 0] (columns w) slices_S7760x2048_S1024x2048_2640_0⟩,
       ⟨S2048x2048, extractStridedSlice S2048x2048 ![3664, 0] (columns w) slices_S7760x2048_S2048x2048_3664_0⟩,
       ⟨S2048x2048, extractStridedSlice S2048x2048 ![5712, 0] (columns w) slices_S7760x2048_S2048x2048_5712_0⟩,
       ⟨S256x2048, extractStridedSlice S256x2048 ![1024, 0] (columns w) slices_S7760x2048_S256x2048_1024_0⟩,
       ⟨S256x2048, extractStridedSlice S256x2048 ![1280, 0] (columns w) slices_S7760x2048_S256x2048_1280_0⟩,
       ⟨S64x2048, extractStridedSlice S64x2048 ![2560, 0] (columns w) slices_S7760x2048_S64x2048_2560_0⟩,
       ⟨S16x2048, extractStridedSlice S16x2048 ![2624, 0] (columns w) slices_S7760x2048_S16x2048_2624_0⟩,
       ⟨S432x2048, broadcastInDim S432x2048 ![] bcast_S_S432x2048 (constant (F := Ideal) S_ .f32 0x00000000#32)⟩]
      concatenates_S1024x2048_S1024x2048_S1024x2048_S2048x2048_S2048x2048_S256x2048_S256x2048_S64x2048_S16x2048_S432x2048_S8192x2048_d0)
    bitsLt_bf16_f32

/-- Row `j` of the packed weights is column `p` of the weights. -/
theorem packed_apply (w : Vec Ideal S1x2048x7760 .f32) (j : Fin 8192) (p : Fin 7760) (h : Cert.Spec.Moved j.val p.val) (k : Fin 2048) :
    packed w (ix2 j k) = w (ix3 0 k p) := by
  rw [← columns_apply w p k]
  unfold packed
  generalize columns w = u
  pointwise []
  unfold Cert.Spec.Moved at h
  split_ifs <;> first
    | exact congrArg u (congrArg (fun i => ix2 i k) (Fin.ext (by dsimp only; omega)))
    | (exfalso; omega)

/-! ## What the region finds -/

/-- The weights as the region finds them. -/
theorem found_weights (c : Dev nD) : V m c main_v13 = packed (m ((c : Thread nD τ).loc main_arg1)) := by
  entry_read
  rfl

/-- The rows as the region finds them. -/
theorem found_rows (c : Dev nD) : V m c main_v14 = shapeCast S8192x2048 (m ((c : Thread nD τ).loc main_arg0)) shapeCasts_S2x4096x2048_S8192x2048 := by
  entry_read
  rfl

/-! ## The array after the run -/

/-- The two arrays the region reads. -/
def rows (c : Dev nD) : Vec Ideal S8192x2048 .f32 := V m c main_v14
def cols (c : Dev nD) : Vec Ideal S8192x2048 .bf16 := V m c main_v13

/-- The blocks of point `t`: its row block of the input, its block of packed weights, its block of the result. -/
theorem places : ∀ t : Fin cfg0.N, win0_0.index t = ![t.val / 16, 0] ∧ win0_1.index t = ![t.val % 16, 0]
    ∧ win0_2.index t = ![t.val / 16, t.val % 16] := by decide +kernel

/-- The number of grid points. -/
theorem points (t : Fin cfg0.N) : t.val < 128 := t.isLt.trans_eq N_0

/-- Row `r` of the block of rows of point `t`, and column `q` of its block of columns. -/
def rowOf (t : Fin cfg0.N) (r : Fin 1024) : Fin 8192 := ⟨t.val / 16 * 1024 + r.val, by have := points t; have := r.isLt; omega⟩
def colOf (t : Fin cfg0.N) (q : Fin 512) : Fin 8192 := ⟨t.val % 16 * 512 + q.val, by have := points t; have := q.isLt; omega⟩

/-- The block of rows a point reads. -/
theorem rows_read (c : Dev nD) (t : Fin cfg0.N) (r : Fin 1024) (k : Fin 2048) :
    iblk m c 0 t (ix2 r k) = rows m c (ix2 (rowOf t r) k) := by
  obtain ⟨e0, e1, e2⟩ := places t
  unfold iblk rows rowOf
  blk_ext [e0]

/-- The block of weights a point reads. -/
theorem weights_read (c : Dev nD) (t : Fin cfg0.N) (q : Fin 512) (k : Fin 2048) :
    iblk m c 1 t (ix2 q k) = cols m c (ix2 (colOf t q) k) := by
  obtain ⟨e0, e1, e2⟩ := places t
  unfold iblk cols colOf
  blk_ext [e1]

/-- After every point the scratch holds the cast row block of the point. -/
theorem scratch_eq (c : Dev nD) : ∀ (n : ℕ) (hn : n < cfg0.N) (r : Fin 1024) (k : Fin 2048),
    (outsAt0 m c n hn).2 (ix2 r k) = rows m c (ix2 (rowOf ⟨n, hn⟩ r) k) := by
  intro n
  induction n with
  | zero =>
    intro hn r k
    rw [scratch_first m c ⟨0, hn⟩ (Nat.zero_mod _)]
    exact (pay1_apply _ r k).trans (rows_read m c _ r k)
  | succ n ih =>
    intro hn r k
    by_cases h0 : (n + 1) % 16 = 0
    · rw [scratch_first m c ⟨n + 1, hn⟩ h0]
      exact (pay1_apply _ r k).trans (rows_read m c _ r k)
    · rw [scratch_next m c ⟨n + 1, hn⟩ h0]
      refine (ih (Nat.lt_of_succ_lt hn) r k).trans ?_
      refine congrArg (fun i => rows m c (ix2 i k)) (Fin.ext ?_)
      show n / 16 * 1024 + r.val = (n + 1) / 16 * 1024 + r.val
      omega

/-- What the region is to leave in the result array: every row of the input against every row of the packed weights. -/
def full (c : Dev nD) : Vec Ideal S8192x8192 .f32 := fun i =>
  ∑ k : Fin 2048, rows m c (ix2 (i 0) k) * cols m c (ix2 (i 1) k)

/-- A point leaves its block of `full`. -/
theorem point_eq (c : Dev nD) (t : Fin cfg0.N) (r : Fin 1024) (q : Fin 512) :
    (outsAt0 m c t.val t.isLt).1 (ix2 r q) = full m c (ix2 (rowOf t r) (colOf t q)) := by
  show _ = ∑ k : Fin 2048, rows m c (ix2 (rowOf t r) k) * cols m c (ix2 (colOf t q) k)
  by_cases h0 : t.val % 16 = 0
  · rw [out_first m c t h0]
    refine (pay2_apply _ _ r q).trans (Finset.sum_congr rfl fun k _ => ?_)
    rw [pay1_apply, rows_read, weights_read]
  · rw [out_next m c t h0]
    refine (pay2_apply _ _ r q).trans (Finset.sum_congr rfl fun k _ => ?_)
    rw [scratch_eq, weights_read]
    refine congrArg (fun i => rows m c (ix2 i k) * _) (Fin.ext ?_)
    show (t.val - 1) / 16 * 1024 + r.val = t.val / 16 * 1024 + r.val
    omega

/-- What a point leaves in its block, at any index. -/
theorem point_at (c : Dev nD) (t : Fin cfg0.N) (y : S1024x512.Idx) :
    (outsAt0 m c t.val t.isLt).1 y = full m c (ix2 (rowOf t (y 0)) (colOf t (y 1))) :=
  (congrArg (outsAt0 m c t.val t.isLt).1 (eq_ix2 y)).trans (point_eq m c t (y 0) (y 1))

/-- After the run the result array is `full`. -/
theorem final_2 (c : Dev nD) : (dats m 0 c).arrAt 2 cfg0.N = full m c := by
  refine (dats m 0 c).arrAt_eq_of_covers 2 _ (by decide +kernel) fun t hf y => ?_
  obtain ⟨e0, e1, e2⟩ := places t
  blk_simp
  rw [after0_2]
  refine (point_at m c t y).trans (congrArg (full m c) ?_)
  unfold rowOf colOf
  blk_ext [e2]

/-- The input with its sequences one below the other. -/
theorem joined_apply (x : Vec Ideal S2x4096x2048 .f32) (b : Fin 2) (s : Fin 4096) (R : Fin 8192) (hR : R.val = b.val * 4096 + s.val) (k : Fin 2048) :
    shapeCast S8192x2048 x shapeCasts_S2x4096x2048_S8192x2048 (ix2 R k) = x (ix3 b s k) := by
  pointwise []
  refine congrArg x ?_
  have := b.isLt
  have := s.isLt
  congr 1 <;> exact Fin.ext (by dsimp only; omega)

/-- The result array at row `R` and column `j`, where column `j` of the packed weights is column `p` of the weights. -/
theorem full_apply (c : Dev nD) (b : Fin 2) (s : Fin 4096) (R : Fin 8192) (hR : R.val = b.val * 4096 + s.val) (j : Fin 8192) (p : Fin 7760)
    (h : Cert.Spec.Moved j.val p.val) :
    full m c (ix2 R j)
      = Cert.Spec.proj (m ((c : Thread nD τ).loc main_arg0)) (m ((c : Thread nD τ).loc main_arg1)) b s p := by
  show ∑ k : Fin 2048, rows m c (ix2 R k) * cols m c (ix2 j k) = ∑ k : Fin 2048, _
  refine Finset.sum_congr rfl fun k _ => ?_
  rw [show cols m c = _ from found_weights m c, show rows m c = _ from found_rows m c, packed_apply _ j p h k]
  exact congrArg (fun x => x * _) (joined_apply _ b s R hR k)

end Cert.Kernel3Ideal.Hand

end
-- ==== Proof.ProjPromptResults.lean ====
/- The results of the input projection of the prompt: what the host lines after the region cut out of its result array. -/
module

public import proofs.«01_k».proof.Proof.ProjPromptValue
public import Idealize.ShloMosaic.Lib.Pointwise

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL.Sem

variable (m : (ℓ : Loc nD τ sig) → Buf (Elt Ideal) ℓ)

/-- An entry of the result array, its column of the packed weights given as a number of the weights' columns. -/
theorem full_at (c : Dev nD) (b : Fin 2) (s : Fin 4096) (R : Fin 8192) (j : Fin 8192) (p : Nat) (hR : R.val = b.val * 4096 + s.val)
    (h : Cert.Spec.Moved j.val p) : full m c (ix2 R j) = Cert.Spec.projN (m ((c : Thread nD τ).loc main_arg0)) (m ((c : Thread nD τ).loc main_arg1)) b s p :=
  (full_apply m c b s R hR j ⟨p, h.lt⟩ h).trans (Cert.Spec.projN_of _ _ b s ⟨p, h.lt⟩ p rfl).symm

/-- The windows' arrays are different arrays. -/
theorem arrays_apart : Function.Injective (Pipeline.arrRef (sig := sig) spec0) := by decide

/-- What the buffers hold when the region is over. -/
def over (c : Dev nD) : Valuation τ sig (Elt Ideal) :=
  Pipeline.withArrays spec0 c (V0 m c) fun w => (dats m 0 c).arrAt w cfg0.N

/-- The result array after the region. -/
theorem over_full (c : Dev nD) : over m c (Proc.devRef .tc main_v15) = full m c :=
  (Pipeline.withArrays_arr spec0 arrays_apart c _ _ 2).trans (final_2 m c)

/-- What the lines after the region read is `full`. -/
def left (c : Dev nD) : Vec Ideal S8192x8192 .f32 := over m c (Proc.devRef .tc main_v15)

/-- An entry of it, as the projection's column that was moved there. -/
theorem left_at (c : Dev nD) (b : Fin 2) (s : Fin 4096) (R : Fin 8192) (j : Fin 8192) (p : Nat) (hR : R.val = b.val * 4096 + s.val)
    (h : Cert.Spec.Moved j.val p) : left m c (ix2 R j) = Cert.Spec.projN (m ((c : Thread nD τ).loc main_arg0)) (m ((c : Thread nD τ).loc main_arg1)) b s p :=
  (congrFun (over_full m c) (ix2 R j)).trans (full_at m c b s R j p hR h)

/-- Result `k`. -/
theorem result_k (c : Dev nD) : Pipeline.afterTail₀ cfgs (dats m) 0 (V0 m) [hostOps1] c main_v19 = Cert.Spec.layerHeads 4 64 1024 (m ((c : Thread nD τ).loc main_arg0)) (m ((c : Thread nD τ).loc main_arg1)) := by
  refine (show _ = shapeCast S1x2x4096x4x64 (extractStridedSlice S8192x256 ![0, 7168] (left m c) slices_S8192x8192_S8192x256_0_7168) shapeCasts_S8192x256_S1x2x4096x4x64 from rfl).trans ?_
  funext i
  have e := eq_ix5 i
  have h0 : (i 0).val < 1 := (i 0).isLt
  have h1 : (i 1).val < 2 := (i 1).isLt
  have h2 : (i 2).val < 4096 := (i 2).isLt
  have h3 : (i 3).val < 4 := (i 3).isLt
  have h4 : (i 4).val < 64 := (i 4).isLt
  rw [e]
  pointwise []
  refine left_at m c (i 1) (i 2) _ _ _ ?_ ?_
  · dsimp only
  · unfold Cert.Spec.Moved
    dsimp only
    omega

/-- Result `v`. -/
theorem result_v (c : Dev nD) : Pipeline.afterTail₀ cfgs (dats m) 0 (V0 m) [hostOps1] c main_v21 = Cert.Spec.layerHeads 4 64 1280 (m ((c : Thread nD τ).loc main_arg0)) (m ((c : Thread nD τ).loc main_arg1)) := by
  refine (show _ = shapeCast S1x2x4096x4x64 (extractStridedSlice S8192x256 ![0, 7424] (left m c) slices_S8192x8192_S8192x256_0_7424) shapeCasts_S8192x256_S1x2x4096x4x64 from rfl).trans ?_
  funext i
  have e := eq_ix5 i
  have h0 : (i 0).val < 1 := (i 0).isLt
  have h1 : (i 1).val < 2 := (i 1).isLt
  have h2 : (i 2).val < 4096 := (i 2).isLt
  have h3 : (i 3).val < 4 := (i 3).isLt
  have h4 : (i 4).val < 64 := (i 4).isLt
  rw [e]
  pointwise []
  refine left_at m c (i 1) (i 2) _ _ _ ?_ ?_
  · dsimp only
  · unfold Cert.Spec.Moved
    dsimp only
    omega

/-- Result `ki`. -/
theorem result_ki (c : Dev nD) : Pipeline.afterTail₀ cfgs (dats m) 0 (V0 m) [hostOps1] c main_v25 = Cert.Spec.layerSlab 64 2560 (m ((c : Thread nD τ).loc main_arg0)) (m ((c : Thread nD τ).loc main_arg1)) := by
  refine (show _ = shapeCast S1x2x4096x64 (extractStridedSlice S8192x64 ![0, 7680] (left m c) slices_S8192x8192_S8192x64_0_7680) shapeCasts_S8192x64_S1x2x4096x64 from rfl).trans ?_
  funext i
  have e := eq_ix4 i
  have h0 : (i 0).val < 1 := (i 0).isLt
  have h1 : (i 1).val < 2 := (i 1).isLt
  have h2 : (i 2).val < 4096 := (i 2).isLt
  have h3 : (i 3).val < 64 := (i 3).isLt
  rw [e]
  pointwise []
  refine left_at m c (i 1) (i 2) _ _ _ ?_ ?_
  · dsimp only
  · unfold Cert.Spec.Moved
    dsimp only
    omega

/-- Result `q`. -/
theorem result_q (c : Dev nD) : Pipeline.afterTail₀ cfgs (dats m) 0 (V0 m) [hostOps1] c main_v17 = Cert.Spec.heads 16 64 0 (m ((c : Thread nD τ).loc main_arg0)) (m ((c : Thread nD τ).loc main_arg1)) := by
  refine (show _ = shapeCast S2x4096x16x64 (extractStridedSlice S8192x1024 ![0, 0] (left m c) slices_S8192x8192_S8192x1024_0_0) shapeCasts_S8192x1024_S2x4096x16x64 from rfl).trans ?_
  funext i
  have e := eq_ix4 i
  have h0 : (i 0).val < 2 := (i 0).isLt
  have h1 : (i 1).val < 4096 := (i 1).isLt
  have h2 : (i 2).val < 16 := (i 2).isLt
  have h3 : (i 3).val < 64 := (i 3).isLt
  rw [e]
  pointwise []
  refine left_at m c (i 0) (i 1) _ _ _ ?_ ?_
  · dsimp only
  · unfold Cert.Spec.Moved
    dsimp only
    omega

/-- Result `qi`. -/
theorem result_qi (c : Dev nD) : Pipeline.afterTail₀ cfgs (dats m) 0 (V0 m) [hostOps1] c main_v23 = Cert.Spec.heads 16 64 1536 (m ((c : Thread nD τ).loc main_arg0)) (m ((c : Thread nD τ).loc main_arg1)) := by
  refine (show _ = shapeCast S2x4096x16x64 (extractStridedSlice S8192x1024 ![0, 1024] (left m c) slices_S8192x8192_S8192x1024_0_1024) shapeCasts_S8192x1024_S2x4096x16x64 from rfl).trans ?_
  funext i
  have e := eq_ix4 i
  have h0 : (i 0).val < 2 := (i 0).isLt
  have h1 : (i 1).val < 4096 := (i 1).isLt
  have h2 : (i 2).val < 16 := (i 2).isLt
  have h3 : (i 3).val < 64 := (i 3).isLt
  rw [e]
  pointwise []
  refine left_at m c (i 0) (i 1) _ _ _ ?_ ?_
  · dsimp only
  · unfold Cert.Spec.Moved
    dsimp only
    omega

/-- Result `wi`. -/
theorem result_wi (c : Dev nD) : Pipeline.afterTail₀ cfgs (dats m) 0 (V0 m) [hostOps1] c main_v27 = Cert.Spec.slab 16 2624 (m ((c : Thread nD τ).loc main_arg0)) (m ((c : Thread nD τ).loc main_arg1)) := by
  refine (show _ = shapeCast S2x4096x16 (extractStridedSlice S8192x16 ![0, 7744] (left m c) slices_S8192x8192_S8192x16_0_7744) shapeCasts_S8192x16_S2x4096x16 from rfl).trans ?_
  funext i
  have e := eq_ix3 i
  have h0 : (i 0).val < 2 := (i 0).isLt
  have h1 : (i 1).val < 4096 := (i 1).isLt
  have h2 : (i 2).val < 16 := (i 2).isLt
  rw [e]
  pointwise []
  refine left_at m c (i 0) (i 1) _ _ _ ?_ ?_
  · dsimp only
  · unfold Cert.Spec.Moved
    dsimp only
    omega

/-- Result `u`. -/
theorem result_u (c : Dev nD) : Pipeline.afterTail₀ cfgs (dats m) 0 (V0 m) [hostOps1] c main_v29 = Cert.Spec.slab 1024 2640 (m ((c : Thread nD τ).loc main_arg0)) (m ((c : Thread nD τ).loc main_arg1)) := by
  refine (show _ = shapeCast S2x4096x1024 (extractStridedSlice S8192x1024 ![0, 2048] (left m c) slices_S8192x8192_S8192x1024_0_2048) shapeCasts_S8192x1024_S2x4096x1024 from rfl).trans ?_
  funext i
  have e := eq_ix3 i
  have h0 : (i 0).val < 2 := (i 0).isLt
  have h1 : (i 1).val < 4096 := (i 1).isLt
  have h2 : (i 2).val < 1024 := (i 2).isLt
  rw [e]
  pointwise []
  refine left_at m c (i 0) (i 1) _ _ _ ?_ ?_
  · dsimp only
  · unfold Cert.Spec.Moved
    dsimp only
    omega

/-- Result `ga`. -/
theorem result_ga (c : Dev nD) : Pipeline.afterTail₀ cfgs (dats m) 0 (V0 m) [hostOps1] c main_v31 = Cert.Spec.slab 2048 3664 (m ((c : Thread nD τ).loc main_arg0)) (m ((c : Thread nD τ).loc main_arg1)) := by
  refine (show _ = shapeCast S2x4096x2048 (extractStridedSlice S8192x2048 ![0, 3072] (left m c) slices_S8192x8192_S8192x2048_0_3072) shapeCasts_S8192x2048_S2x4096x2048 from rfl).trans ?_
  funext i
  have e := eq_ix3 i
  have h0 : (i 0).val < 2 := (i 0).isLt
  have h1 : (i 1).val < 4096 := (i 1).isLt
  have h2 : (i 2).val < 2048 := (i 2).isLt
  rw [e]
  pointwise []
  refine left_at m c (i 0) (i 1) _ _ _ ?_ ?_
  · dsimp only
  · unfold Cert.Spec.Moved
    dsimp only
    omega

/-- Result `gb`. -/
theorem result_gb (c : Dev nD) : Pipeline.afterTail₀ cfgs (dats m) 0 (V0 m) [hostOps1] c main_v33 = Cert.Spec.slab 2048 5712 (m ((c : Thread nD τ).loc main_arg0)) (m ((c : Thread nD τ).loc main_arg1)) := by
  refine (show _ = shapeCast S2x4096x2048 (extractStridedSlice S8192x2048 ![0, 5120] (left m c) slices_S8192x8192_S8192x2048_0_5120) shapeCasts_S8192x2048_S2x4096x2048 from rfl).trans ?_
  funext i
  have e := eq_ix3 i
  have h0 : (i 0).val < 2 := (i 0).isLt
  have h1 : (i 1).val < 4096 := (i 1).isLt
  have h2 : (i 2).val < 2048 := (i 2).isLt
  rw [e]
  pointwise []
  refine left_at m c (i 0) (i 1) _ _ _ ?_ ?_
  · dsimp only
  · unfold Cert.Spec.Moved
    dsimp only
    omega

/-- Result `pst`: the pooled columns of the last fifteen positions. -/
theorem result_pst (c : Dev nD) : Pipeline.afterTail₀ cfgs (dats m) 0 (V0 m) [hostOps1] c main_v36
    = Cert.Spec.lastOfPrompt (m ((c : Thread nD τ).loc main_arg0)) (m ((c : Thread nD τ).loc main_arg1)) := by
  refine (show _ = broadcastInDim S1x2x15x1024 ![1, 2, 3] bcast_S2x15x1024_S1x2x15x1024_1_2_3
    (extractStridedSlice S2x15x1024 ![0, 4081, 2048] (shapeCast S2x4096x8192 (left m c) shapeCasts_S8192x8192_S2x4096x8192)
      slices_S2x4096x8192_S2x15x1024_0_4081_2048) from rfl).trans ?_
  funext i
  have e := eq_ix4 i
  have h0 : (i 0).val < 1 := (i 0).isLt
  have h1 : (i 1).val < 2 := (i 1).isLt
  have h2 : (i 2).val < 15 := (i 2).isLt
  have h3 : (i 3).val < 1024 := (i 3).isLt
  rw [e]
  pointwise []
  refine left_at m c (i 1) ⟨4081 + (i 2).val, by omega⟩ _ _ _ ?_ ?_
  · dsimp only
  · unfold Cert.Spec.Moved
    dsimp only
    omega

end Cert.Kernel3Ideal.Hand

end
-- ==== Proof.ProjPromptReference.lean ====
/- The reference of the input projection of the prompt, result by result. -/
module

public import proofs.«01_k».proof.Proof.ProjSpec
public import proofs.«01_k».proof.Proof.Gen.Reference3Ideal.Run
public import Idealize.ShloMosaic.Lib.Pointwise

@[expose] public section

set_option maxRecDepth 16384

noncomputable section

namespace Cert.Reference3Ideal.Hand

open Cert.Reference3Ideal Cert.Reference3Ideal.Gen
open Idealize.ShloMosaic Idealize.ShloMosaic.TcCoe Idealize.ShloMosaic.Tactic

variable (x : Vec Ideal S2x4096x2048 .f32) (w : Vec Ideal S1x2048x7760 .f32)

/-- The projection as the reference computes it: one product with the weights. -/
def whole : Vec Ideal S2x4096x7760 .f32 :=
  Host.dotGeneral (F := Ideal) (φ₁ := .f32) (φ₂ := .f32) dot_S2x4096x2048_S2048x7760_S2x4096x7760_2_0_01_1_n_n none x (shapeCast S2048x7760 w shapeCasts_S1x2048x7760_S2048x7760)

/-- The reference's projection at an index. -/
theorem whole_apply (b : Fin 2) (s : Fin 4096) (p : Fin 7760) : whole x w (ix3 b s p) = Cert.Spec.proj x w b s p := by
  pointwise [whole, Cert.Spec.proj]

/-- The same, by the number of the column. -/
theorem whole_at (b : Fin 2) (s : Fin 4096) (p : Fin 7760) (n : Nat) (h : p.val = n) : whole x w (ix3 b s p) = Cert.Spec.projN x w b s n :=
  (whole_apply x w b s p).trans (Cert.Spec.projN_of x w b s p n h).symm

/-- Result `k`. -/
theorem result_k : shapeCast S1x2x4096x4x64 (extractStridedSlice S2x4096x256 ![0, 0, 1024] (whole x w) slices_S2x4096x7760_S2x4096x256_0_0_1024) shapeCasts_S2x4096x256_S1x2x4096x4x64 = Cert.Spec.layerHeads 4 64 1024 x w := by
  funext i
  have e := eq_ix5 i
  have h0 : (i 0).val < 1 := (i 0).isLt
  have h1 : (i 1).val < 2 := (i 1).isLt
  have h2 : (i 2).val < 4096 := (i 2).isLt
  have h3 : (i 3).val < 4 := (i 3).isLt
  have h4 : (i 4).val < 64 := (i 4).isLt
  rw [e]
  pointwise []
  refine whole_at x w (i 1) (i 2) _ _ ?_
  dsimp only

/-- Result `v`. -/
theorem result_v : shapeCast S1x2x4096x4x64 (extractStridedSlice S2x4096x256 ![0, 0, 1280] (whole x w) slices_S2x4096x7760_S2x4096x256_0_0_1280) shapeCasts_S2x4096x256_S1x2x4096x4x64 = Cert.Spec.layerHeads 4 64 1280 x w := by
  funext i
  have e := eq_ix5 i
  have h0 : (i 0).val < 1 := (i 0).isLt
  have h1 : (i 1).val < 2 := (i 1).isLt
  have h2 : (i 2).val < 4096 := (i 2).isLt
  have h3 : (i 3).val < 4 := (i 3).isLt
  have h4 : (i 4).val < 64 := (i 4).isLt
  rw [e]
  pointwise []
  refine whole_at x w (i 1) (i 2) _ _ ?_
  dsimp only

/-- Result `ki`. -/
theorem result_ki : broadcastInDim S1x2x4096x64 ![1, 2, 3] bcast_S2x4096x64_S1x2x4096x64_1_2_3 (extractStridedSlice S2x4096x64 ![0, 0, 2560] (whole x w) slices_S2x4096x7760_S2x4096x64_0_0_2560) = Cert.Spec.layerSlab 64 2560 x w := by
  funext i
  have e := eq_ix4 i
  have h0 : (i 0).val < 1 := (i 0).isLt
  have h1 : (i 1).val < 2 := (i 1).isLt
  have h2 : (i 2).val < 4096 := (i 2).isLt
  have h3 : (i 3).val < 64 := (i 3).isLt
  rw [e]
  pointwise []
  refine whole_at x w (i 1) (i 2) _ _ ?_
  dsimp only

/-- Result `q`. -/
theorem result_q : shapeCast S2x4096x16x64 (extractStridedSlice S2x4096x1024 ![0, 0, 0] (whole x w) slices_S2x4096x7760_S2x4096x1024_0_0_0) shapeCasts_S2x4096x1024_S2x4096x16x64 = Cert.Spec.heads 16 64 0 x w := by
  funext i
  have e := eq_ix4 i
  have h0 : (i 0).val < 2 := (i 0).isLt
  have h1 : (i 1).val < 4096 := (i 1).isLt
  have h2 : (i 2).val < 16 := (i 2).isLt
  have h3 : (i 3).val < 64 := (i 3).isLt
  rw [e]
  pointwise []
  refine whole_at x w (i 0) (i 1) _ _ ?_
  dsimp only
  omega

/-- Result `qi`. -/
theorem result_qi : shapeCast S2x4096x16x64 (extractStridedSlice S2x4096x1024 ![0, 0, 1536] (whole x w) slices_S2x4096x7760_S2x4096x1024_0_0_1536) shapeCasts_S2x4096x1024_S2x4096x16x64 = Cert.Spec.heads 16 64 1536 x w := by
  funext i
  have e := eq_ix4 i
  have h0 : (i 0).val < 2 := (i 0).isLt
  have h1 : (i 1).val < 4096 := (i 1).isLt
  have h2 : (i 2).val < 16 := (i 2).isLt
  have h3 : (i 3).val < 64 := (i 3).isLt
  rw [e]
  pointwise []
  refine whole_at x w (i 0) (i 1) _ _ ?_
  dsimp only

/-- Result `wi`. -/
theorem result_wi : extractStridedSlice S2x4096x16 ![0, 0, 2624] (whole x w) slices_S2x4096x7760_S2x4096x16_0_0_2624 = Cert.Spec.slab 16 2624 x w := by
  funext i
  have e := eq_ix3 i
  have h0 : (i 0).val < 2 := (i 0).isLt
  have h1 : (i 1).val < 4096 := (i 1).isLt
  have h2 : (i 2).val < 16 := (i 2).isLt
  rw [e]
  pointwise []
  refine whole_at x w (i 0) (i 1) _ _ ?_
  dsimp only

/-- Result `u`. -/
theorem result_u : extractStridedSlice S2x4096x1024 ![0, 0, 2640] (whole x w) slices_S2x4096x7760_S2x4096x1024_0_0_2640 = Cert.Spec.slab 1024 2640 x w := by
  funext i
  have e := eq_ix3 i
  have h0 : (i 0).val < 2 := (i 0).isLt
  have h1 : (i 1).val < 4096 := (i 1).isLt
  have h2 : (i 2).val < 1024 := (i 2).isLt
  rw [e]
  pointwise []
  refine whole_at x w (i 0) (i 1) _ _ ?_
  dsimp only

/-- Result `ga`. -/
theorem result_ga : extractStridedSlice S2x4096x2048 ![0, 0, 3664] (whole x w) slices_S2x4096x7760_S2x4096x2048_0_0_3664 = Cert.Spec.slab 2048 3664 x w := by
  funext i
  have e := eq_ix3 i
  have h0 : (i 0).val < 2 := (i 0).isLt
  have h1 : (i 1).val < 4096 := (i 1).isLt
  have h2 : (i 2).val < 2048 := (i 2).isLt
  rw [e]
  pointwise []
  refine whole_at x w (i 0) (i 1) _ _ ?_
  dsimp only

/-- Result `gb`. -/
theorem result_gb : extractStridedSlice S2x4096x2048 ![0, 0, 5712] (whole x w) slices_S2x4096x7760_S2x4096x2048_0_0_5712 = Cert.Spec.slab 2048 5712 x w := by
  funext i
  have e := eq_ix3 i
  have h0 : (i 0).val < 2 := (i 0).isLt
  have h1 : (i 1).val < 4096 := (i 1).isLt
  have h2 : (i 2).val < 2048 := (i 2).isLt
  rw [e]
  pointwise []
  refine whole_at x w (i 0) (i 1) _ _ ?_
  dsimp only

/-- Result `pst`: fifteen positions of zeros and then the prompt's, of which the last fifteen are kept. -/
theorem result_pst :
    broadcastInDim S1x2x15x1024 ![1, 2, 3] bcast_S2x15x1024_S1x2x15x1024_1_2_3 (extractStridedSlice S2x15x1024 ![0, 4096, 0]
      (concatenate S2x4111x1024 1 [⟨S2x15x1024, broadcastInDim S2x15x1024 ![] bcast_S_S2x15x1024 (constant (F := Ideal) S_ .f32 0x00000000#32)⟩,
        ⟨S2x4096x1024, extractStridedSlice S2x4096x1024 ![0, 0, 2640] (whole x w) slices_S2x4096x7760_S2x4096x1024_0_0_2640⟩] concatenates_S2x15x1024_S2x4096x1024_S2x4111x1024_d1)
      slices_S2x4111x1024_S2x15x1024_0_4096_0)
    = Cert.Spec.lastOfPrompt x w := by
  funext i
  have e := eq_ix4 i
  have h0 : (i 0).val < 1 := (i 0).isLt
  have h1 : (i 1).val < 2 := (i 1).isLt
  have h2 : (i 2).val < 15 := (i 2).isLt
  have h3 : (i 3).val < 1024 := (i 3).isLt
  rw [e]
  pointwise []
  rw [dif_neg (by omega)]
  refine (congrArg (fun q => whole x w (ix3 (i 1) q _)) (Fin.ext ?_)).trans
    (whole_at x w (i 1) ⟨4081 + (i 2).val, by omega⟩ ⟨2640 + (i 3).val, by omega⟩ _ rfl)
  dsimp only
  omega

end Cert.Reference3Ideal.Hand

end
-- ==== Proof.ProjPromptClaim.lean ====
/- The claims about the input projection of the prompt: the two runs of the kernel, the reference's, and their common results. -/
module

public import proofs.«01_k».proof.Proof.ProjPromptResults
public import proofs.«01_k».proof.Proof.ProjPromptReference
public import proofs.«01_k».proof.Proof.Gen.Kernel3.Frame
public import proofs.«01_k».proof.Proof.Gen.Kernel3Ideal.Frame

@[expose] public section

noncomputable section

namespace Cert.Proof.Prompt

open Idealize.ShloMosaic Idealize.SL.Sem

/-- The kernel runs, leaves its arguments, and ends quiescent. -/
theorem frame_kernel : quiescent_Kernel3 (hKernel3 := Cert.Kernel3.Gen.facts) :=
  fun m ρ _ => Cert.Kernel3.Gen.frame m ρ

/-- So does the kernel over the reals. -/
theorem frame_ideal : quiescent_Kernel3Ideal (hKernel3Ideal := Cert.Kernel3Ideal.Gen.facts) :=
  fun m ρ _ => Cert.Kernel3Ideal.Gen.frame m ρ

/-- So does the reference. -/
theorem frame_reference : quiescent_Reference3Ideal (hReference3Ideal := Cert.Reference3Ideal.Gen.facts) :=
  fun m ρ _ => (θ_run Cert.Reference3Ideal.defs _ _).mono
    (fun r h => ⟨fun c => (h c).2.2.2.2.2.2.2.2.2.2, sem_eq_zero_of_no_sems (by decide) r.2⟩)
    (Cert.Reference3Ideal.Value.run (F := Ideal) m ρ)

/-- Kernel and reference end with the same results: each the projection of the input by its columns of the weights. -/
theorem value : algebraic_Kernel3Ideal_Reference3Ideal (hKernel3Ideal := Cert.Kernel3Ideal.Gen.facts)
    (hReference3Ideal := Cert.Reference3Ideal.Gen.facts) := by
  intro m g m' g' _ he
  refine ⟨fun c => Cert.Spec.layerHeads 4 64 1024 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Spec.layerHeads 4 64 1280 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Spec.layerSlab 64 2560 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Spec.lastOfPrompt (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Spec.heads 16 64 0 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Spec.heads 16 64 1536 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Spec.slab 16 2624 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Spec.slab 1024 2640 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Spec.slab 2048 3664 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => Cert.Spec.slab 2048 5712 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · refine (θ_run Cert.Kernel3Ideal.defs _ _).mono (fun _ h c => ⟨((h.1 c).2 Cert.Kernel3Ideal.main_v19 (Pipeline.mem_restRefs_of Cert.Kernel3Ideal.main_v19 (by decide) (by decide))).trans (Cert.Kernel3Ideal.Hand.result_k m c),
      ((h.1 c).2 Cert.Kernel3Ideal.main_v21 (Pipeline.mem_restRefs_of Cert.Kernel3Ideal.main_v21 (by decide) (by decide))).trans (Cert.Kernel3Ideal.Hand.result_v m c),
      ((h.1 c).2 Cert.Kernel3Ideal.main_v25 (Pipeline.mem_restRefs_of Cert.Kernel3Ideal.main_v25 (by decide) (by decide))).trans (Cert.Kernel3Ideal.Hand.result_ki m c),
      ((h.1 c).2 Cert.Kernel3Ideal.main_v36 (Pipeline.mem_restRefs_of Cert.Kernel3Ideal.main_v36 (by decide) (by decide))).trans (Cert.Kernel3Ideal.Hand.result_pst m c),
      ((h.1 c).2 Cert.Kernel3Ideal.main_v17 (Pipeline.mem_restRefs_of Cert.Kernel3Ideal.main_v17 (by decide) (by decide))).trans (Cert.Kernel3Ideal.Hand.result_q m c),
      ((h.1 c).2 Cert.Kernel3Ideal.main_v23 (Pipeline.mem_restRefs_of Cert.Kernel3Ideal.main_v23 (by decide) (by decide))).trans (Cert.Kernel3Ideal.Hand.result_qi m c),
      ((h.1 c).2 Cert.Kernel3Ideal.main_v27 (Pipeline.mem_restRefs_of Cert.Kernel3Ideal.main_v27 (by decide) (by decide))).trans (Cert.Kernel3Ideal.Hand.result_wi m c),
      ((h.1 c).2 Cert.Kernel3Ideal.main_v29 (Pipeline.mem_restRefs_of Cert.Kernel3Ideal.main_v29 (by decide) (by decide))).trans (Cert.Kernel3Ideal.Hand.result_u m c),
      ((h.1 c).2 Cert.Kernel3Ideal.main_v31 (Pipeline.mem_restRefs_of Cert.Kernel3Ideal.main_v31 (by decide) (by decide))).trans (Cert.Kernel3Ideal.Hand.result_ga m c),
      ((h.1 c).2 Cert.Kernel3Ideal.main_v33 (Pipeline.mem_restRefs_of Cert.Kernel3Ideal.main_v33 (by decide) (by decide))).trans (Cert.Kernel3Ideal.Hand.result_gb m c),
      h.2.1 c⟩)
      (θ_run_and (Cert.Kernel3Ideal.Gen.run_main (F := Ideal) m g) (Cert.Kernel3Ideal.Gen.frame (F := Ideal) m g))
  · refine (θ_run Cert.Reference3Ideal.defs _ _).mono (fun _ h c => ?_) (Cert.Reference3Ideal.Value.run (F := Ideal) m' g')
    obtain ⟨e0, e1⟩ := he c
    obtain ⟨h0, h1, h2, h3, h4, h5, h6, h7, h8, h9, ha⟩ := h c
    rw [e0, e1] at h0 h1 h2 h3 h4 h5 h6 h7 h8 h9
    exact ⟨h0.trans (Cert.Reference3Ideal.Hand.result_k _ _),
      h1.trans (Cert.Reference3Ideal.Hand.result_v _ _),
      h2.trans (Cert.Reference3Ideal.Hand.result_ki _ _),
      h3.trans (Cert.Reference3Ideal.Hand.result_pst _ _),
      h4.trans (Cert.Reference3Ideal.Hand.result_q _ _),
      h5.trans (Cert.Reference3Ideal.Hand.result_qi _ _),
      h6.trans (Cert.Reference3Ideal.Hand.result_wi _ _),
      h7.trans (Cert.Reference3Ideal.Hand.result_u _ _),
      h8.trans (Cert.Reference3Ideal.Hand.result_ga _ _),
      h9.trans (Cert.Reference3Ideal.Hand.result_gb _ _), ha⟩

end Cert.Proof.Prompt

end
-- ==== Proof.ProjSampleValue.lean ====
/- The input projection of the samples over the reals: the packed weights at their indices, what a point leaves, and the array
   after the run. -/
module

public import proofs.«01_k».proof.Defs
public import proofs.«01_k».proof.Proof.ProjSpec
public import proofs.«01_k».proof.Proof.Gen.Kernel4Ideal.Frame
public import Idealize.ShloMosaic.Lib.Claim
public import Idealize.ShloMosaic.Lib.Pointwise
public import Idealize.ShloMosaic.Lib.Pipeline.Value
public import Idealize.ShloMosaic.Lib.Pipeline.ValueKit.Basic
public import Idealize.ShloMosaic.Lib.Pipeline.ValueKit.Acc
public import Idealize.ShloMosaic.Lib.Pipeline.ValueKit.Point
public import Idealize.ShloMosaic.Lib.StableHlo.Run
public import Idealize.ShloMosaic.Lib.Tactic

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The scratch's payload is the row block it is given: a cast keeps every real. -/
theorem pay1_apply (x : Vec Ideal S64x2048 .f32) (r : Fin 64) (k : Fin 2048) : k0_pay1 x (ix2 r k) = x (ix2 r k) := by
  pointwise [k0_pay1]

/-- The product's payload: row `r` of the one factor against row `q` of the other. -/
theorem pay2_apply (x : Vec Ideal S64x2048 .bf16) (w : Vec Ideal S512x2048 .bf16) (r : Fin 64) (q : Fin 512) :
    k0_pay2 x w (ix2 r q) = ∑ k : Fin 2048, x (ix2 r k) * w (ix2 q k) := by
  pointwise [k0_pay2]

/-! ## What a point leaves -/

/-- A point that begins a row of blocks leaves the cast row block in the scratch. -/
theorem scratch_first (c : Dev nD) (t : Fin cfg0.N) (h0 : t.val % 16 = 0) :
    (outsAt0 m c t.val t.isLt).2 = k0_pay1 (iblk m c 0 t) := by
  rw [outsAt0_A m c t h0]
  frame_out

/-- Any other point leaves the scratch as it found it. -/
theorem scratch_next (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- The first point of a row of blocks casts its rows and multiplies. -/
theorem out_first (c : Dev nD) (t : Fin cfg0.N) (h0 : t.val % 16 = 0) :
    (outsAt0 m c t.val t.isLt).1 = k0_pay2 (k0_pay1 (iblk m c 0 t)) (iblk m c 1 t) := by
  rw [outsAt0_A m c t h0]
  frame_out

/-- A later point multiplies the rows cast before. -/
theorem out_next (c : Dev nD) (t : Fin cfg0.N) (h0 : ¬t.val % 16 = 0) :
    (outsAt0 m c t.val t.isLt).1 = k0_pay2 (outsAt0 m c (t.val - 1) (Nat.lt_of_le_of_lt (Nat.sub_le _ _) t.isLt)).2 (iblk m c 1 t) := by
  rw [outsAt0_B m c t h0]
  frame_out
  exact congrArg (fun x => k0_pay2 x (iblk m c 1 t)) ((Memref.isWhole_whole cc0_scratch0).read_unread _)

/-! ## The weights as packed -/

/-- The columns of the weights as rows. -/
def columns (w : Vec Ideal S1x2048x7760 .f32) : Vec Ideal S7760x2048 .f32 :=
  transpose S7760x2048 [1, 0] (shapeCast S2048x7760 w shapeCasts_S1x2048x7760_S2048x7760) transposes_S2048x7760_S7760x2048_1_0

/-- The weights of a column, at an index. -/
theorem columns_apply (w : Vec Ideal S1x2048x7760 .f32) (p : Fin 7760) (k : Fin 2048) : columns w (ix2 p k) = w (ix3 0 k p) := by
  pointwise [columns]

/-- The packed weights: the groups of columns in the kernel's order, and rows of zeros up to a whole number of blocks. -/
def packed (w : Vec Ideal S1x2048x7760 .f32) : Vec Ideal S8192x2048 .bf16 :=
  truncf .bf16
    (concatenate S8192x2048 0
      [⟨S1024x2048, extractStridedSlice S1024x2048 ![0, 0] (columns w) slices_S7760x2048_S1024x2048_0_0⟩,
       ⟨S1024x2048, extractStridedSlice S1024x2048 ![1536, 0] (columns w) slices_S7760x2048_S1024x2048_1536_0⟩,
       ⟨S1024x2048, extractStridedSlice S1024x2048 ![2640, 0] (columns w) slices_S7760x2048_S1024x2048_2640_0⟩,
       ⟨S2048x2048, extractStridedSlice S2048x2048 ![3664, 0] (columns w) slices_S7760x2048_S2048x2048_3664_0⟩,
       ⟨S2048x2048, extractStridedSlice S2048x2048 ![5712, 0] (columns w) slices_S7760x2048_S2048x2048_5712_0⟩,
       ⟨S256x2048, extractStridedSlice S256x2048 ![1024, 0] (columns w) slices_S7760x2048_S256x2048_1024_0⟩,
       ⟨S256x2048, extractStridedSlice S256x2048 ![1280, 0] (columns w) slices_S7760x2048_S256x2048_1280_0⟩,
       ⟨S64x2048, extractStridedSlice S64x2048 ![2560, 0] (columns w) slices_S7760x2048_S64x2048_2560_0⟩,
       ⟨S16x2048, extractStridedSlice S16x2048 ![2624, 0] (columns w) slices_S7760x2048_S16x2048_2624_0⟩,
       ⟨S432x2048, broadcastInDim S432x2048 ![] bcast_S_S432x2048 (constant (F := Ideal) S_ .f32 0x00000000#32)⟩]
      concatenates_S1024x2048_S1024x2048_S1024x2048_S2048x2048_S2048x2048_S256x2048_S256x2048_S64x2048_S16x2048_S432x2048_S8192x2048_d0)
    bitsLt_bf16_f32

/-- Row `j` of the packed weights is column `p` of the weights. -/
theorem packed_apply (w : Vec Ideal S1x2048x7760 .f32) (j : Fin 8192) (p : Fin 7760) (h : Cert.Spec.Moved j.val p.val) (k : Fin 2048) :
    packed w (ix2 j k) = w (ix3 0 k p) := by
  rw [← columns_apply w p k]
  unfold packed
  generalize columns w = u
  pointwise []
  unfold Cert.Spec.Moved at h
  split_ifs <;> first
    | exact congrArg u (congrArg (fun i => ix2 i k) (Fin.ext (by dsimp only; omega)))
    | (exfalso; omega)

/-! ## What the region finds -/

/-- The weights as the region finds them. -/
theorem found_weights (c : Dev nD) : V m c main_v13 = packed (m ((c : Thread nD τ).loc main_arg2)) := by
  entry_read
  rfl

/-- The rows as the region finds them. -/
theorem found_rows (c : Dev nD) : V m c main_v14 = shapeCast S64x2048 (m ((c : Thread nD τ).loc main_arg0)) shapeCasts_S8x8x2048_S64x2048 := by
  entry_read
  rfl

/-! ## The array after the run -/

/-- The two arrays the region reads. -/
def rows (c : Dev nD) : Vec Ideal S64x2048 .f32 := V m c main_v14
def cols (c : Dev nD) : Vec Ideal S8192x2048 .bf16 := V m c main_v13

/-- The blocks of point `t`: its row block of the input, its block of packed weights, its block of the result. -/
theorem places : ∀ t : Fin cfg0.N, win0_0.index t = ![t.val / 16, 0] ∧ win0_1.index t = ![t.val % 16, 0]
    ∧ win0_2.index t = ![t.val / 16, t.val % 16] := by decide +kernel

/-- The number of grid points. -/
theorem points (t : Fin cfg0.N) : t.val < 16 := t.isLt.trans_eq N_0

/-- Row `r` of the block of rows of point `t`, and column `q` of its block of columns. -/
def rowOf (t : Fin cfg0.N) (r : Fin 64) : Fin 64 := ⟨t.val / 16 * 64 + r.val, by have := points t; have := r.isLt; omega⟩
def colOf (t : Fin cfg0.N) (q : Fin 512) : Fin 8192 := ⟨t.val % 16 * 512 + q.val, by have := points t; have := q.isLt; omega⟩

/-- The block of rows a point reads. -/
theorem rows_read (c : Dev nD) (t : Fin cfg0.N) (r : Fin 64) (k : Fin 2048) :
    iblk m c 0 t (ix2 r k) = rows m c (ix2 (rowOf t r) k) := by
  obtain ⟨e0, e1, e2⟩ := places t
  unfold iblk rows rowOf
  blk_ext [e0]

/-- The block of weights a point reads. -/
theorem weights_read (c : Dev nD) (t : Fin cfg0.N) (q : Fin 512) (k : Fin 2048) :
    iblk m c 1 t (ix2 q k) = cols m c (ix2 (colOf t q) k) := by
  obtain ⟨e0, e1, e2⟩ := places t
  unfold iblk cols colOf
  blk_ext [e1]

/-- After every point the scratch holds the cast row block of the point. -/
theorem scratch_eq (c : Dev nD) : ∀ (n : ℕ) (hn : n < cfg0.N) (r : Fin 64) (k : Fin 2048),
    (outsAt0 m c n hn).2 (ix2 r k) = rows m c (ix2 (rowOf ⟨n, hn⟩ r) k) := by
  intro n
  induction n with
  | zero =>
    intro hn r k
    rw [scratch_first m c ⟨0, hn⟩ (Nat.zero_mod _)]
    exact (pay1_apply _ r k).trans (rows_read m c _ r k)
  | succ n ih =>
    intro hn r k
    by_cases h0 : (n + 1) % 16 = 0
    · rw [scratch_first m c ⟨n + 1, hn⟩ h0]
      exact (pay1_apply _ r k).trans (rows_read m c _ r k)
    · rw [scratch_next m c ⟨n + 1, hn⟩ h0]
      refine (ih (Nat.lt_of_succ_lt hn) r k).trans ?_
      refine congrArg (fun i => rows m c (ix2 i k)) (Fin.ext ?_)
      show n / 16 * 64 + r.val = (n + 1) / 16 * 64 + r.val
      omega

/-- What the region is to leave in the result array: every row of the input against every row of the packed weights. -/
def full (c : Dev nD) : Vec Ideal S64x8192 .f32 := fun i =>
  ∑ k : Fin 2048, rows m c (ix2 (i 0) k) * cols m c (ix2 (i 1) k)

/-- A point leaves its block of `full`. -/
theorem point_eq (c : Dev nD) (t : Fin cfg0.N) (r : Fin 64) (q : Fin 512) :
    (outsAt0 m c t.val t.isLt).1 (ix2 r q) = full m c (ix2 (rowOf t r) (colOf t q)) := by
  show _ = ∑ k : Fin 2048, rows m c (ix2 (rowOf t r) k) * cols m c (ix2 (colOf t q) k)
  by_cases h0 : t.val % 16 = 0
  · rw [out_first m c t h0]
    refine (pay2_apply _ _ r q).trans (Finset.sum_congr rfl fun k _ => ?_)
    rw [pay1_apply, rows_read, weights_read]
  · rw [out_next m c t h0]
    refine (pay2_apply _ _ r q).trans (Finset.sum_congr rfl fun k _ => ?_)
    rw [scratch_eq, weights_read]
    refine congrArg (fun i => rows m c (ix2 i k) * _) (Fin.ext ?_)
    show (t.val - 1) / 16 * 64 + r.val = t.val / 16 * 64 + r.val
    omega

/-- What a point leaves in its block, at any index. -/
theorem point_at (c : Dev nD) (t : Fin cfg0.N) (y : S64x512.Idx) :
    (outsAt0 m c t.val t.isLt).1 y = full m c (ix2 (rowOf t (y 0)) (colOf t (y 1))) :=
  (congrArg (outsAt0 m c t.val t.isLt).1 (eq_ix2 y)).trans (point_eq m c t (y 0) (y 1))

/-- After the run the result array is `full`. -/
theorem final_2 (c : Dev nD) : (dats m 0 c).arrAt 2 cfg0.N = full m c := by
  refine (dats m 0 c).arrAt_eq_of_covers 2 _ (by decide +kernel) fun t hf y => ?_
  obtain ⟨e0, e1, e2⟩ := places t
  blk_simp
  rw [after0_2]
  refine (point_at m c t y).trans (congrArg (full m c) ?_)
  unfold rowOf colOf
  blk_ext [e2]

/-- The input with its sequences one below the other. -/
theorem joined_apply (x : Vec Ideal S8x8x2048 .f32) (b : Fin 8) (s : Fin 8) (R : Fin 64) (hR : R.val = b.val * 8 + s.val) (k : Fin 2048) :
    shapeCast S64x2048 x shapeCasts_S8x8x2048_S64x2048 (ix2 R k) = x (ix3 b s k) := by
  pointwise []
  refine congrArg x ?_
  have := b.isLt
  have := s.isLt
  congr 1 <;> exact Fin.ext (by dsimp only; omega)

/-- The result array at row `R` and column `j`, where column `j` of the packed weights is column `p` of the weights. -/
theorem full_apply (c : Dev nD) (b : Fin 8) (s : Fin 8) (R : Fin 64) (hR : R.val = b.val * 8 + s.val) (j : Fin 8192) (p : Fin 7760)
    (h : Cert.Spec.Moved j.val p.val) :
    full m c (ix2 R j)
      = Cert.Spec.proj (m ((c : Thread nD τ).loc main_arg0)) (m ((c : Thread nD τ).loc main_arg2)) b s p := by
  show ∑ k : Fin 2048, rows m c (ix2 R k) * cols m c (ix2 j k) = ∑ k : Fin 2048, _
  refine Finset.sum_congr rfl fun k _ => ?_
  rw [show cols m c = _ from found_weights m c, show rows m c = _ from found_rows m c, packed_apply _ j p h k]
  exact congrArg (fun x => x * _) (joined_apply _ b s R hR k)

end Cert.Kernel4Ideal.Hand

end
-- ==== Proof.ProjSampleResults.lean ====
/- The results of the input projection of the samples: what the host lines after the region cut out of its result array. -/
module

public import proofs.«01_k».proof.Proof.ProjSampleValue
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL.Sem

variable (m : (ℓ : Loc nD τ sig) → Buf (Elt Ideal) ℓ)

/-- An entry of the result array, its column of the packed weights given as a number of the weights' columns. -/
theorem full_at (c : Dev nD) (b : Fin 8) (s : Fin 8) (R : Fin 64) (j : Fin 8192) (p : Nat) (hR : R.val = b.val * 8 + s.val)
    (h : Cert.Spec.Moved j.val p) : full m c (ix2 R j) = Cert.Spec.projN (m ((c : Thread nD τ).loc main_arg0)) (m ((c : Thread nD τ).loc main_arg2)) b s p :=
  (full_apply m c b s R hR j ⟨p, h.lt⟩ h).trans (Cert.Spec.projN_of _ _ b s ⟨p, h.lt⟩ p rfl).symm

/-- The windows' arrays are different arrays. -/
theorem arrays_apart : Function.Injective (Pipeline.arrRef (sig := sig) spec0) := by decide

/-- What the buffers hold when the region is over. -/
def over (c : Dev nD) : Valuation τ sig (Elt Ideal) :=
  Pipeline.withArrays spec0 c (V0 m c) fun w => (dats m 0 c).arrAt w cfg0.N

/-- The result array after the region. -/
theorem over_full (c : Dev nD) : over m c (Proc.devRef .tc main_v15) = full m c :=
  (Pipeline.withArrays_arr spec0 arrays_apart c _ _ 2).trans (final_2 m c)

/-- The state passes the region by. -/
theorem over_state (c : Dev nD) : over m c (Proc.devRef .tc main_arg1) = m ((c : Thread nD τ).loc main_arg1) :=
  (Pipeline.withArrays_of_ne spec0 c _ _ main_arg1 (by decide)).trans (V_main_arg1 m c)

/-- What the lines after the region read is `full`. -/
def left (c : Dev nD) : Vec Ideal S64x8192 .f32 := over m c (Proc.devRef .tc main_v15)

/-- An entry of it, as the projection's column that was moved there. -/
theorem left_at (c : Dev nD) (b : Fin 8) (s : Fin 8) (R : Fin 64) (j : Fin 8192) (p : Nat) (hR : R.val = b.val * 8 + s.val)
    (h : Cert.Spec.Moved j.val p) : left m c (ix2 R j) = Cert.Spec.projN (m ((c : Thread nD τ).loc main_arg0)) (m ((c : Thread nD τ).loc main_arg2)) b s p :=
  (congrFun (over_full m c) (ix2 R j)).trans (full_at m c b s R j p hR h)

/-- Result `k`. -/
theorem result_k (c : Dev nD) : Pipeline.afterTail₀ cfgs (dats m) 0 (V0 m) [hostOps1] c main_v28 = Cert.Spec.layerHeads 4 64 1024 (m ((c : Thread nD τ).loc main_arg0)) (m ((c : Thread nD τ).loc main_arg2)) := by
  refine (show _ = shapeCast S1x8x8x4x64 (shapeCast S8x8x256 (extractStridedSlice S64x256 ![0, 7168] (left m c) slices_S64x8192_S64x256_0_7168) shapeCasts_S64x256_S8x8x256) shapeCasts_S8x8x256_S1x8x8x4x64 from rfl).trans ?_
  funext i
  have e := eq_ix5 i
  have h0 : (i 0).val < 1 := (i 0).isLt
  have h1 : (i 1).val < 8 := (i 1).isLt
  have h2 : (i 2).val < 8 := (i 2).isLt
  have h3 : (i 3).val < 4 := (i 3).isLt
  have h4 : (i 4).val < 64 := (i 4).isLt
  rw [e]
  pointwise []
  refine left_at m c (i 1) (i 2) _ _ _ ?_ ?_
  · dsimp only
  · unfold Cert.Spec.Moved
    dsimp only
    omega

/-- Result `v`. -/
theorem result_v (c : Dev nD) : Pipeline.afterTail₀ cfgs (dats m) 0 (V0 m) [hostOps1] c main_v29 = Cert.Spec.layerHeads 4 64 1280 (m ((c : Thread nD τ).loc main_arg0)) (m ((c : Thread nD τ).loc main_arg2)) := by
  refine (show _ = shapeCast S1x8x8x4x64 (shapeCast S8x8x256 (extractStridedSlice S64x256 ![0, 7424] (left m c) slices_S64x8192_S64x256_0_7424) shapeCasts_S64x256_S8x8x256) shapeCasts_S8x8x256_S1x8x8x4x64 from rfl).trans ?_
  funext i
  have e := eq_ix5 i
  have h0 : (i 0).val < 1 := (i 0).isLt
  have h1 : (i 1).val < 8 := (i 1).isLt
  have h2 : (i 2).val < 8 := (i 2).isLt
  have h3 : (i 3).val < 4 := (i 3).isLt
  have h4 : (i 4).val < 64 := (i 4).isLt
  rw [e]
  pointwise []
  refine left_at m c (i 1) (i 2) _ _ _ ?_ ?_
  · dsimp only
  · unfold Cert.Spec.Moved
    dsimp only
    omega

/-- Result `ki`. -/
theorem result_ki (c : Dev nD) : Pipeline.afterTail₀ cfgs (dats m) 0 (V0 m) [hostOps1] c main_v30 = Cert.Spec.layerSlab 64 2560 (m ((c : Thread nD τ).loc main_arg0)) (m ((c : Thread nD τ).loc main_arg2)) := by
  refine (show _ = shapeCast S1x8x8x64 (shapeCast S8x8x64 (extractStridedSlice S64x64 ![0, 7680] (left m c) slices_S64x8192_S64x64_0_7680) shapeCasts_S64x64_S8x8x64) shapeCasts_S8x8x64_S1x8x8x64 from rfl).trans ?_
  funext i
  have e := eq_ix4 i
  have h0 : (i 0).val < 1 := (i 0).isLt
  have h1 : (i 1).val < 8 := (i 1).isLt
  have h2 : (i 2).val < 8 := (i 2).isLt
  have h3 : (i 3).val < 64 := (i 3).isLt
  rw [e]
  pointwise []
  refine left_at m c (i 1) (i 2) _ _ _ ?_ ?_
  · dsimp only
  · unfold Cert.Spec.Moved
    dsimp only
    omega

/-- Result `pst`: the state's last seven positions and the pooled columns of the eight new ones. -/
theorem result_pst (c : Dev nD) : Pipeline.afterTail₀ cfgs (dats m) 0 (V0 m) [hostOps1] c main_v27
    = Cert.Spec.lastOfSample (m ((c : Thread nD τ).loc main_arg0)) (m ((c : Thread nD τ).loc main_arg1)) (m ((c : Thread nD τ).loc main_arg2)) := by
  refine (show _ = broadcastInDim S1x8x15x1024 ![1, 2, 3] bcast_S8x15x1024_S1x8x15x1024_1_2_3
    (extractStridedSlice S8x15x1024 ![0, 8, 0]
      (concatenate S8x23x1024 1 [⟨S8x15x1024, shapeCast S8x15x1024 (over m c (Proc.devRef .tc main_arg1)) shapeCasts_S1x8x15x1024_S8x15x1024⟩,
        ⟨S8x8x1024, shapeCast S8x8x1024 (extractStridedSlice S64x1024 ![0, 2048] (left m c) slices_S64x8192_S64x1024_0_2048) shapeCasts_S64x1024_S8x8x1024⟩]
        concatenates_S8x15x1024_S8x8x1024_S8x23x1024_d1)
      slices_S8x23x1024_S8x15x1024_0_8_0) from rfl).trans ?_
  rw [show over m c (Proc.devRef .tc main_arg1) = m ((c : Thread nD τ).loc main_arg1) from over_state m c]
  funext i
  have e := eq_ix4 i
  have h0 : (i 0).val < 1 := (i 0).isLt
  have h1 : (i 1).val < 8 := (i 1).isLt
  have h2 : (i 2).val < 15 := (i 2).isLt
  have h3 : (i 3).val < 1024 := (i 3).isLt
  rw [e]
  pointwise [Cert.Spec.lastOfSample]
  by_cases h : (i 2).val < 7
  · rw [dif_pos (by omega), dif_pos h]
  · rw [dif_neg (by omega), dif_neg h]
    refine left_at m c (i 1) ⟨(i 2).val - 7, by omega⟩ _ _ _ ?_ ?_
    · dsimp only
      omega
    · unfold Cert.Spec.Moved
      dsimp only
      omega

end Cert.Kernel4Ideal.Hand

end
-- ==== Proof.ProjSampleReference.lean ====
/- The reference of the input projection of the samples, result by result. -/
module

public import proofs.«01_k».proof.Proof.ProjSpec
public import proofs.«01_k».proof.Proof.Gen.Reference4Ideal.Run
public import Idealize.ShloMosaic.Lib.Pointwise

@[expose] public section

set_option maxRecDepth 16384

noncomputable section

namespace Cert.Reference4Ideal.Hand

open Cert.Reference4Ideal Cert.Reference4Ideal.Gen
open Idealize.ShloMosaic Idealize.ShloMosaic.TcCoe Idealize.ShloMosaic.Tactic

variable (x : Vec Ideal S8x8x2048 .f32) (w : Vec Ideal S1x2048x7760 .f32)

/-- The projection as the reference computes it: one product with the weights. -/
def whole : Vec Ideal S8x8x7760 .f32 :=
  Host.dotGeneral (F := Ideal) (φ₁ := .f32) (φ₂ := .f32) dot_S8x8x2048_S2048x7760_S8x8x7760_2_0_01_1_n_n none x (shapeCast S2048x7760 w shapeCasts_S1x2048x7760_S2048x7760)

/-- The reference's projection at an index. -/
theorem whole_apply (b : Fin 8) (s : Fin 8) (p : Fin 7760) : whole x w (ix3 b s p) = Cert.Spec.proj x w b s p := by
  pointwise [whole, Cert.Spec.proj]

/-- The same, by the number of the column. -/
theorem whole_at (b : Fin 8) (s : Fin 8) (p : Fin 7760) (n : Nat) (h : p.val = n) : whole x w (ix3 b s p) = Cert.Spec.projN x w b s n :=
  (whole_apply x w b s p).trans (Cert.Spec.projN_of x w b s p n h).symm

/-- Result `k`. -/
theorem result_k : shapeCast S1x8x8x4x64 (extractStridedSlice S8x8x256 ![0, 0, 1024] (whole x w) slices_S8x8x7760_S8x8x256_0_0_1024) shapeCasts_S8x8x256_S1x8x8x4x64 = Cert.Spec.layerHeads 4 64 1024 x w := by
  funext i
  have e := eq_ix5 i
  have h0 : (i 0).val < 1 := (i 0).isLt
  have h1 : (i 1).val < 8 := (i 1).isLt
  have h2 : (i 2).val < 8 := (i 2).isLt
  have h3 : (i 3).val < 4 := (i 3).isLt
  have h4 : (i 4).val < 64 := (i 4).isLt
  rw [e]
  pointwise []
  refine whole_at x w (i 1) (i 2) _ _ ?_
  dsimp only

/-- Result `v`. -/
theorem result_v : shapeCast S1x8x8x4x64 (extractStridedSlice S8x8x256 ![0, 0, 1280] (whole x w) slices_S8x8x7760_S8x8x256_0_0_1280) shapeCasts_S8x8x256_S1x8x8x4x64 = Cert.Spec.layerHeads 4 64 1280 x w := by
  funext i
  have e := eq_ix5 i
  have h0 : (i 0).val < 1 := (i 0).isLt
  have h1 : (i 1).val < 8 := (i 1).isLt
  have h2 : (i 2).val < 8 := (i 2).isLt
  have h3 : (i 3).val < 4 := (i 3).isLt
  have h4 : (i 4).val < 64 := (i 4).isLt
  rw [e]
  pointwise []
  refine whole_at x w (i 1) (i 2) _ _ ?_
  dsimp only

/-- Result `ki`. -/
theorem result_ki : broadcastInDim S1x8x8x64 ![1, 2, 3] bcast_S8x8x64_S1x8x8x64_1_2_3 (extractStridedSlice S8x8x64 ![0, 0, 2560] (whole x w) slices_S8x8x7760_S8x8x64_0_0_2560) = Cert.Spec.layerSlab 64 2560 x w := by
  funext i
  have e := eq_ix4 i
  have h0 : (i 0).val < 1 := (i 0).isLt
  have h1 : (i 1).val < 8 := (i 1).isLt
  have h2 : (i 2).val < 8 := (i 2).isLt
  have h3 : (i 3).val < 64 := (i 3).isLt
  rw [e]
  pointwise []
  refine whole_at x w (i 1) (i 2) _ _ ?_
  dsimp only

/-- Result `pst`: the state's positions and then the new ones, of which the last fifteen are kept. -/
theorem result_pst (st : Vec Ideal S1x8x15x1024 .f32) :
    broadcastInDim S1x8x15x1024 ![1, 2, 3] bcast_S8x15x1024_S1x8x15x1024_1_2_3 (extractStridedSlice S8x15x1024 ![0, 8, 0]
      (concatenate S8x23x1024 1 [⟨S8x15x1024, shapeCast S8x15x1024 st shapeCasts_S1x8x15x1024_S8x15x1024⟩,
        ⟨S8x8x1024, extractStridedSlice S8x8x1024 ![0, 0, 2640] (whole x w) slices_S8x8x7760_S8x8x1024_0_0_2640⟩] concatenates_S8x15x1024_S8x8x1024_S8x23x1024_d1)
      slices_S8x23x1024_S8x15x1024_0_8_0)
    = Cert.Spec.lastOfSample x st w := by
  funext i
  have e := eq_ix4 i
  have h0 : (i 0).val < 1 := (i 0).isLt
  have h1 : (i 1).val < 8 := (i 1).isLt
  have h2 : (i 2).val < 15 := (i 2).isLt
  have h3 : (i 3).val < 1024 := (i 3).isLt
  rw [e]
  pointwise [Cert.Spec.lastOfSample]
  by_cases h : (i 2).val < 7
  · rw [dif_pos (by omega), dif_pos h]
  · rw [dif_neg (by omega), dif_neg h]
    refine (congrArg (fun q => whole x w (ix3 (i 1) q _)) (Fin.ext ?_)).trans
      (whole_at x w (i 1) ⟨(i 2).val - 7, by omega⟩ ⟨2640 + (i 3).val, by omega⟩ _ rfl)
    dsimp only
    omega

end Cert.Reference4Ideal.Hand

end
-- ==== Proof.ProjSampleClaim.lean ====
/- The claims about the input projection of the samples: the two runs of the kernel, the reference's, and their common results. -/
module

public import proofs.«01_k».proof.Proof.ProjSampleResults
public import proofs.«01_k».proof.Proof.ProjSampleReference
public import proofs.«01_k».proof.Proof.Gen.Kernel4.Frame
public import proofs.«01_k».proof.Proof.Gen.Kernel4Ideal.Frame

@[expose] public section

noncomputable section

namespace Cert.Proof.Sample

open Idealize.ShloMosaic Idealize.SL.Sem

/-- The kernel runs, leaves its arguments, and ends quiescent. -/
theorem frame_kernel : quiescent_Kernel4 (hKernel4 := Cert.Kernel4.Gen.facts) :=
  fun m ρ _ => Cert.Kernel4.Gen.frame m ρ

/-- So does the kernel over the reals. -/
theorem frame_ideal : quiescent_Kernel4Ideal (hKernel4Ideal := Cert.Kernel4Ideal.Gen.facts) :=
  fun m ρ _ => Cert.Kernel4Ideal.Gen.frame m ρ

/-- So does the reference. -/
theorem frame_reference : quiescent_Reference4Ideal (hReference4Ideal := Cert.Reference4Ideal.Gen.facts) :=
  fun m ρ _ => (θ_run Cert.Reference4Ideal.defs _ _).mono
    (fun r h => ⟨fun c => (h c).2.2.2.2, sem_eq_zero_of_no_sems (by decide) r.2⟩)
    (Cert.Reference4Ideal.Value.run (F := Ideal) m ρ)

/-- Kernel and reference end with the same results: each the projection of the input by its columns of the weights. -/
theorem value : algebraic_Kernel4Ideal_Reference4Ideal (hKernel4Ideal := Cert.Kernel4Ideal.Gen.facts)
    (hReference4Ideal := Cert.Reference4Ideal.Gen.facts) := by
  intro m g m' g' _ he
  refine ⟨fun c => Cert.Spec.layerHeads 4 64 1024 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)),
    fun c => Cert.Spec.layerHeads 4 64 1280 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)),
    fun c => Cert.Spec.layerSlab 64 2560 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)),
    fun c => Cert.Spec.lastOfSample (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), ?_, ?_⟩
  · refine (θ_run Cert.Kernel4Ideal.defs _ _).mono (fun _ h c => ⟨((h.1 c).2 Cert.Kernel4Ideal.main_v28 (Pipeline.mem_restRefs_of Cert.Kernel4Ideal.main_v28 (by decide) (by decide))).trans (Cert.Kernel4Ideal.Hand.result_k m c),
      ((h.1 c).2 Cert.Kernel4Ideal.main_v29 (Pipeline.mem_restRefs_of Cert.Kernel4Ideal.main_v29 (by decide) (by decide))).trans (Cert.Kernel4Ideal.Hand.result_v m c),
      ((h.1 c).2 Cert.Kernel4Ideal.main_v30 (Pipeline.mem_restRefs_of Cert.Kernel4Ideal.main_v30 (by decide) (by decide))).trans (Cert.Kernel4Ideal.Hand.result_ki m c),
      ((h.1 c).2 Cert.Kernel4Ideal.main_v27 (Pipeline.mem_restRefs_of Cert.Kernel4Ideal.main_v27 (by decide) (by decide))).trans (Cert.Kernel4Ideal.Hand.result_pst m c),
      h.2.1 c⟩)
      (θ_run_and (Cert.Kernel4Ideal.Gen.run_main (F := Ideal) m g) (Cert.Kernel4Ideal.Gen.frame (F := Ideal) m g))
  · refine (θ_run Cert.Reference4Ideal.defs _ _).mono (fun _ h c => ?_) (Cert.Reference4Ideal.Value.run (F := Ideal) m' g')
    obtain ⟨e0, e1, e2⟩ := he c
    obtain ⟨h0, h1, h2, h3, ha⟩ := h c
    rw [e0, e2] at h0 h1 h2 h3
    rw [e1] at h3
    exact ⟨h0.trans (Cert.Reference4Ideal.Hand.result_k _ _),
      h1.trans (Cert.Reference4Ideal.Hand.result_v _ _),
      h2.trans (Cert.Reference4Ideal.Hand.result_ki _ _),
      h3.trans (Cert.Reference4Ideal.Hand.result_pst _ _ _), ha⟩

end Cert.Proof.Sample

end
-- ==== Proof.CastSpec.lean ====
/- What the cast of the prompt's keys and values is to hand on: columns of the projected array, regrouped. -/
module

public import Idealize.ShloMosaic.Lib.Pointwise

@[expose] public section

noncomputable section

namespace Cert.Spec

open Idealize.ShloMosaic

/-- The projected array of the prompt. -/
abbrev Wide : Type := (⟨2, ![8192, 8192]⟩ : Shape).Idx → EReal

/-- Its entry in row `r` and column `p`, the column given as a number. -/
def entry (h : Wide) (r : Fin 8192) (p : Nat) : EReal := if e : p < 8192 then h (ix2 r ⟨p, e⟩) else 0

/-- An entry read by the number of its column is the entry at that column. -/
theorem entry_of (h : Wide) (r : Fin 8192) (p : Fin 8192) (n : Nat) (e : p.val = n) : entry h r n = h (ix2 r p) := by
  subst e
  exact dif_pos p.isLt

/-- The keys and values in four slabs of 128 columns. -/
def castPairs (h : Wide) : (⟨3, ![4, 8192, 128]⟩ : Shape).Idx → EReal :=
  fun i => entry h (i 1) (7168 + ((i 0).val * 128 + (i 2).val))

/-- The 64 columns of the indexer's keys, twice side by side. -/
def castTwice (h : Wide) : (⟨2, ![8192, 128]⟩ : Shape).Idx → EReal :=
  fun i => entry h (i 0) (7680 + (i 1).val % 64)

/-- Four heads of 64 columns from column `off` on. -/
def castHeads (off : Nat) (h : Wide) : (⟨3, ![8192, 4, 64]⟩ : Shape).Idx → EReal :=
  fun i => entry h (i 0) (off + ((i 1).val * 64 + (i 2).val))

/-- The indexer's keys. -/
def castIndex (h : Wide) : (⟨2, ![8192, 64]⟩ : Shape).Idx → EReal :=
  fun i => entry h (i 0) (7680 + (i 1).val)

/-- Row `s` of sequence `b` among the rows of both. -/
def rowAt (b : Fin 2) (s : Fin 4096) : Fin 8192 := ⟨b.val * 4096 + s.val, by have := b.isLt; have := s.isLt; omega⟩

/-- The heads with the rows split by sequence and a leading axis of one layer. -/
def layerCastHeads (off : Nat) (h : Wide) : (⟨5, ![1, 2, 4096, 4, 64]⟩ : Shape).Idx → EReal :=
  fun i => entry h (rowAt (i 1) (i 2)) (off + ((i 3).val * 64 + (i 4).val))

/-- The indexer's keys so split. -/
def layerCastIndex (h : Wide) : (⟨4, ![1, 2, 4096, 64]⟩ : Shape).Idx → EReal :=
  fun i => entry h (rowAt (i 1) (i 2)) (7680 + (i 3).val)

end Cert.Spec

end
-- ==== Proof.CastValue.lean ====
/- The cast of the prompt's keys and values over the reals: what a point leaves in each block, and the arrays after the run. -/
module

public import proofs.«01_k».proof.Defs
public import proofs.«01_k».proof.Proof.CastSpec
public import proofs.«01_k».proof.Proof.Gen.Kernel5Ideal.Frame
public import Idealize.ShloMosaic.Lib.Claim
public import Idealize.ShloMosaic.Lib.Pointwise
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Acc
public import Idealize.ShloMosaic.Lib.Pipeline.ValueKit.Point
public import Idealize.ShloMosaic.Lib.StableHlo.Run
public import Idealize.ShloMosaic.Lib.Tactic

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL.Sem
open Idealize.ShloMosaic.Pipeline (Dat Cfg Window)

/-! ## What the body makes of its two blocks -/

/-- A slab of 128 of the 512 columns. -/
def slabs (x : Vec Ideal S1024x512 .f32) : Vec Ideal S4x1024x128 .bf16 :=
  fun i => x (ix2 (i 1) ⟨(i 0).val * 128 + (i 2).val, by
    have h0 : (i 0).val < 4 := (i 0).isLt
    have h2 : (i 2).val < 128 := (i 2).isLt
    omega⟩)

/-- Four heads of 64 columns, from column `off` of the 512 on. -/
def fours (off : Nat) (hoff : off ≤ 256) (x : Vec Ideal S1024x512 .f32) : Vec Ideal S1024x4x64 .f32 :=
  fun i => x (ix2 (i 0) ⟨off + ((i 1).val * 64 + (i 2).val), by
    have h1 : (i 1).val < 4 := (i 1).isLt
    have h2 : (i 2).val < 64 := (i 2).isLt
    omega⟩)

/-- The four stores of the first output leave the four slabs. -/
theorem slabs_left (x0 : Vec Ideal S1024x512 .f32) (x1 : Vec Ideal S1024x128 .f32) (y : S4x1024x128.Idx) : out0_2 x0 x1 y = slabs x0 y := by
  unfold out0_2
  refine View.canon_apply_of_pieces (slabs x0) _ (View.PiecesOf.mem (show View.PiecesOf _ [_, _, _, _] from ⟨fun x => ?_, fun x => ?_, fun x => ?_, fun x => ?_, trivial⟩)) y (cover0_2 _ _ _ _ y)
  · have e := eq_ix3 x
    have h0 : (x 0).val < 1 := (x 0).isLt
    have h1 : (x 1).val < 1024 := (x 1).isLt
    rw [e]
    pointwise [k0_pay4, slabs]
    refine congrArg x0 (congrArg₂ ix2 (Fin.ext ?_) (Fin.ext ?_))
    · show (x 1).val = 0 + 1 * (x 1).val
      omega
    · show 384 + (x 2).val = (3 + 1 * (x 0).val) * 128 + (0 + 1 * (x 2).val)
      omega
  · have e := eq_ix3 x
    have h0 : (x 0).val < 1 := (x 0).isLt
    have h1 : (x 1).val < 1024 := (x 1).isLt
    rw [e]
    pointwise [k0_pay3, slabs]
    refine congrArg x0 (congrArg₂ ix2 (Fin.ext ?_) (Fin.ext ?_))
    · show (x 1).val = 0 + 1 * (x 1).val
      omega
    · show 256 + (x 2).val = (2 + 1 * (x 0).val) * 128 + (0 + 1 * (x 2).val)
      omega
  · have e := eq_ix3 x
    have h0 : (x 0).val < 1 := (x 0).isLt
    have h1 : (x 1).val < 1024 := (x 1).isLt
    rw [e]
    pointwise [k0_pay2, slabs]
    refine congrArg x0 (congrArg₂ ix2 (Fin.ext ?_) (Fin.ext ?_))
    · show (x 1).val = 0 + 1 * (x 1).val
      omega
    · show 128 + (x 2).val = (1 + 1 * (x 0).val) * 128 + (0 + 1 * (x 2).val)
      omega
  · have e := eq_ix3 x
    have h0 : (x 0).val < 1 := (x 0).isLt
    have h1 : (x 1).val < 1024 := (x 1).isLt
    rw [e]
    pointwise [k0_pay1, slabs]
    refine congrArg x0 (congrArg₂ ix2 (Fin.ext ?_) (Fin.ext ?_))
    · show (x 1).val = 0 + 1 * (x 1).val
      omega
    · show (x 2).val = (0 + 1 * (x 0).val) * 128 + (0 + 1 * (x 2).val)
      omega

/-- The four stores of output 2 leave the heads of the keys. -/
theorem keys_left (x0 : Vec Ideal S1024x512 .f32) (x1 : Vec Ideal S1024x128 .f32) (y : S1024x4x64.Idx) : out0_4 x0 x1 y = fours 0 (by decide) x0 y := by
  unfold out0_4
  refine View.canon_apply_of_pieces (fours 0 (by decide) x0) _ (View.PiecesOf.mem (show View.PiecesOf _ [_, _, _, _] from ⟨fun x => ?_, fun x => ?_, fun x => ?_, fun x => ?_, trivial⟩)) y (cover0_4 _ _ _ _ y)
  · have e := eq_ix3 x
    have h0 : (x 0).val < 1024 := (x 0).isLt
    have h1 : (x 1).val < 1 := (x 1).isLt
    rw [e]
    pointwise [k0_pay13, fours]
    refine congrArg x0 (congrArg₂ ix2 (Fin.ext ?_) (Fin.ext ?_))
    · show (x 0).val = 0 + 1 * (x 0).val
      omega
    · show 192 + (x 2).val = (3 + 1 * (x 1).val) * 64 + (0 + 1 * (x 2).val)
      omega
  · have e := eq_ix3 x
    have h0 : (x 0).val < 1024 := (x 0).isLt
    have h1 : (x 1).val < 1 := (x 1).isLt
    rw [e]
    pointwise [k0_pay11, fours]
    refine congrArg x0 (congrArg₂ ix2 (Fin.ext ?_) (Fin.ext ?_))
    · show (x 0).val = 0 + 1 * (x 0).val
      omega
    · show 128 + (x 2).val = (2 + 1 * (x 1).val) * 64 + (0 + 1 * (x 2).val)
      omega
  · have e := eq_ix3 x
    have h0 : (x 0).val < 1024 := (x 0).isLt
    have h1 : (x 1).val < 1 := (x 1).isLt
    rw [e]
    pointwise [k0_pay9, fours]
    refine congrArg x0 (congrArg₂ ix2 (Fin.ext ?_) (Fin.ext ?_))
    · show (x 0).val = 0 + 1 * (x 0).val
      omega
    · show 64 + (x 2).val = (1 + 1 * (x 1).val) * 64 + (0 + 1 * (x 2).val)
      omega
  · have e := eq_ix3 x
    have h0 : (x 0).val < 1024 := (x 0).isLt
    have h1 : (x 1).val < 1 := (x 1).isLt
    rw [e]
    pointwise [k0_pay7, k0_pay6, fours]
    refine congrArg x0 (congrArg₂ ix2 (Fin.ext ?_) (Fin.ext ?_))
    · show (x 0).val = 0 + 1 * (x 0).val
      omega
    · show (x 2).val = (0 + 1 * (x 1).val) * 64 + (0 + 1 * (x 2).val)
      omega

/-- The four stores of output 3 leave the heads of the values. -/
theorem values_left (x0 : Vec Ideal S1024x512 .f32) (x1 : Vec Ideal S1024x128 .f32) (y : S1024x4x64.Idx) : out0_5 x0 x1 y = fours 256 (by decide) x0 y := by
  unfold out0_5
  refine View.canon_apply_of_pieces (fours 256 (by decide) x0) _ (View.PiecesOf.mem (show View.PiecesOf _ [_, _, _, _] from ⟨fun x => ?_, fun x => ?_, fun x => ?_, fun x => ?_, trivial⟩)) y (cover0_5 _ _ _ _ y)
  · have e := eq_ix3 x
    have h0 : (x 0).val < 1024 := (x 0).isLt
    have h1 : (x 1).val < 1 := (x 1).isLt
    rw [e]
    pointwise [k0_pay14, fours]
    refine congrArg x0 (congrArg₂ ix2 (Fin.ext ?_) (Fin.ext ?_))
    · show (x 0).val = 0 + 1 * (x 0).val
      omega
    · show 448 + (x 2).val = 256 + (((3 + 1 * (x 1).val)) * 64 + (0 + 1 * (x 2).val))
      omega
  · have e := eq_ix3 x
    have h0 : (x 0).val < 1024 := (x 0).isLt
    have h1 : (x 1).val < 1 := (x 1).isLt
    rw [e]
    pointwise [k0_pay12, fours]
    refine congrArg x0 (congrArg₂ ix2 (Fin.ext ?_) (Fin.ext ?_))
    · show (x 0).val = 0 + 1 * (x 0).val
      omega
    · show 384 + (x 2).val = 256 + (((2 + 1 * (x 1).val)) * 64 + (0 + 1 * (x 2).val))
      omega
  · have e := eq_ix3 x
    have h0 : (x 0).val < 1024 := (x 0).isLt
    have h1 : (x 1).val < 1 := (x 1).isLt
    rw [e]
    pointwise [k0_pay10, fours]
    refine congrArg x0 (congrArg₂ ix2 (Fin.ext ?_) (Fin.ext ?_))
    · show (x 0).val = 0 + 1 * (x 0).val
      omega
    · show 320 + (x 2).val = 256 + (((1 + 1 * (x 1).val)) * 64 + (0 + 1 * (x 2).val))
      omega
  · have e := eq_ix3 x
    have h0 : (x 0).val < 1024 := (x 0).isLt
    have h1 : (x 1).val < 1 := (x 1).isLt
    rw [e]
    pointwise [k0_pay8, fours]
    refine congrArg x0 (congrArg₂ ix2 (Fin.ext ?_) (Fin.ext ?_))
    · show (x 0).val = 0 + 1 * (x 0).val
      omega
    · show 256 + (x 2).val = 256 + (((0 + 1 * (x 1).val)) * 64 + (0 + 1 * (x 2).val))
      omega

/-- The lanes below 64, as a comparison of words. -/
theorem lane_mask : ∀ l : Fin 128, IntOp.cmpi .slt (BitVec.ofNat 32 l.val) 64#32 = if l.val < 64 then 1#1 else 0#1 := by decide

/-- The single store of the second output leaves the indexer's keys twice: the lanes from 64 on are read from the lane 64 below. -/
theorem twice_left (x0 : Vec Ideal S1024x512 .f32) (x1 : Vec Ideal S1024x128 .f32) (r : Fin 1024) (l : Fin 128) :
    out0_3 x0 x1 (ix2 r l) = x1 (ix2 r ⟨l.val % 64, by have := l.isLt; omega⟩) := by
  unfold out0_3
  frame_out
  pointwise [k0_pay5]
  rw [lane_mask]
  by_cases h : l.val < 64
  · rw [if_pos h]
    refine (show Scalar.select (1#1) _ _ = x1 (ix2 r l) from rfl).trans (congrArg (fun q => x1 (ix2 r q)) (Fin.ext ?_))
    dsimp only
    omega
  · rw [if_neg h]
    refine (show Scalar.select (0#1) _ _ = x1 (ix2 r _) from rfl).trans (congrArg (fun q => x1 (ix2 r q)) (Fin.ext ?_))
    have := l.isLt
    dsimp only
    omega

/-- The last output takes the first 64 lanes. -/
theorem index_left (x0 : Vec Ideal S1024x512 .f32) (x1 : Vec Ideal S1024x128 .f32) (r : Fin 1024) (l : Fin 64) :
    out0_6 x0 x1 (ix2 r l) = x1 (ix2 r ⟨l.val, by have := l.isLt; omega⟩) := by
  unfold out0_6
  frame_out
  pointwise [k0_pay15]

/-! ## The arrays after the run -/

variable (m : (ℓ : Loc nD τ sig) → Buf (Elt Ideal) ℓ)

/-- The array both inputs are blocks of. -/
def wide (c : Dev nD) : Cert.Spec.Wide := m ((c : Thread nD τ).loc main_arg0)

/-- The blocks of point `t`: rows `t`, and the columns of the keys and values, or of the indexer's keys. -/
theorem places : ∀ t : Fin cfg0.N, win0_0.index t = ![t.val, 14] ∧ win0_1.index t = ![t.val, 60]
    ∧ win0_2.index t = ![0, t.val, 0] ∧ win0_3.index t = ![t.val, 0] ∧ win0_4.index t = ![t.val, 0, 0]
    ∧ win0_5.index t = ![t.val, 0, 0] ∧ win0_6.index t = ![t.val, 0] := by decide +kernel

/-- The number of grid points. -/
theorem points (t : Fin cfg0.N) : t.val < 8 := t.isLt.trans_eq N_0

/-- Row `r` of the block of rows of point `t`. -/
def rowOf (t : Fin cfg0.N) (r : Fin 1024) : Fin 8192 := ⟨t.val * 1024 + r.val, by have := points t; have := r.isLt; omega⟩

/-- The block of keys and values a point reads, out of the projected array. -/
theorem keys_read (c : Dev nD) (t : Fin cfg0.N) (r : Fin 1024) (q : Fin 512) (n : Nat) (h : 7168 + q.val = n) :
    iblk m c 0 t (ix2 r q) = Cert.Spec.entry (wide m c) (rowOf t r) n := by
  rw [Cert.Spec.entry_of _ _ (⟨7168 + q.val, by have := q.isLt; omega⟩ : Fin 8192) n h]
  obtain ⟨e0, e1, e2, e3, e4, e5, e6⟩ := places t
  unfold iblk wide rowOf
  blk_ext [e0]

/-- The block of index keys a point reads, out of the projected array. -/
theorem index_read (c : Dev nD) (t : Fin cfg0.N) (r : Fin 1024) (q : Fin 128) (n : Nat) (h : 7680 + q.val = n) :
    iblk m c 1 t (ix2 r q) = Cert.Spec.entry (wide m c) (rowOf t r) n := by
  rw [Cert.Spec.entry_of _ _ (⟨7680 + q.val, by have := q.isLt; omega⟩ : Fin 8192) n h]
  obtain ⟨e0, e1, e2, e3, e4, e5, e6⟩ := places t
  unfold iblk wide rowOf
  blk_ext [e1]

/-- The four slabs of keys and values. -/
theorem final_2 (c : Dev nD) : (dats m 0 c).arrAt 2 cfg0.N = Cert.Spec.castPairs (wide m c) := by
  refine (dats m 0 c).arrAt_eq_of_covers 2 _ (by decide +kernel) fun t hf y => ?_
  obtain ⟨e0, e1, e2, e3, e4, e5, e6⟩ := places t
  blk_simp
  rw [after0_2]
  refine (slabs_left _ _ y).trans ((keys_read m c t _ _ _ rfl).trans ?_)
  refine (show _ = Cert.Spec.castPairs (wide m c) (ix3 (y 0) (rowOf t (y 1)) (y 2)) from rfl).trans (congrArg (Cert.Spec.castPairs (wide m c)) ?_)
  unfold rowOf
  blk_ext [e2]

/-- The indexer's keys, twice. -/
theorem final_3 (c : Dev nD) : (dats m 0 c).arrAt 3 cfg0.N = Cert.Spec.castTwice (wide m c) := by
  refine (dats m 0 c).arrAt_eq_of_covers 3 _ (by decide +kernel) fun t hf y => ?_
  obtain ⟨e0, e1, e2, e3, e4, e5, e6⟩ := places t
  blk_simp
  rw [after0_3]
  refine ((congrArg (out0_3 _ _) (eq_ix2 y)).trans (twice_left _ _ (y 0) (y 1))).trans ((index_read m c t _ _ _ rfl).trans ?_)
  refine (show _ = Cert.Spec.castTwice (wide m c) (ix2 (rowOf t (y 0)) (y 1)) from rfl).trans (congrArg (Cert.Spec.castTwice (wide m c)) ?_)
  unfold rowOf
  blk_ext [e3]

/-- The keys. -/
theorem final_4 (c : Dev nD) : (dats m 0 c).arrAt 4 cfg0.N = Cert.Spec.castHeads 7168 (wide m c) := by
  refine (dats m 0 c).arrAt_eq_of_covers 4 _ (by decide +kernel) fun t hf y => ?_
  obtain ⟨e0, e1, e2, e3, e4, e5, e6⟩ := places t
  blk_simp
  rw [after0_4]
  refine (keys_left _ _ y).trans ((keys_read m c t _ _ (7168 + ((y 1).val * 64 + (y 2).val)) (by dsimp only; omega)).trans ?_)
  refine (show _ = Cert.Spec.castHeads 7168 (wide m c) (ix3 (rowOf t (y 0)) (y 1) (y 2)) from rfl).trans (congrArg (Cert.Spec.castHeads 7168 (wide m c)) ?_)
  unfold rowOf
  blk_ext [e4]

/-- The values. -/
theorem final_5 (c : Dev nD) : (dats m 0 c).arrAt 5 cfg0.N = Cert.Spec.castHeads 7424 (wide m c) := by
  refine (dats m 0 c).arrAt_eq_of_covers 5 _ (by decide +kernel) fun t hf y => ?_
  obtain ⟨e0, e1, e2, e3, e4, e5, e6⟩ := places t
  blk_simp
  rw [after0_5]
  refine (values_left _ _ y).trans ((keys_read m c t _ _ (7424 + ((y 1).val * 64 + (y 2).val)) (by dsimp only; omega)).trans ?_)
  refine (show _ = Cert.Spec.castHeads 7424 (wide m c) (ix3 (rowOf t (y 0)) (y 1) (y 2)) from rfl).trans (congrArg (Cert.Spec.castHeads 7424 (wide m c)) ?_)
  unfold rowOf
  blk_ext [e5]

/-- The indexer's keys. -/
theorem final_6 (c : Dev nD) : (dats m 0 c).arrAt 6 cfg0.N = Cert.Spec.castIndex (wide m c) := by
  refine (dats m 0 c).arrAt_eq_of_covers 6 _ (by decide +kernel) fun t hf y => ?_
  obtain ⟨e0, e1, e2, e3, e4, e5, e6⟩ := places t
  blk_simp
  rw [after0_6]
  refine ((congrArg (out0_6 _ _) (eq_ix2 y)).trans (index_left _ _ (y 0) (y 1))).trans ((index_read m c t _ _ _ rfl).trans ?_)
  refine (show _ = Cert.Spec.castIndex (wide m c) (ix2 (rowOf t (y 0)) (y 1)) from rfl).trans (congrArg (Cert.Spec.castIndex (wide m c)) ?_)
  unfold rowOf
  blk_ext [e6]

end Cert.Kernel5Ideal.Hand

end
-- ==== Proof.CastResults.lean ====
/- The results of the cast of the prompt's keys and values: two outputs as they are, three with their rows split by sequence. -/
module

public import proofs.«01_k».proof.Proof.CastValue
public import Idealize.ShloMosaic.Lib.Pointwise

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL.Sem

/-- Splitting the rows by sequence, of four heads. -/
theorem split_heads (off : Nat) (h : Cert.Spec.Wide) :
    shapeCast S1x2x4096x4x64 (show Vec Ideal S8192x4x64 .f32 from Cert.Spec.castHeads off h) shapeCasts_S8192x4x64_S1x2x4096x4x64 = Cert.Spec.layerCastHeads off h := by
  funext i
  have e := eq_ix5 i
  have h0 : (i 0).val < 1 := (i 0).isLt
  have h1 : (i 1).val < 2 := (i 1).isLt
  have h2 : (i 2).val < 4096 := (i 2).isLt
  have h3 : (i 3).val < 4 := (i 3).isLt
  have h4 : (i 4).val < 64 := (i 4).isLt
  rw [e]
  pointwise [Cert.Spec.castHeads, Cert.Spec.layerCastHeads, Cert.Spec.rowAt]

/-- The same of the indexer's keys. -/
theorem split_index (h : Cert.Spec.Wide) :
    shapeCast S1x2x4096x64 (show Vec Ideal S8192x64 .f32 from Cert.Spec.castIndex h) shapeCasts_S8192x64_S1x2x4096x64 = Cert.Spec.layerCastIndex h := by
  funext i
  have e := eq_ix4 i
  have h0 : (i 0).val < 1 := (i 0).isLt
  have h1 : (i 1).val < 2 := (i 1).isLt
  have h2 : (i 2).val < 4096 := (i 2).isLt
  have h3 : (i 3).val < 64 := (i 3).isLt
  rw [e]
  pointwise [Cert.Spec.castIndex, Cert.Spec.layerCastIndex, Cert.Spec.rowAt]

variable (m : (ℓ : Loc nD τ sig) → Buf (Elt Ideal) ℓ)

/-- What the buffers hold when the region is over. -/
def over (c : Dev nD) : Valuation τ sig (Elt Ideal) :=
  Pipeline.withArrays spec0 c (V0 m c) fun w => (dats m 0 c).arrAt w cfg0.N

/-- A window's array among them. -/
theorem over_at (c : Dev nD) (w : Fin 7) : over m c (Proc.devRef .tc (Pipeline.arrRef spec0 w)) = (dats m 0 c).arrAt w cfg0.N :=
  (dats m 0 c).withArrays_arrAt sharedIn0 (V0 m c) (fun w => A_eq m c w) w

/-- Result `k32`. -/
theorem result_keys (c : Dev nD) : Pipeline.afterTail₀ cfgs (dats m) 0 (V0 m) [hostOps1] c main_v1 = Cert.Spec.layerCastHeads 7168 (wide m c) := by
  refine (show _ = shapeCast S1x2x4096x4x64 (show Vec Ideal S8192x4x64 .f32 from over m c (Proc.devRef .tc main_v0_2)) shapeCasts_S8192x4x64_S1x2x4096x4x64 from rfl).trans ?_
  rw [show (show Vec Ideal S8192x4x64 .f32 from over m c (Proc.devRef .tc main_v0_2)) = Cert.Spec.castHeads 7168 (wide m c) from (over_at m c 4).trans (final_4 m c)]
  exact split_heads 7168 (wide m c)

/-- Result `v32`. -/
theorem result_values (c : Dev nD) : Pipeline.afterTail₀ cfgs (dats m) 0 (V0 m) [hostOps1] c main_v2 = Cert.Spec.layerCastHeads 7424 (wide m c) := by
  refine (show _ = shapeCast S1x2x4096x4x64 (show Vec Ideal S8192x4x64 .f32 from over m c (Proc.devRef .tc main_v0_3)) shapeCasts_S8192x4x64_S1x2x4096x4x64 from rfl).trans ?_
  rw [show (show Vec Ideal S8192x4x64 .f32 from over m c (Proc.devRef .tc main_v0_3)) = Cert.Spec.castHeads 7424 (wide m c) from (over_at m c 5).trans (final_5 m c)]
  exact split_heads 7424 (wide m c)

/-- Result `ki32`. -/
theorem result_index (c : Dev nD) : Pipeline.afterTail₀ cfgs (dats m) 0 (V0 m) [hostOps1] c main_v3 = Cert.Spec.layerCastIndex (wide m c) := by
  refine (show _ = shapeCast S1x2x4096x64 (show Vec Ideal S8192x64 .f32 from over m c (Proc.devRef .tc main_v0_4)) shapeCasts_S8192x64_S1x2x4096x64 from rfl).trans ?_
  rw [show (show Vec Ideal S8192x64 .f32 from over m c (Proc.devRef .tc main_v0_4)) = Cert.Spec.castIndex (wide m c) from (over_at m c 6).trans (final_6 m c)]
  exact split_index (wide m c)

end Cert.Kernel5Ideal.Hand

end
-- ==== Proof.CastReference.lean ====
/- The reference of the cast of the prompt's keys and values, result by result. -/
module

public import proofs.«01_k».proof.Proof.CastSpec
public import proofs.«01_k».proof.Proof.Gen.Reference5Ideal.Run
public import Idealize.ShloMosaic.Lib.Pointwise

@[expose] public section

set_option maxRecDepth 16384

noncomputable section

namespace Cert.Reference5Ideal.Hand

open Cert.Reference5Ideal Cert.Reference5Ideal.Gen
open Idealize.ShloMosaic Idealize.ShloMosaic.TcCoe Idealize.ShloMosaic.Tactic

variable (x : Vec Ideal S8192x8192 .f32)

/-- The keys and values side by side, in slabs of 128 columns. -/
theorem result_pairs : (transpose S4x8192x128 [1, 0, 2] (shapeCast S8192x4x128 (truncf (F := Ideal) (φ := .f32) .bf16 (concatenate S8192x512 1 [⟨S8192x256, (extractStridedSlice S8192x256 ![0, 7168] x slices_S8192x8192_S8192x256_0_7168)⟩, ⟨S8192x256, (extractStridedSlice S8192x256 ![0, 7424] x slices_S8192x8192_S8192x256_0_7424)⟩] concatenates_S8192x256_S8192x256_S8192x512_d1) bitsLt_bf16_f32) shapeCasts_S8192x512_S8192x4x128) transposes_S8192x4x128_S4x8192x128_1_0_2)
    = Cert.Spec.castPairs x := by
  funext i
  have e := eq_ix3 i
  have h0 : (i 0).val < 4 := (i 0).isLt
  have h1 : (i 1).val < 8192 := (i 1).isLt
  have h2 : (i 2).val < 128 := (i 2).isLt
  rw [e]
  pointwise [Cert.Spec.castPairs]
  split_ifs with h <;> refine (Cert.Spec.entry_of x _ _ _ ?_).symm <;> dsimp only <;> omega

/-- The indexer's keys beside themselves. -/
theorem result_twice : (truncf (F := Ideal) (φ := .f32) .bf16 (concatenate S8192x128 1 [⟨S8192x64, (extractStridedSlice S8192x64 ![0, 7680] x slices_S8192x8192_S8192x64_0_7680)⟩, ⟨S8192x64, (extractStridedSlice S8192x64 ![0, 7680] x slices_S8192x8192_S8192x64_0_7680)⟩] concatenates_S8192x64_S8192x64_S8192x128_d1) bitsLt_bf16_f32)
    = Cert.Spec.castTwice x := by
  funext i
  have e := eq_ix2 i
  have h1 : (i 1).val < 128 := (i 1).isLt
  rw [e]
  pointwise [Cert.Spec.castTwice]
  split_ifs with h <;> refine (Cert.Spec.entry_of x _ _ _ ?_).symm <;> dsimp only <;> omega

/-- The keys. -/
theorem result_keys : shapeCast S1x2x4096x4x64 (extractStridedSlice S8192x256 ![0, 7168] x slices_S8192x8192_S8192x256_0_7168) shapeCasts_S8192x256_S1x2x4096x4x64
    = Cert.Spec.layerCastHeads 7168 x := by
  funext i
  have e := eq_ix5 i
  have h0 : (i 0).val < 1 := (i 0).isLt
  have h1 : (i 1).val < 2 := (i 1).isLt
  have h2 : (i 2).val < 4096 := (i 2).isLt
  have h3 : (i 3).val < 4 := (i 3).isLt
  have h4 : (i 4).val < 64 := (i 4).isLt
  rw [e]
  pointwise [Cert.Spec.layerCastHeads, Cert.Spec.rowAt]
  exact (Cert.Spec.entry_of x _ _ _ rfl).symm

/-- The values. -/
theorem result_values : shapeCast S1x2x4096x4x64 (extractStridedSlice S8192x256 ![0, 7424] x slices_S8192x8192_S8192x256_0_7424) shapeCasts_S8192x256_S1x2x4096x4x64
    = Cert.Spec.layerCastHeads 7424 x := by
  funext i
  have e := eq_ix5 i
  have h0 : (i 0).val < 1 := (i 0).isLt
  have h1 : (i 1).val < 2 := (i 1).isLt
  have h2 : (i 2).val < 4096 := (i 2).isLt
  have h3 : (i 3).val < 4 := (i 3).isLt
  have h4 : (i 4).val < 64 := (i 4).isLt
  rw [e]
  pointwise [Cert.Spec.layerCastHeads, Cert.Spec.rowAt]
  exact (Cert.Spec.entry_of x _ _ _ rfl).symm

/-- The indexer's keys. -/
theorem result_index : shapeCast S1x2x4096x64 (extractStridedSlice S8192x64 ![0, 7680] x slices_S8192x8192_S8192x64_0_7680) shapeCasts_S8192x64_S1x2x4096x64
    = Cert.Spec.layerCastIndex x := by
  funext i
  have e := eq_ix4 i
  have h0 : (i 0).val < 1 := (i 0).isLt
  have h1 : (i 1).val < 2 := (i 1).isLt
  have h2 : (i 2).val < 4096 := (i 2).isLt
  have h3 : (i 3).val < 64 := (i 3).isLt
  rw [e]
  pointwise [Cert.Spec.layerCastIndex, Cert.Spec.rowAt]
  exact (Cert.Spec.entry_of x _ _ _ rfl).symm

end Cert.Reference5Ideal.Hand

end
-- ==== Proof.CastClaim.lean ====
/- The claims about the cast of the prompt's keys and values: the two runs of the kernel, the reference's, and their common results. -/
module

public import proofs.«01_k».proof.Proof.CastResults
public import proofs.«01_k».proof.Proof.CastReference
public import proofs.«01_k».proof.Proof.Gen.Kernel5.Frame
public import proofs.«01_k».proof.Proof.Gen.Kernel5Ideal.Frame

@[expose] public section

noncomputable section

namespace Cert.Proof.Cast

open Idealize.ShloMosaic Idealize.SL.Sem

/-- The kernel runs, leaves its argument, and ends quiescent. -/
theorem frame_kernel : quiescent_Kernel5 (hKernel5 := Cert.Kernel5.Gen.facts) :=
  fun m ρ _ => Cert.Kernel5.Gen.frame m ρ

/-- So does the kernel over the reals. -/
theorem frame_ideal : quiescent_Kernel5Ideal (hKernel5Ideal := Cert.Kernel5Ideal.Gen.facts) :=
  fun m ρ _ => Cert.Kernel5Ideal.Gen.frame m ρ

/-- So does the reference. -/
theorem frame_reference : quiescent_Reference5Ideal (hReference5Ideal := Cert.Reference5Ideal.Gen.facts) :=
  fun m ρ _ => (θ_run Cert.Reference5Ideal.defs _ _).mono
    (fun r h => ⟨fun c => (h c).2.2.2.2.2, sem_eq_zero_of_no_sems (by decide) r.2⟩)
    (Cert.Reference5Ideal.Value.run (F := Ideal) m ρ)

/-- The argument as the specification takes it. -/
abbrev wide (m : (ℓ : Loc Cert.Kernel5Ideal.nD Cert.Kernel5Ideal.τ Cert.Kernel5Ideal.sig) → Buf (Elt Ideal) ℓ) (c : Dev Cert.Kernel5Ideal.nD) : Cert.Spec.Wide :=
  m ((c.tc : Thread Cert.Kernel5Ideal.nD Cert.Kernel5Ideal.τ).loc Cert.Kernel5Ideal.main_arg0)

/-- Kernel and reference end with the same results: the columns of the projected array, regrouped. -/
theorem value : algebraic_Kernel5Ideal_Reference5Ideal (hKernel5Ideal := Cert.Kernel5Ideal.Gen.facts)
    (hReference5Ideal := Cert.Reference5Ideal.Gen.facts) := by
  intro m g m' g' _ he
  refine ⟨fun c => Cert.Spec.castPairs (wide m c), fun c => Cert.Spec.castTwice (wide m c), fun c => Cert.Spec.layerCastHeads 7168 (wide m c),
    fun c => Cert.Spec.layerCastHeads 7424 (wide m c), fun c => Cert.Spec.layerCastIndex (wide m c), ?_, ?_⟩
  · refine (θ_run Cert.Kernel5Ideal.defs _ _).mono (fun _ h c => ⟨((h.1 c).1 2).trans (Cert.Kernel5Ideal.Hand.final_2 m c),
      ((h.1 c).1 3).trans (Cert.Kernel5Ideal.Hand.final_3 m c),
      ((h.1 c).2 Cert.Kernel5Ideal.main_v1 (Pipeline.mem_restRefs_of Cert.Kernel5Ideal.main_v1 (by decide) (by decide))).trans (Cert.Kernel5Ideal.Hand.result_keys m c),
      ((h.1 c).2 Cert.Kernel5Ideal.main_v2 (Pipeline.mem_restRefs_of Cert.Kernel5Ideal.main_v2 (by decide) (by decide))).trans (Cert.Kernel5Ideal.Hand.result_values m c),
      ((h.1 c).2 Cert.Kernel5Ideal.main_v3 (Pipeline.mem_restRefs_of Cert.Kernel5Ideal.main_v3 (by decide) (by decide))).trans (Cert.Kernel5Ideal.Hand.result_index m c),
      h.2.1 c⟩)
      (θ_run_and (Cert.Kernel5Ideal.Gen.run_main (F := Ideal) m g) (Cert.Kernel5Ideal.Gen.frame (F := Ideal) m g))
  · refine (θ_run Cert.Reference5Ideal.defs _ _).mono (fun _ h c => ?_) (Cert.Reference5Ideal.Value.run (F := Ideal) m' g')
    have e0 := he c
    obtain ⟨h0, h1, h2, h3, h4, ha⟩ := h c
    rw [e0] at h0 h1 h2 h3 h4
    exact ⟨h0.trans (Cert.Reference5Ideal.Hand.result_pairs _),
      h1.trans (Cert.Reference5Ideal.Hand.result_twice _),
      h2.trans (Cert.Reference5Ideal.Hand.result_keys _),
      h3.trans (Cert.Reference5Ideal.Hand.result_values _),
      h4.trans (Cert.Reference5Ideal.Hand.result_index _), ha⟩

end Cert.Proof.Cast

end
-- ==== Proof.MergeSpec.lean ====
/- The merge of the prompt's two branches: the attention's and the pooling's outputs projected, gated, and added. -/
module

public import proofs.«01_k».proof.Proof.CastSpec
public import Idealize.ShloMosaic.Lib.Pointwise

@[expose] public section

noncomputable section

namespace Cert.Spec

open Idealize.ShloMosaic

/-- A branch: 1024 features of each position. -/
abbrev Branch : Type := (⟨2, ![8192, 1024]⟩ : Shape).Idx → EReal

/-- The weights of a branch's projection, with their leading axis of one layer. -/
abbrev BranchWeights : Type := (⟨3, ![1, 1024, 2048]⟩ : Shape).Idx → EReal

/-- A branch projected: position `r` against column `q` of its weights. -/
def branch (x : Branch) (w : BranchWeights) (r : Fin 8192) (q : Fin 2048) : EReal :=
  ∑ k : Fin 1024, x (ix2 r k) * w (ix3 0 k q)

/-- The gate's logistic function. -/
def gateOf (z : EReal) : EReal := Ideal.logistic z

/-- Both branches projected, each scaled by the logistic of its own gate, columns 3072 and 5120 on of the projected array. -/
def merged (att pool : Branch) (h : Wide) (wa wb : BranchWeights) : (⟨2, ![8192, 2048]⟩ : Shape).Idx → EReal :=
  fun i => gateOf (entry h (i 0) (3072 + (i 1).val)) * branch att wa (i 0) (i 1)
    + gateOf (entry h (i 0) (5120 + (i 1).val)) * branch pool wb (i 0) (i 1)

end Cert.Spec

end
-- ==== Proof.MergeValue.lean ====
/- The merge of the prompt's two branches over the reals: what a point leaves in its block, and the array after the run. -/
module

public import proofs.«01_k».proof.Defs
public import proofs.«01_k».proof.Proof.MergeSpec
public import proofs.«01_k».proof.Proof.Gen.Kernel6Ideal.Frame
public import Idealize.ShloMosaic.Lib.Claim
public import Idealize.ShloMosaic.Lib.Pointwise
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Acc
public import Idealize.ShloMosaic.Lib.Pipeline.ValueKit.Point
public import Idealize.ShloMosaic.Lib.StableHlo.Run
public import Idealize.ShloMosaic.Lib.Tactic

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL.Sem
open Idealize.ShloMosaic.Pipeline (Dat Cfg Window)

/-- The payload at row `r` and column `q`: two products, each times the logistic of its gate, added. -/
theorem pay_apply (x : Vec Ideal S512x1024 .bf16) (u : Vec Ideal S1024x512 .bf16) (y : Vec Ideal S512x1024 .bf16) (v : Vec Ideal S1024x512 .bf16)
    (a b : Vec Ideal S512x512 .f32) (r q : Fin 512) :
    k0_pay1 x u y v a b (ix2 r q)
      = (Cert.Spec.gateOf (a (ix2 r q)) * (∑ k : Fin 1024, x (ix2 r k) * u (ix2 k q))
        + Cert.Spec.gateOf (b (ix2 r q)) * (∑ k : Fin 1024, y (ix2 r k) * v (ix2 k q)) : EReal) := by
  pointwise [k0_pay1, Cert.Spec.gateOf]

/-- The single store of a point leaves the payload of its six blocks. -/
theorem block_left (x0 x1 : Vec Ideal S512x1024 .bf16) (x2 x3 : Vec Ideal S1024x512 .bf16) (x4 x5 : Vec Ideal S512x512 .f32) :
    out0_6 x0 x1 x2 x3 x4 x5 = k0_pay1 x0 x2 x1 x3 x4 x5 := by
  unfold out0_6
  frame_out

/-! ## What the region finds -/

variable (m : (ℓ : Loc nD τ sig) → Buf (Elt Ideal) ℓ)

/-- The arguments. -/
def att (c : Dev nD) : Cert.Spec.Branch := m ((c : Thread nD τ).loc main_arg0)
def pool (c : Dev nD) : Cert.Spec.Branch := m ((c : Thread nD τ).loc main_arg1)
def wide (c : Dev nD) : Cert.Spec.Wide := m ((c : Thread nD τ).loc main_arg2)
def attWeights (c : Dev nD) : Cert.Spec.BranchWeights := m ((c : Thread nD τ).loc main_arg3)
def poolWeights (c : Dev nD) : Cert.Spec.BranchWeights := m ((c : Thread nD τ).loc main_arg4)

/-- The weights of a layer, cast. -/
def cast (w : Vec Ideal S1x1024x2048 .f32) : Vec Ideal S1024x2048 .bf16 :=
  truncf (F := Ideal) (φ := .f32) .bf16 (shapeCast S1024x2048 w shapeCasts_S1x1024x2048_S1024x2048) bitsLt_bf16_f32

/-- The cast weights at an index. -/
theorem cast_apply (w : Vec Ideal S1x1024x2048 .f32) (k : Fin 1024) (q : Fin 2048) : cast w (ix2 k q) = w (ix3 0 k q) := by
  pointwise [cast]

/-- The attention's weights as the region finds them. -/
theorem found_att (c : Dev nD) : V m c main_v1 = cast (m ((c : Thread nD τ).loc main_arg3)) := by
  entry_read
  rfl

/-- The pooling's weights as the region finds them. -/
theorem found_pool (c : Dev nD) : V m c main_v3 = cast (m ((c : Thread nD τ).loc main_arg4)) := by
  entry_read
  rfl

/-! ## The blocks of a point -/

/-- The blocks of point `t`: rows `t / 4`, and columns `t % 4` of the weights, of either gate, and of the result. -/
theorem places : ∀ t : Fin cfg0.N, win0_0.index t = ![t.val / 4, 0] ∧ win0_1.index t = ![t.val / 4, 0]
    ∧ win0_2.index t = ![0, t.val % 4] ∧ win0_3.index t = ![0, t.val % 4] ∧ win0_4.index t = ![t.val / 4, 6 + t.val % 4]
    ∧ win0_5.index t = ![t.val / 4, 10 + t.val % 4] ∧ win0_6.index t = ![t.val / 4, t.val % 4] := by decide +kernel

/-- The number of grid points. -/
theorem points (t : Fin cfg0.N) : t.val < 64 := t.isLt.trans_eq N_0

/-- Row `r` of the block of rows of point `t`, and column `q` of its block of columns. -/
def rowOf (t : Fin cfg0.N) (r : Fin 512) : Fin 8192 := ⟨t.val / 4 * 512 + r.val, by have := points t; have := r.isLt; omega⟩
def colOf (t : Fin cfg0.N) (q : Fin 512) : Fin 2048 := ⟨t.val % 4 * 512 + q.val, by have := q.isLt; omega⟩

/-- The block of the attention's rows at a point. -/
theorem att_read (c : Dev nD) (t : Fin cfg0.N) (r : Fin 512) (k : Fin 1024) :
    iblk m c 0 t (ix2 r k) = att m c (ix2 (rowOf t r) k) := by
  obtain ⟨e0, e1, e2, e3, e4, e5, e6⟩ := places t
  unfold iblk att rowOf
  blk_ext [e0]

/-- The block of the pooling's rows at a point. -/
theorem pool_read (c : Dev nD) (t : Fin cfg0.N) (r : Fin 512) (k : Fin 1024) :
    iblk m c 1 t (ix2 r k) = pool m c (ix2 (rowOf t r) k) := by
  obtain ⟨e0, e1, e2, e3, e4, e5, e6⟩ := places t
  unfold iblk pool rowOf
  blk_ext [e1]

/-- The two arrays of cast weights. -/
def castAtt (c : Dev nD) : Vec Ideal S1024x2048 .bf16 := V m c main_v1
def castPool (c : Dev nD) : Vec Ideal S1024x2048 .bf16 := V m c main_v3

/-- The block of the attention's cast weights at a point. -/
theorem attWeights_block (c : Dev nD) (t : Fin cfg0.N) (k : Fin 1024) (q : Fin 512) :
    iblk m c 2 t (ix2 k q) = castAtt m c (ix2 k (colOf t q)) := by
  obtain ⟨e0, e1, e2, e3, e4, e5, e6⟩ := places t
  unfold iblk castAtt colOf
  blk_ext [e2]

/-- The block of the pooling's cast weights at a point. -/
theorem poolWeights_block (c : Dev nD) (t : Fin cfg0.N) (k : Fin 1024) (q : Fin 512) :
    iblk m c 3 t (ix2 k q) = castPool m c (ix2 k (colOf t q)) := by
  obtain ⟨e0, e1, e2, e3, e4, e5, e6⟩ := places t
  unfold iblk castPool colOf
  blk_ext [e3]

/-- The same, as entries of the argument. -/
theorem attWeights_read (c : Dev nD) (t : Fin cfg0.N) (k : Fin 1024) (q : Fin 512) :
    iblk m c 2 t (ix2 k q) = attWeights m c (ix3 0 k (colOf t q)) :=
  (attWeights_block m c t k q).trans ((congrFun (found_att m c) (ix2 k (colOf t q))).trans (cast_apply _ k (colOf t q)))

/-- The same, as entries of the argument. -/
theorem poolWeights_read (c : Dev nD) (t : Fin cfg0.N) (k : Fin 1024) (q : Fin 512) :
    iblk m c 3 t (ix2 k q) = poolWeights m c (ix3 0 k (colOf t q)) :=
  (poolWeights_block m c t k q).trans ((congrFun (found_pool m c) (ix2 k (colOf t q))).trans (cast_apply _ k (colOf t q)))

/-- The block of the attention's gates at a point. -/
theorem attGate_read (c : Dev nD) (t : Fin cfg0.N) (r q : Fin 512) :
    iblk m c 4 t (ix2 r q) = Cert.Spec.entry (wide m c) (rowOf t r) (3072 + (colOf t q).val) := by
  rw [Cert.Spec.entry_of _ _ (⟨3072 + (t.val % 4 * 512 + q.val), by have := q.isLt; omega⟩ : Fin 8192) (3072 + (colOf t q).val) rfl]
  obtain ⟨e0, e1, e2, e3, e4, e5, e6⟩ := places t
  unfold iblk wide rowOf
  blk_ext [e4]

/-- The block of the pooling's gates at a point. -/
theorem poolGate_read (c : Dev nD) (t : Fin cfg0.N) (r q : Fin 512) :
    iblk m c 5 t (ix2 r q) = Cert.Spec.entry (wide m c) (rowOf t r) (5120 + (colOf t q).val) := by
  rw [Cert.Spec.entry_of _ _ (⟨5120 + (t.val % 4 * 512 + q.val), by have := q.isLt; omega⟩ : Fin 8192) (5120 + (colOf t q).val) rfl]
  obtain ⟨e0, e1, e2, e3, e4, e5, e6⟩ := places t
  unfold iblk wide rowOf
  blk_ext [e5]

/-! ## The array after the run -/

/-- What the region is to leave in the result array. -/
def full (c : Dev nD) : Vec Ideal S8192x2048 .bf16 :=
  Cert.Spec.merged (att m c) (pool m c) (wide m c) (attWeights m c) (poolWeights m c)

/-- A point leaves its block of `full`. -/
theorem point_eq (c : Dev nD) (t : Fin cfg0.N) (r q : Fin 512) :
    k0_pay1 (iblk m c 0 t) (iblk m c 2 t) (iblk m c 1 t) (iblk m c 3 t) (iblk m c 4 t) (iblk m c 5 t) (ix2 r q)
      = full m c (ix2 (rowOf t r) (colOf t q)) := by
  refine (pay_apply _ _ _ _ _ _ r q).trans ?_
  refine congrArg₂ (fun a b : EReal => a + b)
    (congrArg₂ (fun a b : EReal => a * b) (congrArg Cert.Spec.gateOf (attGate_read m c t r q)) (Finset.sum_congr rfl fun k _ => ?_))
    (congrArg₂ (fun a b : EReal => a * b) (congrArg Cert.Spec.gateOf (poolGate_read m c t r q)) (Finset.sum_congr rfl fun k _ => ?_))
  · exact congrArg₂ (fun a b : EReal => a * b) (att_read m c t r k) (attWeights_read m c t k q)
  · exact congrArg₂ (fun a b : EReal => a * b) (pool_read m c t r k) (poolWeights_read m c t k q)

/-- After the run the result array is `full`. -/
theorem final_6 (c : Dev nD) : (dats m 0 c).arrAt 6 cfg0.N = full m c := by
  refine (dats m 0 c).arrAt_eq_of_covers 6 _ (by decide +kernel) fun t hf y => ?_
  obtain ⟨e0, e1, e2, e3, e4, e5, e6⟩ := places t
  blk_simp
  rw [after0_6, block_left]
  refine ((congrArg (k0_pay1 _ _ _ _ _ _) (eq_ix2 y)).trans (point_eq m c t (y 0) (y 1))).trans (congrArg (full m c) ?_)
  unfold rowOf colOf
  blk_ext [e6]

end Cert.Kernel6Ideal.Hand

end
-- ==== Proof.MergeReference.lean ====
/- The reference of the merge of the prompt's two branches, at an index. -/
module

public import proofs.«01_k».proof.Proof.MergeSpec
public import proofs.«01_k».proof.Proof.Gen.Reference6Ideal.Run
public import Idealize.ShloMosaic.Lib.IdealHost
public import Idealize.ShloMosaic.Lib.Pointwise

@[expose] public section

set_option maxRecDepth 16384

noncomputable section

namespace Cert.Reference6Ideal.Hand

open Cert.Reference6Ideal Cert.Reference6Ideal.Gen
open Idealize.ShloMosaic Idealize.ShloMosaic.TcCoe Idealize.ShloMosaic.Tactic

/-- One divided by one plus the exponential of the opposite, column by column from `off` on. -/
def gates (off : Nat) (hs : S8192x8192.Slices ![0, off] S8192x2048) (h : Vec Ideal S8192x8192 .f32) : Vec Ideal S8192x2048 .f32 :=
  Host.divf (F := Ideal) (φ := .f32) (broadcastInDim S8192x2048 ![] bcast_S_S8192x2048 (constant (F := Ideal) S_ .f32 0x3F800000#32))
    (addf (F := Ideal) (φ := .f32) (broadcastInDim S8192x2048 ![] bcast_S_S8192x2048 (constant (F := Ideal) S_ .f32 0x3F800000#32))
      (Host.exp (F := Ideal) (φ := .f32) (Host.negf (F := Ideal) (φ := .f32) (extractStridedSlice S8192x2048 ![0, off] h hs))))

/-- It is the logistic function. -/
theorem gates_attention (h : Vec Ideal S8192x8192 .f32) (r : Fin 8192) (q : Fin 2048) :
    gates 3072 slices_S8192x8192_S8192x2048_0_3072 h (ix2 r q) = Cert.Spec.gateOf (Cert.Spec.entry h r (3072 + q.val)) := by
  rw [Cert.Spec.entry_of h r (⟨3072 + q.val, by have := q.isLt; omega⟩ : Fin 8192) _ rfl]
  pointwise [gates, Cert.Spec.gateOf, Ideal.logistic, Ideal.ofBits_one_f32]

/-- The pooling's gates: the logistic of the projected array's columns from 5120 on. -/
theorem gates_pool (h : Vec Ideal S8192x8192 .f32) (r : Fin 8192) (q : Fin 2048) :
    gates 5120 slices_S8192x8192_S8192x2048_0_5120 h (ix2 r q) = Cert.Spec.gateOf (Cert.Spec.entry h r (5120 + q.val)) := by
  rw [Cert.Spec.entry_of h r (⟨5120 + q.val, by have := q.isLt; omega⟩ : Fin 8192) _ rfl]
  pointwise [gates, Cert.Spec.gateOf, Ideal.logistic, Ideal.ofBits_one_f32]

/-- A branch's projection as the reference writes it. -/
def projected (x : Vec Ideal S8192x1024 .bf16) (w : Vec Ideal S1x1024x2048 .f32) : Vec Ideal S8192x2048 .f32 :=
  Host.dotGeneral (F := Ideal) (φ₁ := .f32) (φ₂ := .f32) dot_S8192x1024_S1024x2048_S8192x2048_1_0_0_1_n_n none
    (extf (F := Ideal) (φ := .bf16) .f32 x bitsLt_bf16_f32) (shapeCast S1024x2048 w shapeCasts_S1x1024x2048_S1024x2048)

/-- A branch against its weights, at an index. -/
theorem projected_apply (x : Vec Ideal S8192x1024 .bf16) (w : Vec Ideal S1x1024x2048 .f32) (r : Fin 8192) (q : Fin 2048) :
    projected x w (ix2 r q) = Cert.Spec.branch x w r q := by
  pointwise [projected, Cert.Spec.branch]

/-- The reference's result as a function of its arguments. -/
def value (att pool : Vec Ideal S8192x1024 .bf16) (h : Vec Ideal S8192x8192 .f32) (wa wb : Vec Ideal S1x1024x2048 .f32) : Vec Ideal S8192x2048 .bf16 :=
  truncf (F := Ideal) (φ := .f32) .bf16
    (addf (F := Ideal) (φ := .f32)
      (mulf (F := Ideal) (φ := .f32) (gates 3072 slices_S8192x8192_S8192x2048_0_3072 h) (projected att wa))
      (mulf (F := Ideal) (φ := .f32) (gates 5120 slices_S8192x8192_S8192x2048_0_5120 h) (projected pool wb))) bitsLt_bf16_f32

/-- The reference's result: both branches projected, gated, and added. -/
theorem value_eq (att pool : Vec Ideal S8192x1024 .bf16) (h : Vec Ideal S8192x8192 .f32) (wa wb : Vec Ideal S1x1024x2048 .f32) :
    value att pool h wa wb = Cert.Spec.merged att pool h wa wb := by
  funext i
  obtain ⟨r, q, rfl⟩ : ∃ (r : Fin 8192) (q : Fin 2048), i = ix2 r q := ⟨i 0, i 1, eq_ix2 i⟩
  pointwise [value]
  rw [gates_attention, gates_pool, projected_apply, projected_apply]
  rfl

end Cert.Reference6Ideal.Hand

end
-- ==== Proof.MergeClaim.lean ====
/- The claims about the merge of the prompt's two branches: the two runs of the kernel, the reference's, and their common result. -/
module

public import proofs.«01_k».proof.Proof.MergeValue
public import proofs.«01_k».proof.Proof.MergeReference
public import proofs.«01_k».proof.Proof.Gen.Kernel6.Frame
public import proofs.«01_k».proof.Proof.Gen.Kernel6Ideal.Frame

@[expose] public section

noncomputable section

namespace Cert.Proof.Merge

open Idealize.ShloMosaic Idealize.SL.Sem

/-- The kernel runs, leaves its arguments, and ends quiescent. -/
theorem frame_kernel : quiescent_Kernel6 (hKernel6 := Cert.Kernel6.Gen.facts) :=
  fun m ρ _ => Cert.Kernel6.Gen.frame m ρ

/-- So does the kernel over the reals. -/
theorem frame_ideal : quiescent_Kernel6Ideal (hKernel6Ideal := Cert.Kernel6Ideal.Gen.facts) :=
  fun m ρ _ => Cert.Kernel6Ideal.Gen.frame m ρ

/-- So does the reference. -/
theorem frame_reference : quiescent_Reference6Ideal (hReference6Ideal := Cert.Reference6Ideal.Gen.facts) :=
  fun m ρ _ => (θ_run Cert.Reference6Ideal.defs _ _).mono
    (fun r h => ⟨fun c => (h c).2, sem_eq_zero_of_no_sems (by decide) r.2⟩)
    (Cert.Reference6Ideal.Value.run (F := Ideal) m ρ)

/-- Kernel and reference end with the same result: both branches projected, gated, and added. -/
theorem value : algebraic_Kernel6Ideal_Reference6Ideal (hKernel6Ideal := Cert.Kernel6Ideal.Gen.facts)
    (hReference6Ideal := Cert.Reference6Ideal.Gen.facts) := by
  intro m g m' g' _ he
  refine ⟨fun c => Cert.Kernel6Ideal.Hand.full m c, ?_, ?_⟩
  · exact (θ_run Cert.Kernel6Ideal.defs _ _).mono (fun _ h c => ⟨((h.1 c).1 6).trans (Cert.Kernel6Ideal.Hand.final_6 m c), h.2.1 c⟩)
      (θ_run_and (Cert.Kernel6Ideal.Gen.run_main (F := Ideal) m g) (Cert.Kernel6Ideal.Gen.frame (F := Ideal) m g))
  · refine (θ_run Cert.Reference6Ideal.defs _ _).mono (fun _ h c => ⟨(h c).1.trans ?_, (h c).2⟩)
      (Cert.Reference6Ideal.Value.run (F := Ideal) m' g')
    obtain ⟨e0, e1, e2, e3, e4⟩ := he c
    rw [e0, e1, e2, e3, e4]
    exact Cert.Reference6Ideal.Hand.value_eq _ _ _ _ _

end Cert.Proof.Merge

end
-- ==== Proof.PoolSpec.lean ====
/- The pooling of the prompt: means over trailing windows less the position itself, mixed within a group and scaled. -/
module

public import proofs.«01_k».proof.Proof.CastSpec
public import Idealize.ShloMosaic.Lib.Pointwise

@[expose] public section

noncomputable section

namespace Cert.Spec

open Idealize.ShloMosaic

/-- The mixing matrices of the four groups, with a leading axis of one layer. -/
abbrev PoolWeights : Type := (⟨4, ![1, 4, 256, 256]⟩ : Shape).Idx → EReal

/-- The scale of each pooled column, likewise. -/
abbrev PoolScale : Type := (⟨2, ![1, 1024]⟩ : Shape).Idx → EReal

/-- The pooled column `q` of sequence `b`, `j` positions before position `s`: zero before the sequence begins. The pooled
    columns are those from 2048 on of the projected array. -/
def token (h : Wide) (b s j q : Nat) : EReal :=
  if e : j ≤ s ∧ b * 4096 + s < 8192 ∧ q < 1024 then h (ix2 ⟨b * 4096 + (s - j), by omega⟩ ⟨2048 + q, by omega⟩) else 0

/-- The width of the window of group `g`: two, four, eight, sixteen. -/
def width (g : Nat) : Nat := 2 ^ (g + 1)

/-- The sum of the last `w` positions. -/
def window (h : Wide) (w b s q : Nat) : EReal := ∑ j ∈ Finset.range w, token h b s j q

/-- How many of them there are: fewer than `w` where the sequence has just begun. -/
def count (w s : Nat) : EReal := ((min w (s + 1) : ℕ) : ℝ)

/-- The mean of the window of group `g` less the position itself, at column `k` of the group. -/
def deviation (h : Wide) (g b s k : Nat) : EReal :=
  Ideal.div (window h (width g) b s (g * 256 + k)) (count (width g) s) - token h b s 0 (g * 256 + k)

/-- The pooling's result at column `q` of group `g`: the deviations against a column of the group's matrix, scaled. -/
def pooledAt (h : Wide) (w : PoolWeights) (sc : PoolScale) (b s : Nat) (g : Fin 4) (q : Fin 256) : EReal :=
  (∑ k : Fin 256, deviation h g.val b s k.val * w (ix4 0 g k q))
    * sc (ix2 0 ⟨g.val * 256 + q.val, by have := g.isLt; have := q.isLt; omega⟩)

/-- The whole result, the rows of both sequences one below the other. -/
def pooled (h : Wide) (w : PoolWeights) (sc : PoolScale) : (⟨2, ![8192, 1024]⟩ : Shape).Idx → EReal :=
  fun i => pooledAt h w sc ((i 0).val / 4096) ((i 0).val % 4096)
    ⟨(i 1).val / 256, by have h : (i 1).val < 1024 := (i 1).isLt; omega⟩ ⟨(i 1).val % 256, Nat.mod_lt _ (by decide)⟩

/-- The count as a machine word: the lesser of the width and the position's number from one. -/
theorem count_word (w s : Nat) (hw : w ≤ 16) (hs : s < 4096) :
    (((IntOp.minsi (BitVec.ofNat 32 w) (BitVec.ofNat 32 s + 1#32)).toInt : ℝ) : EReal) = count w s := by
  have e : BitVec.ofNat 32 s + 1#32 = BitVec.ofNat 32 (s + 1) := by
    apply BitVec.eq_of_toNat_eq
    simp
  have lo : ∀ n : Nat, n < 4097 → (BitVec.ofNat 32 n).toInt = (n : Int) := by
    intro n hn
    rw [BitVec.toInt_eq_toNat_of_lt (by rw [BitVec.toNat_ofNat]; omega), BitVec.toNat_ofNat, Nat.mod_eq_of_lt (by omega)]
  have key : (IntOp.minsi (BitVec.ofNat 32 w) (BitVec.ofNat 32 (s + 1))).toInt = ((min w (s + 1) : ℕ) : Int) := by
    unfold IntOp.minsi
    rw [BitVec.slt_eq_decide, lo w (by omega), lo (s + 1) (by omega)]
    by_cases h : (w : Int) < ((s + 1 : ℕ) : Int)
    · rw [if_pos (decide_eq_true h), lo w (by omega)]
      omega
    · rw [if_neg (by simpa using h), lo (s + 1) (by omega)]
      omega
  rw [e, key, Int.cast_natCast]
  rfl

end Cert.Spec

end
-- ==== Proof.PoolValue.lean ====
/- The pooling of the prompt over the reals: what a point leaves in its block, and the array after the run. -/
module

public import proofs.«01_k».proof.Defs
public import proofs.«01_k».proof.Proof.PoolSpec
public import proofs.«01_k».proof.Proof.Gen.Kernel7Ideal.Frame
public import Idealize.ShloMosaic.Lib.Claim
public import Idealize.ShloMosaic.Lib.Pointwise
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Acc
public import Idealize.ShloMosaic.Lib.Pipeline.ValueKit.Point
public import Idealize.ShloMosaic.Lib.StableHlo.Run
public import Idealize.ShloMosaic.Lib.Tactic

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL.Sem
open Idealize.ShloMosaic.Pipeline (Dat Cfg Window)

/-! ## Window sums by doubling -/

/-- Where rows hold sums over `w` rows back, those rows plus the rows `w` further back hold sums over twice as many. -/
theorem double (w : Nat) (x y : Vec Ideal S528x256 .f32) (z : Nat → Fin 256 → EReal)
    (hx : ∀ (n : Fin 528) (q : Fin 256), w ≤ n.val + 1 → x (ix2 n q) = ∑ j ∈ Finset.range w, z (n.val - j) q)
    (hy : ∀ (n : Fin 528) (q : Fin 256), w ≤ n.val → y (ix2 n q) = (x (ix2 n q) + x (ix2 ⟨n.val - w, by have := n.isLt; omega⟩ q) : EReal))
    (n : Fin 528) (q : Fin 256) (hn : w + w ≤ n.val + 1) :
    y (ix2 n q) = ∑ j ∈ Finset.range (w + w), z (n.val - j) q := by
  rw [hy n q (by omega), hx n q (by omega), hx _ q (by dsimp only; omega), Finset.sum_range_add]
  refine congrArg (fun a : EReal => _ + a) (Finset.sum_congr rfl fun j _ => ?_)
  rw [Nat.sub_sub]

/-- Each row plus the one 1 before it, around the end. -/
def plus1 (x : Vec Ideal S528x256 .f32) : Vec Ideal S528x256 .f32 :=
  addf (F := Ideal) (φ := .f32) x (dynamicRotate 0 1#32 none x rotates_S528x256_d0)

/-- From row 1 on no row comes from around the end. -/
theorem plus1_apply (x : Vec Ideal S528x256 .f32) (n : Fin 528) (q : Fin 256) (hn : 1 ≤ n.val) :
    plus1 x (ix2 n q) = (x (ix2 n q) + x (ix2 ⟨n.val - 1, by have := n.isLt; omega⟩ q) : EReal) := by
  have h := n.isLt
  pointwise [plus1]
  refine congrArg (fun a : EReal => _ + a) (congrArg x (congrArg₂ ix2 (Fin.ext ?_) rfl))
  show (n.val + 528 - 1) % 528 = n.val - 1
  omega

/-- Each row plus the one 2 before it, around the end. -/
def plus2 (x : Vec Ideal S528x256 .f32) : Vec Ideal S528x256 .f32 :=
  addf (F := Ideal) (φ := .f32) x (dynamicRotate 0 2#32 none x rotates_S528x256_d0)

/-- From row 2 on no row comes from around the end. -/
theorem plus2_apply (x : Vec Ideal S528x256 .f32) (n : Fin 528) (q : Fin 256) (hn : 2 ≤ n.val) :
    plus2 x (ix2 n q) = (x (ix2 n q) + x (ix2 ⟨n.val - 2, by have := n.isLt; omega⟩ q) : EReal) := by
  have h := n.isLt
  pointwise [plus2]
  refine congrArg (fun a : EReal => _ + a) (congrArg x (congrArg₂ ix2 (Fin.ext ?_) rfl))
  show (n.val + 528 - 2) % 528 = n.val - 2
  omega

/-- Each row plus the one 4 before it, around the end. -/
def plus4 (x : Vec Ideal S528x256 .f32) : Vec Ideal S528x256 .f32 :=
  addf (F := Ideal) (φ := .f32) x (dynamicRotate 0 4#32 none x rotates_S528x256_d0)

/-- From row 4 on no row comes from around the end. -/
theorem plus4_apply (x : Vec Ideal S528x256 .f32) (n : Fin 528) (q : Fin 256) (hn : 4 ≤ n.val) :
    plus4 x (ix2 n q) = (x (ix2 n q) + x (ix2 ⟨n.val - 4, by have := n.isLt; omega⟩ q) : EReal) := by
  have h := n.isLt
  pointwise [plus4]
  refine congrArg (fun a : EReal => _ + a) (congrArg x (congrArg₂ ix2 (Fin.ext ?_) rfl))
  show (n.val + 528 - 4) % 528 = n.val - 4
  omega

/-- Each row plus the one 8 before it, around the end. -/
def plus8 (x : Vec Ideal S528x256 .f32) : Vec Ideal S528x256 .f32 :=
  addf (F := Ideal) (φ := .f32) x (dynamicRotate 0 8#32 none x rotates_S528x256_d0)

/-- From row 8 on no row comes from around the end. -/
theorem plus8_apply (x : Vec Ideal S528x256 .f32) (n : Fin 528) (q : Fin 256) (hn : 8 ≤ n.val) :
    plus8 x (ix2 n q) = (x (ix2 n q) + x (ix2 ⟨n.val - 8, by have := n.isLt; omega⟩ q) : EReal) := by
  have h := n.isLt
  pointwise [plus8]
  refine congrArg (fun a : EReal => _ + a) (congrArg x (congrArg₂ ix2 (Fin.ext ?_) rfl))
  show (n.val + 528 - 8) % 528 = n.val - 8
  omega

/-- The sums over two, four, eight and sixteen rows back. -/
def two (x : Vec Ideal S528x256 .f32) : Vec Ideal S528x256 .f32 := plus1 x
def four (x : Vec Ideal S528x256 .f32) : Vec Ideal S528x256 .f32 := plus2 (two x)
def eight (x : Vec Ideal S528x256 .f32) : Vec Ideal S528x256 .f32 := plus4 (four x)
def sixteen (x : Vec Ideal S528x256 .f32) : Vec Ideal S528x256 .f32 := plus8 (eight x)

section Sums

variable (x : Vec Ideal S528x256 .f32) (z : Nat → Fin 256 → EReal) (hx : ∀ (n : Fin 528) (q : Fin 256), x (ix2 n q) = z n.val q)

include hx

/-- They are sums over two rows back, wherever there are as many. -/
theorem two_apply (n : Fin 528) (q : Fin 256) (hn : 1 + 1 ≤ n.val + 1) : two x (ix2 n q) = ∑ j ∈ Finset.range 2, z (n.val - j) q :=
  double 1 x (two x) z (fun n q _ => by rw [hx, Finset.sum_range_one]; rfl) (fun n q h => plus1_apply x n q h) n q hn

/-- They are sums over four rows back, wherever there are as many. -/
theorem four_apply (n : Fin 528) (q : Fin 256) (hn : 2 + 2 ≤ n.val + 1) : four x (ix2 n q) = ∑ j ∈ Finset.range 4, z (n.val - j) q :=
  double 2 (two x) (four x) z (fun n q h => two_apply x z hx n q h) (fun n q h => plus2_apply (two x) n q h) n q hn

/-- They are sums over eight rows back, wherever there are as many. -/
theorem eight_apply (n : Fin 528) (q : Fin 256) (hn : 4 + 4 ≤ n.val + 1) : eight x (ix2 n q) = ∑ j ∈ Finset.range 8, z (n.val - j) q :=
  double 4 (four x) (eight x) z (fun n q h => four_apply x z hx n q h) (fun n q h => plus4_apply (four x) n q h) n q hn

/-- They are sums over sixteen rows back, wherever there are as many. -/
theorem sixteen_apply (n : Fin 528) (q : Fin 256) (hn : 8 + 8 ≤ n.val + 1) : sixteen x (ix2 n q) = ∑ j ∈ Finset.range 16, z (n.val - j) q :=
  double 8 (eight x) (sixteen x) z (fun n q h => eight_apply x z hx n q h) (fun n q h => plus8_apply (eight x) n q h) n q hn

end Sums

/-! ## The payloads -/

/-- The positions' numbers from one, as words, from the words of the positions. -/
def countWords (v : BitVec 32) (p : IVec S512x1 32) : Vec Ideal S512x1 .f32 :=
  sitofp (F := Ideal) .f32 (minsi (broadcast S512x1 v) (addi p (broadcast S512x1 1#32)))

/-- The mean of a window less the rows themselves, against a group's matrix, scaled. -/
def mixed (d v : Vec Ideal S512x256 .f32) (n : Vec Ideal S512x1 .f32) (w : Vec Ideal S1x256x256 .bf16) (sc : Vec Ideal S1x256 .f32) :
    Vec Ideal S512x256 .bf16 :=
  truncf (F := Ideal) (φ := .f32) .bf16
    (mulf (F := Ideal) (φ := .f32)
      (matmul (F := Ideal) (φ₁ := .bf16) (φ₂ := .bf16) dot_S512x256_S256x256_S512x256_1_0_0_1_n_n none
        (truncf (F := Ideal) (φ := .f32) .bf16
          (subf (F := Ideal) (φ := .f32) (divf (F := Ideal) (φ := .f32) d (broadcastTo S512x256 n broadcasts_S512x1_S512x256)) v) bitsLt_bf16_f32)
        (shapeCast S256x256 w shapeCasts_S1x256x256_S256x256) (constant (F := Ideal) S512x256 .f32 0x00000000#32))
      (broadcastTo S512x256 (shapeCast S1x256 sc shapeCasts_S1x256_S1x256) broadcasts_S1x256_S512x256))
    bitsLt_bf16_f32

/-- The same at an index: a sum of products, scaled. -/
theorem mixed_apply (d v : Vec Ideal S512x256 .f32) (n : Vec Ideal S512x1 .f32) (w : Vec Ideal S1x256x256 .bf16) (sc : Vec Ideal S1x256 .f32)
    (r : Fin 512) (q : Fin 256) :
    mixed d v n w sc (ix2 r q)
      = ((∑ k : Fin 256, (Ideal.div (d (ix2 r k)) (n (ix2 r 0)) - v (ix2 r k)) * w (ix3 0 k q)) * sc (ix2 0 q) : EReal) := by
  pointwise [mixed]

/-- The last 512 of the rows. -/
def last (x : Vec Ideal S528x256 .f32) : Vec Ideal S512x256 .f32 := extractStridedSlice S512x256 ![16, 0] x slices_S528x256_o16_0_S512x256

/-- The last 512 rows, at an index. -/
theorem last_apply (x : Vec Ideal S528x256 .f32) (r : Fin 512) (q : Fin 256) :
    last x (ix2 r q) = x (ix2 ⟨16 + r.val, by have := r.isLt; omega⟩ q) := by
  pointwise [last]

/-- The rows before a block, above its rows. -/
def stacked (a : Vec Ideal S16x256 .f32) (b : Vec Ideal S512x256 .f32) : Vec Ideal S528x256 .f32 :=
  concatenate S528x256 0 [⟨S16x256, a⟩, ⟨S512x256, b⟩] concatenates_S16x256_S512x256_S528x256_d0

/-- The rows before a block, then the block's, at an index. -/
theorem stacked_apply (a : Vec Ideal S16x256 .f32) (b : Vec Ideal S512x256 .f32) (n : Fin 528) (q : Fin 256) :
    stacked a b (ix2 n q) = if h : n.val < 16 then a (ix2 ⟨n.val, h⟩ q) else b (ix2 ⟨n.val - 16, by have := n.isLt; omega⟩ q) := by
  pointwise [stacked]

/-- The rows before a block as the point uses them: zeros at the first block of a sequence. -/
theorem before_apply (i : grid0.Coords) (x : Vec Ideal S16x1024 .f32) (j : S16x1024.Idx) :
    k0_pay2 i x j = if (i 1).val = 0 then 0 else x j := by
  have h8 : (i 1).val < 8 := (i 1).isLt
  by_cases h : (i 1).val = 0
  · rw [if_pos h]
    have e : k0_pay2 i x j = (Scalar.select (Scalar.cmpi .eq (BitVec.ofNat 32 (i 1).val) 0#32)
        (broadcast S16x1024 (Scalar.ofBits (F := Ideal) .f32 0x00000000#32)) x) j := rfl
    rw [e, h]
    exact Ideal.ofBits_zero_f32
  · rw [if_neg h]
    have e : k0_pay2 i x j = (Scalar.select (Scalar.cmpi .eq (BitVec.ofNat 32 (i 1).val) 0#32)
        (broadcast S16x1024 (Scalar.ofBits (F := Ideal) .f32 0x00000000#32)) x) j := rfl
    rw [e]
    have ne : (BitVec.ofNat 32 (i 1).val == 0#32) = false := by
      rw [beq_eq_false_iff_ne]
      intro hh
      have := congrArg BitVec.toNat hh
      rw [BitVec.toNat_ofNat, Nat.mod_eq_of_lt (by omega)] at this
      exact h this
    have c : Scalar.cmpi .eq (BitVec.ofNat 32 (i 1).val) 0#32 = 0#1 := by
      show BitVec.ofBool (BitVec.ofNat 32 (i 1).val == 0#32) = 0#1
      rw [ne]
      rfl
    rw [c]
    rfl

/-- The word of a row's position in its sequence. -/
theorem position (i : grid0.Coords) (r : Fin 512) : k0_pay3 i (ix2 r 0) = BitVec.ofNat 32 ((i 1).val * 512 + r.val) := by
  have e : k0_pay3 i (ix2 r 0) = (0#32 + BitVec.ofNat 32 (i 1).val * 512#32) + BitVec.ofNat 32 r.val := by
    pointwise [k0_pay3]
    rfl
  rw [e, BitVec.ofNat_add, BitVec.ofNat_mul, BitVec.zero_add]

/-- The counts of a window's positions, at a row of the block. -/
theorem countWords_apply (i : grid0.Coords) (w : Nat) (hw : w ≤ 16) (r : Fin 512) :
    countWords (BitVec.ofNat 32 w) (k0_pay3 i) (ix2 r 0) = Cert.Spec.count w ((i 1).val * 512 + r.val) := by
  have h8 : (i 1).val < 8 := (i 1).isLt
  rw [← Cert.Spec.count_word w _ hw (by have := r.isLt; omega), ← position i r]
  generalize BitVec.ofNat 32 w = v
  generalize k0_pay3 i = p
  pointwise [countWords]
  rfl

/-- The columns of group 0: of the rows before the block, and of the block's. -/
def before0 (x : Vec Ideal S16x1024 .f32) : Vec Ideal S16x256 .f32 := extractStridedSlice S16x256 ![0, 0] x slices_S16x1024_o0_0_S16x256
def rows0 (x : Vec Ideal S512x1024 .f32) : Vec Ideal S512x256 .f32 := extractStridedSlice S512x256 ![0, 0] x slices_S512x1024_o0_0_S512x256

/-- Group 0 of the rows before the block, at an index. -/
theorem before0_apply (x : Vec Ideal S16x1024 .f32) (n : Fin 16) (q : Fin 256) :
    before0 x (ix2 n q) = x (ix2 n ⟨0 * 256 + q.val, by have := q.isLt; omega⟩) := by
  have e : before0 x (ix2 n q) = x (ix2 n ⟨0 + q.val, by have := q.isLt; omega⟩) := by
    pointwise [before0]
  exact e.trans (congrArg x (congrArg (ix2 n) (Fin.ext (by dsimp only))))

/-- Group 0 of the block's rows, at an index. -/
theorem rows0_apply (x : Vec Ideal S512x1024 .f32) (n : Fin 512) (q : Fin 256) :
    rows0 x (ix2 n q) = x (ix2 n ⟨0 * 256 + q.val, by have := q.isLt; omega⟩) := by
  have e : rows0 x (ix2 n q) = x (ix2 n ⟨0 + q.val, by have := q.isLt; omega⟩) := by
    pointwise [rows0]
  exact e.trans (congrArg x (congrArg (ix2 n) (Fin.ext (by dsimp only))))

/-- The columns of group 1: of the rows before the block, and of the block's. -/
def before1 (x : Vec Ideal S16x1024 .f32) : Vec Ideal S16x256 .f32 := extractStridedSlice S16x256 ![0, 256] x slices_S16x1024_o0_256_S16x256
def rows1 (x : Vec Ideal S512x1024 .f32) : Vec Ideal S512x256 .f32 := extractStridedSlice S512x256 ![0, 256] x slices_S512x1024_o0_256_S512x256

/-- Group 1 of the rows before the block, at an index. -/
theorem before1_apply (x : Vec Ideal S16x1024 .f32) (n : Fin 16) (q : Fin 256) :
    before1 x (ix2 n q) = x (ix2 n ⟨1 * 256 + q.val, by have := q.isLt; omega⟩) := by
  have e : before1 x (ix2 n q) = x (ix2 n ⟨256 + q.val, by have := q.isLt; omega⟩) := by
    pointwise [before1]
  exact e.trans (congrArg x (congrArg (ix2 n) (Fin.ext (by dsimp only))))

/-- Group 1 of the block's rows, at an index. -/
theorem rows1_apply (x : Vec Ideal S512x1024 .f32) (n : Fin 512) (q : Fin 256) :
    rows1 x (ix2 n q) = x (ix2 n ⟨1 * 256 + q.val, by have := q.isLt; omega⟩) := by
  have e : rows1 x (ix2 n q) = x (ix2 n ⟨256 + q.val, by have := q.isLt; omega⟩) := by
    pointwise [rows1]
  exact e.trans (congrArg x (congrArg (ix2 n) (Fin.ext (by dsimp only))))

/-- The columns of group 2: of the rows before the block, and of the block's. -/
def before2 (x : Vec Ideal S16x1024 .f32) : Vec Ideal S16x256 .f32 := extractStridedSlice S16x256 ![0, 512] x slices_S16x1024_o0_512_S16x256
def rows2 (x : Vec Ideal S512x1024 .f32) : Vec Ideal S512x256 .f32 := extractStridedSlice S512x256 ![0, 512] x slices_S512x1024_o0_512_S512x256

/-- Group 2 of the rows before the block, at an index. -/
theorem before2_apply (x : Vec Ideal S16x1024 .f32) (n : Fin 16) (q : Fin 256) :
    before2 x (ix2 n q) = x (ix2 n ⟨2 * 256 + q.val, by have := q.isLt; omega⟩) := by
  have e : before2 x (ix2 n q) = x (ix2 n ⟨512 + q.val, by have := q.isLt; omega⟩) := by
    pointwise [before2]
  exact e.trans (congrArg x (congrArg (ix2 n) (Fin.ext (by dsimp only))))

/-- Group 2 of the block's rows, at an index. -/
theorem rows2_apply (x : Vec Ideal S512x1024 .f32) (n : Fin 512) (q : Fin 256) :
    rows2 x (ix2 n q) = x (ix2 n ⟨2 * 256 + q.val, by have := q.isLt; omega⟩) := by
  have e : rows2 x (ix2 n q) = x (ix2 n ⟨512 + q.val, by have := q.isLt; omega⟩) := by
    pointwise [rows2]
  exact e.trans (congrArg x (congrArg (ix2 n) (Fin.ext (by dsimp only))))

/-- The columns of group 3: of the rows before the block, and of the block's. -/
def before3 (x : Vec Ideal S16x1024 .f32) : Vec Ideal S16x256 .f32 := extractStridedSlice S16x256 ![0, 768] x slices_S16x1024_o0_768_S16x256
def rows3 (x : Vec Ideal S512x1024 .f32) : Vec Ideal S512x256 .f32 := extractStridedSlice S512x256 ![0, 768] x slices_S512x1024_o0_768_S512x256

/-- Group 3 of the rows before the block, at an index. -/
theorem before3_apply (x : Vec Ideal S16x1024 .f32) (n : Fin 16) (q : Fin 256) :
    before3 x (ix2 n q) = x (ix2 n ⟨3 * 256 + q.val, by have := q.isLt; omega⟩) := by
  have e : before3 x (ix2 n q) = x (ix2 n ⟨768 + q.val, by have := q.isLt; omega⟩) := by
    pointwise [before3]
  exact e.trans (congrArg x (congrArg (ix2 n) (Fin.ext (by dsimp only))))

/-- Group 3 of the block's rows, at an index. -/
theorem rows3_apply (x : Vec Ideal S512x1024 .f32) (n : Fin 512) (q : Fin 256) :
    rows3 x (ix2 n q) = x (ix2 n ⟨3 * 256 + q.val, by have := q.isLt; omega⟩) := by
  have e : rows3 x (ix2 n q) = x (ix2 n ⟨768 + q.val, by have := q.isLt; omega⟩) := by
    pointwise [rows3]
  exact e.trans (congrArg x (congrArg (ix2 n) (Fin.ext (by dsimp only))))

/-- What a point stores in the columns of group 0. -/
theorem stored0 (i : grid0.Coords) (v0 : Vec Ideal S16x1024 .f32) (v4 : Vec Ideal S512x1024 .f32) (w : Vec Ideal S1x256x256 .bf16) (sc : Vec Ideal S1x256 .f32) :
    k0_pay4 i v0 v4 w sc = mixed (last (two (stacked (before0 (k0_pay2 i v0)) (rows0 v4)))) (rows0 v4) (countWords 2#32 (k0_pay3 i)) w sc :=
  rfl

/-- What a point stores in the columns of group 1. -/
theorem stored1 (i : grid0.Coords) (v0 : Vec Ideal S16x1024 .f32) (v4 : Vec Ideal S512x1024 .f32) (w : Vec Ideal S1x256x256 .bf16) (sc : Vec Ideal S1x256 .f32) :
    k0_pay6 v4 (k0_pay3 i) (k0_pay5 i v0 v4) w sc = mixed (last (four (stacked (before1 (k0_pay2 i v0)) (rows1 v4)))) (rows1 v4) (countWords 4#32 (k0_pay3 i)) w sc :=
  rfl

/-- What a point stores in the columns of group 2. -/
theorem stored2 (i : grid0.Coords) (v0 : Vec Ideal S16x1024 .f32) (v4 : Vec Ideal S512x1024 .f32) (w : Vec Ideal S1x256x256 .bf16) (sc : Vec Ideal S1x256 .f32) :
    k0_pay9 (k0_pay7 (k0_pay2 i v0) v4 (k0_pay3 i)) (k0_pay8 v4) w sc = mixed (last (eight (stacked (before2 (k0_pay2 i v0)) (rows2 v4)))) (rows2 v4) (countWords 8#32 (k0_pay3 i)) w sc :=
  rfl

/-- What a point stores in the columns of group 3. -/
theorem stored3 (i : grid0.Coords) (v0 : Vec Ideal S16x1024 .f32) (v4 : Vec Ideal S512x1024 .f32) (w : Vec Ideal S1x256x256 .bf16) (sc : Vec Ideal S1x256 .f32) :
    k0_pay1 (k0_pay10 (k0_pay2 i v0) v4 (k0_pay3 i) w) (k0_pay11 sc) = mixed (last (sixteen (stacked (before3 (k0_pay2 i v0)) (rows3 v4)))) (rows3 v4) (countWords 16#32 (k0_pay3 i)) w sc :=
  rfl

/-! ## A block's rows as positions of a sequence -/

section Block

variable (i : grid0.Coords) (v0 : Vec Ideal S16x1024 .f32) (v4 : Vec Ideal S512x1024 .f32) (h : Cert.Spec.Wide) (b : Nat)

/-- The block's rows are positions `(i 1) * 512` on of sequence `b`, and the rows before it, but for a sequence's first block, the sixteen
    positions before those. -/
def Holds : Prop :=
  (∀ (n : Fin 16) (c : Fin 1024), (i 1).val ≠ 0 → v0 (ix2 n c) = Cert.Spec.token h b ((i 1).val * 512 + n.val) 16 c.val)
    ∧ ∀ (n : Fin 512) (c : Fin 1024), v4 (ix2 n c) = Cert.Spec.token h b ((i 1).val * 512 + n.val) 0 c.val

/-- Column `c` at the row `n` of the rows before the block and the block's, below each other. -/
def line (c n : Nat) : EReal := if (i 1).val * 512 + n < 16 then 0 else Cert.Spec.token h b ((i 1).val * 512 + n - 16) 0 c

/-- A position before another is a position of its own. -/
theorem token_back (hb : b < 2) (s j q : Nat) (hs : s < 4096) (hq : q < 1024) :
    Cert.Spec.token h b s j q = if s < j then 0 else Cert.Spec.token h b (s - j) 0 q := by
  unfold Cert.Spec.token
  by_cases e : s < j
  · rw [if_pos e, dif_neg (by omega)]
  · rw [if_neg e, dif_pos (by omega), dif_pos (by omega)]
    rfl

/-- Going back along the line is going back in the sequence. -/
theorem line_back (hb : b < 2) (r : Fin 512) (j q : Nat) (hj : j ≤ 15) (hq : q < 1024) :
    line i h b q (16 + r.val - j) = Cert.Spec.token h b ((i 1).val * 512 + r.val) j q := by
  have h8 : (i 1).val < 8 := (i 1).isLt
  have hr := r.isLt
  rw [token_back h b hb _ j q (by omega) hq]
  unfold line
  by_cases e : (i 1).val * 512 + r.val < j
  · rw [if_pos e, if_pos (by omega)]
  · rw [if_neg e, if_neg (by omega), show (i 1).val * 512 + (16 + r.val - j) - 16 = (i 1).val * 512 + r.val - j by omega]

/-- Group 0 of the rows before the block and the block's: the line of positions. -/
theorem stacked0_line (hold : Holds i v0 v4 h b) (hb : b < 2) (n : Fin 528) (q : Fin 256) :
    stacked (before0 (k0_pay2 i v0)) (rows0 v4) (ix2 n q) = line i h b (0 * 256 + q.val) n.val := by
  have h8 : (i 1).val < 8 := (i 1).isLt
  have hn := n.isLt
  have hq := q.isLt
  rw [stacked_apply]
  unfold line
  by_cases e : n.val < 16
  · rw [dif_pos e, before0_apply, before_apply]
    by_cases z : (i 1).val = 0
    · rw [if_pos z, if_pos (by omega)]
    · rw [if_neg z, if_neg (by omega), hold.1 _ _ z, token_back h b hb _ 16 _ (by dsimp only; omega) (by dsimp only; omega), if_neg (by dsimp only; omega)]
  · rw [dif_neg e, rows0_apply, hold.2, if_neg (by omega)]
    refine congrArg (fun s => Cert.Spec.token h b s 0 _) ?_
    dsimp only
    omega

/-- The sum over two positions, of group 0. -/
theorem sum0 (hold : Holds i v0 v4 h b) (hb : b < 2) (r : Fin 512) (q : Fin 256) :
    last (two (stacked (before0 (k0_pay2 i v0)) (rows0 v4))) (ix2 r q)
      = Cert.Spec.window h 2 b ((i 1).val * 512 + r.val) (0 * 256 + q.val) := by
  have hq := q.isLt
  rw [last_apply, two_apply _ (fun n q => line i h b (0 * 256 + q.val) n) (stacked0_line i v0 v4 h b hold hb) _ q (by dsimp only; omega)]
  unfold Cert.Spec.window
  refine Finset.sum_congr rfl fun j hj => ?_
  have := Finset.mem_range.mp hj
  exact line_back i h b hb r j _ (by omega) (by omega)

/-- What the point stores there: the pooling of its positions. -/
theorem value0 (hold : Holds i v0 v4 h b) (hb : b < 2) (w : Cert.Spec.PoolWeights) (sc : Cert.Spec.PoolScale)
    (wt : Vec Ideal S1x256x256 .bf16) (row : Vec Ideal S1x256 .f32)
    (hw : ∀ k q : Fin 256, wt (ix3 0 k q) = w (ix4 0 0 k q)) (hs : ∀ q : Fin 256, row (ix2 0 q) = sc (ix2 0 ⟨0 * 256 + q.val, by have := q.isLt; omega⟩))
    (r : Fin 512) (q : Fin 256) :
    k0_pay4 i v0 v4 wt row (ix2 r q)
      = Cert.Spec.pooledAt h w sc b ((i 1).val * 512 + r.val) 0 q := by
  rw [stored0, mixed_apply]
  unfold Cert.Spec.pooledAt
  refine congrArg₂ (fun x y : EReal => x * y) (Finset.sum_congr rfl fun k _ => congrArg₂ (fun x y : EReal => x * y) ?_ (hw k q)) (hs q)
  unfold Cert.Spec.deviation
  refine congrArg₂ (fun x y : EReal => x - y) (congrArg₂ Ideal.div (sum0 i v0 v4 h b hold hb r k) (countWords_apply i 2 (by decide) r)) ?_
  exact (rows0_apply v4 r k).trans (hold.2 r _)

/-- Group 1 of the rows before the block and the block's: the line of positions. -/
theorem stacked1_line (hold : Holds i v0 v4 h b) (hb : b < 2) (n : Fin 528) (q : Fin 256) :
    stacked (before1 (k0_pay2 i v0)) (rows1 v4) (ix2 n q) = line i h b (1 * 256 + q.val) n.val := by
  have h8 : (i 1).val < 8 := (i 1).isLt
  have hn := n.isLt
  have hq := q.isLt
  rw [stacked_apply]
  unfold line
  by_cases e : n.val < 16
  · rw [dif_pos e, before1_apply, before_apply]
    by_cases z : (i 1).val = 0
    · rw [if_pos z, if_pos (by omega)]
    · rw [if_neg z, if_neg (by omega), hold.1 _ _ z, token_back h b hb _ 16 _ (by dsimp only; omega) (by dsimp only; omega), if_neg (by dsimp only; omega)]
  · rw [dif_neg e, rows1_apply, hold.2, if_neg (by omega)]
    refine congrArg (fun s => Cert.Spec.token h b s 0 _) ?_
    dsimp only
    omega

/-- The sum over four positions, of group 1. -/
theorem sum1 (hold : Holds i v0 v4 h b) (hb : b < 2) (r : Fin 512) (q : Fin 256) :
    last (four (stacked (before1 (k0_pay2 i v0)) (rows1 v4))) (ix2 r q)
      = Cert.Spec.window h 4 b ((i 1).val * 512 + r.val) (1 * 256 + q.val) := by
  have hq := q.isLt
  rw [last_apply, four_apply _ (fun n q => line i h b (1 * 256 + q.val) n) (stacked1_line i v0 v4 h b hold hb) _ q (by dsimp only; omega)]
  unfold Cert.Spec.window
  refine Finset.sum_congr rfl fun j hj => ?_
  have := Finset.mem_range.mp hj
  exact line_back i h b hb r j _ (by omega) (by omega)

/-- What the point stores there: the pooling of its positions. -/
theorem value1 (hold : Holds i v0 v4 h b) (hb : b < 2) (w : Cert.Spec.PoolWeights) (sc : Cert.Spec.PoolScale)
    (wt : Vec Ideal S1x256x256 .bf16) (row : Vec Ideal S1x256 .f32)
    (hw : ∀ k q : Fin 256, wt (ix3 0 k q) = w (ix4 0 1 k q)) (hs : ∀ q : Fin 256, row (ix2 0 q) = sc (ix2 0 ⟨1 * 256 + q.val, by have := q.isLt; omega⟩))
    (r : Fin 512) (q : Fin 256) :
    k0_pay6 v4 (k0_pay3 i) (k0_pay5 i v0 v4) wt row (ix2 r q)
      = Cert.Spec.pooledAt h w sc b ((i 1).val * 512 + r.val) 1 q := by
  rw [stored1, mixed_apply]
  unfold Cert.Spec.pooledAt
  refine congrArg₂ (fun x y : EReal => x * y) (Finset.sum_congr rfl fun k _ => congrArg₂ (fun x y : EReal => x * y) ?_ (hw k q)) (hs q)
  unfold Cert.Spec.deviation
  refine congrArg₂ (fun x y : EReal => x - y) (congrArg₂ Ideal.div (sum1 i v0 v4 h b hold hb r k) (countWords_apply i 4 (by decide) r)) ?_
  exact (rows1_apply v4 r k).trans (hold.2 r _)

/-- Group 2 of the rows before the block and the block's: the line of positions. -/
theorem stacked2_line (hold : Holds i v0 v4 h b) (hb : b < 2) (n : Fin 528) (q : Fin 256) :
    stacked (before2 (k0_pay2 i v0)) (rows2 v4) (ix2 n q) = line i h b (2 * 256 + q.val) n.val := by
  have h8 : (i 1).val < 8 := (i 1).isLt
  have hn := n.isLt
  have hq := q.isLt
  rw [stacked_apply]
  unfold line
  by_cases e : n.val < 16
  · rw [dif_pos e, before2_apply, before_apply]
    by_cases z : (i 1).val = 0
    · rw [if_pos z, if_pos (by omega)]
    · rw [if_neg z, if_neg (by omega), hold.1 _ _ z, token_back h b hb _ 16 _ (by dsimp only; omega) (by dsimp only; omega), if_neg (by dsimp only; omega)]
  · rw [dif_neg e, rows2_apply, hold.2, if_neg (by omega)]
    refine congrArg (fun s => Cert.Spec.token h b s 0 _) ?_
    dsimp only
    omega

/-- The sum over eight positions, of group 2. -/
theorem sum2 (hold : Holds i v0 v4 h b) (hb : b < 2) (r : Fin 512) (q : Fin 256) :
    last (eight (stacked (before2 (k0_pay2 i v0)) (rows2 v4))) (ix2 r q)
      = Cert.Spec.window h 8 b ((i 1).val * 512 + r.val) (2 * 256 + q.val) := by
  have hq := q.isLt
  rw [last_apply, eight_apply _ (fun n q => line i h b (2 * 256 + q.val) n) (stacked2_line i v0 v4 h b hold hb) _ q (by dsimp only; omega)]
  unfold Cert.Spec.window
  refine Finset.sum_congr rfl fun j hj => ?_
  have := Finset.mem_range.mp hj
  exact line_back i h b hb r j _ (by omega) (by omega)

/-- What the point stores there: the pooling of its positions. -/
theorem value2 (hold : Holds i v0 v4 h b) (hb : b < 2) (w : Cert.Spec.PoolWeights) (sc : Cert.Spec.PoolScale)
    (wt : Vec Ideal S1x256x256 .bf16) (row : Vec Ideal S1x256 .f32)
    (hw : ∀ k q : Fin 256, wt (ix3 0 k q) = w (ix4 0 2 k q)) (hs : ∀ q : Fin 256, row (ix2 0 q) = sc (ix2 0 ⟨2 * 256 + q.val, by have := q.isLt; omega⟩))
    (r : Fin 512) (q : Fin 256) :
    k0_pay9 (k0_pay7 (k0_pay2 i v0) v4 (k0_pay3 i)) (k0_pay8 v4) wt row (ix2 r q)
      = Cert.Spec.pooledAt h w sc b ((i 1).val * 512 + r.val) 2 q := by
  rw [stored2, mixed_apply]
  unfold Cert.Spec.pooledAt
  refine congrArg₂ (fun x y : EReal => x * y) (Finset.sum_congr rfl fun k _ => congrArg₂ (fun x y : EReal => x * y) ?_ (hw k q)) (hs q)
  unfold Cert.Spec.deviation
  refine congrArg₂ (fun x y : EReal => x - y) (congrArg₂ Ideal.div (sum2 i v0 v4 h b hold hb r k) (countWords_apply i 8 (by decide) r)) ?_
  exact (rows2_apply v4 r k).trans (hold.2 r _)

/-- Group 3 of the rows before the block and the block's: the line of positions. -/
theorem stacked3_line (hold : Holds i v0 v4 h b) (hb : b < 2) (n : Fin 528) (q : Fin 256) :
    stacked (before3 (k0_pay2 i v0)) (rows3 v4) (ix2 n q) = line i h b (3 * 256 + q.val) n.val := by
  have h8 : (i 1).val < 8 := (i 1).isLt
  have hn := n.isLt
  have hq := q.isLt
  rw [stacked_apply]
  unfold line
  by_cases e : n.val < 16
  · rw [dif_pos e, before3_apply, before_apply]
    by_cases z : (i 1).val = 0
    · rw [if_pos z, if_pos (by omega)]
    · rw [if_neg z, if_neg (by omega), hold.1 _ _ z, token_back h b hb _ 16 _ (by dsimp only; omega) (by dsimp only; omega), if_neg (by dsimp only; omega)]
  · rw [dif_neg e, rows3_apply, hold.2, if_neg (by omega)]
    refine congrArg (fun s => Cert.Spec.token h b s 0 _) ?_
    dsimp only
    omega

/-- The sum over sixteen positions, of group 3. -/
theorem sum3 (hold : Holds i v0 v4 h b) (hb : b < 2) (r : Fin 512) (q : Fin 256) :
    last (sixteen (stacked (before3 (k0_pay2 i v0)) (rows3 v4))) (ix2 r q)
      = Cert.Spec.window h 16 b ((i 1).val * 512 + r.val) (3 * 256 + q.val) := by
  have hq := q.isLt
  rw [last_apply, sixteen_apply _ (fun n q => line i h b (3 * 256 + q.val) n) (stacked3_line i v0 v4 h b hold hb) _ q (by dsimp only; omega)]
  unfold Cert.Spec.window
  refine Finset.sum_congr rfl fun j hj => ?_
  have := Finset.mem_range.mp hj
  exact line_back i h b hb r j _ (by omega) (by omega)

/-- What the point stores there: the pooling of its positions. -/
theorem value3 (hold : Holds i v0 v4 h b) (hb : b < 2) (w : Cert.Spec.PoolWeights) (sc : Cert.Spec.PoolScale)
    (wt : Vec Ideal S1x256x256 .bf16) (row : Vec Ideal S1x256 .f32)
    (hw : ∀ k q : Fin 256, wt (ix3 0 k q) = w (ix4 0 3 k q)) (hs : ∀ q : Fin 256, row (ix2 0 q) = sc (ix2 0 ⟨3 * 256 + q.val, by have := q.isLt; omega⟩))
    (r : Fin 512) (q : Fin 256) :
    k0_pay1 (k0_pay10 (k0_pay2 i v0) v4 (k0_pay3 i) wt) (k0_pay11 row) (ix2 r q)
      = Cert.Spec.pooledAt h w sc b ((i 1).val * 512 + r.val) 3 q := by
  rw [stored3, mixed_apply]
  unfold Cert.Spec.pooledAt
  refine congrArg₂ (fun x y : EReal => x * y) (Finset.sum_congr rfl fun k _ => congrArg₂ (fun x y : EReal => x * y) ?_ (hw k q)) (hs q)
  unfold Cert.Spec.deviation
  refine congrArg₂ (fun x y : EReal => x - y) (congrArg₂ Ideal.div (sum3 i v0 v4 h b hold hb r k) (countWords_apply i 16 (by decide) r)) ?_
  exact (rows3_apply v4 r k).trans (hold.2 r _)

end Block

/-! ## What the region finds -/

variable (m : (ℓ : Loc nD τ sig) → Buf (Elt Ideal) ℓ)

/-- The arguments. -/
def wide (c : Dev nD) : Cert.Spec.Wide := m ((c : Thread nD τ).loc main_arg0)
def weights (c : Dev nD) : Cert.Spec.PoolWeights := m ((c : Thread nD τ).loc main_arg1)
def scale (c : Dev nD) : Cert.Spec.PoolScale := m ((c : Thread nD τ).loc main_arg2)

/-- The matrices of a layer, cast, and its scale. -/
def cast (w : Vec Ideal S1x4x256x256 .f32) : Vec Ideal S4x256x256 .bf16 :=
  truncf (F := Ideal) (φ := .f32) .bf16 (shapeCast S4x256x256 w shapeCasts_S1x4x256x256_S4x256x256) bitsLt_bf16_f32

/-- The cast weights at an index. -/
theorem cast_apply (w : Vec Ideal S1x4x256x256 .f32) (g : Fin 4) (k q : Fin 256) : cast w (ix3 g k q) = w (ix4 0 g k q) := by
  pointwise [cast]

/-- The weights as the region finds them. -/
theorem found_weights (c : Dev nD) : V m c main_v1 = cast (m ((c : Thread nD τ).loc main_arg1)) := by
  entry_read
  rfl

/-- The scale as the region finds it. -/
theorem found_scale (c : Dev nD) (q : Fin 1024) : (V m c main_v3 : Vec Ideal S1x1024 .f32) (ix2 0 q) = scale m c (ix2 0 q) := by
  have e : V m c main_v3 = shapeCast S1x1024 (shapeCast S1024 (m ((c : Thread nD τ).loc main_arg2)) shapeCasts_S1x1024_S1024) shapeCasts_S1024_S1x1024 := by
    entry_read
    rfl
  rw [e]
  unfold scale
  generalize m ((c : Thread nD τ).loc main_arg2) = x
  pointwise []

/-! ## The blocks of a point -/

/-- The blocks of point `t`: rows `t` of the projected array and of the result, and the sixteen rows before those. -/
theorem places : ∀ t : Fin cfg0.N, win0_0.index t = ![t.val * 32 - 1, 2] ∧ win0_1.index t = ![t.val, 2]
    ∧ win0_2.index t = ![0, 0, 0] ∧ win0_3.index t = ![0, 0] ∧ win0_4.index t = ![t.val, 0] ∧ (grid0.coords t 1).val = t.val % 8 := by
  decide +kernel

/-- The number of grid points. -/
theorem points (t : Fin cfg0.N) : t.val < 16 := t.isLt.trans_eq N_0

/-- The sixteen rows before it that a point reads. -/
theorem before_read (c : Dev nD) (t : Fin cfg0.N) (n : Fin 16) (q : Fin 1024) :
    iblk m c 0 t (ix2 n q) = wide m c (ix2 ⟨(t.val * 32 - 1) * 16 + n.val, by have := points t; have := n.isLt; omega⟩ ⟨2048 + q.val, by have := q.isLt; omega⟩) := by
  obtain ⟨e0, e1, e2, e3, e4, e5⟩ := places t
  unfold iblk wide
  blk_ext [e0]

/-- The block of rows a point reads. -/
theorem rows_read (c : Dev nD) (t : Fin cfg0.N) (n : Fin 512) (q : Fin 1024) :
    iblk m c 1 t (ix2 n q) = wide m c (ix2 ⟨t.val * 512 + n.val, by have := points t; have := n.isLt; omega⟩ ⟨2048 + q.val, by have := q.isLt; omega⟩) := by
  obtain ⟨e0, e1, e2, e3, e4, e5⟩ := places t
  unfold iblk wide
  blk_ext [e1]

/-- The two prepared arrays. -/
def castWeights (c : Dev nD) : Vec Ideal S4x256x256 .bf16 := V m c main_v1
def castScale (c : Dev nD) : Vec Ideal S1x1024 .f32 := V m c main_v3

/-- The block of cast matrices at a point: all of them. -/
theorem weights_block (c : Dev nD) (t : Fin cfg0.N) (g : Fin 4) (k q : Fin 256) : iblk m c 2 t (ix3 g k q) = castWeights m c (ix3 g k q) := by
  obtain ⟨e0, e1, e2, e3, e4, e5⟩ := places t
  unfold iblk castWeights
  blk_ext [e2]

/-- The block of scales at a point: all of them. -/
theorem scale_block (c : Dev nD) (t : Fin cfg0.N) (q : Fin 1024) : iblk m c 3 t (ix2 0 q) = castScale m c (ix2 0 q) := by
  obtain ⟨e0, e1, e2, e3, e4, e5⟩ := places t
  unfold iblk castScale
  blk_ext [e3]

/-- The block of weights a point reads. -/
theorem weights_read (c : Dev nD) (t : Fin cfg0.N) (g : Fin 4) (k q : Fin 256) : iblk m c 2 t (ix3 g k q) = weights m c (ix4 0 g k q) :=
  (weights_block m c t g k q).trans ((congrFun (found_weights m c) (ix3 g k q)).trans (cast_apply _ g k q))

/-- The scales a point reads. -/
theorem scale_read (c : Dev nD) (t : Fin cfg0.N) (q : Fin 1024) : iblk m c 3 t (ix2 0 q) = scale m c (ix2 0 q) :=
  (scale_block m c t q).trans (found_scale m c q)

/-- The rows a point is given are positions of sequence `t / 8`. -/
theorem holds (c : Dev nD) (t : Fin cfg0.N) : Holds (grid0.coords t) (iblk m c 0 t) (iblk m c 1 t) (wide m c) (t.val / 8) := by
  have e5 := (places t).2.2.2.2.2
  have ht := points t
  unfold Holds
  rw [e5]
  constructor
  · intro n q z
    have hn := n.isLt
    have hq := q.isLt
    rw [before_read]
    unfold Cert.Spec.token
    rw [dif_pos (by omega)]
    refine congrArg (wide m c) (congrArg₂ ix2 (Fin.ext ?_) rfl)
    dsimp only
    omega
  · intro n q
    have hn := n.isLt
    have hq := q.isLt
    rw [rows_read]
    unfold Cert.Spec.token
    rw [dif_pos (by omega)]
    refine congrArg (wide m c) (congrArg₂ ix2 (Fin.ext ?_) rfl)
    dsimp only
    omega

/-! ## The array after the run -/

/-- What the region is to leave in the result array. -/
def full (c : Dev nD) : Vec Ideal S8192x1024 .bf16 := Cert.Spec.pooled (wide m c) (weights m c) (scale m c)

/-- Block `t` of it. -/
def block (c : Dev nD) (t : Fin cfg0.N) : Vec Ideal S512x1024 .bf16 :=
  fun y => full m c (ix2 ⟨t.val * 512 + (y 0).val, by have := points t; have h : (y 0).val < 512 := (y 0).isLt; omega⟩ (y 1))

/-- Block `t` at a row, group and column. -/
theorem block_at (c : Dev nD) (t : Fin cfg0.N) (g : Fin 4) (r : Fin 512) (q : Fin 256) (y : S512x1024.Idx)
    (h0 : (y 0).val = r.val) (h1 : (y 1).val = g.val * 256 + q.val) :
    Cert.Spec.pooledAt (wide m c) (weights m c) (scale m c) (t.val / 8) ((grid0.coords t 1).val * 512 + r.val) g q = block m c t y := by
  have ht := points t
  have hr := r.isLt
  have hq := q.isLt
  rw [(places t).2.2.2.2.2]
  unfold block full Cert.Spec.pooled
  have a0 : (t.val * 512 + (y 0).val) / 4096 = t.val / 8 := by omega
  have a1 : (t.val * 512 + (y 0).val) % 4096 = t.val % 8 * 512 + r.val := by omega
  have a2 : (y 1).val / 256 = g.val := by omega
  have a3 : (y 1).val % 256 = q.val := by omega
  show _ = Cert.Spec.pooledAt _ _ _ ((t.val * 512 + (y 0).val) / 4096) ((t.val * 512 + (y 0).val) % 4096) ⟨(y 1).val / 256, _⟩ ⟨(y 1).val % 256, _⟩
  rw [a0, a1, show (⟨(y 1).val / 256, by omega⟩ : Fin 4) = g from Fin.ext a2, show (⟨(y 1).val % 256, by omega⟩ : Fin 256) = q from Fin.ext a3]

/-- The group's matrix and scale, as a point loads them. -/
theorem load_weights0 (x : Vec Ideal S4x256x256 .bf16) (k q : Fin 256) : View.ld x r0_2 (ix3 0 k q) = x (ix3 0 k q) := by
  pointwise [r0_2]

/-- The scale of group 0, as a point loads it. -/
theorem load_scale0 (x : Vec Ideal S1x1024 .f32) (q : Fin 256) : View.ld x r0_3 (ix2 0 q) = x (ix2 0 ⟨0 * 256 + q.val, by have := q.isLt; omega⟩) := by
  have e : View.ld x r0_3 (ix2 0 q) = x (ix2 0 ⟨0 + q.val, by have := q.isLt; omega⟩) := by
    pointwise [r0_3]
  exact e.trans (congrArg x (congrArg (ix2 0) (Fin.ext (by dsimp only))))

/-- The group's matrix and scale, as a point loads them. -/
theorem load_weights1 (x : Vec Ideal S4x256x256 .bf16) (k q : Fin 256) : View.ld x r0_5 (ix3 0 k q) = x (ix3 1 k q) := by
  pointwise [r0_5]

/-- The scale of group 1, as a point loads it. -/
theorem load_scale1 (x : Vec Ideal S1x1024 .f32) (q : Fin 256) : View.ld x r0_6 (ix2 0 q) = x (ix2 0 ⟨1 * 256 + q.val, by have := q.isLt; omega⟩) := by
  have e : View.ld x r0_6 (ix2 0 q) = x (ix2 0 ⟨256 + q.val, by have := q.isLt; omega⟩) := by
    pointwise [r0_6]
  exact e.trans (congrArg x (congrArg (ix2 0) (Fin.ext (by dsimp only))))

/-- The group's matrix and scale, as a point loads them. -/
theorem load_weights2 (x : Vec Ideal S4x256x256 .bf16) (k q : Fin 256) : View.ld x r0_8 (ix3 0 k q) = x (ix3 2 k q) := by
  pointwise [r0_8]

/-- The scale of group 2, as a point loads it. -/
theorem load_scale2 (x : Vec Ideal S1x1024 .f32) (q : Fin 256) : View.ld x r0_9 (ix2 0 q) = x (ix2 0 ⟨2 * 256 + q.val, by have := q.isLt; omega⟩) := by
  have e : View.ld x r0_9 (ix2 0 q) = x (ix2 0 ⟨512 + q.val, by have := q.isLt; omega⟩) := by
    pointwise [r0_9]
  exact e.trans (congrArg x (congrArg (ix2 0) (Fin.ext (by dsimp only))))

/-- The group's matrix and scale, as a point loads them. -/
theorem load_weights3 (x : Vec Ideal S4x256x256 .bf16) (k q : Fin 256) : View.ld x r0_11 (ix3 0 k q) = x (ix3 3 k q) := by
  pointwise [r0_11]

/-- The scale of group 3, as a point loads it. -/
theorem load_scale3 (x : Vec Ideal S1x1024 .f32) (q : Fin 256) : View.ld x r0_12 (ix2 0 q) = x (ix2 0 ⟨3 * 256 + q.val, by have := q.isLt; omega⟩) := by
  have e : View.ld x r0_12 (ix2 0 q) = x (ix2 0 ⟨768 + q.val, by have := q.isLt; omega⟩) := by
    pointwise [r0_12]
  exact e.trans (congrArg x (congrArg (ix2 0) (Fin.ext (by dsimp only))))

/-- Loading the rows before a block gives all of them. -/
theorem load_before (x : Vec Ideal S16x1024 .f32) : View.ld x r0_0 = x := View.ld_unit_lit _ x (by decide)

/-- Loading a block's rows gives all of them. -/
theorem load_rows (x : Vec Ideal S512x1024 .f32) : View.ld x r0_1 = x := View.ld_unit_lit _ x (by decide)

section Stores

variable (i : grid0.Coords) (x0 : Vec Ideal S16x1024 .f32) (x1 : Vec Ideal S512x1024 .f32) (x2 : Vec Ideal S4x256x256 .bf16) (x3 : Vec Ideal S1x1024 .f32)
  (h : Cert.Spec.Wide) (w : Cert.Spec.PoolWeights) (sc : Cert.Spec.PoolScale) (b : Nat) (hb : b < 2) (hold : Holds i x0 x1 h b)
  (hw : ∀ (g : Fin 4) (k q : Fin 256), x2 (ix3 g k q) = w (ix4 0 g k q)) (hs : ∀ q : Fin 1024, x3 (ix2 0 q) = sc (ix2 0 q))

include hb hold hw hs

/-- The store of group 0, from the point's blocks. -/
theorem left0 (r : Fin 512) (q : Fin 256) :
    k0_pay4 i (View.ld x0 r0_0) (View.ld x1 r0_1) (View.ld x2 r0_2) (View.ld x3 r0_3) (ix2 r q)
      = Cert.Spec.pooledAt h w sc b ((i 1).val * 512 + r.val) 0 q := by
  rw [load_before, load_rows]
  exact value0 i x0 x1 h b hold hb w sc _ _ (fun k q => (load_weights0 x2 k q).trans (hw 0 k q)) (fun q => (load_scale0 x3 q).trans (hs _)) r q

/-- The store of group 1, from the point's blocks. -/
theorem left1 (r : Fin 512) (q : Fin 256) :
    k0_pay6 (View.ld x1 r0_1) (k0_pay3 i) (k0_pay5 i (View.ld x0 r0_0) (View.ld x1 r0_1)) (View.ld x2 r0_5) (View.ld x3 r0_6) (ix2 r q)
      = Cert.Spec.pooledAt h w sc b ((i 1).val * 512 + r.val) 1 q := by
  rw [load_before, load_rows]
  exact value1 i x0 x1 h b hold hb w sc _ _ (fun k q => (load_weights1 x2 k q).trans (hw 1 k q)) (fun q => (load_scale1 x3 q).trans (hs _)) r q

/-- The store of group 2, from the point's blocks. -/
theorem left2 (r : Fin 512) (q : Fin 256) :
    k0_pay9 (k0_pay7 (k0_pay2 i (View.ld x0 r0_0)) (View.ld x1 r0_1) (k0_pay3 i)) (k0_pay8 (View.ld x1 r0_1)) (View.ld x2 r0_8) (View.ld x3 r0_9) (ix2 r q)
      = Cert.Spec.pooledAt h w sc b ((i 1).val * 512 + r.val) 2 q := by
  rw [load_before, load_rows]
  exact value2 i x0 x1 h b hold hb w sc _ _ (fun k q => (load_weights2 x2 k q).trans (hw 2 k q)) (fun q => (load_scale2 x3 q).trans (hs _)) r q

/-- The store of group 3, from the point's blocks. -/
theorem left3 (r : Fin 512) (q : Fin 256) :
    k0_pay1 (k0_pay10 (k0_pay2 i (View.ld x0 r0_0)) (View.ld x1 r0_1) (k0_pay3 i) (View.ld x2 r0_11)) (k0_pay11 (View.ld x3 r0_12)) (ix2 r q)
      = Cert.Spec.pooledAt h w sc b ((i 1).val * 512 + r.val) 3 q := by
  rw [load_before, load_rows]
  exact value3 i x0 x1 h b hold hb w sc _ _ (fun k q => (load_weights3 x2 k q).trans (hw 3 k q)) (fun q => (load_scale3 x3 q).trans (hs _)) r q

/-- The four stores leave, at every index, the pooling of its position, group and column. -/
theorem out_eq (G : Vec Ideal S512x1024 .bf16)
    (hG : ∀ (g : Fin 4) (r : Fin 512) (q : Fin 256) (y : S512x1024.Idx), (y 0).val = r.val → (y 1).val = g.val * 256 + q.val →
      Cert.Spec.pooledAt h w sc b ((i 1).val * 512 + r.val) g q = G y) (y : S512x1024.Idx) :
    out0_4 i x0 x1 x2 x3 y = G y := by
  have l0 := left0 i x0 x1 x2 x3 h w sc b hb hold hw hs
  have l1 := left1 i x0 x1 x2 x3 h w sc b hb hold hw hs
  have l2 := left2 i x0 x1 x2 x3 h w sc b hb hold hw hs
  have l3 := left3 i x0 x1 x2 x3 h w sc b hb hold hw hs
  unfold out0_4 k0_pay12 k0_pay13
  generalize k0_pay4 i (View.ld x0 r0_0) (View.ld x1 r0_1) (View.ld x2 r0_2) (View.ld x3 r0_3) = p0 at l0 ⊢
  generalize k0_pay6 (View.ld x1 r0_1) (k0_pay3 i) (k0_pay5 i (View.ld x0 r0_0) (View.ld x1 r0_1)) (View.ld x2 r0_5) (View.ld x3 r0_6) = p1 at l1 ⊢
  generalize k0_pay9 (k0_pay7 (k0_pay2 i (View.ld x0 r0_0)) (View.ld x1 r0_1) (k0_pay3 i)) (k0_pay8 (View.ld x1 r0_1)) (View.ld x2 r0_8) (View.ld x3 r0_9) = p2 at l2 ⊢
  generalize k0_pay1 (k0_pay10 (k0_pay2 i (View.ld x0 r0_0)) (View.ld x1 r0_1) (k0_pay3 i) (View.ld x2 r0_11)) (k0_pay11 (View.ld x3 r0_12)) = p3 at l3 ⊢
  refine View.canon_apply_of_pieces G _ (View.PiecesOf.mem (show View.PiecesOf _ [_, _, _, _] from ⟨fun x => ?_, fun x => ?_, fun x => ?_, fun x => ?_, trivial⟩)) y (cover0_4 _ _ _ _ y)
  · obtain ⟨r, q, rfl⟩ : ∃ (r : Fin 512) (q : Fin 256), x = ix2 r q := ⟨x 0, x 1, eq_ix2 x⟩
    refine (l3 r q).trans (hG 3 r q _ ?_ ?_)
    · show 0 + 1 * r.val = r.val
      omega
    · show 768 + 1 * q.val = 3 * 256 + q.val
      omega
  · obtain ⟨r, q, rfl⟩ : ∃ (r : Fin 512) (q : Fin 256), x = ix2 r q := ⟨x 0, x 1, eq_ix2 x⟩
    refine (l2 r q).trans (hG 2 r q _ ?_ ?_)
    · show 0 + 1 * r.val = r.val
      omega
    · show 512 + 1 * q.val = 2 * 256 + q.val
      omega
  · obtain ⟨r, q, rfl⟩ : ∃ (r : Fin 512) (q : Fin 256), x = ix2 r q := ⟨x 0, x 1, eq_ix2 x⟩
    refine (l1 r q).trans (hG 1 r q _ ?_ ?_)
    · show 0 + 1 * r.val = r.val
      omega
    · show 256 + 1 * q.val = 1 * 256 + q.val
      omega
  · obtain ⟨r, q, rfl⟩ : ∃ (r : Fin 512) (q : Fin 256), x = ix2 r q := ⟨x 0, x 1, eq_ix2 x⟩
    refine (l0 r q).trans (hG 0 r q _ ?_ ?_)
    · show 0 + 1 * r.val = r.val
      omega
    · show 0 + 1 * q.val = 0 * 256 + q.val
      omega

end Stores

/-- A point leaves its block. -/
theorem block_left (c : Dev nD) (t : Fin cfg0.N) (y : S512x1024.Idx) :
    out0_4 (grid0.coords t) (iblk m c 0 t) (iblk m c 1 t) (iblk m c 2 t) (iblk m c 3 t) y = block m c t y :=
  out_eq (grid0.coords t) _ _ _ _ (wide m c) (weights m c) (scale m c) (t.val / 8) (by have := points t; omega) (holds m c t)
    (weights_read m c t) (scale_read m c t) _ (block_at m c t) y

/-- After the run the result array is `full`. -/
theorem final_4 (c : Dev nD) : (dats m 0 c).arrAt 4 cfg0.N = full m c := by
  refine (dats m 0 c).arrAt_eq_of_covers 4 _ (by decide +kernel) fun t hf y => ?_
  obtain ⟨e0, e1, e2, e3, e4, e5⟩ := places t
  blk_simp
  rw [after0_4, block_left]
  unfold block
  refine congrArg (full m c) ?_
  blk_ext [e4]

end Cert.Kernel7Ideal.Hand

end
-- ==== Proof.PoolReference.lean ====
/- The reference of the pooling of the prompt, at an index. -/
module

public import proofs.«01_k».proof.Proof.PoolSpec
public import proofs.«01_k».proof.Proof.Gen.Reference7Ideal.Run
public import Idealize.ShloMosaic.Lib.IdealHost
public import Idealize.ShloMosaic.Lib.Pointwise

@[expose] public section

set_option maxRecDepth 16384

noncomputable section

namespace Cert.Reference7Ideal.Hand

open Cert.Reference7Ideal Cert.Reference7Ideal.Gen
open Idealize.ShloMosaic Idealize.ShloMosaic.TcCoe Idealize.ShloMosaic.Tactic

/-- The pooled columns, the rows split by sequence. -/
def tokens (h : Vec Ideal S8192x8192 .f32) : Vec Ideal S2x4096x1024 .f32 :=
  shapeCast S2x4096x1024 (extractStridedSlice S8192x1024 ![0, 2048] h slices_S8192x8192_S8192x1024_0_2048) shapeCasts_S8192x1024_S2x4096x1024

/-- The pooled columns at an index. -/
theorem tokens_apply (h : Vec Ideal S8192x8192 .f32) (b : Fin 2) (s : Fin 4096) (c : Fin 1024) :
    tokens h (ix3 b s c) = Cert.Spec.token h b.val s.val 0 c.val := by
  have hb := b.isLt
  have hs := s.isLt
  have hc := c.isLt
  unfold Cert.Spec.token
  rw [dif_pos (⟨Nat.zero_le _, by omega, hc⟩ : 0 ≤ s.val ∧ b.val * 4096 + s.val < 8192 ∧ c.val < 1024)]
  pointwise [tokens]

/-- Fifteen positions of zeros, then the sequence. -/
def extended (u : Vec Ideal S2x4096x1024 .f32) : Vec Ideal S2x4111x1024 .f32 :=
  concatenate S2x4111x1024 1
    [⟨S2x15x1024, broadcastInDim S2x15x1024 ![] bcast_S_S2x15x1024 (constant (F := Ideal) S_ .f32 0x00000000#32)⟩, ⟨S2x4096x1024, u⟩]
    concatenates_S2x15x1024_S2x4096x1024_S2x4111x1024_d1

/-- Position `n` of it is the position `j` before position `s`, where `n + j = s + 15`. -/
theorem extended_apply (h : Vec Ideal S8192x8192 .f32) (b : Fin 2) (n : Fin 4111) (c : Fin 1024) (s j q : Nat)
    (hn : n.val + j = s + 15) (hj : j ≤ 15) (hs : s < 4096) (hq : c.val = q) :
    extended (tokens h) (ix3 b n c) = Cert.Spec.token h b.val s j q := by
  subst hq
  have hb := b.isLt
  have hc := c.isLt
  have e : extended (tokens h) (ix3 b n c) = if g : n.val < 15 then 0 else tokens h (ix3 b ⟨n.val - 15, by have := n.isLt; omega⟩ c) := by
    generalize tokens h = u
    pointwise [extended]
  rw [e]
  by_cases g : n.val < 15
  · rw [dif_pos g]
    unfold Cert.Spec.token
    rw [dif_neg]
    omega
  · rw [dif_neg g, tokens_apply]
    unfold Cert.Spec.token
    rw [dif_pos (by dsimp only; omega), dif_pos (by omega)]
    refine congrArg h (congrArg₂ ix2 (Fin.ext ?_) rfl)
    dsimp only
    omega

/-- The counts of a window's positions, from the word of its width. -/
def counts (v : BitVec 32) : Vec Ideal S2x4096x256 .f32 :=
  broadcastInDim S2x4096x256 ![0, 1, 2] bcast_S1x4096x1_S2x4096x256_0_1_2 (broadcastInDim S1x4096x1 ![1] bcast_S4096_S1x4096x1_1
    (sitofp (F := Ideal) .f32 (minsi (broadcastInDim S4096 ![] bcast_S_S4096 (constantI S_ 32 v)) (addi (iotaInDim S4096 32 0) (broadcastInDim S4096 ![] bcast_S_S4096 (constantI S_ 32 1#32))))))

/-- The counts at an index. -/
theorem counts_apply (w : Nat) (hw : w ≤ 16) (b : Fin 2) (s : Fin 4096) (k : Fin 256) :
    counts (BitVec.ofNat 32 w) (ix3 b s k) = Cert.Spec.count w s.val := by
  rw [← Cert.Spec.count_word w s.val hw s.isLt]
  generalize BitVec.ofNat 32 w = v
  pointwise [counts]
  rfl

/-- The sum over two positions, of group 0. -/
def sum2 (e : Vec Ideal S2x4111x1024 .f32) : Vec Ideal S2x4096x256 .f32 :=
  (addf (F := Ideal) (φ := .f32) (extractStridedSlice S2x4096x256 ![0, 15, 0] e slices_S2x4111x1024_S2x4096x256_0_15_0)
      (extractStridedSlice S2x4096x256 ![0, 14, 0] e slices_S2x4111x1024_S2x4096x256_0_14_0))

/-- It is the window's sum of the specification. -/
theorem sum2_apply (h : Vec Ideal S8192x8192 .f32) (b : Fin 2) (s : Fin 4096) (k : Fin 256) :
    sum2 (extended (tokens h)) (ix3 b s k) = Cert.Spec.window h 2 b.val s.val (0 * 256 + k.val) := by
  have hs := s.isLt
  have back := extended_apply h b
  generalize extended (tokens h) = e at back
  unfold Cert.Spec.window
  simp only [Finset.sum_range_succ, Finset.sum_range_zero, zero_add]
  pointwise [sum2]
  repeat' first
    | exact back _ _ _ _ _ (by first | rfl | (dsimp only; omega)) (by omega) hs (by first | rfl | (dsimp only; omega))
    | refine congrArg₂ (fun x y : EReal => x + y) ?_ ?_

/-- The sum over four positions, of group 1. -/
def sum4 (e : Vec Ideal S2x4111x1024 .f32) : Vec Ideal S2x4096x256 .f32 :=
  (addf (F := Ideal) (φ := .f32) (addf (F := Ideal) (φ := .f32) (addf (F := Ideal) (φ := .f32) (extractStridedSlice S2x4096x256 ![0, 15, 256] e slices_S2x4111x1024_S2x4096x256_0_15_256)
      (extractStridedSlice S2x4096x256 ![0, 14, 256] e slices_S2x4111x1024_S2x4096x256_0_14_256))
      (extractStridedSlice S2x4096x256 ![0, 13, 256] e slices_S2x4111x1024_S2x4096x256_0_13_256))
      (extractStridedSlice S2x4096x256 ![0, 12, 256] e slices_S2x4111x1024_S2x4096x256_0_12_256))

/-- It is the window's sum of the specification. -/
theorem sum4_apply (h : Vec Ideal S8192x8192 .f32) (b : Fin 2) (s : Fin 4096) (k : Fin 256) :
    sum4 (extended (tokens h)) (ix3 b s k) = Cert.Spec.window h 4 b.val s.val (1 * 256 + k.val) := by
  have hs := s.isLt
  have back := extended_apply h b
  generalize extended (tokens h) = e at back
  unfold Cert.Spec.window
  simp only [Finset.sum_range_succ, Finset.sum_range_zero, zero_add]
  pointwise [sum4]
  repeat' first
    | exact back _ _ _ _ _ (by first | rfl | (dsimp only; omega)) (by omega) hs (by first | rfl | (dsimp only; omega))
    | refine congrArg₂ (fun x y : EReal => x + y) ?_ ?_

/-- The sum over eight positions, of group 2. -/
def sum8 (e : Vec Ideal S2x4111x1024 .f32) : Vec Ideal S2x4096x256 .f32 :=
  (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (extractStridedSlice S2x4096x256 ![0, 15, 512] e slices_S2x4111x1024_S2x4096x256_0_15_512)
      (extractStridedSlice S2x4096x256 ![0, 14, 512] e slices_S2x4111x1024_S2x4096x256_0_14_512))
      (extractStridedSlice S2x4096x256 ![0, 13, 512] e slices_S2x4111x1024_S2x4096x256_0_13_512))
      (extractStridedSlice S2x4096x256 ![0, 12, 512] e slices_S2x4111x1024_S2x4096x256_0_12_512))
      (extractStridedSlice S2x4096x256 ![0, 11, 512] e slices_S2x4111x1024_S2x4096x256_0_11_512))
      (extractStridedSlice S2x4096x256 ![0, 10, 512] e slices_S2x4111x1024_S2x4096x256_0_10_512))
      (extractStridedSlice S2x4096x256 ![0, 9, 512] e slices_S2x4111x1024_S2x4096x256_0_9_512))
      (extractStridedSlice S2x4096x256 ![0, 8, 512] e slices_S2x4111x1024_S2x4096x256_0_8_512))

/-- It is the window's sum of the specification. -/
theorem sum8_apply (h : Vec Ideal S8192x8192 .f32) (b : Fin 2) (s : Fin 4096) (k : Fin 256) :
    sum8 (extended (tokens h)) (ix3 b s k) = Cert.Spec.window h 8 b.val s.val (2 * 256 + k.val) := by
  have hs := s.isLt
  have back := extended_apply h b
  generalize extended (tokens h) = e at back
  unfold Cert.Spec.window
  simp only [Finset.sum_range_succ, Finset.sum_range_zero, zero_add]
  pointwise [sum8]
  repeat' first
    | exact back _ _ _ _ _ (by first | rfl | (dsimp only; omega)) (by omega) hs (by first | rfl | (dsimp only; omega))
    | refine congrArg₂ (fun x y : EReal => x + y) ?_ ?_

/-- The sum over sixteen positions, of group 3. -/
def sum16 (e : Vec Ideal S2x4111x1024 .f32) : Vec Ideal S2x4096x256 .f32 :=
  (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (extractStridedSlice S2x4096x256 ![0, 15, 768] e slices_S2x4111x1024_S2x4096x256_0_15_768)
      (extractStridedSlice S2x4096x256 ![0, 14, 768] e slices_S2x4111x1024_S2x4096x256_0_14_768))
      (extractStridedSlice S2x4096x256 ![0, 13, 768] e slices_S2x4111x1024_S2x4096x256_0_13_768))
      (extractStridedSlice S2x4096x256 ![0, 12, 768] e slices_S2x4111x1024_S2x4096x256_0_12_768))
      (extractStridedSlice S2x4096x256 ![0, 11, 768] e slices_S2x4111x1024_S2x4096x256_0_11_768))
      (extractStridedSlice S2x4096x256 ![0, 10, 768] e slices_S2x4111x1024_S2x4096x256_0_10_768))
      (extractStridedSlice S2x4096x256 ![0, 9, 768] e slices_S2x4111x1024_S2x4096x256_0_9_768))
      (extractStridedSlice S2x4096x256 ![0, 8, 768] e slices_S2x4111x1024_S2x4096x256_0_8_768))
      (extractStridedSlice S2x4096x256 ![0, 7, 768] e slices_S2x4111x1024_S2x4096x256_0_7_768))
      (extractStridedSlice S2x4096x256 ![0, 6, 768] e slices_S2x4111x1024_S2x4096x256_0_6_768))
      (extractStridedSlice S2x4096x256 ![0, 5, 768] e slices_S2x4111x1024_S2x4096x256_0_5_768))
      (extractStridedSlice S2x4096x256 ![0, 4, 768] e slices_S2x4111x1024_S2x4096x256_0_4_768))
      (extractStridedSlice S2x4096x256 ![0, 3, 768] e slices_S2x4111x1024_S2x4096x256_0_3_768))
      (extractStridedSlice S2x4096x256 ![0, 2, 768] e slices_S2x4111x1024_S2x4096x256_0_2_768))
      (extractStridedSlice S2x4096x256 ![0, 1, 768] e slices_S2x4111x1024_S2x4096x256_0_1_768))
      (extractStridedSlice S2x4096x256 ![0, 0, 768] e slices_S2x4111x1024_S2x4096x256_0_0_768))

/-- It is the window's sum of the specification. -/
theorem sum16_apply (h : Vec Ideal S8192x8192 .f32) (b : Fin 2) (s : Fin 4096) (k : Fin 256) :
    sum16 (extended (tokens h)) (ix3 b s k) = Cert.Spec.window h 16 b.val s.val (3 * 256 + k.val) := by
  have hs := s.isLt
  have back := extended_apply h b
  generalize extended (tokens h) = e at back
  unfold Cert.Spec.window
  simp only [Finset.sum_range_succ, Finset.sum_range_zero, zero_add]
  pointwise [sum16]
  repeat' first
    | exact back _ _ _ _ _ (by first | rfl | (dsimp only; omega)) (by omega) hs (by first | rfl | (dsimp only; omega))
    | refine congrArg₂ (fun x y : EReal => x + y) ?_ ?_

/-- The four groups side by side. -/
def beside (a0 a1 a2 a3 : Vec Ideal S2x4096x256 .f32) : Vec Ideal S2x4096x4x256 .f32 :=
  concatenate S2x4096x4x256 2
    [⟨S2x4096x1x256, broadcastInDim S2x4096x1x256 ![0, 1, 3] bcast_S2x4096x256_S2x4096x1x256_0_1_3 a0⟩,
     ⟨S2x4096x1x256, broadcastInDim S2x4096x1x256 ![0, 1, 3] bcast_S2x4096x256_S2x4096x1x256_0_1_3 a1⟩,
     ⟨S2x4096x1x256, broadcastInDim S2x4096x1x256 ![0, 1, 3] bcast_S2x4096x256_S2x4096x1x256_0_1_3 a2⟩,
     ⟨S2x4096x1x256, broadcastInDim S2x4096x1x256 ![0, 1, 3] bcast_S2x4096x256_S2x4096x1x256_0_1_3 a3⟩]
    concatenates_S2x4096x1x256_S2x4096x1x256_S2x4096x1x256_S2x4096x1x256_S2x4096x4x256_d2

/-- The four groups at an index: the group's own array. -/
theorem beside_apply (a0 a1 a2 a3 : Vec Ideal S2x4096x256 .f32) (b : Fin 2) (s : Fin 4096) (g : Fin 4) (k : Fin 256) :
    beside a0 a1 a2 a3 (ix4 b s g k) = if g.val < 1 then a0 (ix3 b s k) else if g.val < 2 then a1 (ix3 b s k)
      else if g.val < 3 then a2 (ix3 b s k) else a3 (ix3 b s k) := by
  pointwise [beside]
  split_ifs <;> first | rfl | omega

/-- The means of a group. -/
def means (v : BitVec 32) (x : Vec Ideal S2x4096x256 .f32) : Vec Ideal S2x4096x256 .f32 := Host.divf (F := Ideal) (φ := .f32) x (counts v)

/-- The means at an index. -/
theorem means_apply (w : Nat) (hw : w ≤ 16) (x : Vec Ideal S2x4096x256 .f32) (b : Fin 2) (s : Fin 4096) (k : Fin 256) :
    means (BitVec.ofNat 32 w) x (ix3 b s k) = Ideal.div (x (ix3 b s k)) (Cert.Spec.count w s.val) := by
  rw [← counts_apply w hw b s k]
  rfl

/-- The means less the positions themselves. -/
def deviations (u : Vec Ideal S2x4096x1024 .f32) : Vec Ideal S2x4096x4x256 .f32 :=
  subf (F := Ideal) (φ := .f32)
    (beside (means 2#32 (sum2 (extended u))) (means 4#32 (sum4 (extended u))) (means 8#32 (sum8 (extended u))) (means 16#32 (sum16 (extended u))))
    (shapeCast S2x4096x4x256 u shapeCasts_S2x4096x1024_S2x4096x4x256)

/-- The difference at an index is the difference of the entries. -/
theorem deviations_split (u : Vec Ideal S2x4096x1024 .f32) (i : S2x4096x4x256.Idx) :
    deviations u i = (beside (means 2#32 (sum2 (extended u))) (means 4#32 (sum4 (extended u))) (means 8#32 (sum8 (extended u))) (means 16#32 (sum16 (extended u))) i
      - shapeCast S2x4096x4x256 u shapeCasts_S2x4096x1024_S2x4096x4x256 i : EReal) :=
  rfl

/-- The means less the positions, at an index. -/
theorem deviations_apply (h : Vec Ideal S8192x8192 .f32) (b : Fin 2) (s : Fin 4096) (g : Fin 4) (k : Fin 256) :
    deviations (tokens h) (ix4 b s g k) = Cert.Spec.deviation h g.val b.val s.val k.val := by
  have hk := k.isLt
  have hg := g.isLt
  have self : shapeCast S2x4096x4x256 (tokens h) shapeCasts_S2x4096x1024_S2x4096x4x256 (ix4 b s g k)
      = Cert.Spec.token h b.val s.val 0 (g.val * 256 + k.val) := by
    rw [← tokens_apply h b s ⟨g.val * 256 + k.val, by omega⟩]
    generalize tokens h = u
    pointwise []
  have m0 := (means_apply 2 (by decide) _ b s k).trans (congrArg (fun x => Ideal.div x _) (sum2_apply h b s k))
  have m1 := (means_apply 4 (by decide) _ b s k).trans (congrArg (fun x => Ideal.div x _) (sum4_apply h b s k))
  have m2 := (means_apply 8 (by decide) _ b s k).trans (congrArg (fun x => Ideal.div x _) (sum8_apply h b s k))
  have m3 := (means_apply 16 (by decide) _ b s k).trans (congrArg (fun x => Ideal.div x _) (sum16_apply h b s k))
  rw [deviations_split, self]
  clear self
  unfold Cert.Spec.deviation
  refine congrArg (fun x : EReal => x - _) ?_
  generalize means (BitVec.ofNat 32 2) (sum2 (extended (tokens h))) = a0 at m0 ⊢
  generalize means (BitVec.ofNat 32 4) (sum4 (extended (tokens h))) = a1 at m1 ⊢
  generalize means (BitVec.ofNat 32 8) (sum8 (extended (tokens h))) = a2 at m2 ⊢
  generalize means (BitVec.ofNat 32 16) (sum16 (extended (tokens h))) = a3 at m3 ⊢
  rw [beside_apply]
  have cases : g.val = 0 ∨ g.val = 1 ∨ g.val = 2 ∨ g.val = 3 := by omega
  rcases cases with e | e | e | e
  · rw [if_pos (by omega), m0, e, show Cert.Spec.width 0 = 2 from rfl]
  · rw [if_neg (by omega), if_pos (by omega), m1, e, show Cert.Spec.width 1 = 4 from rfl]
  · rw [if_neg (by omega), if_neg (by omega), if_pos (by omega), m2, e, show Cert.Spec.width 2 = 8 from rfl]
  · rw [if_neg (by omega), if_neg (by omega), if_neg (by omega), m3, e, show Cert.Spec.width 3 = 16 from rfl]

/-- The deviations mixed within each group and scaled, the rows of both sequences one below the other. -/
def mixed (d : Vec Ideal S2x4096x4x256 .f32) (w : Vec Ideal S1x4x256x256 .f32) (sc : Vec Ideal S1x1024 .f32) : Vec Ideal S8192x1024 .bf16 :=
  truncf (F := Ideal) (φ := .f32) .bf16
    (shapeCast S8192x1024
      (mulf (F := Ideal) (φ := .f32)
        (shapeCast S2x4096x1024
          (transpose S2x4096x4x256 [2, 3, 0, 1]
            (Host.dotGeneral (F := Ideal) (φ₁ := .f32) (φ₂ := .f32) dot_S4x256x256_S2x4096x4x256_S4x256x2x4096_1_3_2_01_0_2 none
              (shapeCast S4x256x256 w shapeCasts_S1x4x256x256_S4x256x256) d)
            transposes_S4x256x2x4096_S2x4096x4x256_2_3_0_1)
          shapeCasts_S2x4096x4x256_S2x4096x1024)
        (broadcastInDim S2x4096x1024 ![0, 1, 2] bcast_S1x1x1024_S2x4096x1024_0_1_2 (broadcastInDim S1x1x1024 ![2] bcast_S1024_S1x1x1024_2
          (shapeCast S1024 sc shapeCasts_S1x1024_S1024))))
      shapeCasts_S2x4096x1024_S8192x1024)
    bitsLt_bf16_f32

/-- The mixed deviations at an index: the deviations of a position against a column of its group's matrix, scaled. -/
theorem mixed_apply (d : Vec Ideal S2x4096x4x256 .f32) (w : Vec Ideal S1x4x256x256 .f32) (sc : Vec Ideal S1x1024 .f32) (r : Fin 8192) (c : Fin 1024) :
    mixed d w sc (ix2 r c)
      = ((∑ k : Fin 256, w (ix4 0 ⟨c.val / 256, by have := c.isLt; omega⟩ k ⟨c.val % 256, Nat.mod_lt _ (by decide)⟩)
          * d (ix4 ⟨r.val / 4096, by have := r.isLt; omega⟩ ⟨r.val % 4096, Nat.mod_lt _ (by decide)⟩ ⟨c.val / 256, by have := c.isLt; omega⟩ k))
        * sc (ix2 0 c) : EReal) := by
  pointwise [mixed]

/-- The reference's result: the pooling of the specification. -/
theorem value_eq (h : Vec Ideal S8192x8192 .f32) (w : Vec Ideal S1x4x256x256 .f32) (sc : Vec Ideal S1x1024 .f32) :
    mixed (deviations (tokens h)) w sc = Cert.Spec.pooled h w sc := by
  funext i
  obtain ⟨r, c, rfl⟩ : ∃ (r : Fin 8192) (c : Fin 1024), i = ix2 r c := ⟨i 0, i 1, eq_ix2 i⟩
  refine (mixed_apply _ w sc r c).trans ?_
  unfold Cert.Spec.pooled Cert.Spec.pooledAt
  refine congrArg₂ (fun x y : EReal => x * y) (Finset.sum_congr rfl fun k _ => ?_) (congrArg sc (congrArg (ix2 0) (Fin.ext ?_)))
  · rw [mul_comm]
    exact congrArg (fun x : EReal => x * _) (deviations_apply h _ _ _ k)
  · show c.val = c.val / 256 * 256 + c.val % 256
    omega

/-- The reference's run leaves just that. -/
theorem result_eq (m : (ℓ : Loc nD τ sig) → Buf (Elt Ideal) ℓ) (c : Dev nD) :
    Cert.Reference7Ideal.Value.res_main_v109 m c = Cert.Spec.pooled (m ((c : Thread nD τ).loc main_arg0)) (m ((c : Thread nD τ).loc main_arg1))
      (m ((c : Thread nD τ).loc main_arg2)) := by
  rw [← value_eq]
  rfl

end Cert.Reference7Ideal.Hand

end
-- ==== Proof.PoolClaim.lean ====
/- The claims about the pooling of the prompt: the two runs of the kernel, the reference's, and their common result. -/
module

public import proofs.«01_k».proof.Proof.PoolValue
public import proofs.«01_k».proof.Proof.PoolReference
public import proofs.«01_k».proof.Proof.Gen.Kernel7.Frame
public import proofs.«01_k».proof.Proof.Gen.Kernel7Ideal.Frame

@[expose] public section

noncomputable section

namespace Cert.Proof.Pool

open Idealize.ShloMosaic Idealize.SL.Sem

/-- The kernel runs, leaves its arguments, and ends quiescent. -/
theorem frame_kernel : quiescent_Kernel7 (hKernel7 := Cert.Kernel7.Gen.facts) :=
  fun m ρ _ => Cert.Kernel7.Gen.frame m ρ

/-- So does the kernel over the reals. -/
theorem frame_ideal : quiescent_Kernel7Ideal (hKernel7Ideal := Cert.Kernel7Ideal.Gen.facts) :=
  fun m ρ _ => Cert.Kernel7Ideal.Gen.frame m ρ

/-- So does the reference. -/
theorem frame_reference : quiescent_Reference7Ideal (hReference7Ideal := Cert.Reference7Ideal.Gen.facts) :=
  fun m ρ _ => (θ_run Cert.Reference7Ideal.defs _ _).mono
    (fun r h => ⟨fun c => (h c).2, sem_eq_zero_of_no_sems (by decide) r.2⟩)
    (Cert.Reference7Ideal.Value.run (F := Ideal) m ρ)

/-- Kernel and reference end with the same result: the windows' means less the positions, mixed and scaled. -/
theorem value : algebraic_Kernel7Ideal_Reference7Ideal (hKernel7Ideal := Cert.Kernel7Ideal.Gen.facts)
    (hReference7Ideal := Cert.Reference7Ideal.Gen.facts) := by
  intro m g m' g' _ he
  refine ⟨fun c => Cert.Kernel7Ideal.Hand.full m c, ?_, ?_⟩
  · exact (θ_run Cert.Kernel7Ideal.defs _ _).mono (fun _ h c => ⟨((h.1 c).1 4).trans (Cert.Kernel7Ideal.Hand.final_4 m c), h.2.1 c⟩)
      (θ_run_and (Cert.Kernel7Ideal.Gen.run_main (F := Ideal) m g) (Cert.Kernel7Ideal.Gen.frame (F := Ideal) m g))
  · refine (θ_run Cert.Reference7Ideal.defs _ _).mono (fun _ h c => ⟨(h c).1.trans ?_, (h c).2⟩)
      (Cert.Reference7Ideal.Value.run (F := Ideal) m' g')
    obtain ⟨e0, e1, e2⟩ := he c
    rw [Cert.Reference7Ideal.Hand.result_eq, e0, e1, e2]
    rfl

end Cert.Proof.Pool

end
-- ==== Proof.PostSpec.lean ====
/- What follows the merge: the product with the output weights, the residual, the norm, and the router's logits. -/
module

public import Idealize.ShloMosaic.Lib.Pointwise

@[expose] public section

noncomputable section

namespace Cert.Spec.Post

open Idealize.ShloMosaic

/-- The 2048 features of a position. -/
abbrev Row : Type := Fin 2048 → EReal

/-- The mean of a position's features. -/
def mean (y : Row) : EReal := Ideal.div (∑ k : Fin 2048, y k) (Ideal.ofBits .f32 0x45000000#32)

/-- Their variance: the mean of the squared distances from the mean. -/
def variance (y : Row) : EReal := mean fun k => (y k - mean y) * (y k - mean y)

/-- The layer's norm: each feature's distance from the mean, divided by the root of the variance and a small constant, then scaled and shifted. -/
def normed (y g b : Row) : Row :=
  fun q => (y q - mean y) * Ideal.rsqrt (variance y + Ideal.ofBits .f32 0x3727C5AC#32) * g q + b q

/-- The residual: the token's features, scaled, and what the mixer adds. -/
def residual (x mix : EReal) : EReal := Ideal.ofBits .f32 0x3F9837F0#32 * x + mix

/-- The router's logit of a position against one expert's column. -/
def logit (h w : Row) (b : EReal) : EReal := (∑ k : Fin 2048, h k * w k) + b

/-! ## The prompt: two sequences of 4096 positions -/

/-- The prompt's tokens. -/
abbrev Tokens : Type := (⟨3, ![2, 4096, 2048]⟩ : Shape).Idx → EReal

/-- The merged branches, one row for each position of the two sequences. -/
abbrev Merged : Type := (⟨2, ![8192, 2048]⟩ : Shape).Idx → EReal

/-- The output weights, with their leading axis of one layer. -/
abbrev OutWeights : Type := (⟨3, ![1, 2048, 2048]⟩ : Shape).Idx → EReal

/-- The norm's scale, or its shift. -/
abbrev Features : Type := (⟨2, ![1, 2048]⟩ : Shape).Idx → EReal

/-- The router's weights: a column for each of 32 experts. -/
abbrev RouterWeights : Type := (⟨3, ![1, 2048, 32]⟩ : Shape).Idx → EReal

/-- The router's bias. -/
abbrev RouterBias : Type := (⟨2, ![1, 32]⟩ : Shape).Idx → EReal

/-- A row of features of the norm's scale or shift. -/
def features (g : Features) : Row := fun q => g (ix2 0 q)

/-- The sequence of row `r` of both sequences' rows, and its position there. -/
def seqOf (r : Fin 8192) : Fin 2 := ⟨r.val / 4096, by have := r.isLt; omega⟩
def posOf (r : Fin 8192) : Fin 4096 := ⟨r.val % 4096, by omega⟩

/-- What the norm is taken of, at row `r`. -/
def summed (x : Tokens) (m : Merged) (w : OutWeights) (r : Fin 8192) : Row :=
  fun q => residual (x (ix3 (seqOf r) (posOf r) q)) (∑ k : Fin 2048, m (ix2 r k) * w (ix3 0 k q))

/-- The hidden features after the mixer, at row `r`. -/
def hiddenRow (x : Tokens) (m : Merged) (w : OutWeights) (g b : Features) (r : Fin 8192) : Row :=
  normed (summed x m w r) (features g) (features b)

/-- The hidden features of all rows. -/
def hidden (x : Tokens) (m : Merged) (w : OutWeights) (g b : Features) : (⟨2, ![8192, 2048]⟩ : Shape).Idx → EReal :=
  fun i => hiddenRow x m w g b (i 0) (i 1)

/-- The router's logits of all rows. -/
def logits (x : Tokens) (m : Merged) (w : OutWeights) (g b : Features) (wr : RouterWeights) (br : RouterBias) :
    (⟨2, ![8192, 32]⟩ : Shape).Idx → EReal :=
  fun i => logit (hiddenRow x m w g b (i 0)) (fun k => wr (ix3 0 k (i 1))) (br (ix2 0 (i 1)))

end Cert.Spec.Post

end
-- ==== Proof.PostValue.lean ====
/- The output projection, the norm and the router on the prompt over the reals: what a point leaves in its blocks, and the arrays after the run. -/
module

public import proofs.«01_k».proof.Defs
public import proofs.«01_k».proof.Proof.PostSpec
public import proofs.«01_k».proof.Proof.Gen.Kernel8Ideal.Frame
public import Idealize.ShloMosaic.Lib.Claim
public import Idealize.ShloMosaic.Lib.Pointwise
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Acc
public import Idealize.ShloMosaic.Lib.Pipeline.ValueKit.Point
public import Idealize.ShloMosaic.Lib.StableHlo.Run
public import Idealize.ShloMosaic.Lib.Tactic

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.SL.Sem
open Idealize.ShloMosaic.Pipeline (Dat Cfg Window)

/-! ## The payloads -/

/-- The block's tokens, scaled, and its merged rows against the output weights. -/
def summed (x : Vec Ideal S256x2048 .f32) (m : Vec Ideal S256x2048 .bf16) (w : Vec Ideal S2048x2048 .bf16) : Vec Ideal S256x2048 .f32 :=
  addf (F := Ideal) (φ := .f32)
    (mulf (F := Ideal) (φ := .f32) (broadcast S256x2048 (Scalar.ofBits (F := Ideal) .f32 0x3F9837F0#32)) (shapeCast S256x2048 x shapeCasts_S256x2048_S256x2048))
    (matmul (F := Ideal) (φ₁ := .bf16) (φ₂ := .bf16) dot_S256x2048_S2048x2048_S256x2048_1_0_0_1_n_n none m
      (shapeCast S2048x2048 w shapeCasts_S2048x2048_S2048x2048) (constant (F := Ideal) S256x2048 .f32 0x00000000#32))

/-- The sums at an index. -/
theorem summed_apply (x : Vec Ideal S256x2048 .f32) (m : Vec Ideal S256x2048 .bf16) (w : Vec Ideal S2048x2048 .bf16) (r : Fin 256) (q : Fin 2048) :
    summed x m w (ix2 r q) = Cert.Spec.Post.residual (x (ix2 r q)) (∑ k : Fin 2048, m (ix2 r k) * w (ix2 k q)) := by
  pointwise [summed, Cert.Spec.Post.residual]

/-- The mean of each row. -/
def means (y : Vec Ideal S256x2048 .f32) : Vec Ideal S256x1 .f32 :=
  divf (F := Ideal) (φ := .f32)
    (shapeCast S256x1 (multiReduction (F := Ideal) (φ := .f32) .add [1] S256 y 0x00000000#32 reduces_S256x2048_S256 (.inl rfl) rfl) shapeCasts_S256_S256x1)
    (broadcast S256x1 (Scalar.ofBits (F := Ideal) .f32 0x45000000#32))

/-- The means at an index. -/
theorem means_apply (y : Vec Ideal S256x2048 .f32) (r : Fin 256) : means y (ix2 r 0) = Cert.Spec.Post.mean fun k => y (ix2 r k) := by
  pointwise [means, Cert.Spec.Post.mean]

/-- The distances from the mean. -/
def away (y : Vec Ideal S256x2048 .f32) : Vec Ideal S256x2048 .f32 :=
  subf (F := Ideal) (φ := .f32) y (broadcastTo S256x2048 (means y) broadcasts_S256x1_S256x2048)

/-- The distances at an index. -/
theorem away_apply (y : Vec Ideal S256x2048 .f32) (r : Fin 256) (q : Fin 2048) :
    away y (ix2 r q) = y (ix2 r q) - Cert.Spec.Post.mean fun k => y (ix2 r k) := by
  rw [← means_apply]
  generalize hv : means y = v
  pointwise [away, hv]

/-- The variance of a row. -/
theorem variance_apply (y : Vec Ideal S256x2048 .f32) (r : Fin 256) :
    means (mulf (F := Ideal) (φ := .f32) (away y) (away y)) (ix2 r 0) = Cert.Spec.Post.variance fun k => y (ix2 r k) := by
  rw [means_apply]
  refine congrArg Cert.Spec.Post.mean (funext fun k => ?_)
  exact congrArg₂ (fun a b : EReal => a * b) (away_apply y r k) (away_apply y r k)

/-- The norm of each row. -/
def normed (y : Vec Ideal S256x2048 .f32) (g b : Vec Ideal S1x2048 .f32) : Vec Ideal S256x2048 .f32 :=
  addf (F := Ideal) (φ := .f32)
    (mulf (F := Ideal) (φ := .f32)
      (mulf (F := Ideal) (φ := .f32) (away y)
        (broadcastTo S256x2048
          (rsqrt (F := Ideal) (φ := .f32)
            (addf (F := Ideal) (φ := .f32) (means (mulf (F := Ideal) (φ := .f32) (away y) (away y)))
              (broadcast S256x1 (Scalar.ofBits (F := Ideal) .f32 0x3727C5AC#32)))) broadcasts_S256x1_S256x2048))
      (broadcastTo S256x2048 (shapeCast S1x2048 g shapeCasts_S1x2048_S1x2048) broadcasts_S1x2048_S256x2048))
    (broadcastTo S256x2048 (shapeCast S1x2048 b shapeCasts_S1x2048_S1x2048) broadcasts_S1x2048_S256x2048)

/-- The norm at an index. -/
theorem normed_apply (y : Vec Ideal S256x2048 .f32) (g b : Vec Ideal S1x2048 .f32) (r : Fin 256) (q : Fin 2048) :
    normed y g b (ix2 r q) = Cert.Spec.Post.normed (fun k => y (ix2 r k)) (Cert.Spec.Post.features g) (Cert.Spec.Post.features b) q := by
  unfold Cert.Spec.Post.normed Cert.Spec.Post.features
  rw [← variance_apply, ← away_apply]
  unfold normed
  generalize means (mulf (F := Ideal) (φ := .f32) (away y) (away y)) = v
  generalize away y = d
  pointwise []

/-- The payload of the hidden features: the norm of the sums. -/
theorem pay_hidden (x : Vec Ideal S256x2048 .f32) (m : Vec Ideal S256x2048 .bf16) (w : Vec Ideal S2048x2048 .bf16) (g b : Vec Ideal S1x2048 .f32) :
    k0_pay3 m w x g b = normed (summed x m w) g b := rfl

/-- The payload of the hidden features at an index. -/
theorem pay_hidden_apply (x : Vec Ideal S256x2048 .f32) (m : Vec Ideal S256x2048 .bf16) (w : Vec Ideal S2048x2048 .bf16) (g b : Vec Ideal S1x2048 .f32)
    (r : Fin 256) (q : Fin 2048) :
    k0_pay3 m w x g b (ix2 r q) = Cert.Spec.Post.normed (fun q => Cert.Spec.Post.residual (x (ix2 r q)) (∑ k : Fin 2048, m (ix2 r k) * w (ix2 k q)))
      (Cert.Spec.Post.features g) (Cert.Spec.Post.features b) q := by
  rw [pay_hidden, normed_apply, show (fun k => summed x m w (ix2 r k)) = _ from funext fun k => summed_apply x m w r k]

/-- The payload of the logits at an index: a row against a column of the router's weights, and its bias. -/
theorem pay_logits_apply (h : Vec Ideal S256x2048 .bf16) (wr : Vec Ideal S2048x128 .bf16) (br : Vec Ideal S1x128 .f32) (r : Fin 256) (e : Fin 128) :
    k0_pay1 h (k0_pay5 wr) br (ix2 r e) = Cert.Spec.Post.logit (fun k => h (ix2 r k)) (fun k => wr (ix2 k e)) (br (ix2 0 e)) := by
  pointwise [k0_pay1, k0_pay5, Cert.Spec.Post.logit]

/-- What a point leaves in the block of the hidden features. -/
theorem left_hidden (x0 : Vec Ideal S256x2048 .f32) (x1 : Vec Ideal S256x2048 .bf16) (x2 : Vec Ideal S2048x2048 .bf16) (x3 x4 : Vec Ideal S1x2048 .f32)
    (x5 : Vec Ideal S2048x128 .bf16) (x6 : Vec Ideal S1x128 .f32) : out0_7 x0 x1 x2 x3 x4 x5 x6 = k0_pay3 x1 x2 x0 x3 x4 := by
  unfold out0_7
  frame_out

/-- What it leaves in the block of the logits. -/
theorem left_logits (x0 : Vec Ideal S256x2048 .f32) (x1 : Vec Ideal S256x2048 .bf16) (x2 : Vec Ideal S2048x2048 .bf16) (x3 x4 : Vec Ideal S1x2048 .f32)
    (x5 : Vec Ideal S2048x128 .bf16) (x6 : Vec Ideal S1x128 .f32) :
    out0_9 x0 x1 x2 x3 x4 x5 x6 = k0_pay1 (k0_pay4 x1 x2 x0 x3 x4) (k0_pay5 x5) x6 := by
  unfold out0_9 k0_pay6
  frame_out

/-! ## What the region finds -/

variable (m : (ℓ : Loc nD τ sig) → Buf (Elt Ideal) ℓ)

/-- The arguments. -/
def tokens (c : Dev nD) : Cert.Spec.Post.Tokens := m ((c : Thread nD τ).loc main_arg0)
def merged (c : Dev nD) : Cert.Spec.Post.Merged := m ((c : Thread nD τ).loc main_arg1)
def outWeights (c : Dev nD) : Cert.Spec.Post.OutWeights := m ((c : Thread nD τ).loc main_arg2)
def scale (c : Dev nD) : Cert.Spec.Post.Features := m ((c : Thread nD τ).loc main_arg3)
def shift (c : Dev nD) : Cert.Spec.Post.Features := m ((c : Thread nD τ).loc main_arg4)
def routerWeights (c : Dev nD) : Cert.Spec.Post.RouterWeights := m ((c : Thread nD τ).loc main_arg5)
def routerBias (c : Dev nD) : Cert.Spec.Post.RouterBias := m ((c : Thread nD τ).loc main_arg6)

/-- The tokens, one row for each position. -/
def flat (x : Vec Ideal S2x4096x2048 .f32) : Vec Ideal S8192x2048 .f32 := shapeCast S8192x2048 x shapeCasts_S2x4096x2048_S8192x2048

/-- A row of them is the token at its sequence and position. -/
theorem flat_apply (x : Vec Ideal S2x4096x2048 .f32) (r : Fin 8192) (q : Fin 2048) :
    flat x (ix2 r q) = x (ix3 (Cert.Spec.Post.seqOf r) (Cert.Spec.Post.posOf r) q) := by
  pointwise [flat, Cert.Spec.Post.seqOf, Cert.Spec.Post.posOf]

/-- The output weights of a layer, cast. -/
def cast (w : Vec Ideal S1x2048x2048 .f32) : Vec Ideal S2048x2048 .bf16 :=
  truncf (F := Ideal) (φ := .f32) .bf16 (shapeCast S2048x2048 w shapeCasts_S1x2048x2048_S2048x2048) bitsLt_bf16_f32

/-- The cast weights at an index. -/
theorem cast_apply (w : Vec Ideal S1x2048x2048 .f32) (k q : Fin 2048) : cast w (ix2 k q) = w (ix3 0 k q) := by
  pointwise [cast]

/-- The scale or the shift, taken out of its layer and put in a row again. -/
def again (g : Vec Ideal S1x2048 .f32) : Vec Ideal S1x2048 .f32 := shapeCast S1x2048 (shapeCast S2048 g shapeCasts_S1x2048_S2048) shapeCasts_S2048_S1x2048

/-- It is what it was. -/
theorem again_apply (g : Vec Ideal S1x2048 .f32) (q : Fin 2048) : again g (ix2 0 q) = g (ix2 0 q) := by
  pointwise [again]

/-- The router's weights with 96 columns more, cast. -/
def padded (w : Vec Ideal S1x2048x32 .f32) : Vec Ideal S2048x128 .bf16 :=
  truncf (F := Ideal) (φ := .f32) .bf16
    (pad S2048x128 ![0, 0] ![0, 96] ![0, 0] (shapeCast S2048x32 w shapeCasts_S1x2048x32_S2048x32) (sitofp (F := Ideal) .f32 (constantI S_ 32 0#32))
      pads_S2048x32_S2048x128_000_0960 h_S_) bitsLt_bf16_f32

/-- A column of an expert is the argument's. -/
theorem padded_apply (w : Vec Ideal S1x2048x32 .f32) (k : Fin 2048) (e : Fin 32) :
    padded w (ix2 k ⟨e.val, by have := e.isLt; omega⟩) = w (ix3 0 k e) := by
  have hk := k.isLt
  have he := e.isLt
  unfold padded
  generalize sitofp (F := Ideal) .f32 (constantI S_ 32 0#32) = z
  pointwise []

/-- The router's bias with 96 entries more. -/
def paddedBias (b : Vec Ideal S1x32 .f32) : Vec Ideal S1x128 .f32 :=
  shapeCast S1x128 (pad S128 ![0] ![96] ![0] (shapeCast S32 b shapeCasts_S1x32_S32) (constant (F := Ideal) S_ .f32 0xF149F2CA#32) pads_S32_S128_0960 h_S_)
    shapeCasts_S128_S1x128

/-- An expert's bias is the argument's. -/
theorem paddedBias_apply (b : Vec Ideal S1x32 .f32) (e : Fin 32) : paddedBias b (ix2 0 ⟨e.val, by have := e.isLt; omega⟩) = b (ix2 0 e) := by
  have he := e.isLt
  unfold paddedBias
  generalize constant (F := Ideal) S_ .f32 0xF149F2CA#32 = z
  pointwise []

/-- The tokens as the region finds them. -/
theorem found_tokens (c : Dev nD) : V m c main_v0 = flat (m ((c : Thread nD τ).loc main_arg0)) := by
  entry_read
  rfl

/-- The output weights as the region finds them. -/
theorem found_weights (c : Dev nD) : V m c main_v2 = cast (m ((c : Thread nD τ).loc main_arg2)) := by
  entry_read
  rfl

/-- The scale as the region finds it. -/
theorem found_scale (c : Dev nD) : V m c main_v4 = again (m ((c : Thread nD τ).loc main_arg3)) := by
  entry_read
  rfl

/-- The shift as the region finds it. -/
theorem found_shift (c : Dev nD) : V m c main_v6 = again (m ((c : Thread nD τ).loc main_arg4)) := by
  entry_read
  rfl

/-- The router's weights as the region finds them. -/
theorem found_router (c : Dev nD) : V m c main_v9 = padded (m ((c : Thread nD τ).loc main_arg5)) := by
  entry_read
  rfl

/-- The router's bias as the region finds it. -/
theorem found_bias (c : Dev nD) : V m c main_v12 = paddedBias (m ((c : Thread nD τ).loc main_arg6)) := by
  entry_read
  rfl

/-! ## The blocks of a point -/

/-- The blocks of point `t`: block `t` of the rows of tokens, merged branches, hidden features and logits; all of the weights, scale, shift and bias. -/
theorem places : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![t.val, 0] ∧ win0_9.index t = ![t.val, 0] := by decide +kernel

/-- The number of grid points. -/
theorem points (t : Fin cfg0.N) : t.val < 32 := t.isLt.trans_eq N_0

/-- Row `r` of the block of rows of point `t`. -/
def rowOf (t : Fin cfg0.N) (r : Fin 256) : Fin 8192 := ⟨t.val * 256 + r.val, by have := points t; have := r.isLt; omega⟩

/-- The arrays the region finds. -/
def tokens0 (c : Dev nD) : Vec Ideal S8192x2048 .f32 := V m c main_v0
def weights0 (c : Dev nD) : Vec Ideal S2048x2048 .bf16 := V m c main_v2
def scale0 (c : Dev nD) : Vec Ideal S1x2048 .f32 := V m c main_v4
def shift0 (c : Dev nD) : Vec Ideal S1x2048 .f32 := V m c main_v6
def router0 (c : Dev nD) : Vec Ideal S2048x128 .bf16 := V m c main_v9
def bias0 (c : Dev nD) : Vec Ideal S1x128 .f32 := V m c main_v12

/-- The block of tokens at a point. -/
theorem tokens_block (c : Dev nD) (t : Fin cfg0.N) (r : Fin 256) (q : Fin 2048) :
    iblk m c 0 t (ix2 r q) = tokens0 m c (ix2 (rowOf t r) q) := by
  obtain ⟨e0, e1, e2, e3, e4, e5, e6, e7, e9⟩ := places t
  unfold iblk tokens0 rowOf
  blk_ext [e0]

/-- The block of merged rows at a point. -/
theorem merged_read (c : Dev nD) (t : Fin cfg0.N) (r : Fin 256) (k : Fin 2048) :
    iblk m c 1 t (ix2 r k) = merged m c (ix2 (rowOf t r) k) := by
  obtain ⟨e0, e1, e2, e3, e4, e5, e6, e7, e9⟩ := places t
  unfold iblk merged rowOf
  blk_ext [e1]

/-- The block of cast weights at a point: all of them. -/
theorem weights_block (c : Dev nD) (t : Fin cfg0.N) (k q : Fin 2048) : iblk m c 2 t (ix2 k q) = weights0 m c (ix2 k q) := by
  obtain ⟨e0, e1, e2, e3, e4, e5, e6, e7, e9⟩ := places t
  unfold iblk weights0
  blk_ext [e2]

/-- The block of the scale at a point: all of it. -/
theorem scale_block (c : Dev nD) (t : Fin cfg0.N) (q : Fin 2048) : iblk m c 3 t (ix2 0 q) = scale0 m c (ix2 0 q) := by
  obtain ⟨e0, e1, e2, e3, e4, e5, e6, e7, e9⟩ := places t
  unfold iblk scale0
  blk_ext [e3]

/-- The block of the shift at a point: all of it. -/
theorem shift_block (c : Dev nD) (t : Fin cfg0.N) (q : Fin 2048) : iblk m c 4 t (ix2 0 q) = shift0 m c (ix2 0 q) := by
  obtain ⟨e0, e1, e2, e3, e4, e5, e6, e7, e9⟩ := places t
  unfold iblk shift0
  blk_ext [e4]

/-- The block of the router's weights at a point: all of them. -/
theorem router_block (c : Dev nD) (t : Fin cfg0.N) (k : Fin 2048) (e : Fin 128) : iblk m c 5 t (ix2 k e) = router0 m c (ix2 k e) := by
  obtain ⟨e0, e1, e2, e3, e4, e5, e6, e7, e9⟩ := places t
  unfold iblk router0
  blk_ext [e5]

/-- The block of the router's bias at a point: all of it. -/
theorem bias_block (c : Dev nD) (t : Fin cfg0.N) (e : Fin 128) : iblk m c 6 t (ix2 0 e) = bias0 m c (ix2 0 e) := by
  obtain ⟨e0, e1, e2, e3, e4, e5, e6, e7, e9⟩ := places t
  unfold iblk bias0
  blk_ext [e6]

/-- The tokens a point reads, as entries of the argument. -/
theorem tokens_read (c : Dev nD) (t : Fin cfg0.N) (r : Fin 256) (q : Fin 2048) :
    iblk m c 0 t (ix2 r q) = tokens m c (ix3 (Cert.Spec.Post.seqOf (rowOf t r)) (Cert.Spec.Post.posOf (rowOf t r)) q) :=
  (tokens_block m c t r q).trans ((congrFun (found_tokens m c) (ix2 (rowOf t r) q)).trans (flat_apply _ (rowOf t r) q))

/-- The output weights a point reads, as entries of the argument. -/
theorem weights_read (c : Dev nD) (t : Fin cfg0.N) (k q : Fin 2048) : iblk m c 2 t (ix2 k q) = outWeights m c (ix3 0 k q) :=
  (weights_block m c t k q).trans ((congrFun (found_weights m c) (ix2 k q)).trans (cast_apply _ k q))

/-- The scale a point reads, as entries of the argument. -/
theorem scale_read (c : Dev nD) (t : Fin cfg0.N) (q : Fin 2048) : iblk m c 3 t (ix2 0 q) = scale m c (ix2 0 q) :=
  (scale_block m c t q).trans ((congrFun (found_scale m c) (ix2 0 q)).trans (again_apply _ q))

/-- The shift a point reads, as entries of the argument. -/
theorem shift_read (c : Dev nD) (t : Fin cfg0.N) (q : Fin 2048) : iblk m c 4 t (ix2 0 q) = shift m c (ix2 0 q) :=
  (shift_block m c t q).trans ((congrFun (found_shift m c) (ix2 0 q)).trans (again_apply _ q))

/-! ## The arrays after the run -/

/-- What the region is to leave in the array of hidden features. -/
def hidden (c : Dev nD) : Vec Ideal S8192x2048 .f32 :=
  Cert.Spec.Post.hidden (tokens m c) (merged m c) (outWeights m c) (scale m c) (shift m c)

/-- What it is to leave in the array of logits, of 128 columns. -/
def wide (c : Dev nD) : Vec Ideal S8192x128 .f32 :=
  fun i => Cert.Spec.Post.logit (Cert.Spec.Post.hiddenRow (tokens m c) (merged m c) (outWeights m c) (scale m c) (shift m c) (i 0))
    (fun k => router0 m c (ix2 k (i 1))) (bias0 m c (ix2 0 (i 1)))

/-- The payload of the hidden features, when its operands' entries are those of a row of the arguments. -/
theorem pay_hidden_row (x0 : Vec Ideal S256x2048 .f32) (x1 : Vec Ideal S256x2048 .bf16) (x2 : Vec Ideal S2048x2048 .bf16) (x3 x4 : Vec Ideal S1x2048 .f32)
    (x : Cert.Spec.Post.Tokens) (y : Cert.Spec.Post.Merged) (w : Cert.Spec.Post.OutWeights) (g b : Cert.Spec.Post.Features) (r : Fin 256) (R : Fin 8192)
    (h0 : ∀ q : Fin 2048, x0 (ix2 r q) = x (ix3 (Cert.Spec.Post.seqOf R) (Cert.Spec.Post.posOf R) q))
    (h1 : ∀ k : Fin 2048, x1 (ix2 r k) = y (ix2 R k)) (h2 : ∀ k q : Fin 2048, x2 (ix2 k q) = w (ix3 0 k q))
    (h3 : ∀ q : Fin 2048, x3 (ix2 0 q) = g (ix2 0 q)) (h4 : ∀ q : Fin 2048, x4 (ix2 0 q) = b (ix2 0 q)) (q : Fin 2048) :
    k0_pay3 x1 x2 x0 x3 x4 (ix2 r q) = Cert.Spec.Post.hiddenRow x y w g b R q := by
  rw [pay_hidden_apply]
  unfold Cert.Spec.Post.hiddenRow
  have e0 : (fun q : Fin 2048 => Cert.Spec.Post.residual (x0 (ix2 r q)) (∑ k : Fin 2048, x1 (ix2 r k) * x2 (ix2 k q))) = Cert.Spec.Post.summed x y w R :=
    funext fun q => congrArg₂ Cert.Spec.Post.residual (h0 q)
      (Finset.sum_congr rfl fun k _ => congrArg₂ (fun a b : EReal => a * b) (h1 k) (h2 k q))
  have e1 : Cert.Spec.Post.features x3 = Cert.Spec.Post.features g := funext h3
  have e2 : Cert.Spec.Post.features x4 = Cert.Spec.Post.features b := funext h4
  rw [e0, e1, e2]

/-- A point leaves its block of the hidden features. -/
theorem point_hidden (c : Dev nD) (t : Fin cfg0.N) (r : Fin 256) (q : Fin 2048) :
    k0_pay3 (iblk m c 1 t) (iblk m c 2 t) (iblk m c 0 t) (iblk m c 3 t) (iblk m c 4 t) (ix2 r q)
      = Cert.Spec.Post.hiddenRow (tokens m c) (merged m c) (outWeights m c) (scale m c) (shift m c) (rowOf t r) q :=
  pay_hidden_row _ _ _ _ _ (tokens m c) (merged m c) (outWeights m c) (scale m c) (shift m c) r (rowOf t r)
    (tokens_read m c t r) (merged_read m c t r) (weights_read m c t) (scale_read m c t) (shift_read m c t) q

/-- The payload of the logits, when the entries of its operands are a row of features, a column, and its bias. -/
theorem pay_logits_row (x0 : Vec Ideal S256x2048 .f32) (x1 : Vec Ideal S256x2048 .bf16) (x2 : Vec Ideal S2048x2048 .bf16) (x3 x4 : Vec Ideal S1x2048 .f32)
    (x5 : Vec Ideal S2048x128 .bf16) (x6 : Vec Ideal S1x128 .f32) (h : Cert.Spec.Post.Row) (wr : Vec Ideal S2048x128 .bf16) (br : Vec Ideal S1x128 .f32)
    (r : Fin 256) (e : Fin 128) (hh : ∀ k : Fin 2048, k0_pay3 x1 x2 x0 x3 x4 (ix2 r k) = h k)
    (h5 : ∀ k : Fin 2048, x5 (ix2 k e) = wr (ix2 k e)) (h6 : x6 (ix2 0 e) = br (ix2 0 e)) :
    k0_pay1 (k0_pay4 x1 x2 x0 x3 x4) (k0_pay5 x5) x6 (ix2 r e) = Cert.Spec.Post.logit h (fun k => wr (ix2 k e)) (br (ix2 0 e)) := by
  rw [pay_logits_apply, h6, funext h5]
  exact congrArg (fun y => Cert.Spec.Post.logit y (fun k => wr (ix2 k e)) (br (ix2 0 e))) (funext hh)

/-- A point leaves its block of the logits. -/
theorem point_logits (c : Dev nD) (t : Fin cfg0.N) (r : Fin 256) (e : Fin 128) :
    k0_pay1 (k0_pay4 (iblk m c 1 t) (iblk m c 2 t) (iblk m c 0 t) (iblk m c 3 t) (iblk m c 4 t)) (k0_pay5 (iblk m c 5 t)) (iblk m c 6 t) (ix2 r e)
      = wide m c (ix2 (rowOf t r) e) :=
  pay_logits_row _ _ _ _ _ _ _ (Cert.Spec.Post.hiddenRow (tokens m c) (merged m c) (outWeights m c) (scale m c) (shift m c) (rowOf t r))
    (router0 m c) (bias0 m c) r e (point_hidden m c t r) (fun k => router_block m c t k e) (bias_block m c t e)

/-- After the run the array of hidden features is `hidden`. -/
theorem final_7 (c : Dev nD) : (dats m 0 c).arrAt 7 cfg0.N = hidden m c := by
  refine (dats m 0 c).arrAt_eq_of_covers 7 _ (by decide +kernel) fun t hf y => ?_
  obtain ⟨e0, e1, e2, e3, e4, e5, e6, e7, e9⟩ := places t
  blk_simp
  rw [after0_7, left_hidden]
  refine ((congrArg (k0_pay3 _ _ _ _ _) (eq_ix2 y)).trans (point_hidden m c t (y 0) (y 1))).trans
    ((show _ = hidden m c (ix2 (rowOf t (y 0)) (y 1)) from rfl).trans (congrArg (hidden m c) ?_))
  unfold rowOf
  blk_ext [e7]

/-- After the run the array of logits is `wide`. -/
theorem final_9 (c : Dev nD) : (dats m 0 c).arrAt 9 cfg0.N = wide m c := by
  refine (dats m 0 c).arrAt_eq_of_covers 9 _ (by decide +kernel) fun t hf y => ?_
  obtain ⟨e0, e1, e2, e3, e4, e5, e6, e7, e9⟩ := places t
  blk_simp
  rw [after0_9, left_logits]
  refine ((congrArg (k0_pay1 _ _ _) (eq_ix2 y)).trans (point_logits m c t (y 0) (y 1))).trans (congrArg (wide m c) ?_)
  unfold rowOf
  blk_ext [e9]

/-! ## The logits of the experts -/

/-- The windows' arrays are different arrays. -/
theorem arrays_apart : Function.Injective (Pipeline.arrRef (sig := sig) spec0) := by decide

/-- What the buffers hold when the region is over. -/
def over (c : Dev nD) : Valuation τ sig (Elt Ideal) :=
  Pipeline.withArrays spec0 c (V0 m c) fun w => (dats m 0 c).arrAt w cfg0.N

/-- The array of logits after the region. -/
theorem over_wide (c : Dev nD) : over m c (Proc.devRef .tc main_v13_2) = wide m c :=
  (Pipeline.withArrays_arr spec0 arrays_apart c _ _ 9).trans (final_9 m c)

/-- What the line after the region reads. -/
def left (c : Dev nD) : Vec Ideal S8192x128 .f32 := over m c (Proc.devRef .tc main_v13_2)

/-- Of its columns the experts' are the specification's logits. -/
theorem left_apply (c : Dev nD) (r : Fin 8192) (e : Fin 32) :
    left m c (ix2 r ⟨e.val, by have := e.isLt; omega⟩)
      = Cert.Spec.Post.logits (tokens m c) (merged m c) (outWeights m c) (scale m c) (shift m c) (routerWeights m c) (routerBias m c) (ix2 r e) := by
  refine (congrFun (over_wide m c) _).trans ?_
  exact congrArg₂ (Cert.Spec.Post.logit _)
    (funext fun k => (congrFun (found_router m c) _).trans (padded_apply _ k e))
    ((congrFun (found_bias m c) _).trans (paddedBias_apply _ e))

/-- The logits the program returns: the experts' columns. -/
theorem result_logits (c : Dev nD) : Pipeline.afterTail₀ cfgs (dats m) 0 (V0 m) [hostOps1] c main_v14
    = Cert.Spec.Post.logits (tokens m c) (merged m c) (outWeights m c) (scale m c) (shift m c) (routerWeights m c) (routerBias m c) := by
  refine (show _ = extractStridedSlice S8192x32 ![0, 0] (left m c) slices_S8192x128_S8192x32_0_0 from rfl).trans ?_
  funext i
  obtain ⟨r, e, rfl⟩ : ∃ (r : Fin 8192) (e : Fin 32), i = ix2 r e := ⟨i 0, i 1, eq_ix2 i⟩
  rw [← left_apply]
  generalize left m c = v
  pointwise []

end Cert.Kernel8Ideal.Hand

end
-- ==== Proof.PostReference.lean ====
/- The reference of the output projection, the norm and the router on the prompt, at an index. -/
module

public import proofs.«01_k».proof.Proof.PostSpec
public import proofs.«01_k».proof.Proof.Gen.Reference8Ideal.Run
public import Idealize.ShloMosaic.Lib.IdealHost
public import Idealize.ShloMosaic.Lib.Pointwise

@[expose] public section

set_option maxRecDepth 16384

noncomputable section

namespace Cert.Reference8Ideal.Hand

open Cert.Reference8Ideal Cert.Reference8Ideal.Gen
open Idealize.ShloMosaic Idealize.ShloMosaic.TcCoe Idealize.ShloMosaic.Tactic

/-- The tokens, scaled, and the merged branches against the output weights. -/
def summed (x : Vec Ideal S2x4096x2048 .f32) (m : Vec Ideal S8192x2048 .bf16) (w : Vec Ideal S1x2048x2048 .f32) : Vec Ideal S2x4096x2048 .f32 :=
  addf (F := Ideal) (φ := .f32)
    (mulf (F := Ideal) (φ := .f32) (broadcastInDim S2x4096x2048 ![] bcast_S_S2x4096x2048 (constant (F := Ideal) S_ .f32 0x3F9837F0#32)) x)
    (Host.dotGeneral (F := Ideal) (φ₁ := .f32) (φ₂ := .f32) dot_S2x4096x2048_S2048x2048_S2x4096x2048_2_0_01_1_n_n none
      (shapeCast S2x4096x2048 (extf (F := Ideal) (φ := .bf16) .f32 m bitsLt_bf16_f32) shapeCasts_S8192x2048_S2x4096x2048)
      (shapeCast S2048x2048 w shapeCasts_S1x2048x2048_S2048x2048))

/-- The sums at an index. -/
theorem summed_apply (x : Vec Ideal S2x4096x2048 .f32) (m : Vec Ideal S8192x2048 .bf16) (w : Vec Ideal S1x2048x2048 .f32)
    (r : Fin 8192) (q : Fin 2048) :
    summed x m w (ix3 (Cert.Spec.Post.seqOf r) (Cert.Spec.Post.posOf r) q) = Cert.Spec.Post.summed x m w r q := by
  have e : ∀ k : Fin 2048, (shapeCast S2x4096x2048 (extf (F := Ideal) (φ := .bf16) .f32 m bitsLt_bf16_f32) shapeCasts_S8192x2048_S2x4096x2048)
      (ix3 (Cert.Spec.Post.seqOf r) (Cert.Spec.Post.posOf r) k) = m (ix2 r k) := by
    intro k
    pointwise [Cert.Spec.Post.seqOf, Cert.Spec.Post.posOf]
  unfold summed
  generalize (shapeCast S2x4096x2048 (extf (F := Ideal) (φ := .bf16) .f32 m bitsLt_bf16_f32) shapeCasts_S8192x2048_S2x4096x2048) = y at e ⊢
  pointwise [Cert.Spec.Post.summed, Cert.Spec.Post.residual, e]

/-- The mean over the features of each position. -/
def means (y : Vec Ideal S2x4096x2048 .f32) : Vec Ideal S2x4096x1 .f32 :=
  Host.divf (F := Ideal) (φ := .f32)
    (broadcastInDim S2x4096x1 ![0, 1] bcast_S2x4096_S2x4096x1_0_1
      (Host.reduceAdd (F := Ideal) (φ := .f32) y (constant (F := Ideal) S_ .f32 0x00000000#32) reducesTo_S2x4096x2048_S2x4096_d2 h_S_))
    (broadcastInDim S2x4096x1 ![] bcast_S_S2x4096x1 (constant (F := Ideal) S_ .f32 0x45000000#32))

/-- The means at an index. -/
theorem means_apply (y : Vec Ideal S2x4096x2048 .f32) (b : Fin 2) (s : Fin 4096) :
    means y (ix3 b s 0) = Cert.Spec.Post.mean fun k => y (ix3 b s k) := by
  pointwise [means, Cert.Spec.Post.mean, Ideal.ofBits_zero_f32]

/-- The distance from the mean. -/
def away (y : Vec Ideal S2x4096x2048 .f32) : Vec Ideal S2x4096x2048 .f32 :=
  subf (F := Ideal) (φ := .f32) y (broadcastInDim S2x4096x2048 ![0, 1, 2] bcast_S2x4096x1_S2x4096x2048_0_1_2 (means y))

/-- The distances at an index. -/
theorem away_apply (y : Vec Ideal S2x4096x2048 .f32) (b : Fin 2) (s : Fin 4096) (q : Fin 2048) :
    away y (ix3 b s q) = y (ix3 b s q) - Cert.Spec.Post.mean fun k => y (ix3 b s k) := by
  rw [← means_apply]
  generalize hv : means y = v
  pointwise [away, hv]

/-- The norm of each position. -/
def normed (y : Vec Ideal S2x4096x2048 .f32) (g b : Vec Ideal S1x2048 .f32) : Vec Ideal S2x4096x2048 .f32 :=
  addf (F := Ideal) (φ := .f32)
    (mulf (F := Ideal) (φ := .f32)
      (mulf (F := Ideal) (φ := .f32) (away y)
        (broadcastInDim S2x4096x2048 ![0, 1, 2] bcast_S2x4096x1_S2x4096x2048_0_1_2
          (Host.rsqrt (F := Ideal) (φ := .f32)
            (addf (F := Ideal) (φ := .f32) (means (mulf (F := Ideal) (φ := .f32) (away y) (away y)))
              (broadcastInDim S2x4096x1 ![] bcast_S_S2x4096x1 (constant (F := Ideal) S_ .f32 0x3727C5AC#32))))))
      (broadcastInDim S2x4096x2048 ![0, 1, 2] bcast_S1x1x2048_S2x4096x2048_0_1_2
        (broadcastInDim S1x1x2048 ![2] bcast_S2048_S1x1x2048_2 (shapeCast S2048 g shapeCasts_S1x2048_S2048))))
    (broadcastInDim S2x4096x2048 ![0, 1, 2] bcast_S1x1x2048_S2x4096x2048_0_1_2
      (broadcastInDim S1x1x2048 ![2] bcast_S2048_S1x1x2048_2 (shapeCast S2048 b shapeCasts_S1x2048_S2048)))

/-- The variance of a position. -/
theorem variance_apply (y : Vec Ideal S2x4096x2048 .f32) (b : Fin 2) (s : Fin 4096) :
    means (mulf (F := Ideal) (φ := .f32) (away y) (away y)) (ix3 b s 0) = Cert.Spec.Post.variance fun k => y (ix3 b s k) := by
  rw [means_apply]
  refine congrArg Cert.Spec.Post.mean (funext fun k => ?_)
  exact congrArg₂ (fun a b : EReal => a * b) (away_apply y b s k) (away_apply y b s k)

/-- The norm at an index. -/
theorem normed_apply (y : Vec Ideal S2x4096x2048 .f32) (g b : Vec Ideal S1x2048 .f32) (n : Fin 2) (s : Fin 4096) (q : Fin 2048) :
    normed y g b (ix3 n s q) = Cert.Spec.Post.normed (fun k => y (ix3 n s k)) (Cert.Spec.Post.features g) (Cert.Spec.Post.features b) q := by
  unfold Cert.Spec.Post.normed Cert.Spec.Post.features
  rw [← variance_apply, ← away_apply]
  unfold normed
  generalize means (mulf (F := Ideal) (φ := .f32) (away y) (away y)) = v
  generalize away y = d
  pointwise []

/-- The hidden features, one row for each position. -/
def hidden (x : Vec Ideal S2x4096x2048 .f32) (m : Vec Ideal S8192x2048 .bf16) (w : Vec Ideal S1x2048x2048 .f32) (g b : Vec Ideal S1x2048 .f32) :
    Vec Ideal S8192x2048 .f32 :=
  shapeCast S8192x2048 (normed (summed x m w) g b) shapeCasts_S2x4096x2048_S8192x2048

/-- The hidden features at an index. -/
theorem hidden_apply (x : Vec Ideal S2x4096x2048 .f32) (m : Vec Ideal S8192x2048 .bf16) (w : Vec Ideal S1x2048x2048 .f32) (g b : Vec Ideal S1x2048 .f32)
    (r : Fin 8192) (q : Fin 2048) : hidden x m w g b (ix2 r q) = Cert.Spec.Post.hiddenRow x m w g b r q := by
  have e : hidden x m w g b (ix2 r q) = normed (summed x m w) g b (ix3 (Cert.Spec.Post.seqOf r) (Cert.Spec.Post.posOf r) q) := by
    unfold hidden
    generalize normed (summed x m w) g b = y
    pointwise [Cert.Spec.Post.seqOf, Cert.Spec.Post.posOf]
  rw [e, normed_apply]
  unfold Cert.Spec.Post.hiddenRow
  rw [show (fun k => summed x m w (ix3 (Cert.Spec.Post.seqOf r) (Cert.Spec.Post.posOf r) k)) = Cert.Spec.Post.summed x m w r from
    funext fun k => summed_apply x m w r k]

/-- The logits of the hidden features. -/
def routed (h : Vec Ideal S8192x2048 .f32) (wr : Vec Ideal S1x2048x32 .f32) (br : Vec Ideal S1x32 .f32) : Vec Ideal S8192x32 .f32 :=
  addf (F := Ideal) (φ := .f32)
    (Host.dotGeneral (F := Ideal) (φ₁ := .f32) (φ₂ := .f32) dot_S8192x2048_S2048x32_S8192x32_1_0_0_1_n_n none h
      (shapeCast S2048x32 wr shapeCasts_S1x2048x32_S2048x32))
    (broadcastInDim S8192x32 ![0, 1] bcast_S1x32_S8192x32_0_1 (broadcastInDim S1x32 ![1] bcast_S32_S1x32_1 (shapeCast S32 br shapeCasts_S1x32_S32)))

/-- The logits at an index. -/
theorem routed_apply (h : Vec Ideal S8192x2048 .f32) (wr : Vec Ideal S1x2048x32 .f32) (br : Vec Ideal S1x32 .f32) (r : Fin 8192) (e : Fin 32) :
    routed h wr br (ix2 r e) = Cert.Spec.Post.logit (fun k => h (ix2 r k)) (fun k => wr (ix3 0 k e)) (br (ix2 0 e)) := by
  pointwise [routed, Cert.Spec.Post.logit]

/-- The reference's hidden features are the specification's. -/
theorem hidden_eq (x : Vec Ideal S2x4096x2048 .f32) (m : Vec Ideal S8192x2048 .bf16) (w : Vec Ideal S1x2048x2048 .f32) (g b : Vec Ideal S1x2048 .f32) :
    hidden x m w g b = Cert.Spec.Post.hidden x m w g b := by
  funext i
  obtain ⟨r, q, rfl⟩ : ∃ (r : Fin 8192) (q : Fin 2048), i = ix2 r q := ⟨i 0, i 1, eq_ix2 i⟩
  exact hidden_apply x m w g b r q

/-- So are its logits. -/
theorem logits_eq (x : Vec Ideal S2x4096x2048 .f32) (m : Vec Ideal S8192x2048 .bf16) (w : Vec Ideal S1x2048x2048 .f32) (g b : Vec Ideal S1x2048 .f32)
    (wr : Vec Ideal S1x2048x32 .f32) (br : Vec Ideal S1x32 .f32) :
    routed (hidden x m w g b) wr br = Cert.Spec.Post.logits x m w g b wr br := by
  funext i
  obtain ⟨r, e, rfl⟩ : ∃ (r : Fin 8192) (e : Fin 32), i = ix2 r e := ⟨i 0, i 1, eq_ix2 i⟩
  rw [routed_apply]
  exact congrArg (fun h => Cert.Spec.Post.logit h (fun k => wr (ix3 0 k e)) (br (ix2 0 e))) (funext fun k => hidden_apply x m w g b r k)

/-- What the reference's run leaves first. -/
theorem result_hidden (m : (ℓ : Loc nD τ sig) → Buf (Elt Ideal) ℓ) (c : Dev nD) :
    Cert.Reference8Ideal.Value.res_main_v33 m c = Cert.Spec.Post.hidden (m ((c : Thread nD τ).loc main_arg0)) (m ((c : Thread nD τ).loc main_arg1))
      (m ((c : Thread nD τ).loc main_arg2)) (m ((c : Thread nD τ).loc main_arg3)) (m ((c : Thread nD τ).loc main_arg4)) := by
  rw [← hidden_eq]
  rfl

/-- What it leaves second. -/
theorem result_logits (m : (ℓ : Loc nD τ sig) → Buf (Elt Ideal) ℓ) (c : Dev nD) :
    Cert.Reference8Ideal.Value.res_main_v39 m c = Cert.Spec.Post.logits (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [← logits_eq]
  rfl

end Cert.Reference8Ideal.Hand

end
-- ==== Proof.PostClaim.lean ====
/- The claims about the output projection, the norm and the router on the prompt: the two runs of the kernel, the reference's, and their common results. -/
module

public import proofs.«01_k».proof.Proof.PostValue
public import proofs.«01_k».proof.Proof.PostReference
public import proofs.«01_k».proof.Proof.Gen.Kernel8.Frame
public import proofs.«01_k».proof.Proof.Gen.Kernel8Ideal.Frame
public import Idealize.ShloMosaic.Lib.Bf16Pair
public import Idealize.ShloMosaic.Lib.Bf16PairInverse

@[expose] public section

noncomputable section

namespace Cert.Proof.Post

open Idealize.ShloMosaic Idealize.SL.Sem

/-- The kernel runs, leaves its arguments, and ends quiescent. -/
theorem frame_kernel : quiescent_Kernel8 (hKernel8 := Cert.Kernel8.Gen.facts) :=
  fun m ρ _ => Cert.Kernel8.Gen.frame m ρ

/-- So does the kernel over the reals. -/
theorem frame_ideal : quiescent_Kernel8Ideal (hKernel8Ideal := Cert.Kernel8Ideal.Gen.facts) :=
  fun m ρ _ => Cert.Kernel8Ideal.Gen.frame m ρ

/-- So does the reference. -/
theorem frame_reference : quiescent_Reference8Ideal (hReference8Ideal := Cert.Reference8Ideal.Gen.facts) :=
  fun m ρ _ => (θ_run Cert.Reference8Ideal.defs _ _).mono
    (fun r h => ⟨fun c => (h c).2.2, sem_eq_zero_of_no_sems (by decide) r.2⟩)
    (Cert.Reference8Ideal.Value.run (F := Ideal) m ρ)

/-- Where the kernel over the reals reads a pair of halves for a word, the word holds just that pair. -/
theorem preserves : preserves_Kernel8_Kernel8Ideal :=
  ⟨IdealRules.bf16_pair.bufferStatement _ _, IdealRules.bf16_pair.bufferStatement _ _, IdealRules.bf16_pair.statement _ _,
    IdealRules.bf16_pack.statement _⟩

/-- Kernel and reference end with the same two results: the normed sums, and their logits. -/
theorem value : algebraic_Kernel8Ideal_Reference8Ideal (hKernel8Ideal := Cert.Kernel8Ideal.Gen.facts)
    (hReference8Ideal := Cert.Reference8Ideal.Gen.facts) := by
  intro m g m' g' _ he
  refine ⟨fun c => Cert.Kernel8Ideal.Hand.hidden m c, fun c => Cert.Spec.Post.logits (Cert.Kernel8Ideal.Hand.tokens m c)
    (Cert.Kernel8Ideal.Hand.merged m c) (Cert.Kernel8Ideal.Hand.outWeights m c) (Cert.Kernel8Ideal.Hand.scale m c)
    (Cert.Kernel8Ideal.Hand.shift m c) (Cert.Kernel8Ideal.Hand.routerWeights m c) (Cert.Kernel8Ideal.Hand.routerBias m c), ?_, ?_⟩
  · exact (θ_run Cert.Kernel8Ideal.defs _ _).mono
      (fun _ h c => ⟨((h.1 c).1 7).trans (Cert.Kernel8Ideal.Hand.final_7 m c),
        ((h.1 c).2 Cert.Kernel8Ideal.main_v14 (Pipeline.mem_restRefs_of Cert.Kernel8Ideal.main_v14 (by decide) (by decide))).trans
          (Cert.Kernel8Ideal.Hand.result_logits m c), h.2.1 c⟩)
      (θ_run_and (Cert.Kernel8Ideal.Gen.run_main (F := Ideal) m g) (Cert.Kernel8Ideal.Gen.frame (F := Ideal) m g))
  · refine (θ_run Cert.Reference8Ideal.defs _ _).mono (fun _ h c => ⟨(h c).1.trans ?_, (h c).2.1.trans ?_, (h c).2.2⟩)
      (Cert.Reference8Ideal.Value.run (F := Ideal) m' g')
    · obtain ⟨e0, e1, e2, e3, e4, e5, e6⟩ := he c
      rw [Cert.Reference8Ideal.Hand.result_hidden, e0, e1, e2, e3, e4]
      rfl
    · obtain ⟨e0, e1, e2, e3, e4, e5, e6⟩ := he c
      rw [Cert.Reference8Ideal.Hand.result_logits, e0, e1, e2, e3, e4, e5, e6]
      rfl

end Cert.Proof.Post

end
-- ==== Proof.MergeSampleSpec.lean ====
/- The merge of the samples' two branches: the attention's and the pooling's outputs projected, gated, and added. -/
module

public import proofs.«01_k».proof.Proof.MergeSpec
public import Idealize.ShloMosaic.Lib.Pointwise

@[expose] public section

noncomputable section

namespace Cert.Spec.Samples

open Idealize.ShloMosaic

/-- A branch: 1024 features of each of the samples' 64 positions. -/
abbrev Branch : Type := (⟨2, ![64, 1024]⟩ : Shape).Idx → EReal

/-- The projected array, one row for each position. -/
abbrev Wide : Type := (⟨2, ![64, 8192]⟩ : Shape).Idx → EReal

/-- Its entry in row `r` and column `p`, the column given as a number. -/
def entry (h : Wide) (r : Fin 64) (p : Nat) : EReal := if e : p < 8192 then h (ix2 r ⟨p, e⟩) else 0

/-- An entry read by the number of its column is the entry at that column. -/
theorem entry_of (h : Wide) (r : Fin 64) (p : Fin 8192) (n : Nat) (e : p.val = n) : entry h r n = h (ix2 r p) := by
  subst e
  exact dif_pos p.isLt

/-- A branch projected: position `r` against column `q` of its weights. -/
def branch (x : Branch) (w : BranchWeights) (r : Fin 64) (q : Fin 2048) : EReal :=
  ∑ k : Fin 1024, x (ix2 r k) * w (ix3 0 k q)

/-- Both branches projected, each scaled by the logistic of its own gate, columns 3072 and 5120 on of the projected array. -/
def merged (att pool : Branch) (h : Wide) (wa wb : BranchWeights) : (⟨2, ![64, 2048]⟩ : Shape).Idx → EReal :=
  fun i => gateOf (entry h (i 0) (3072 + (i 1).val)) * branch att wa (i 0) (i 1)
    + gateOf (entry h (i 0) (5120 + (i 1).val)) * branch pool wb (i 0) (i 1)

end Cert.Spec.Samples

end
-- ==== Proof.MergeSampleValue.lean ====
/- The merge of the samples' two branches over the reals: what a point leaves in its block, and the array after the run. -/
module

public import proofs.«01_k».proof.Defs
public import proofs.«01_k».proof.Proof.MergeSampleSpec
public import proofs.«01_k».proof.Proof.Gen.Kernel9Ideal.Frame
public import Idealize.ShloMosaic.Lib.Claim
public import Idealize.ShloMosaic.Lib.Pointwise
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Acc
public import Idealize.ShloMosaic.Lib.Pipeline.ValueKit.Point
public import Idealize.ShloMosaic.Lib.StableHlo.Run
public import Idealize.ShloMosaic.Lib.Tactic

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Tactic
open Idealize.SL.Sem
open Idealize.ShloMosaic.Pipeline (Dat Cfg Window)

/-- The payload at row `r` and column `q`: two products, each times the logistic of its gate, added. -/
theorem pay_apply (x : Vec Ideal S64x1024 .bf16) (u : Vec Ideal S1024x512 .bf16) (y : Vec Ideal S64x1024 .bf16) (v : Vec Ideal S1024x512 .bf16)
    (a b : Vec Ideal S64x512 .f32) (r : Fin 64) (q : Fin 512) :
    k0_pay1 x u y v a b (ix2 r q)
      = (Cert.Spec.gateOf (a (ix2 r q)) * (∑ k : Fin 1024, x (ix2 r k) * u (ix2 k q))
        + Cert.Spec.gateOf (b (ix2 r q)) * (∑ k : Fin 1024, y (ix2 r k) * v (ix2 k q)) : EReal) := by
  pointwise [k0_pay1, Cert.Spec.gateOf]

/-- The single store of a point leaves the payload of its six blocks. -/
theorem block_left (x0 x1 : Vec Ideal S64x1024 .bf16) (x2 x3 : Vec Ideal S1024x512 .bf16) (x4 x5 : Vec Ideal S64x512 .f32) :
    out0_6 x0 x1 x2 x3 x4 x5 = k0_pay1 x0 x2 x1 x3 x4 x5 := by
  unfold out0_6
  frame_out

/-! ## What the region finds -/

variable (m : (ℓ : Loc nD τ sig) → Buf (Elt Ideal) ℓ)

/-- The arguments. -/
def att (c : Dev nD) : Cert.Spec.Samples.Branch := m ((c : Thread nD τ).loc main_arg0)
def pool (c : Dev nD) : Cert.Spec.Samples.Branch := m ((c : Thread nD τ).loc main_arg1)
def wide (c : Dev nD) : Cert.Spec.Samples.Wide := m ((c : Thread nD τ).loc main_arg2)
def attWeights (c : Dev nD) : Cert.Spec.BranchWeights := m ((c : Thread nD τ).loc main_arg3)
def poolWeights (c : Dev nD) : Cert.Spec.BranchWeights := m ((c : Thread nD τ).loc main_arg4)

/-- The weights of a layer, cast. -/
def cast (w : Vec Ideal S1x1024x2048 .f32) : Vec Ideal S1024x2048 .bf16 :=
  truncf (F := Ideal) (φ := .f32) .bf16 (shapeCast S1024x2048 w shapeCasts_S1x1024x2048_S1024x2048) bitsLt_bf16_f32

/-- The cast weights at an index. -/
theorem cast_apply (w : Vec Ideal S1x1024x2048 .f32) (k : Fin 1024) (q : Fin 2048) : cast w (ix2 k q) = w (ix3 0 k q) := by
  pointwise [cast]

/-- The attention's weights as the region finds them. -/
theorem found_att (c : Dev nD) : V m c main_v1 = cast (m ((c : Thread nD τ).loc main_arg3)) := by
  entry_read
  rfl

/-- The pooling's weights as the region finds them. -/
theorem found_pool (c : Dev nD) : V m c main_v3 = cast (m ((c : Thread nD τ).loc main_arg4)) := by
  entry_read
  rfl

/-! ## The blocks of a point -/

/-- The blocks of point `t`: rows `t / 4`, and columns `t % 4` of the weights, of either gate, and of the result. -/
theorem places : ∀ t : Fin cfg0.N, win0_0.index t = ![t.val / 4, 0] ∧ win0_1.index t = ![t.val / 4, 0]
    ∧ win0_2.index t = ![0, t.val % 4] ∧ win0_3.index t = ![0, t.val % 4] ∧ win0_4.index t = ![t.val / 4, 6 + t.val % 4]
    ∧ win0_5.index t = ![t.val / 4, 10 + t.val % 4] ∧ win0_6.index t = ![t.val / 4, t.val % 4] := by decide +kernel

/-- The number of grid points. -/
theorem points (t : Fin cfg0.N) : t.val < 4 := t.isLt.trans_eq N_0

/-- Row `r` of the block of rows of point `t`, and column `q` of its block of columns. -/
def rowOf (t : Fin cfg0.N) (r : Fin 64) : Fin 64 := ⟨t.val / 4 * 64 + r.val, by have := points t; have := r.isLt; omega⟩
def colOf (t : Fin cfg0.N) (q : Fin 512) : Fin 2048 := ⟨t.val % 4 * 512 + q.val, by have := q.isLt; omega⟩

/-- The block of the attention's rows at a point. -/
theorem att_read (c : Dev nD) (t : Fin cfg0.N) (r : Fin 64) (k : Fin 1024) :
    iblk m c 0 t (ix2 r k) = att m c (ix2 (rowOf t r) k) := by
  obtain ⟨e0, e1, e2, e3, e4, e5, e6⟩ := places t
  unfold iblk att rowOf
  blk_ext [e0]

/-- The block of the pooling's rows at a point. -/
theorem pool_read (c : Dev nD) (t : Fin cfg0.N) (r : Fin 64) (k : Fin 1024) :
    iblk m c 1 t (ix2 r k) = pool m c (ix2 (rowOf t r) k) := by
  obtain ⟨e0, e1, e2, e3, e4, e5, e6⟩ := places t
  unfold iblk pool rowOf
  blk_ext [e1]

/-- The two arrays of cast weights. -/
def castAtt (c : Dev nD) : Vec Ideal S1024x2048 .bf16 := V m c main_v1
def castPool (c : Dev nD) : Vec Ideal S1024x2048 .bf16 := V m c main_v3

/-- The block of the attention's cast weights at a point. -/
theorem attWeights_block (c : Dev nD) (t : Fin cfg0.N) (k : Fin 1024) (q : Fin 512) :
    iblk m c 2 t (ix2 k q) = castAtt m c (ix2 k (colOf t q)) := by
  obtain ⟨e0, e1, e2, e3, e4, e5, e6⟩ := places t
  unfold iblk castAtt colOf
  blk_ext [e2]

/-- The block of the pooling's cast weights at a point. -/
theorem poolWeights_block (c : Dev nD) (t : Fin cfg0.N) (k : Fin 1024) (q : Fin 512) :
    iblk m c 3 t (ix2 k q) = castPool m c (ix2 k (colOf t q)) := by
  obtain ⟨e0, e1, e2, e3, e4, e5, e6⟩ := places t
  unfold iblk castPool colOf
  blk_ext [e3]

/-- The same, as entries of the argument. -/
theorem attWeights_read (c : Dev nD) (t : Fin cfg0.N) (k : Fin 1024) (q : Fin 512) :
    iblk m c 2 t (ix2 k q) = attWeights m c (ix3 0 k (colOf t q)) :=
  (attWeights_block m c t k q).trans ((congrFun (found_att m c) (ix2 k (colOf t q))).trans (cast_apply _ k (colOf t q)))

/-- The same, as entries of the argument. -/
theorem poolWeights_read (c : Dev nD) (t : Fin cfg0.N) (k : Fin 1024) (q : Fin 512) :
    iblk m c 3 t (ix2 k q) = poolWeights m c (ix3 0 k (colOf t q)) :=
  (poolWeights_block m c t k q).trans ((congrFun (found_pool m c) (ix2 k (colOf t q))).trans (cast_apply _ k (colOf t q)))

/-- The block of the attention's gates at a point. -/
theorem attGate_read (c : Dev nD) (t : Fin cfg0.N) (r : Fin 64) (q : Fin 512) :
    iblk m c 4 t (ix2 r q) = Cert.Spec.Samples.entry (wide m c) (rowOf t r) (3072 + (colOf t q).val) := by
  rw [Cert.Spec.Samples.entry_of _ _ (⟨3072 + (t.val % 4 * 512 + q.val), by have := q.isLt; omega⟩ : Fin 8192) (3072 + (colOf t q).val) rfl]
  obtain ⟨e0, e1, e2, e3, e4, e5, e6⟩ := places t
  unfold iblk wide rowOf
  blk_ext [e4]

/-- The block of the pooling's gates at a point. -/
theorem poolGate_read (c : Dev nD) (t : Fin cfg0.N) (r : Fin 64) (q : Fin 512) :
    iblk m c 5 t (ix2 r q) = Cert.Spec.Samples.entry (wide m c) (rowOf t r) (5120 + (colOf t q).val) := by
  rw [Cert.Spec.Samples.entry_of _ _ (⟨5120 + (t.val % 4 * 512 + q.val), by have := q.isLt; omega⟩ : Fin 8192) (5120 + (colOf t q).val) rfl]
  obtain ⟨e0, e1, e2, e3, e4, e5, e6⟩ := places t
  unfold iblk wide rowOf
  blk_ext [e5]

/-! ## The array after the run -/

/-- What the region is to leave in the result array. -/
def full (c : Dev nD) : Vec Ideal S64x2048 .bf16 :=
  Cert.Spec.Samples.merged (att m c) (pool m c) (wide m c) (attWeights m c) (poolWeights m c)

/-- A point leaves its block of `full`. -/
theorem point_eq (c : Dev nD) (t : Fin cfg0.N) (r : Fin 64) (q : Fin 512) :
    k0_pay1 (iblk m c 0 t) (iblk m c 2 t) (iblk m c 1 t) (iblk m c 3 t) (iblk m c 4 t) (iblk m c 5 t) (ix2 r q)
      = full m c (ix2 (rowOf t r) (colOf t q)) := by
  refine (pay_apply _ _ _ _ _ _ r q).trans ?_
  refine congrArg₂ (fun a b : EReal => a + b)
    (congrArg₂ (fun a b : EReal => a * b) (congrArg Cert.Spec.gateOf (attGate_read m c t r q)) (Finset.sum_congr rfl fun k _ => ?_))
    (congrArg₂ (fun a b : EReal => a * b) (congrArg Cert.Spec.gateOf (poolGate_read m c t r q)) (Finset.sum_congr rfl fun k _ => ?_))
  · exact congrArg₂ (fun a b : EReal => a * b) (att_read m c t r k) (attWeights_read m c t k q)
  · exact congrArg₂ (fun a b : EReal => a * b) (pool_read m c t r k) (poolWeights_read m c t k q)

/-- After the run the result array is `full`. -/
theorem final_6 (c : Dev nD) : (dats m 0 c).arrAt 6 cfg0.N = full m c := by
  refine (dats m 0 c).arrAt_eq_of_covers 6 _ (by decide +kernel) fun t hf y => ?_
  obtain ⟨e0, e1, e2, e3, e4, e5, e6⟩ := places t
  blk_simp
  rw [after0_6, block_left]
  refine ((congrArg (k0_pay1 _ _ _ _ _ _) (eq_ix2 y)).trans (point_eq m c t (y 0) (y 1))).trans (congrArg (full m c) ?_)
  unfold rowOf colOf
  blk_ext [e6]

end Cert.Kernel9Ideal.Hand

end
-- ==== Proof.MergeSampleReference.lean ====
/- The reference of the merge of the samples' two branches, at an index. -/
module

public import proofs.«01_k».proof.Proof.MergeSampleSpec
public import proofs.«01_k».proof.Proof.Gen.Reference9Ideal.Run
public import Idealize.ShloMosaic.Lib.IdealHost
public import Idealize.ShloMosaic.Lib.Pointwise

@[expose] public section

set_option maxRecDepth 16384

noncomputable section

namespace Cert.Reference9Ideal.Hand

open Cert.Reference9Ideal Cert.Reference9Ideal.Gen
open Idealize.ShloMosaic Idealize.ShloMosaic.TcCoe Idealize.ShloMosaic.Tactic

/-- One divided by one plus the exponential of the opposite, column by column from `off` on. -/
def gates (off : Nat) (hs : S64x8192.Slices ![0, off] S64x2048) (h : Vec Ideal S64x8192 .f32) : Vec Ideal S64x2048 .f32 :=
  Host.divf (F := Ideal) (φ := .f32) (broadcastInDim S64x2048 ![] bcast_S_S64x2048 (constant (F := Ideal) S_ .f32 0x3F800000#32))
    (addf (F := Ideal) (φ := .f32) (broadcastInDim S64x2048 ![] bcast_S_S64x2048 (constant (F := Ideal) S_ .f32 0x3F800000#32))
      (Host.exp (F := Ideal) (φ := .f32) (Host.negf (F := Ideal) (φ := .f32) (extractStridedSlice S64x2048 ![0, off] h hs))))

/-- It is the logistic function. -/
theorem gates_attention (h : Vec Ideal S64x8192 .f32) (r : Fin 64) (q : Fin 2048) :
    gates 3072 slices_S64x8192_S64x2048_0_3072 h (ix2 r q) = Cert.Spec.gateOf (Cert.Spec.Samples.entry h r (3072 + q.val)) := by
  rw [Cert.Spec.Samples.entry_of h r (⟨3072 + q.val, by have := q.isLt; omega⟩ : Fin 8192) _ rfl]
  pointwise [gates, Cert.Spec.gateOf, Ideal.logistic, Ideal.ofBits_one_f32]

/-- The pooling's gates: the logistic of the projected array's columns from 5120 on. -/
theorem gates_pool (h : Vec Ideal S64x8192 .f32) (r : Fin 64) (q : Fin 2048) :
    gates 5120 slices_S64x8192_S64x2048_0_5120 h (ix2 r q) = Cert.Spec.gateOf (Cert.Spec.Samples.entry h r (5120 + q.val)) := by
  rw [Cert.Spec.Samples.entry_of h r (⟨5120 + q.val, by have := q.isLt; omega⟩ : Fin 8192) _ rfl]
  pointwise [gates, Cert.Spec.gateOf, Ideal.logistic, Ideal.ofBits_one_f32]

/-- A branch's projection as the reference writes it. -/
def projected (x : Vec Ideal S64x1024 .bf16) (w : Vec Ideal S1x1024x2048 .f32) : Vec Ideal S64x2048 .f32 :=
  Host.dotGeneral (F := Ideal) (φ₁ := .f32) (φ₂ := .f32) dot_S64x1024_S1024x2048_S64x2048_1_0_0_1_n_n none
    (extf (F := Ideal) (φ := .bf16) .f32 x bitsLt_bf16_f32) (shapeCast S1024x2048 w shapeCasts_S1x1024x2048_S1024x2048)

/-- A branch against its weights, at an index. -/
theorem projected_apply (x : Vec Ideal S64x1024 .bf16) (w : Vec Ideal S1x1024x2048 .f32) (r : Fin 64) (q : Fin 2048) :
    projected x w (ix2 r q) = Cert.Spec.Samples.branch x w r q := by
  pointwise [projected, Cert.Spec.Samples.branch]

/-- The reference's result as a function of its arguments. -/
def value (att pool : Vec Ideal S64x1024 .bf16) (h : Vec Ideal S64x8192 .f32) (wa wb : Vec Ideal S1x1024x2048 .f32) : Vec Ideal S64x2048 .bf16 :=
  truncf (F := Ideal) (φ := .f32) .bf16
    (addf (F := Ideal) (φ := .f32)
      (mulf (F := Ideal) (φ := .f32) (gates 3072 slices_S64x8192_S64x2048_0_3072 h) (projected att wa))
      (mulf (F := Ideal) (φ := .f32) (gates 5120 slices_S64x8192_S64x2048_0_5120 h) (projected pool wb))) bitsLt_bf16_f32

/-- The reference's result: both branches projected, gated, and added. -/
theorem value_eq (att pool : Vec Ideal S64x1024 .bf16) (h : Vec Ideal S64x8192 .f32) (wa wb : Vec Ideal S1x1024x2048 .f32) :
    value att pool h wa wb = Cert.Spec.Samples.merged att pool h wa wb := by
  funext i
  obtain ⟨r, q, rfl⟩ : ∃ (r : Fin 64) (q : Fin 2048), i = ix2 r q := ⟨i 0, i 1, eq_ix2 i⟩
  pointwise [value]
  rw [gates_attention, gates_pool, projected_apply, projected_apply]
  rfl

end Cert.Reference9Ideal.Hand

end
-- ==== Proof.MergeSampleClaim.lean ====
/- The claims about the merge of the samples' two branches: the two runs of the kernel, the reference's, and their common result. -/
module

public import proofs.«01_k».proof.Proof.MergeSampleValue
public import proofs.«01_k».proof.Proof.MergeSampleReference
public import proofs.«01_k».proof.Proof.Gen.Kernel9.Frame
public import proofs.«01_k».proof.Proof.Gen.Kernel9Ideal.Frame

@[expose] public section

noncomputable section

namespace Cert.Proof.MergeSample

open Idealize.ShloMosaic Idealize.SL.Sem

/-- The kernel runs, leaves its arguments, and ends quiescent. -/
theorem frame_kernel : quiescent_Kernel9 (hKernel9 := Cert.Kernel9.Gen.facts) :=
  fun m ρ _ => Cert.Kernel9.Gen.frame m ρ

/-- So does the kernel over the reals. -/
theorem frame_ideal : quiescent_Kernel9Ideal (hKernel9Ideal := Cert.Kernel9Ideal.Gen.facts) :=
  fun m ρ _ => Cert.Kernel9Ideal.Gen.frame m ρ

/-- So does the reference. -/
theorem frame_reference : quiescent_Reference9Ideal (hReference9Ideal := Cert.Reference9Ideal.Gen.facts) :=
  fun m ρ _ => (θ_run Cert.Reference9Ideal.defs _ _).mono
    (fun r h => ⟨fun c => (h c).2, sem_eq_zero_of_no_sems (by decide) r.2⟩)
    (Cert.Reference9Ideal.Value.run (F := Ideal) m ρ)

/-- Kernel and reference end with the same result: both branches projected, gated, and added. -/
theorem value : algebraic_Kernel9Ideal_Reference9Ideal (hKernel9Ideal := Cert.Kernel9Ideal.Gen.facts)
    (hReference9Ideal := Cert.Reference9Ideal.Gen.facts) := by
  intro m g m' g' _ he
  refine ⟨fun c => Cert.Kernel9Ideal.Hand.full m c, ?_, ?_⟩
  · exact (θ_run Cert.Kernel9Ideal.defs _ _).mono (fun _ h c => ⟨((h.1 c).1 6).trans (Cert.Kernel9Ideal.Hand.final_6 m c), h.2.1 c⟩)
      (θ_run_and (Cert.Kernel9Ideal.Gen.run_main (F := Ideal) m g) (Cert.Kernel9Ideal.Gen.frame (F := Ideal) m g))
  · refine (θ_run Cert.Reference9Ideal.defs _ _).mono (fun _ h c => ⟨(h c).1.trans ?_, (h c).2⟩)
      (Cert.Reference9Ideal.Value.run (F := Ideal) m' g')
    obtain ⟨e0, e1, e2, e3, e4⟩ := he c
    rw [e0, e1, e2, e3, e4]
    exact Cert.Reference9Ideal.Hand.value_eq _ _ _ _ _

end Cert.Proof.MergeSample

end
-- ==== Proof.PostSampleSpec.lean ====
/- What follows the merge of the samples: the product with the output weights, the residual, the norm, and the router's logits. -/
module

public import proofs.«01_k».proof.Proof.PostSpec
public import Idealize.ShloMosaic.Lib.Pointwise

@[expose] public section

noncomputable section

namespace Cert.Spec.PostSample

open Idealize.ShloMosaic Cert.Spec.Post

/-! ## The samples: eight sequences of 8 positions -/

/-- The samples' tokens. -/
abbrev Tokens : Type := (⟨3, ![8, 8, 2048]⟩ : Shape).Idx → EReal

/-- The merged branches, one row for each position of the eight sequences. -/
abbrev Merged : Type := (⟨2, ![64, 2048]⟩ : Shape).Idx → EReal

/-- The sequence of row `r` of all sequences' rows, and its position there. -/
def seqOf (r : Fin 64) : Fin 8 := ⟨r.val / 8, by have := r.isLt; omega⟩
def posOf (r : Fin 64) : Fin 8 := ⟨r.val % 8, by omega⟩

/-- What the norm is taken of, at row `r`. -/
def summed (x : Tokens) (m : Merged) (w : OutWeights) (r : Fin 64) : Row :=
  fun q => residual (x (ix3 (seqOf r) (posOf r) q)) (∑ k : Fin 2048, m (ix2 r k) * w (ix3 0 k q))

/-- The hidden features after the mixer, at row `r`. -/
def hiddenRow (x : Tokens) (m : Merged) (w : OutWeights) (g b : Features) (r : Fin 64) : Row :=
  normed (summed x m w r) (features g) (features b)

/-- The hidden features of all rows. -/
def hidden (x : Tokens) (m : Merged) (w : OutWeights) (g b : Features) : (⟨2, ![64, 2048]⟩ : Shape).Idx → EReal :=
  fun i => hiddenRow x m w g b (i 0) (i 1)

/-- The router's logits of all rows. -/
def logits (x : Tokens) (m : Merged) (w : OutWeights) (g b : Features) (wr : RouterWeights) (br : RouterBias) :
    (⟨2, ![64, 32]⟩ : Shape).Idx → EReal :=
  fun i => logit (hiddenRow x m w g b (i 0)) (fun k => wr (ix3 0 k (i 1))) (br (ix2 0 (i 1)))

end Cert.Spec.PostSample

end
-- ==== Proof.PostSampleValue.lean ====
/- The output projection, the norm and the router on the samples over the reals: what a point leaves in its blocks, and the arrays after the run. -/
module

public import proofs.«01_k».proof.Defs
public import proofs.«01_k».proof.Proof.PostSampleSpec
public import proofs.«01_k».proof.Proof.Gen.Kernel10Ideal.Frame
public import Idealize.ShloMosaic.Lib.Claim
public import Idealize.ShloMosaic.Lib.Pointwise
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Acc
public import Idealize.ShloMosaic.Lib.Pipeline.ValueKit.Point
public import Idealize.ShloMosaic.Lib.StableHlo.Run
public import Idealize.ShloMosaic.Lib.Tactic

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic
open Idealize.SL.Sem
open Idealize.ShloMosaic.Pipeline (Dat Cfg Window)

/-! ## The payloads -/

/-- The block's tokens, scaled, and its merged rows against the output weights. -/
def summed (x : Vec Ideal S64x2048 .f32) (m : Vec Ideal S64x2048 .bf16) (w : Vec Ideal S2048x2048 .bf16) : Vec Ideal S64x2048 .f32 :=
  addf (F := Ideal) (φ := .f32)
    (mulf (F := Ideal) (φ := .f32) (broadcast S64x2048 (Scalar.ofBits (F := Ideal) .f32 0x3F9837F0#32)) (shapeCast S64x2048 x shapeCasts_S64x2048_S64x2048))
    (matmul (F := Ideal) (φ₁ := .bf16) (φ₂ := .bf16) dot_S64x2048_S2048x2048_S64x2048_1_0_0_1_n_n none m
      (shapeCast S2048x2048 w shapeCasts_S2048x2048_S2048x2048) (constant (F := Ideal) S64x2048 .f32 0x00000000#32))

/-- The sums at an index. -/
theorem summed_apply (x : Vec Ideal S64x2048 .f32) (m : Vec Ideal S64x2048 .bf16) (w : Vec Ideal S2048x2048 .bf16) (r : Fin 64) (q : Fin 2048) :
    summed x m w (ix2 r q) = Cert.Spec.Post.residual (x (ix2 r q)) (∑ k : Fin 2048, m (ix2 r k) * w (ix2 k q)) := by
  pointwise [summed, Cert.Spec.Post.residual]

/-- The mean of each row. -/
def means (y : Vec Ideal S64x2048 .f32) : Vec Ideal S64x1 .f32 :=
  divf (F := Ideal) (φ := .f32)
    (shapeCast S64x1 (multiReduction (F := Ideal) (φ := .f32) .add [1] S64 y 0x00000000#32 reduces_S64x2048_S64 (.inl rfl) rfl) shapeCasts_S64_S64x1)
    (broadcast S64x1 (Scalar.ofBits (F := Ideal) .f32 0x45000000#32))

/-- The means at an index. -/
theorem means_apply (y : Vec Ideal S64x2048 .f32) (r : Fin 64) : means y (ix2 r 0) = Cert.Spec.Post.mean fun k => y (ix2 r k) := by
  pointwise [means, Cert.Spec.Post.mean]

/-- The distances from the mean. -/
def away (y : Vec Ideal S64x2048 .f32) : Vec Ideal S64x2048 .f32 :=
  subf (F := Ideal) (φ := .f32) y (broadcastTo S64x2048 (means y) broadcasts_S64x1_S64x2048)

/-- The distances at an index. -/
theorem away_apply (y : Vec Ideal S64x2048 .f32) (r : Fin 64) (q : Fin 2048) :
    away y (ix2 r q) = y (ix2 r q) - Cert.Spec.Post.mean fun k => y (ix2 r k) := by
  rw [← means_apply]
  generalize hv : means y = v
  pointwise [away, hv]

/-- The variance of a row. -/
theorem variance_apply (y : Vec Ideal S64x2048 .f32) (r : Fin 64) :
    means (mulf (F := Ideal) (φ := .f32) (away y) (away y)) (ix2 r 0) = Cert.Spec.Post.variance fun k => y (ix2 r k) := by
  rw [means_apply]
  refine congrArg Cert.Spec.Post.mean (funext fun k => ?_)
  exact congrArg₂ (fun a b : EReal => a * b) (away_apply y r k) (away_apply y r k)

/-- The norm of each row. -/
def normed (y : Vec Ideal S64x2048 .f32) (g b : Vec Ideal S1x2048 .f32) : Vec Ideal S64x2048 .f32 :=
  addf (F := Ideal) (φ := .f32)
    (mulf (F := Ideal) (φ := .f32)
      (mulf (F := Ideal) (φ := .f32) (away y)
        (broadcastTo S64x2048
          (rsqrt (F := Ideal) (φ := .f32)
            (addf (F := Ideal) (φ := .f32) (means (mulf (F := Ideal) (φ := .f32) (away y) (away y)))
              (broadcast S64x1 (Scalar.ofBits (F := Ideal) .f32 0x3727C5AC#32)))) broadcasts_S64x1_S64x2048))
      (broadcastTo S64x2048 (shapeCast S1x2048 g shapeCasts_S1x2048_S1x2048) broadcasts_S1x2048_S64x2048))
    (broadcastTo S64x2048 (shapeCast S1x2048 b shapeCasts_S1x2048_S1x2048) broadcasts_S1x2048_S64x2048)

/-- The norm at an index. -/
theorem normed_apply (y : Vec Ideal S64x2048 .f32) (g b : Vec Ideal S1x2048 .f32) (r : Fin 64) (q : Fin 2048) :
    normed y g b (ix2 r q) = Cert.Spec.Post.normed (fun k => y (ix2 r k)) (Cert.Spec.Post.features g) (Cert.Spec.Post.features b) q := by
  unfold Cert.Spec.Post.normed Cert.Spec.Post.features
  rw [← variance_apply, ← away_apply]
  unfold normed
  generalize means (mulf (F := Ideal) (φ := .f32) (away y) (away y)) = v
  generalize away y = d
  pointwise []

/-- The payload of the hidden features: the norm of the sums. -/
theorem pay_hidden (x : Vec Ideal S64x2048 .f32) (m : Vec Ideal S64x2048 .bf16) (w : Vec Ideal S2048x2048 .bf16) (g b : Vec Ideal S1x2048 .f32) :
    k0_pay3 m w x g b = normed (summed x m w) g b := rfl

/-- The payload of the hidden features at an index. -/
theorem pay_hidden_apply (x : Vec Ideal S64x2048 .f32) (m : Vec Ideal S64x2048 .bf16) (w : Vec Ideal S2048x2048 .bf16) (g b : Vec Ideal S1x2048 .f32)
    (r : Fin 64) (q : Fin 2048) :
    k0_pay3 m w x g b (ix2 r q) = Cert.Spec.Post.normed (fun q => Cert.Spec.Post.residual (x (ix2 r q)) (∑ k : Fin 2048, m (ix2 r k) * w (ix2 k q)))
      (Cert.Spec.Post.features g) (Cert.Spec.Post.features b) q := by
  rw [pay_hidden, normed_apply, show (fun k => summed x m w (ix2 r k)) = _ from funext fun k => summed_apply x m w r k]

/-- The payload of the logits at an index: a row against a column of the router's weights, and its bias. -/
theorem pay_logits_apply (h : Vec Ideal S64x2048 .bf16) (wr : Vec Ideal S2048x128 .bf16) (br : Vec Ideal S1x128 .f32) (r : Fin 64) (e : Fin 128) :
    k0_pay1 h (k0_pay5 wr) br (ix2 r e) = Cert.Spec.Post.logit (fun k => h (ix2 r k)) (fun k => wr (ix2 k e)) (br (ix2 0 e)) := by
  pointwise [k0_pay1, k0_pay5, Cert.Spec.Post.logit]

/-- What a point leaves in the block of the hidden features. -/
theorem left_hidden (x0 : Vec Ideal S64x2048 .f32) (x1 : Vec Ideal S64x2048 .bf16) (x2 : Vec Ideal S2048x2048 .bf16) (x3 x4 : Vec Ideal S1x2048 .f32)
    (x5 : Vec Ideal S2048x128 .bf16) (x6 : Vec Ideal S1x128 .f32) : out0_7 x0 x1 x2 x3 x4 x5 x6 = k0_pay3 x1 x2 x0 x3 x4 := by
  unfold out0_7
  frame_out

/-- What it leaves in the block of the logits. -/
theorem left_logits (x0 : Vec Ideal S64x2048 .f32) (x1 : Vec Ideal S64x2048 .bf16) (x2 : Vec Ideal S2048x2048 .bf16) (x3 x4 : Vec Ideal S1x2048 .f32)
    (x5 : Vec Ideal S2048x128 .bf16) (x6 : Vec Ideal S1x128 .f32) :
    out0_9 x0 x1 x2 x3 x4 x5 x6 = k0_pay1 (k0_pay4 x1 x2 x0 x3 x4) (k0_pay5 x5) x6 := by
  unfold out0_9 k0_pay6
  frame_out

/-! ## What the region finds -/

variable (m : (ℓ : Loc nD τ sig) → Buf (Elt Ideal) ℓ)

/-- The arguments. -/
def tokens (c : Dev nD) : Cert.Spec.PostSample.Tokens := m ((c : Thread nD τ).loc main_arg0)
def merged (c : Dev nD) : Cert.Spec.PostSample.Merged := m ((c : Thread nD τ).loc main_arg1)
def outWeights (c : Dev nD) : Cert.Spec.Post.OutWeights := m ((c : Thread nD τ).loc main_arg2)
def scale (c : Dev nD) : Cert.Spec.Post.Features := m ((c : Thread nD τ).loc main_arg3)
def shift (c : Dev nD) : Cert.Spec.Post.Features := m ((c : Thread nD τ).loc main_arg4)
def routerWeights (c : Dev nD) : Cert.Spec.Post.RouterWeights := m ((c : Thread nD τ).loc main_arg5)
def routerBias (c : Dev nD) : Cert.Spec.Post.RouterBias := m ((c : Thread nD τ).loc main_arg6)

/-- The tokens, one row for each position. -/
def flat (x : Vec Ideal S8x8x2048 .f32) : Vec Ideal S64x2048 .f32 := shapeCast S64x2048 x shapeCasts_S8x8x2048_S64x2048

/-- A row of them is the token at its sequence and position. -/
theorem flat_apply (x : Vec Ideal S8x8x2048 .f32) (r : Fin 64) (q : Fin 2048) :
    flat x (ix2 r q) = x (ix3 (Cert.Spec.PostSample.seqOf r) (Cert.Spec.PostSample.posOf r) q) := by
  pointwise [flat, Cert.Spec.PostSample.seqOf, Cert.Spec.PostSample.posOf]

/-- The output weights of a layer, cast. -/
def cast (w : Vec Ideal S1x2048x2048 .f32) : Vec Ideal S2048x2048 .bf16 :=
  truncf (F := Ideal) (φ := .f32) .bf16 (shapeCast S2048x2048 w shapeCasts_S1x2048x2048_S2048x2048) bitsLt_bf16_f32

/-- The cast weights at an index. -/
theorem cast_apply (w : Vec Ideal S1x2048x2048 .f32) (k q : Fin 2048) : cast w (ix2 k q) = w (ix3 0 k q) := by
  pointwise [cast]

/-- The scale or the shift, taken out of its layer and put in a row again. -/
def again (g : Vec Ideal S1x2048 .f32) : Vec Ideal S1x2048 .f32 := shapeCast S1x2048 (shapeCast S2048 g shapeCasts_S1x2048_S2048) shapeCasts_S2048_S1x2048

/-- It is what it was. -/
theorem again_apply (g : Vec Ideal S1x2048 .f32) (q : Fin 2048) : again g (ix2 0 q) = g (ix2 0 q) := by
  pointwise [again]

/-- The router's weights with 96 columns more, cast. -/
def padded (w : Vec Ideal S1x2048x32 .f32) : Vec Ideal S2048x128 .bf16 :=
  truncf (F := Ideal) (φ := .f32) .bf16
    (pad S2048x128 ![0, 0] ![0, 96] ![0, 0] (shapeCast S2048x32 w shapeCasts_S1x2048x32_S2048x32) (sitofp (F := Ideal) .f32 (constantI S_ 32 0#32))
      pads_S2048x32_S2048x128_000_0960 h_S_) bitsLt_bf16_f32

/-- A column of an expert is the argument's. -/
theorem padded_apply (w : Vec Ideal S1x2048x32 .f32) (k : Fin 2048) (e : Fin 32) :
    padded w (ix2 k ⟨e.val, by have := e.isLt; omega⟩) = w (ix3 0 k e) := by
  have hk := k.isLt
  have he := e.isLt
  unfold padded
  generalize sitofp (F := Ideal) .f32 (constantI S_ 32 0#32) = z
  pointwise []

/-- The router's bias with 96 entries more. -/
def paddedBias (b : Vec Ideal S1x32 .f32) : Vec Ideal S1x128 .f32 :=
  shapeCast S1x128 (pad S128 ![0] ![96] ![0] (shapeCast S32 b shapeCasts_S1x32_S32) (constant (F := Ideal) S_ .f32 0xF149F2CA#32) pads_S32_S128_0960 h_S_)
    shapeCasts_S128_S1x128

/-- An expert's bias is the argument's. -/
theorem paddedBias_apply (b : Vec Ideal S1x32 .f32) (e : Fin 32) : paddedBias b (ix2 0 ⟨e.val, by have := e.isLt; omega⟩) = b (ix2 0 e) := by
  have he := e.isLt
  unfold paddedBias
  generalize constant (F := Ideal) S_ .f32 0xF149F2CA#32 = z
  pointwise []

/-- The tokens as the region finds them. -/
theorem found_tokens (c : Dev nD) : V m c main_v0 = flat (m ((c : Thread nD τ).loc main_arg0)) := by
  entry_read
  rfl

/-- The output weights as the region finds them. -/
theorem found_weights (c : Dev nD) : V m c main_v2 = cast (m ((c : Thread nD τ).loc main_arg2)) := by
  entry_read
  rfl

/-- The scale as the region finds it. -/
theorem found_scale (c : Dev nD) : V m c main_v4 = again (m ((c : Thread nD τ).loc main_arg3)) := by
  entry_read
  rfl

/-- The shift as the region finds it. -/
theorem found_shift (c : Dev nD) : V m c main_v6 = again (m ((c : Thread nD τ).loc main_arg4)) := by
  entry_read
  rfl

/-- The router's weights as the region finds them. -/
theorem found_router (c : Dev nD) : V m c main_v9 = padded (m ((c : Thread nD τ).loc main_arg5)) := by
  entry_read
  rfl

/-- The router's bias as the region finds it. -/
theorem found_bias (c : Dev nD) : V m c main_v12 = paddedBias (m ((c : Thread nD τ).loc main_arg6)) := by
  entry_read
  rfl

/-! ## The blocks of a point -/

/-- The blocks of point `t`: block `t` of the rows of tokens, merged branches, hidden features and logits; all of the weights, scale, shift and bias. -/
theorem places : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![t.val, 0] ∧ win0_9.index t = ![t.val, 0] := by decide +kernel

/-- The number of grid points. -/
theorem points (t : Fin cfg0.N) : t.val < 1 := t.isLt.trans_eq N_0

/-- Row `r` of the block of rows of point `t`. -/
def rowOf (t : Fin cfg0.N) (r : Fin 64) : Fin 64 := ⟨t.val * 64 + r.val, by have := points t; have := r.isLt; omega⟩

/-- The arrays the region finds. -/
def tokens0 (c : Dev nD) : Vec Ideal S64x2048 .f32 := V m c main_v0
def weights0 (c : Dev nD) : Vec Ideal S2048x2048 .bf16 := V m c main_v2
def scale0 (c : Dev nD) : Vec Ideal S1x2048 .f32 := V m c main_v4
def shift0 (c : Dev nD) : Vec Ideal S1x2048 .f32 := V m c main_v6
def router0 (c : Dev nD) : Vec Ideal S2048x128 .bf16 := V m c main_v9
def bias0 (c : Dev nD) : Vec Ideal S1x128 .f32 := V m c main_v12

/-- The block of tokens at a point. -/
theorem tokens_block (c : Dev nD) (t : Fin cfg0.N) (r : Fin 64) (q : Fin 2048) :
    iblk m c 0 t (ix2 r q) = tokens0 m c (ix2 (rowOf t r) q) := by
  obtain ⟨e0, e1, e2, e3, e4, e5, e6, e7, e9⟩ := places t
  unfold iblk tokens0 rowOf
  blk_ext [e0]

/-- The block of merged rows at a point. -/
theorem merged_read (c : Dev nD) (t : Fin cfg0.N) (r : Fin 64) (k : Fin 2048) :
    iblk m c 1 t (ix2 r k) = merged m c (ix2 (rowOf t r) k) := by
  obtain ⟨e0, e1, e2, e3, e4, e5, e6, e7, e9⟩ := places t
  unfold iblk merged rowOf
  blk_ext [e1]

/-- The block of cast weights at a point: all of them. -/
theorem weights_block (c : Dev nD) (t : Fin cfg0.N) (k q : Fin 2048) : iblk m c 2 t (ix2 k q) = weights0 m c (ix2 k q) := by
  obtain ⟨e0, e1, e2, e3, e4, e5, e6, e7, e9⟩ := places t
  unfold iblk weights0
  blk_ext [e2]

/-- The block of the scale at a point: all of it. -/
theorem scale_block (c : Dev nD) (t : Fin cfg0.N) (q : Fin 2048) : iblk m c 3 t (ix2 0 q) = scale0 m c (ix2 0 q) := by
  obtain ⟨e0, e1, e2, e3, e4, e5, e6, e7, e9⟩ := places t
  unfold iblk scale0
  blk_ext [e3]

/-- The block of the shift at a point: all of it. -/
theorem shift_block (c : Dev nD) (t : Fin cfg0.N) (q : Fin 2048) : iblk m c 4 t (ix2 0 q) = shift0 m c (ix2 0 q) := by
  obtain ⟨e0, e1, e2, e3, e4, e5, e6, e7, e9⟩ := places t
  unfold iblk shift0
  blk_ext [e4]

/-- The block of the router's weights at a point: all of them. -/
theorem router_block (c : Dev nD) (t : Fin cfg0.N) (k : Fin 2048) (e : Fin 128) : iblk m c 5 t (ix2 k e) = router0 m c (ix2 k e) := by
  obtain ⟨e0, e1, e2, e3, e4, e5, e6, e7, e9⟩ := places t
  unfold iblk router0
  blk_ext [e5]

/-- The block of the router's bias at a point: all of it. -/
theorem bias_block (c : Dev nD) (t : Fin cfg0.N) (e : Fin 128) : iblk m c 6 t (ix2 0 e) = bias0 m c (ix2 0 e) := by
  obtain ⟨e0, e1, e2, e3, e4, e5, e6, e7, e9⟩ := places t
  unfold iblk bias0
  blk_ext [e6]

/-- The tokens a point reads, as entries of the argument. -/
theorem tokens_read (c : Dev nD) (t : Fin cfg0.N) (r : Fin 64) (q : Fin 2048) :
    iblk m c 0 t (ix2 r q) = tokens m c (ix3 (Cert.Spec.PostSample.seqOf (rowOf t r)) (Cert.Spec.PostSample.posOf (rowOf t r)) q) :=
  (tokens_block m c t r q).trans ((congrFun (found_tokens m c) (ix2 (rowOf t r) q)).trans (flat_apply _ (rowOf t r) q))

/-- The output weights a point reads, as entries of the argument. -/
theorem weights_read (c : Dev nD) (t : Fin cfg0.N) (k q : Fin 2048) : iblk m c 2 t (ix2 k q) = outWeights m c (ix3 0 k q) :=
  (weights_block m c t k q).trans ((congrFun (found_weights m c) (ix2 k q)).trans (cast_apply _ k q))

/-- The scale a point reads, as entries of the argument. -/
theorem scale_read (c : Dev nD) (t : Fin cfg0.N) (q : Fin 2048) : iblk m c 3 t (ix2 0 q) = scale m c (ix2 0 q) :=
  (scale_block m c t q).trans ((congrFun (found_scale m c) (ix2 0 q)).trans (again_apply _ q))

/-- The shift a point reads, as entries of the argument. -/
theorem shift_read (c : Dev nD) (t : Fin cfg0.N) (q : Fin 2048) : iblk m c 4 t (ix2 0 q) = shift m c (ix2 0 q) :=
  (shift_block m c t q).trans ((congrFun (found_shift m c) (ix2 0 q)).trans (again_apply _ q))

/-! ## The arrays after the run -/

/-- What the region is to leave in the array of hidden features. -/
def hidden (c : Dev nD) : Vec Ideal S64x2048 .f32 :=
  Cert.Spec.PostSample.hidden (tokens m c) (merged m c) (outWeights m c) (scale m c) (shift m c)

/-- What it is to leave in the array of logits, of 128 columns. -/
def wide (c : Dev nD) : Vec Ideal S64x128 .f32 :=
  fun i => Cert.Spec.Post.logit (Cert.Spec.PostSample.hiddenRow (tokens m c) (merged m c) (outWeights m c) (scale m c) (shift m c) (i 0))
    (fun k => router0 m c (ix2 k (i 1))) (bias0 m c (ix2 0 (i 1)))

/-- The payload of the hidden features, when its operands' entries are those of a row of the arguments. -/
theorem pay_hidden_row (x0 : Vec Ideal S64x2048 .f32) (x1 : Vec Ideal S64x2048 .bf16) (x2 : Vec Ideal S2048x2048 .bf16) (x3 x4 : Vec Ideal S1x2048 .f32)
    (x : Cert.Spec.PostSample.Tokens) (y : Cert.Spec.PostSample.Merged) (w : Cert.Spec.Post.OutWeights) (g b : Cert.Spec.Post.Features) (r : Fin 64) (R : Fin 64)
    (h0 : ∀ q : Fin 2048, x0 (ix2 r q) = x (ix3 (Cert.Spec.PostSample.seqOf R) (Cert.Spec.PostSample.posOf R) q))
    (h1 : ∀ k : Fin 2048, x1 (ix2 r k) = y (ix2 R k)) (h2 : ∀ k q : Fin 2048, x2 (ix2 k q) = w (ix3 0 k q))
    (h3 : ∀ q : Fin 2048, x3 (ix2 0 q) = g (ix2 0 q)) (h4 : ∀ q : Fin 2048, x4 (ix2 0 q) = b (ix2 0 q)) (q : Fin 2048) :
    k0_pay3 x1 x2 x0 x3 x4 (ix2 r q) = Cert.Spec.PostSample.hiddenRow x y w g b R q := by
  rw [pay_hidden_apply]
  unfold Cert.Spec.PostSample.hiddenRow
  have e0 : (fun q : Fin 2048 => Cert.Spec.Post.residual (x0 (ix2 r q)) (∑ k : Fin 2048, x1 (ix2 r k) * x2 (ix2 k q))) = Cert.Spec.PostSample.summed x y w R :=
    funext fun q => congrArg₂ Cert.Spec.Post.residual (h0 q)
      (Finset.sum_congr rfl fun k _ => congrArg₂ (fun a b : EReal => a * b) (h1 k) (h2 k q))
  have e1 : Cert.Spec.Post.features x3 = Cert.Spec.Post.features g := funext h3
  have e2 : Cert.Spec.Post.features x4 = Cert.Spec.Post.features b := funext h4
  rw [e0, e1, e2]

/-- A point leaves its block of the hidden features. -/
theorem point_hidden (c : Dev nD) (t : Fin cfg0.N) (r : Fin 64) (q : Fin 2048) :
    k0_pay3 (iblk m c 1 t) (iblk m c 2 t) (iblk m c 0 t) (iblk m c 3 t) (iblk m c 4 t) (ix2 r q)
      = Cert.Spec.PostSample.hiddenRow (tokens m c) (merged m c) (outWeights m c) (scale m c) (shift m c) (rowOf t r) q :=
  pay_hidden_row _ _ _ _ _ (tokens m c) (merged m c) (outWeights m c) (scale m c) (shift m c) r (rowOf t r)
    (tokens_read m c t r) (merged_read m c t r) (weights_read m c t) (scale_read m c t) (shift_read m c t) q

/-- The payload of the logits, when the entries of its operands are a row of features, a column, and its bias. -/
theorem pay_logits_row (x0 : Vec Ideal S64x2048 .f32) (x1 : Vec Ideal S64x2048 .bf16) (x2 : Vec Ideal S2048x2048 .bf16) (x3 x4 : Vec Ideal S1x2048 .f32)
    (x5 : Vec Ideal S2048x128 .bf16) (x6 : Vec Ideal S1x128 .f32) (h : Cert.Spec.Post.Row) (wr : Vec Ideal S2048x128 .bf16) (br : Vec Ideal S1x128 .f32)
    (r : Fin 64) (e : Fin 128) (hh : ∀ k : Fin 2048, k0_pay3 x1 x2 x0 x3 x4 (ix2 r k) = h k)
    (h5 : ∀ k : Fin 2048, x5 (ix2 k e) = wr (ix2 k e)) (h6 : x6 (ix2 0 e) = br (ix2 0 e)) :
    k0_pay1 (k0_pay4 x1 x2 x0 x3 x4) (k0_pay5 x5) x6 (ix2 r e) = Cert.Spec.Post.logit h (fun k => wr (ix2 k e)) (br (ix2 0 e)) := by
  rw [pay_logits_apply, h6, funext h5]
  exact congrArg (fun y => Cert.Spec.Post.logit y (fun k => wr (ix2 k e)) (br (ix2 0 e))) (funext hh)

/-- A point leaves its block of the logits. -/
theorem point_logits (c : Dev nD) (t : Fin cfg0.N) (r : Fin 64) (e : Fin 128) :
    k0_pay1 (k0_pay4 (iblk m c 1 t) (iblk m c 2 t) (iblk m c 0 t) (iblk m c 3 t) (iblk m c 4 t)) (k0_pay5 (iblk m c 5 t)) (iblk m c 6 t) (ix2 r e)
      = wide m c (ix2 (rowOf t r) e) :=
  pay_logits_row _ _ _ _ _ _ _ (Cert.Spec.PostSample.hiddenRow (tokens m c) (merged m c) (outWeights m c) (scale m c) (shift m c) (rowOf t r))
    (router0 m c) (bias0 m c) r e (point_hidden m c t r) (fun k => router_block m c t k e) (bias_block m c t e)

/-- After the run the array of hidden features is `hidden`. -/
theorem final_7 (c : Dev nD) : (dats m 0 c).arrAt 7 cfg0.N = hidden m c := by
  refine (dats m 0 c).arrAt_eq_of_covers 7 _ (by decide +kernel) fun t hf y => ?_
  obtain ⟨e0, e1, e2, e3, e4, e5, e6, e7, e9⟩ := places t
  blk_simp
  rw [after0_7, left_hidden]
  refine ((congrArg (k0_pay3 _ _ _ _ _) (eq_ix2 y)).trans (point_hidden m c t (y 0) (y 1))).trans
    ((show _ = hidden m c (ix2 (rowOf t (y 0)) (y 1)) from rfl).trans (congrArg (hidden m c) ?_))
  unfold rowOf
  blk_ext [e7]

/-- After the run the array of logits is `wide`. -/
theorem final_9 (c : Dev nD) : (dats m 0 c).arrAt 9 cfg0.N = wide m c := by
  refine (dats m 0 c).arrAt_eq_of_covers 9 _ (by decide +kernel) fun t hf y => ?_
  obtain ⟨e0, e1, e2, e3, e4, e5, e6, e7, e9⟩ := places t
  blk_simp
  rw [after0_9, left_logits]
  refine ((congrArg (k0_pay1 _ _ _) (eq_ix2 y)).trans (point_logits m c t (y 0) (y 1))).trans (congrArg (wide m c) ?_)
  unfold rowOf
  blk_ext [e9]

/-! ## The logits of the experts -/

/-- The windows' arrays are different arrays. -/
theorem arrays_apart : Function.Injective (Pipeline.arrRef (sig := sig) spec0) := by decide

/-- What the buffers hold when the region is over. -/
def over (c : Dev nD) : Valuation τ sig (Elt Ideal) :=
  Pipeline.withArrays spec0 c (V0 m c) fun w => (dats m 0 c).arrAt w cfg0.N

/-- The array of logits after the region. -/
theorem over_wide (c : Dev nD) : over m c (Proc.devRef .tc main_v13_2) = wide m c :=
  (Pipeline.withArrays_arr spec0 arrays_apart c _ _ 9).trans (final_9 m c)

/-- What the line after the region reads. -/
def left (c : Dev nD) : Vec Ideal S64x128 .f32 := over m c (Proc.devRef .tc main_v13_2)

/-- Of its columns the experts' are the specification's logits. -/
theorem left_apply (c : Dev nD) (r : Fin 64) (e : Fin 32) :
    left m c (ix2 r ⟨e.val, by have := e.isLt; omega⟩)
      = Cert.Spec.PostSample.logits (tokens m c) (merged m c) (outWeights m c) (scale m c) (shift m c) (routerWeights m c) (routerBias m c) (ix2 r e) := by
  refine (congrFun (over_wide m c) _).trans ?_
  exact congrArg₂ (Cert.Spec.Post.logit _)
    (funext fun k => (congrFun (found_router m c) _).trans (padded_apply _ k e))
    ((congrFun (found_bias m c) _).trans (paddedBias_apply _ e))

/-- The logits the program returns: the experts' columns. -/
theorem result_logits (c : Dev nD) : Pipeline.afterTail₀ cfgs (dats m) 0 (V0 m) [hostOps1] c main_v14
    = Cert.Spec.PostSample.logits (tokens m c) (merged m c) (outWeights m c) (scale m c) (shift m c) (routerWeights m c) (routerBias m c) := by
  refine (show _ = extractStridedSlice S64x32 ![0, 0] (left m c) slices_S64x128_S64x32_0_0 from rfl).trans ?_
  funext i
  obtain ⟨r, e, rfl⟩ : ∃ (r : Fin 64) (e : Fin 32), i = ix2 r e := ⟨i 0, i 1, eq_ix2 i⟩
  rw [← left_apply]
  generalize left m c = v
  pointwise []

end Cert.Kernel10Ideal.Hand

end
-- ==== Proof.PostSampleReference.lean ====
/- The reference of the output projection, the norm and the router on the samples, at an index. -/
module

public import proofs.«01_k».proof.Proof.PostSampleSpec
public import proofs.«01_k».proof.Proof.Gen.Reference10Ideal.Run
public import Idealize.ShloMosaic.Lib.IdealHost
public import Idealize.ShloMosaic.Lib.Pointwise

@[expose] public section

set_option maxRecDepth 16384

noncomputable section

namespace Cert.Reference10Ideal.Hand

open Cert.Reference10Ideal Cert.Reference10Ideal.Gen
open Idealize.ShloMosaic Idealize.ShloMosaic.TcCoe Idealize.ShloMosaic.Tactic

/-- The tokens, scaled, and the merged branches against the output weights. -/
def summed (x : Vec Ideal S8x8x2048 .f32) (m : Vec Ideal S64x2048 .bf16) (w : Vec Ideal S1x2048x2048 .f32) : Vec Ideal S8x8x2048 .f32 :=
  addf (F := Ideal) (φ := .f32)
    (mulf (F := Ideal) (φ := .f32) (broadcastInDim S8x8x2048 ![] bcast_S_S8x8x2048 (constant (F := Ideal) S_ .f32 0x3F9837F0#32)) x)
    (Host.dotGeneral (F := Ideal) (φ₁ := .f32) (φ₂ := .f32) dot_S8x8x2048_S2048x2048_S8x8x2048_2_0_01_1_n_n none
      (shapeCast S8x8x2048 (extf (F := Ideal) (φ := .bf16) .f32 m bitsLt_bf16_f32) shapeCasts_S64x2048_S8x8x2048)
      (shapeCast S2048x2048 w shapeCasts_S1x2048x2048_S2048x2048))

/-- The sums at an index. -/
theorem summed_apply (x : Vec Ideal S8x8x2048 .f32) (m : Vec Ideal S64x2048 .bf16) (w : Vec Ideal S1x2048x2048 .f32)
    (r : Fin 64) (q : Fin 2048) :
    summed x m w (ix3 (Cert.Spec.PostSample.seqOf r) (Cert.Spec.PostSample.posOf r) q) = Cert.Spec.PostSample.summed x m w r q := by
  have e : ∀ k : Fin 2048, (shapeCast S8x8x2048 (extf (F := Ideal) (φ := .bf16) .f32 m bitsLt_bf16_f32) shapeCasts_S64x2048_S8x8x2048)
      (ix3 (Cert.Spec.PostSample.seqOf r) (Cert.Spec.PostSample.posOf r) k) = m (ix2 r k) := by
    intro k
    pointwise [Cert.Spec.PostSample.seqOf, Cert.Spec.PostSample.posOf]
  unfold summed
  generalize (shapeCast S8x8x2048 (extf (F := Ideal) (φ := .bf16) .f32 m bitsLt_bf16_f32) shapeCasts_S64x2048_S8x8x2048) = y at e ⊢
  pointwise [Cert.Spec.PostSample.summed, Cert.Spec.Post.residual, e]

/-- The mean over the features of each position. -/
def means (y : Vec Ideal S8x8x2048 .f32) : Vec Ideal S8x8x1 .f32 :=
  Host.divf (F := Ideal) (φ := .f32)
    (broadcastInDim S8x8x1 ![0, 1] bcast_S8x8_S8x8x1_0_1
      (Host.reduceAdd (F := Ideal) (φ := .f32) y (constant (F := Ideal) S_ .f32 0x00000000#32) reducesTo_S8x8x2048_S8x8_d2 h_S_))
    (broadcastInDim S8x8x1 ![] bcast_S_S8x8x1 (constant (F := Ideal) S_ .f32 0x45000000#32))

/-- The means at an index. -/
theorem means_apply (y : Vec Ideal S8x8x2048 .f32) (b : Fin 8) (s : Fin 8) :
    means y (ix3 b s 0) = Cert.Spec.Post.mean fun k => y (ix3 b s k) := by
  pointwise [means, Cert.Spec.Post.mean, Ideal.ofBits_zero_f32]

/-- The distance from the mean. -/
def away (y : Vec Ideal S8x8x2048 .f32) : Vec Ideal S8x8x2048 .f32 :=
  subf (F := Ideal) (φ := .f32) y (broadcastInDim S8x8x2048 ![0, 1, 2] bcast_S8x8x1_S8x8x2048_0_1_2 (means y))

/-- The distances at an index. -/
theorem away_apply (y : Vec Ideal S8x8x2048 .f32) (b : Fin 8) (s : Fin 8) (q : Fin 2048) :
    away y (ix3 b s q) = y (ix3 b s q) - Cert.Spec.Post.mean fun k => y (ix3 b s k) := by
  rw [← means_apply]
  generalize hv : means y = v
  pointwise [away, hv]

/-- The norm of each position. -/
def normed (y : Vec Ideal S8x8x2048 .f32) (g b : Vec Ideal S1x2048 .f32) : Vec Ideal S8x8x2048 .f32 :=
  addf (F := Ideal) (φ := .f32)
    (mulf (F := Ideal) (φ := .f32)
      (mulf (F := Ideal) (φ := .f32) (away y)
        (broadcastInDim S8x8x2048 ![0, 1, 2] bcast_S8x8x1_S8x8x2048_0_1_2
          (Host.rsqrt (F := Ideal) (φ := .f32)
            (addf (F := Ideal) (φ := .f32) (means (mulf (F := Ideal) (φ := .f32) (away y) (away y)))
              (broadcastInDim S8x8x1 ![] bcast_S_S8x8x1 (constant (F := Ideal) S_ .f32 0x3727C5AC#32))))))
      (broadcastInDim S8x8x2048 ![0, 1, 2] bcast_S1x1x2048_S8x8x2048_0_1_2
        (broadcastInDim S1x1x2048 ![2] bcast_S2048_S1x1x2048_2 (shapeCast S2048 g shapeCasts_S1x2048_S2048))))
    (broadcastInDim S8x8x2048 ![0, 1, 2] bcast_S1x1x2048_S8x8x2048_0_1_2
      (broadcastInDim S1x1x2048 ![2] bcast_S2048_S1x1x2048_2 (shapeCast S2048 b shapeCasts_S1x2048_S2048)))

/-- The variance of a position. -/
theorem variance_apply (y : Vec Ideal S8x8x2048 .f32) (b : Fin 8) (s : Fin 8) :
    means (mulf (F := Ideal) (φ := .f32) (away y) (away y)) (ix3 b s 0) = Cert.Spec.Post.variance fun k => y (ix3 b s k) := by
  rw [means_apply]
  refine congrArg Cert.Spec.Post.mean (funext fun k => ?_)
  exact congrArg₂ (fun a b : EReal => a * b) (away_apply y b s k) (away_apply y b s k)

/-- The norm at an index. -/
theorem normed_apply (y : Vec Ideal S8x8x2048 .f32) (g b : Vec Ideal S1x2048 .f32) (n : Fin 8) (s : Fin 8) (q : Fin 2048) :
    normed y g b (ix3 n s q) = Cert.Spec.Post.normed (fun k => y (ix3 n s k)) (Cert.Spec.Post.features g) (Cert.Spec.Post.features b) q := by
  unfold Cert.Spec.Post.normed Cert.Spec.Post.features
  rw [← variance_apply, ← away_apply]
  unfold normed
  generalize means (mulf (F := Ideal) (φ := .f32) (away y) (away y)) = v
  generalize away y = d
  pointwise []

/-- The hidden features, one row for each position. -/
def hidden (x : Vec Ideal S8x8x2048 .f32) (m : Vec Ideal S64x2048 .bf16) (w : Vec Ideal S1x2048x2048 .f32) (g b : Vec Ideal S1x2048 .f32) :
    Vec Ideal S64x2048 .f32 :=
  shapeCast S64x2048 (normed (summed x m w) g b) shapeCasts_S8x8x2048_S64x2048

/-- The hidden features at an index. -/
theorem hidden_apply (x : Vec Ideal S8x8x2048 .f32) (m : Vec Ideal S64x2048 .bf16) (w : Vec Ideal S1x2048x2048 .f32) (g b : Vec Ideal S1x2048 .f32)
    (r : Fin 64) (q : Fin 2048) : hidden x m w g b (ix2 r q) = Cert.Spec.PostSample.hiddenRow x m w g b r q := by
  have e : hidden x m w g b (ix2 r q) = normed (summed x m w) g b (ix3 (Cert.Spec.PostSample.seqOf r) (Cert.Spec.PostSample.posOf r) q) := by
    unfold hidden
    generalize normed (summed x m w) g b = y
    pointwise [Cert.Spec.PostSample.seqOf, Cert.Spec.PostSample.posOf]
  rw [e, normed_apply]
  unfold Cert.Spec.PostSample.hiddenRow
  rw [show (fun k => summed x m w (ix3 (Cert.Spec.PostSample.seqOf r) (Cert.Spec.PostSample.posOf r) k)) = Cert.Spec.PostSample.summed x m w r from
    funext fun k => summed_apply x m w r k]

/-- The logits of the hidden features. -/
def routed (h : Vec Ideal S64x2048 .f32) (wr : Vec Ideal S1x2048x32 .f32) (br : Vec Ideal S1x32 .f32) : Vec Ideal S64x32 .f32 :=
  addf (F := Ideal) (φ := .f32)
    (Host.dotGeneral (F := Ideal) (φ₁ := .f32) (φ₂ := .f32) dot_S64x2048_S2048x32_S64x32_1_0_0_1_n_n none h
      (shapeCast S2048x32 wr shapeCasts_S1x2048x32_S2048x32))
    (broadcastInDim S64x32 ![0, 1] bcast_S1x32_S64x32_0_1 (broadcastInDim S1x32 ![1] bcast_S32_S1x32_1 (shapeCast S32 br shapeCasts_S1x32_S32)))

/-- The logits at an index. -/
theorem routed_apply (h : Vec Ideal S64x2048 .f32) (wr : Vec Ideal S1x2048x32 .f32) (br : Vec Ideal S1x32 .f32) (r : Fin 64) (e : Fin 32) :
    routed h wr br (ix2 r e) = Cert.Spec.Post.logit (fun k => h (ix2 r k)) (fun k => wr (ix3 0 k e)) (br (ix2 0 e)) := by
  pointwise [routed, Cert.Spec.Post.logit]

/-- The reference's hidden features are the specification's. -/
theorem hidden_eq (x : Vec Ideal S8x8x2048 .f32) (m : Vec Ideal S64x2048 .bf16) (w : Vec Ideal S1x2048x2048 .f32) (g b : Vec Ideal S1x2048 .f32) :
    hidden x m w g b = Cert.Spec.PostSample.hidden x m w g b := by
  funext i
  obtain ⟨r, q, rfl⟩ : ∃ (r : Fin 64) (q : Fin 2048), i = ix2 r q := ⟨i 0, i 1, eq_ix2 i⟩
  exact hidden_apply x m w g b r q

/-- So are its logits. -/
theorem logits_eq (x : Vec Ideal S8x8x2048 .f32) (m : Vec Ideal S64x2048 .bf16) (w : Vec Ideal S1x2048x2048 .f32) (g b : Vec Ideal S1x2048 .f32)
    (wr : Vec Ideal S1x2048x32 .f32) (br : Vec Ideal S1x32 .f32) :
    routed (hidden x m w g b) wr br = Cert.Spec.PostSample.logits x m w g b wr br := by
  funext i
  obtain ⟨r, e, rfl⟩ : ∃ (r : Fin 64) (e : Fin 32), i = ix2 r e := ⟨i 0, i 1, eq_ix2 i⟩
  rw [routed_apply]
  exact congrArg (fun h => Cert.Spec.Post.logit h (fun k => wr (ix3 0 k e)) (br (ix2 0 e))) (funext fun k => hidden_apply x m w g b r k)

/-- What the reference's run leaves first. -/
theorem result_hidden (m : (ℓ : Loc nD τ sig) → Buf (Elt Ideal) ℓ) (c : Dev nD) :
    Cert.Reference10Ideal.Value.res_main_v33 m c = Cert.Spec.PostSample.hidden (m ((c : Thread nD τ).loc main_arg0)) (m ((c : Thread nD τ).loc main_arg1))
      (m ((c : Thread nD τ).loc main_arg2)) (m ((c : Thread nD τ).loc main_arg3)) (m ((c : Thread nD τ).loc main_arg4)) := by
  rw [← hidden_eq]
  rfl

/-- What it leaves second. -/
theorem result_logits (m : (ℓ : Loc nD τ sig) → Buf (Elt Ideal) ℓ) (c : Dev nD) :
    Cert.Reference10Ideal.Value.res_main_v39 m c = Cert.Spec.PostSample.logits (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [← logits_eq]
  rfl

end Cert.Reference10Ideal.Hand

end
-- ==== Proof.PostSampleClaim.lean ====
/- The claims about the output projection, the norm and the router on the samples: the two runs of the kernel, the reference's, and their common results. -/
module

public import proofs.«01_k».proof.Proof.PostSampleValue
public import proofs.«01_k».proof.Proof.PostSampleReference
public import proofs.«01_k».proof.Proof.Gen.Kernel10.Frame
public import proofs.«01_k».proof.Proof.Gen.Kernel10Ideal.Frame
public import Idealize.ShloMosaic.Lib.Bf16Pair
public import Idealize.ShloMosaic.Lib.Bf16PairInverse

@[expose] public section

noncomputable section

namespace Cert.Proof.PostSample

open Idealize.ShloMosaic Idealize.SL.Sem

/-- The kernel runs, leaves its arguments, and ends quiescent. -/
theorem frame_kernel : quiescent_Kernel10 (hKernel10 := Cert.Kernel10.Gen.facts) :=
  fun m ρ _ => Cert.Kernel10.Gen.frame m ρ

/-- So does the kernel over the reals. -/
theorem frame_ideal : quiescent_Kernel10Ideal (hKernel10Ideal := Cert.Kernel10Ideal.Gen.facts) :=
  fun m ρ _ => Cert.Kernel10Ideal.Gen.frame m ρ

/-- So does the reference. -/
theorem frame_reference : quiescent_Reference10Ideal (hReference10Ideal := Cert.Reference10Ideal.Gen.facts) :=
  fun m ρ _ => (θ_run Cert.Reference10Ideal.defs _ _).mono
    (fun r h => ⟨fun c => (h c).2.2, sem_eq_zero_of_no_sems (by decide) r.2⟩)
    (Cert.Reference10Ideal.Value.run (F := Ideal) m ρ)

/-- Where the kernel over the reals reads a pair of halves for a word, the word holds just that pair. -/
theorem preserves : preserves_Kernel10_Kernel10Ideal :=
  ⟨IdealRules.bf16_pair.bufferStatement _ _, IdealRules.bf16_pair.statement _ _,
    IdealRules.bf16_pack.statement _⟩

/-- Kernel and reference end with the same two results: the normed sums, and their logits. -/
theorem value : algebraic_Kernel10Ideal_Reference10Ideal (hKernel10Ideal := Cert.Kernel10Ideal.Gen.facts)
    (hReference10Ideal := Cert.Reference10Ideal.Gen.facts) := by
  intro m g m' g' _ he
  refine ⟨fun c => Cert.Kernel10Ideal.Hand.hidden m c, fun c => Cert.Spec.PostSample.logits (Cert.Kernel10Ideal.Hand.tokens m c)
    (Cert.Kernel10Ideal.Hand.merged m c) (Cert.Kernel10Ideal.Hand.outWeights m c) (Cert.Kernel10Ideal.Hand.scale m c)
    (Cert.Kernel10Ideal.Hand.shift m c) (Cert.Kernel10Ideal.Hand.routerWeights m c) (Cert.Kernel10Ideal.Hand.routerBias m c), ?_, ?_⟩
  · exact (θ_run Cert.Kernel10Ideal.defs _ _).mono
      (fun _ h c => ⟨((h.1 c).1 7).trans (Cert.Kernel10Ideal.Hand.final_7 m c),
        ((h.1 c).2 Cert.Kernel10Ideal.main_v14 (Pipeline.mem_restRefs_of Cert.Kernel10Ideal.main_v14 (by decide) (by decide))).trans
          (Cert.Kernel10Ideal.Hand.result_logits m c), h.2.1 c⟩)
      (θ_run_and (Cert.Kernel10Ideal.Gen.run_main (F := Ideal) m g) (Cert.Kernel10Ideal.Gen.frame (F := Ideal) m g))
  · refine (θ_run Cert.Reference10Ideal.defs _ _).mono (fun _ h c => ⟨(h c).1.trans ?_, (h c).2.1.trans ?_, (h c).2.2⟩)
      (Cert.Reference10Ideal.Value.run (F := Ideal) m' g')
    · obtain ⟨e0, e1, e2, e3, e4, e5, e6⟩ := he c
      rw [Cert.Reference10Ideal.Hand.result_hidden, e0, e1, e2, e3, e4]
      rfl
    · obtain ⟨e0, e1, e2, e3, e4, e5, e6⟩ := he c
      rw [Cert.Reference10Ideal.Hand.result_logits, e0, e1, e2, e3, e4, e5, e6]
      rfl

end Cert.Proof.PostSample

end
-- ==== Proof.PoolSampleSpec.lean ====
/- The pooling of the samples: means over trailing windows that reach back into each sample's state, less the position itself,
   mixed within a group and scaled. -/
module

public import proofs.«01_k».proof.Proof.PoolSpec

@[expose] public section

noncomputable section

namespace Cert.Spec.PoolSample

open Idealize.ShloMosaic

/-- The projected array of the samples. -/
abbrev Wide : Type := (⟨2, ![64, 8192]⟩ : Shape).Idx → EReal

/-- The pooled columns of the fifteen positions before each sample, with a leading axis of one layer. -/
abbrev State : Type := (⟨4, ![1, 8, 15, 1024]⟩ : Shape).Idx → EReal

/-- The pooled column `q` of sample `b`, `j` positions before its position `s`: out of the projected array, out of the
    state where that lies before the sample, and zero before the state. -/
def token (st : State) (h : Wide) (b s j q : Nat) : EReal :=
  if e : b < 8 ∧ q < 1024 ∧ j ≤ s ∧ s - j < 8 then h (ix2 ⟨b * 8 + (s - j), by omega⟩ ⟨2048 + q, by omega⟩)
  else if e : b < 8 ∧ q < 1024 ∧ s < j ∧ j ≤ s + 15 then st (ix4 0 ⟨b, by omega⟩ ⟨s + 15 - j, by omega⟩ ⟨q, by omega⟩)
  else 0

/-- The sum of the last `w` positions. -/
def window (st : State) (h : Wide) (w b s q : Nat) : EReal := ∑ j ∈ Finset.range w, token st h b s j q

/-- How many of them there are: the sample goes on at position 16384 of its sequence. -/
def count (w s : Nat) : EReal := Cert.Spec.count w (16384 + s)

/-- The mean of the window of group `g` less the position itself, at column `k` of the group. -/
def deviation (st : State) (h : Wide) (g b s k : Nat) : EReal :=
  Ideal.div (window st h (width g) b s (g * 256 + k)) (count (width g) s) - token st h b s 0 (g * 256 + k)

/-- The pooling's result at column `q` of group `g`: the deviations against a column of the group's matrix, scaled. -/
def pooledAt (st : State) (h : Wide) (w : PoolWeights) (sc : PoolScale) (b s : Nat) (g : Fin 4) (q : Fin 256) : EReal :=
  (∑ k : Fin 256, deviation st h g.val b s k.val * w (ix4 0 g k q))
    * sc (ix2 0 ⟨g.val * 256 + q.val, by have := g.isLt; have := q.isLt; omega⟩)

/-- The whole result, the rows of the eight samples one below the other. -/
def pooled (st : State) (h : Wide) (w : PoolWeights) (sc : PoolScale) : (⟨2, ![64, 1024]⟩ : Shape).Idx → EReal :=
  fun i => pooledAt st h w sc ((i 0).val / 8) ((i 0).val % 8)
    ⟨(i 1).val / 256, by have h : (i 1).val < 1024 := (i 1).isLt; omega⟩ ⟨(i 1).val % 256, Nat.mod_lt _ (by decide)⟩

/-- The count as a machine word: the lesser of the width and the position's number from one. -/
theorem count_word (w s : Nat) (hw : w ≤ 16) (hs : s < 8) :
    (((IntOp.minsi (BitVec.ofNat 32 w) (BitVec.ofNat 32 (16384 + s) + 1#32)).toInt : ℝ) : EReal) = count w s := by
  interval_cases s <;> interval_cases w <;> exact congrArg (fun n : Int => ((n : ℝ) : EReal)) (by decide)

end Cert.Spec.PoolSample

end
-- ==== Proof.PoolSampleValue.lean ====
/- The pooling of the samples over the reals: what a point leaves in its block, and the array after the run. -/
module

public import proofs.«01_k».proof.Defs
public import proofs.«01_k».proof.Proof.PoolSampleSpec
public import proofs.«01_k».proof.Proof.Gen.Kernel11Ideal.Frame
public import Idealize.ShloMosaic.Lib.Claim
public import Idealize.ShloMosaic.Lib.Pointwise
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Acc
public import Idealize.ShloMosaic.Lib.Pipeline.ValueKit.Point
public import Idealize.ShloMosaic.Lib.StableHlo.Run
public import Idealize.ShloMosaic.Lib.Tactic

@[expose] public section

set_option maxRecDepth 16384

noncomputable section

namespace Cert.Kernel11Ideal.Hand

open Cert.Kernel11Ideal Cert.Kernel11Ideal.Gen
open Idealize.ShloMosaic Idealize.ShloMosaic.TcCoe Idealize.ShloMosaic.Tactic
open Idealize.SL.Sem
open Idealize.ShloMosaic.Pipeline (Dat Cfg Window)

/-! ## Window sums by doubling -/

/-- Where rows hold sums over `w` rows back, those rows plus the rows `w` further back hold sums over twice as many. -/
theorem double (w : Nat) (x y : Vec Ideal S24x256 .f32) (z : Nat → Fin 256 → EReal)
    (hx : ∀ (n : Fin 24) (q : Fin 256), w ≤ n.val + 1 → x (ix2 n q) = ∑ j ∈ Finset.range w, z (n.val - j) q)
    (hy : ∀ (n : Fin 24) (q : Fin 256), w ≤ n.val → y (ix2 n q) = (x (ix2 n q) + x (ix2 ⟨n.val - w, by have := n.isLt; omega⟩ q) : EReal))
    (n : Fin 24) (q : Fin 256) (hn : w + w ≤ n.val + 1) :
    y (ix2 n q) = ∑ j ∈ Finset.range (w + w), z (n.val - j) q := by
  rw [hy n q (by omega), hx n q (by omega), hx _ q (by dsimp only; omega), Finset.sum_range_add]
  refine congrArg (fun a : EReal => _ + a) (Finset.sum_congr rfl fun j _ => ?_)
  rw [Nat.sub_sub]

/-- Each row plus the one 1 before it, around the end. -/
def plus1 (x : Vec Ideal S24x256 .f32) : Vec Ideal S24x256 .f32 :=
  addf (F := Ideal) (φ := .f32) x (dynamicRotate 0 1#32 none x rotates_S24x256_d0)

/-- From row 1 on no row comes from around the end. -/
theorem plus1_apply (x : Vec Ideal S24x256 .f32) (n : Fin 24) (q : Fin 256) (hn : 1 ≤ n.val) :
    plus1 x (ix2 n q) = (x (ix2 n q) + x (ix2 ⟨n.val - 1, by have := n.isLt; omega⟩ q) : EReal) := by
  have h := n.isLt
  pointwise [plus1]
  refine congrArg (fun a : EReal => _ + a) (congrArg x (congrArg₂ ix2 (Fin.ext ?_) rfl))
  show (n.val + 24 - 1) % 24 = n.val - 1
  omega

/-- Each row plus the one 2 before it, around the end. -/
def plus2 (x : Vec Ideal S24x256 .f32) : Vec Ideal S24x256 .f32 :=
  addf (F := Ideal) (φ := .f32) x (dynamicRotate 0 2#32 none x rotates_S24x256_d0)

/-- From row 2 on no row comes from around the end. -/
theorem plus2_apply (x : Vec Ideal S24x256 .f32) (n : Fin 24) (q : Fin 256) (hn : 2 ≤ n.val) :
    plus2 x (ix2 n q) = (x (ix2 n q) + x (ix2 ⟨n.val - 2, by have := n.isLt; omega⟩ q) : EReal) := by
  have h := n.isLt
  pointwise [plus2]
  refine congrArg (fun a : EReal => _ + a) (congrArg x (congrArg₂ ix2 (Fin.ext ?_) rfl))
  show (n.val + 24 - 2) % 24 = n.val - 2
  omega

/-- Each row plus the one 4 before it, around the end. -/
def plus4 (x : Vec Ideal S24x256 .f32) : Vec Ideal S24x256 .f32 :=
  addf (F := Ideal) (φ := .f32) x (dynamicRotate 0 4#32 none x rotates_S24x256_d0)

/-- From row 4 on no row comes from around the end. -/
theorem plus4_apply (x : Vec Ideal S24x256 .f32) (n : Fin 24) (q : Fin 256) (hn : 4 ≤ n.val) :
    plus4 x (ix2 n q) = (x (ix2 n q) + x (ix2 ⟨n.val - 4, by have := n.isLt; omega⟩ q) : EReal) := by
  have h := n.isLt
  pointwise [plus4]
  refine congrArg (fun a : EReal => _ + a) (congrArg x (congrArg₂ ix2 (Fin.ext ?_) rfl))
  show (n.val + 24 - 4) % 24 = n.val - 4
  omega

/-- Each row plus the one 8 before it, around the end. -/
def plus8 (x : Vec Ideal S24x256 .f32) : Vec Ideal S24x256 .f32 :=
  addf (F := Ideal) (φ := .f32) x (dynamicRotate 0 8#32 none x rotates_S24x256_d0)

/-- From row 8 on no row comes from around the end. -/
theorem plus8_apply (x : Vec Ideal S24x256 .f32) (n : Fin 24) (q : Fin 256) (hn : 8 ≤ n.val) :
    plus8 x (ix2 n q) = (x (ix2 n q) + x (ix2 ⟨n.val - 8, by have := n.isLt; omega⟩ q) : EReal) := by
  have h := n.isLt
  pointwise [plus8]
  refine congrArg (fun a : EReal => _ + a) (congrArg x (congrArg₂ ix2 (Fin.ext ?_) rfl))
  show (n.val + 24 - 8) % 24 = n.val - 8
  omega

/-- The sums over two, four, eight and sixteen rows back. -/
def two (x : Vec Ideal S24x256 .f32) : Vec Ideal S24x256 .f32 := plus1 x
def four (x : Vec Ideal S24x256 .f32) : Vec Ideal S24x256 .f32 := plus2 (two x)
def eight (x : Vec Ideal S24x256 .f32) : Vec Ideal S24x256 .f32 := plus4 (four x)
def sixteen (x : Vec Ideal S24x256 .f32) : Vec Ideal S24x256 .f32 := plus8 (eight x)

section Sums

variable (x : Vec Ideal S24x256 .f32) (z : Nat → Fin 256 → EReal) (hx : ∀ (n : Fin 24) (q : Fin 256), x (ix2 n q) = z n.val q)

include hx

/-- They are sums over two rows back, wherever there are as many. -/
theorem two_apply (n : Fin 24) (q : Fin 256) (hn : 1 + 1 ≤ n.val + 1) : two x (ix2 n q) = ∑ j ∈ Finset.range 2, z (n.val - j) q :=
  double 1 x (two x) z (fun n q _ => by rw [hx, Finset.sum_range_one]; rfl) (fun n q h => plus1_apply x n q h) n q hn

/-- They are sums over four rows back, wherever there are as many. -/
theorem four_apply (n : Fin 24) (q : Fin 256) (hn : 2 + 2 ≤ n.val + 1) : four x (ix2 n q) = ∑ j ∈ Finset.range 4, z (n.val - j) q :=
  double 2 (two x) (four x) z (fun n q h => two_apply x z hx n q h) (fun n q h => plus2_apply (two x) n q h) n q hn

/-- They are sums over eight rows back, wherever there are as many. -/
theorem eight_apply (n : Fin 24) (q : Fin 256) (hn : 4 + 4 ≤ n.val + 1) : eight x (ix2 n q) = ∑ j ∈ Finset.range 8, z (n.val - j) q :=
  double 4 (four x) (eight x) z (fun n q h => four_apply x z hx n q h) (fun n q h => plus4_apply (four x) n q h) n q hn

/-- They are sums over sixteen rows back, wherever there are as many. -/
theorem sixteen_apply (n : Fin 24) (q : Fin 256) (hn : 8 + 8 ≤ n.val + 1) : sixteen x (ix2 n q) = ∑ j ∈ Finset.range 16, z (n.val - j) q :=
  double 8 (eight x) (sixteen x) z (fun n q h => eight_apply x z hx n q h) (fun n q h => plus8_apply (eight x) n q h) n q hn

end Sums

/-! ## The payloads -/

/-- The positions' numbers from one, as words, from the words of the positions. -/
def countWords (v : BitVec 32) (p : IVec S8x1 32) : Vec Ideal S8x1 .f32 :=
  sitofp (F := Ideal) .f32 (minsi (broadcast S8x1 v) (addi p (broadcast S8x1 1#32)))

/-- The mean of a window less the rows themselves, against a group's matrix, scaled. -/
def mixed (d v : Vec Ideal S8x256 .f32) (n : Vec Ideal S8x1 .f32) (w : Vec Ideal S1x256x256 .bf16) (sc : Vec Ideal S1x256 .f32) :
    Vec Ideal S8x256 .bf16 :=
  truncf (F := Ideal) (φ := .f32) .bf16
    (mulf (F := Ideal) (φ := .f32)
      (matmul (F := Ideal) (φ₁ := .bf16) (φ₂ := .bf16) dot_S8x256_S256x256_S8x256_1_0_0_1_n_n none
        (truncf (F := Ideal) (φ := .f32) .bf16
          (subf (F := Ideal) (φ := .f32) (divf (F := Ideal) (φ := .f32) d (broadcastTo S8x256 n broadcasts_S8x1_S8x256)) v) bitsLt_bf16_f32)
        (shapeCast S256x256 w shapeCasts_S1x256x256_S256x256) (constant (F := Ideal) S8x256 .f32 0x00000000#32))
      (broadcastTo S8x256 (shapeCast S1x256 sc shapeCasts_S1x256_S1x256) broadcasts_S1x256_S8x256))
    bitsLt_bf16_f32

/-- The same at an index: a sum of products, scaled. -/
theorem mixed_apply (d v : Vec Ideal S8x256 .f32) (n : Vec Ideal S8x1 .f32) (w : Vec Ideal S1x256x256 .bf16) (sc : Vec Ideal S1x256 .f32)
    (r : Fin 8) (q : Fin 256) :
    mixed d v n w sc (ix2 r q)
      = ((∑ k : Fin 256, (Ideal.div (d (ix2 r k)) (n (ix2 r 0)) - v (ix2 r k)) * w (ix3 0 k q)) * sc (ix2 0 q) : EReal) := by
  pointwise [mixed]

/-- The last eight of the rows. -/
def last (x : Vec Ideal S24x256 .f32) : Vec Ideal S8x256 .f32 := extractStridedSlice S8x256 ![16, 0] x slices_S24x256_o16_0_S8x256

/-- The last eight rows, at an index. -/
theorem last_apply (x : Vec Ideal S24x256 .f32) (r : Fin 8) (q : Fin 256) :
    last x (ix2 r q) = x (ix2 ⟨16 + r.val, by have := r.isLt; omega⟩ q) := by
  pointwise [last]

/-- The rows before a sample, above its rows. -/
def stacked (a : Vec Ideal S16x256 .f32) (b : Vec Ideal S8x256 .f32) : Vec Ideal S24x256 .f32 :=
  concatenate S24x256 0 [⟨S16x256, a⟩, ⟨S8x256, b⟩] concatenates_S16x256_S8x256_S24x256_d0

/-- The rows before a sample, then the sample's, at an index. -/
theorem stacked_apply (a : Vec Ideal S16x256 .f32) (b : Vec Ideal S8x256 .f32) (n : Fin 24) (q : Fin 256) :
    stacked a b (ix2 n q) = if h : n.val < 16 then a (ix2 ⟨n.val, h⟩ q) else b (ix2 ⟨n.val - 16, by have := n.isLt; omega⟩ q) := by
  pointwise [stacked]

/-- The rows before a sample as the point uses them, without the leading axis. -/
theorem before_apply (x : Vec Ideal S1x16x1024 .f32) (n : Fin 16) (c : Fin 1024) : k0_pay2 x (ix2 n c) = x (ix3 0 n c) := by
  pointwise [k0_pay2]

/-- The sample's rows as the point uses them, without the leading axis. -/
theorem own_apply (x : Vec Ideal S1x8x1024 .f32) (n : Fin 8) (c : Fin 1024) : k0_pay3 x (ix2 n c) = x (ix3 0 n c) := by
  pointwise [k0_pay3]

/-- A block as it is stored, with a leading axis. -/
def laid (x : Vec Ideal S8x256 .bf16) : Vec Ideal S1x8x256 .bf16 := shapeCast S1x8x256 x shapeCasts_S8x256_S1x8x256

/-- The stored block at an index. -/
theorem laid_apply (x : Vec Ideal S8x256 .bf16) (r : Fin 8) (q : Fin 256) : laid x (ix3 0 r q) = x (ix2 r q) := by
  pointwise [laid]

/-- The word of a row's position in its sequence. -/
theorem position (i : grid0.Coords) (r : Fin 8) : k0_pay4 i (ix2 r 0) = BitVec.ofNat 32 (16384 + r.val) := by
  have h1 : (i 1).val < 1 := (i 1).isLt
  have e : k0_pay4 i (ix2 r 0) = (16384#32 + BitVec.ofNat 32 (i 1).val * 8#32) + BitVec.ofNat 32 r.val := by
    pointwise [k0_pay4]
    rfl
  have z : (i 1).val = 0 := by omega
  rw [e, z, BitVec.ofNat_add]
  rfl

/-- The counts of a window's positions, at a row of the block. -/
theorem countWords_apply (i : grid0.Coords) (w : Nat) (hw : w ≤ 16) (r : Fin 8) :
    countWords (BitVec.ofNat 32 w) (k0_pay4 i) (ix2 r 0) = Cert.Spec.PoolSample.count w r.val := by
  rw [← Cert.Spec.PoolSample.count_word w _ hw r.isLt, ← position i r]
  generalize BitVec.ofNat 32 w = v
  generalize k0_pay4 i = p
  pointwise [countWords]
  rfl

/-- The columns of group 0: of the rows before the block, and of the sample's. -/
def before0 (x : Vec Ideal S16x1024 .f32) : Vec Ideal S16x256 .f32 := extractStridedSlice S16x256 ![0, 0] x slices_S16x1024_o0_0_S16x256
def rows0 (x : Vec Ideal S8x1024 .f32) : Vec Ideal S8x256 .f32 := extractStridedSlice S8x256 ![0, 0] x slices_S8x1024_o0_0_S8x256

/-- Group 0 of the rows before the block, at an index. -/
theorem before0_apply (x : Vec Ideal S16x1024 .f32) (n : Fin 16) (q : Fin 256) :
    before0 x (ix2 n q) = x (ix2 n ⟨0 * 256 + q.val, by have := q.isLt; omega⟩) := by
  have e : before0 x (ix2 n q) = x (ix2 n ⟨0 + q.val, by have := q.isLt; omega⟩) := by
    pointwise [before0]
  exact e.trans (congrArg x (congrArg (ix2 n) (Fin.ext (by dsimp only))))

/-- Group 0 of the sample's rows, at an index. -/
theorem rows0_apply (x : Vec Ideal S8x1024 .f32) (n : Fin 8) (q : Fin 256) :
    rows0 x (ix2 n q) = x (ix2 n ⟨0 * 256 + q.val, by have := q.isLt; omega⟩) := by
  have e : rows0 x (ix2 n q) = x (ix2 n ⟨0 + q.val, by have := q.isLt; omega⟩) := by
    pointwise [rows0]
  exact e.trans (congrArg x (congrArg (ix2 n) (Fin.ext (by dsimp only))))

/-- The columns of group 1: of the rows before the block, and of the sample's. -/
def before1 (x : Vec Ideal S16x1024 .f32) : Vec Ideal S16x256 .f32 := extractStridedSlice S16x256 ![0, 256] x slices_S16x1024_o0_256_S16x256
def rows1 (x : Vec Ideal S8x1024 .f32) : Vec Ideal S8x256 .f32 := extractStridedSlice S8x256 ![0, 256] x slices_S8x1024_o0_256_S8x256

/-- Group 1 of the rows before the block, at an index. -/
theorem before1_apply (x : Vec Ideal S16x1024 .f32) (n : Fin 16) (q : Fin 256) :
    before1 x (ix2 n q) = x (ix2 n ⟨1 * 256 + q.val, by have := q.isLt; omega⟩) := by
  have e : before1 x (ix2 n q) = x (ix2 n ⟨256 + q.val, by have := q.isLt; omega⟩) := by
    pointwise [before1]
  exact e.trans (congrArg x (congrArg (ix2 n) (Fin.ext (by dsimp only))))

/-- Group 1 of the sample's rows, at an index. -/
theorem rows1_apply (x : Vec Ideal S8x1024 .f32) (n : Fin 8) (q : Fin 256) :
    rows1 x (ix2 n q) = x (ix2 n ⟨1 * 256 + q.val, by have := q.isLt; omega⟩) := by
  have e : rows1 x (ix2 n q) = x (ix2 n ⟨256 + q.val, by have := q.isLt; omega⟩) := by
    pointwise [rows1]
  exact e.trans (congrArg x (congrArg (ix2 n) (Fin.ext (by dsimp only))))

/-- The columns of group 2: of the rows before the block, and of the sample's. -/
def before2 (x : Vec Ideal S16x1024 .f32) : Vec Ideal S16x256 .f32 := extractStridedSlice S16x256 ![0, 512] x slices_S16x1024_o0_512_S16x256
def rows2 (x : Vec Ideal S8x1024 .f32) : Vec Ideal S8x256 .f32 := extractStridedSlice S8x256 ![0, 512] x slices_S8x1024_o0_512_S8x256

/-- Group 2 of the rows before the block, at an index. -/
theorem before2_apply (x : Vec Ideal S16x1024 .f32) (n : Fin 16) (q : Fin 256) :
    before2 x (ix2 n q) = x (ix2 n ⟨2 * 256 + q.val, by have := q.isLt; omega⟩) := by
  have e : before2 x (ix2 n q) = x (ix2 n ⟨512 + q.val, by have := q.isLt; omega⟩) := by
    pointwise [before2]
  exact e.trans (congrArg x (congrArg (ix2 n) (Fin.ext (by dsimp only))))

/-- Group 2 of the sample's rows, at an index. -/
theorem rows2_apply (x : Vec Ideal S8x1024 .f32) (n : Fin 8) (q : Fin 256) :
    rows2 x (ix2 n q) = x (ix2 n ⟨2 * 256 + q.val, by have := q.isLt; omega⟩) := by
  have e : rows2 x (ix2 n q) = x (ix2 n ⟨512 + q.val, by have := q.isLt; omega⟩) := by
    pointwise [rows2]
  exact e.trans (congrArg x (congrArg (ix2 n) (Fin.ext (by dsimp only))))

/-- The columns of group 3: of the rows before the block, and of the sample's. -/
def before3 (x : Vec Ideal S16x1024 .f32) : Vec Ideal S16x256 .f32 := extractStridedSlice S16x256 ![0, 768] x slices_S16x1024_o0_768_S16x256
def rows3 (x : Vec Ideal S8x1024 .f32) : Vec Ideal S8x256 .f32 := extractStridedSlice S8x256 ![0, 768] x slices_S8x1024_o0_768_S8x256

/-- Group 3 of the rows before the block, at an index. -/
theorem before3_apply (x : Vec Ideal S16x1024 .f32) (n : Fin 16) (q : Fin 256) :
    before3 x (ix2 n q) = x (ix2 n ⟨3 * 256 + q.val, by have := q.isLt; omega⟩) := by
  have e : before3 x (ix2 n q) = x (ix2 n ⟨768 + q.val, by have := q.isLt; omega⟩) := by
    pointwise [before3]
  exact e.trans (congrArg x (congrArg (ix2 n) (Fin.ext (by dsimp only))))

/-- Group 3 of the sample's rows, at an index. -/
theorem rows3_apply (x : Vec Ideal S8x1024 .f32) (n : Fin 8) (q : Fin 256) :
    rows3 x (ix2 n q) = x (ix2 n ⟨3 * 256 + q.val, by have := q.isLt; omega⟩) := by
  have e : rows3 x (ix2 n q) = x (ix2 n ⟨768 + q.val, by have := q.isLt; omega⟩) := by
    pointwise [rows3]
  exact e.trans (congrArg x (congrArg (ix2 n) (Fin.ext (by dsimp only))))

/-- What a point stores in the columns of group 0. -/
theorem stored0 (i : grid0.Coords) (v0 : Vec Ideal S1x16x1024 .f32) (v4 : Vec Ideal S1x8x1024 .f32) (w : Vec Ideal S1x256x256 .bf16) (sc : Vec Ideal S1x256 .f32) :
    k0_pay5 i v0 v4 w sc
      = laid (mixed (last (two (stacked (before0 (k0_pay2 v0)) (rows0 (k0_pay3 v4))))) (rows0 (k0_pay3 v4)) (countWords 2#32 (k0_pay4 i)) w sc) :=
  rfl

/-- What a point stores in the columns of group 1. -/
theorem stored1 (i : grid0.Coords) (v0 : Vec Ideal S1x16x1024 .f32) (v4 : Vec Ideal S1x8x1024 .f32) (w : Vec Ideal S1x256x256 .bf16) (sc : Vec Ideal S1x256 .f32) :
    k0_pay7 (k0_pay3 v4) (k0_pay4 i) (k0_pay6 v0) w sc
      = laid (mixed (last (four (stacked (before1 (k0_pay2 v0)) (rows1 (k0_pay3 v4))))) (rows1 (k0_pay3 v4)) (countWords 4#32 (k0_pay4 i)) w sc) :=
  rfl

/-- What a point stores in the columns of group 2. -/
theorem stored2 (i : grid0.Coords) (v0 : Vec Ideal S1x16x1024 .f32) (v4 : Vec Ideal S1x8x1024 .f32) (w : Vec Ideal S1x256x256 .bf16) (sc : Vec Ideal S1x256 .f32) :
    k0_pay10 (k0_pay3 v4) (k0_pay8 (k0_pay2 v0) (k0_pay3 v4)) (k0_pay9 (k0_pay4 i)) w sc
      = laid (mixed (last (eight (stacked (before2 (k0_pay2 v0)) (rows2 (k0_pay3 v4))))) (rows2 (k0_pay3 v4)) (countWords 8#32 (k0_pay4 i)) w sc) :=
  rfl

/-- What a point stores in the columns of group 3. -/
theorem stored3 (i : grid0.Coords) (v0 : Vec Ideal S1x16x1024 .f32) (v4 : Vec Ideal S1x8x1024 .f32) (w : Vec Ideal S1x256x256 .bf16) (sc : Vec Ideal S1x256 .f32) :
    k0_pay1 (k0_pay11 (k0_pay2 v0) (k0_pay3 v4) (k0_pay4 i)) w sc
      = laid (mixed (last (sixteen (stacked (before3 (k0_pay2 v0)) (rows3 (k0_pay3 v4))))) (rows3 (k0_pay3 v4)) (countWords 16#32 (k0_pay4 i)) w sc) :=
  rfl

/-! ## A sample's rows as positions of its sequence -/

section Block

variable (i : grid0.Coords) (v0 : Vec Ideal S1x16x1024 .f32) (v4 : Vec Ideal S1x8x1024 .f32) (st : Cert.Spec.PoolSample.State) (h : Cert.Spec.PoolSample.Wide) (b : Nat)

/-- The rows are the positions of sample `b`, and the rows before them the sixteen positions before those. -/
def Holds : Prop :=
  (∀ (n : Fin 16) (c : Fin 1024), v0 (ix3 0 n c) = Cert.Spec.PoolSample.token st h b n.val 16 c.val)
    ∧ ∀ (n : Fin 8) (c : Fin 1024), v4 (ix3 0 n c) = Cert.Spec.PoolSample.token st h b n.val 0 c.val

/-- Column `c` at the row `n` of the rows before the sample and the sample's, below each other. -/
def line (c n : Nat) : EReal := if n < 16 then Cert.Spec.PoolSample.token st h b n 16 c else Cert.Spec.PoolSample.token st h b (n - 16) 0 c

/-- Going back along the line is going back in the sequence. -/
theorem line_back (hb : b < 8) (r : Fin 8) (j q : Nat) (hj : j ≤ 15) (hq : q < 1024) :
    line st h b q (16 + r.val - j) = Cert.Spec.PoolSample.token st h b r.val j q := by
  have hr := r.isLt
  unfold line Cert.Spec.PoolSample.token
  by_cases e : r.val < j
  · rw [if_pos (by omega), dif_neg (by omega), dif_pos (by omega), dif_neg (by omega), dif_pos (by omega)]
    refine congrArg st (congrArg (fun x => ix4 0 _ x _) (Fin.ext ?_))
    dsimp only
    omega
  · rw [if_neg (by omega), dif_pos (by omega), dif_pos (by omega)]
    refine congrArg h (congrArg₂ ix2 (Fin.ext ?_) rfl)
    dsimp only
    omega

/-- Group 0 of the rows before the sample and the sample's: the line of positions. -/
theorem stacked0_line (hold : Holds v0 v4 st h b) (n : Fin 24) (q : Fin 256) :
    stacked (before0 (k0_pay2 v0)) (rows0 (k0_pay3 v4)) (ix2 n q) = line st h b (0 * 256 + q.val) n.val := by
  rw [stacked_apply]
  unfold line
  by_cases e : n.val < 16
  · rw [dif_pos e, before0_apply, before_apply, hold.1, if_pos e]
  · rw [dif_neg e, rows0_apply, own_apply, hold.2, if_neg e]

/-- The sum over two positions, of group 0. -/
theorem sum0 (hold : Holds v0 v4 st h b) (hb : b < 8) (r : Fin 8) (q : Fin 256) :
    last (two (stacked (before0 (k0_pay2 v0)) (rows0 (k0_pay3 v4)))) (ix2 r q)
      = Cert.Spec.PoolSample.window st h 2 b r.val (0 * 256 + q.val) := by
  have hq := q.isLt
  rw [last_apply, two_apply _ (fun n q => line st h b (0 * 256 + q.val) n) (stacked0_line v0 v4 st h b hold) _ q (by dsimp only; omega)]
  unfold Cert.Spec.PoolSample.window
  refine Finset.sum_congr rfl fun j hj => ?_
  have := Finset.mem_range.mp hj
  exact line_back st h b hb r j _ (by omega) (by omega)

/-- What the point stores there: the pooling of its positions. -/
theorem value0 (hold : Holds v0 v4 st h b) (hb : b < 8) (w : Cert.Spec.PoolWeights) (sc : Cert.Spec.PoolScale)
    (wt : Vec Ideal S1x256x256 .bf16) (row : Vec Ideal S1x256 .f32)
    (hw : ∀ k q : Fin 256, wt (ix3 0 k q) = w (ix4 0 0 k q)) (hs : ∀ q : Fin 256, row (ix2 0 q) = sc (ix2 0 ⟨0 * 256 + q.val, by have := q.isLt; omega⟩))
    (r : Fin 8) (q : Fin 256) :
    k0_pay5 i v0 v4 wt row (ix3 0 r q)
      = Cert.Spec.PoolSample.pooledAt st h w sc b r.val 0 q := by
  rw [stored0, laid_apply, mixed_apply]
  unfold Cert.Spec.PoolSample.pooledAt
  refine congrArg₂ (fun x y : EReal => x * y) (Finset.sum_congr rfl fun k _ => congrArg₂ (fun x y : EReal => x * y) ?_ (hw k q)) (hs q)
  unfold Cert.Spec.PoolSample.deviation
  refine congrArg₂ (fun x y : EReal => x - y) (congrArg₂ Ideal.div (sum0 v0 v4 st h b hold hb r k) (countWords_apply i 2 (by decide) r)) ?_
  exact (rows0_apply (k0_pay3 v4) r k).trans ((own_apply v4 r _).trans (hold.2 r _))

/-- Group 1 of the rows before the sample and the sample's: the line of positions. -/
theorem stacked1_line (hold : Holds v0 v4 st h b) (n : Fin 24) (q : Fin 256) :
    stacked (before1 (k0_pay2 v0)) (rows1 (k0_pay3 v4)) (ix2 n q) = line st h b (1 * 256 + q.val) n.val := by
  rw [stacked_apply]
  unfold line
  by_cases e : n.val < 16
  · rw [dif_pos e, before1_apply, before_apply, hold.1, if_pos e]
  · rw [dif_neg e, rows1_apply, own_apply, hold.2, if_neg e]

/-- The sum over four positions, of group 1. -/
theorem sum1 (hold : Holds v0 v4 st h b) (hb : b < 8) (r : Fin 8) (q : Fin 256) :
    last (four (stacked (before1 (k0_pay2 v0)) (rows1 (k0_pay3 v4)))) (ix2 r q)
      = Cert.Spec.PoolSample.window st h 4 b r.val (1 * 256 + q.val) := by
  have hq := q.isLt
  rw [last_apply, four_apply _ (fun n q => line st h b (1 * 256 + q.val) n) (stacked1_line v0 v4 st h b hold) _ q (by dsimp only; omega)]
  unfold Cert.Spec.PoolSample.window
  refine Finset.sum_congr rfl fun j hj => ?_
  have := Finset.mem_range.mp hj
  exact line_back st h b hb r j _ (by omega) (by omega)

/-- What the point stores there: the pooling of its positions. -/
theorem value1 (hold : Holds v0 v4 st h b) (hb : b < 8) (w : Cert.Spec.PoolWeights) (sc : Cert.Spec.PoolScale)
    (wt : Vec Ideal S1x256x256 .bf16) (row : Vec Ideal S1x256 .f32)
    (hw : ∀ k q : Fin 256, wt (ix3 0 k q) = w (ix4 0 1 k q)) (hs : ∀ q : Fin 256, row (ix2 0 q) = sc (ix2 0 ⟨1 * 256 + q.val, by have := q.isLt; omega⟩))
    (r : Fin 8) (q : Fin 256) :
    k0_pay7 (k0_pay3 v4) (k0_pay4 i) (k0_pay6 v0) wt row (ix3 0 r q)
      = Cert.Spec.PoolSample.pooledAt st h w sc b r.val 1 q := by
  rw [stored1, laid_apply, mixed_apply]
  unfold Cert.Spec.PoolSample.pooledAt
  refine congrArg₂ (fun x y : EReal => x * y) (Finset.sum_congr rfl fun k _ => congrArg₂ (fun x y : EReal => x * y) ?_ (hw k q)) (hs q)
  unfold Cert.Spec.PoolSample.deviation
  refine congrArg₂ (fun x y : EReal => x - y) (congrArg₂ Ideal.div (sum1 v0 v4 st h b hold hb r k) (countWords_apply i 4 (by decide) r)) ?_
  exact (rows1_apply (k0_pay3 v4) r k).trans ((own_apply v4 r _).trans (hold.2 r _))

/-- Group 2 of the rows before the sample and the sample's: the line of positions. -/
theorem stacked2_line (hold : Holds v0 v4 st h b) (n : Fin 24) (q : Fin 256) :
    stacked (before2 (k0_pay2 v0)) (rows2 (k0_pay3 v4)) (ix2 n q) = line st h b (2 * 256 + q.val) n.val := by
  rw [stacked_apply]
  unfold line
  by_cases e : n.val < 16
  · rw [dif_pos e, before2_apply, before_apply, hold.1, if_pos e]
  · rw [dif_neg e, rows2_apply, own_apply, hold.2, if_neg e]

/-- The sum over eight positions, of group 2. -/
theorem sum2 (hold : Holds v0 v4 st h b) (hb : b < 8) (r : Fin 8) (q : Fin 256) :
    last (eight (stacked (before2 (k0_pay2 v0)) (rows2 (k0_pay3 v4)))) (ix2 r q)
      = Cert.Spec.PoolSample.window st h 8 b r.val (2 * 256 + q.val) := by
  have hq := q.isLt
  rw [last_apply, eight_apply _ (fun n q => line st h b (2 * 256 + q.val) n) (stacked2_line v0 v4 st h b hold) _ q (by dsimp only; omega)]
  unfold Cert.Spec.PoolSample.window
  refine Finset.sum_congr rfl fun j hj => ?_
  have := Finset.mem_range.mp hj
  exact line_back st h b hb r j _ (by omega) (by omega)

/-- What the point stores there: the pooling of its positions. -/
theorem value2 (hold : Holds v0 v4 st h b) (hb : b < 8) (w : Cert.Spec.PoolWeights) (sc : Cert.Spec.PoolScale)
    (wt : Vec Ideal S1x256x256 .bf16) (row : Vec Ideal S1x256 .f32)
    (hw : ∀ k q : Fin 256, wt (ix3 0 k q) = w (ix4 0 2 k q)) (hs : ∀ q : Fin 256, row (ix2 0 q) = sc (ix2 0 ⟨2 * 256 + q.val, by have := q.isLt; omega⟩))
    (r : Fin 8) (q : Fin 256) :
    k0_pay10 (k0_pay3 v4) (k0_pay8 (k0_pay2 v0) (k0_pay3 v4)) (k0_pay9 (k0_pay4 i)) wt row (ix3 0 r q)
      = Cert.Spec.PoolSample.pooledAt st h w sc b r.val 2 q := by
  rw [stored2, laid_apply, mixed_apply]
  unfold Cert.Spec.PoolSample.pooledAt
  refine congrArg₂ (fun x y : EReal => x * y) (Finset.sum_congr rfl fun k _ => congrArg₂ (fun x y : EReal => x * y) ?_ (hw k q)) (hs q)
  unfold Cert.Spec.PoolSample.deviation
  refine congrArg₂ (fun x y : EReal => x - y) (congrArg₂ Ideal.div (sum2 v0 v4 st h b hold hb r k) (countWords_apply i 8 (by decide) r)) ?_
  exact (rows2_apply (k0_pay3 v4) r k).trans ((own_apply v4 r _).trans (hold.2 r _))

/-- Group 3 of the rows before the sample and the sample's: the line of positions. -/
theorem stacked3_line (hold : Holds v0 v4 st h b) (n : Fin 24) (q : Fin 256) :
    stacked (before3 (k0_pay2 v0)) (rows3 (k0_pay3 v4)) (ix2 n q) = line st h b (3 * 256 + q.val) n.val := by
  rw [stacked_apply]
  unfold line
  by_cases e : n.val < 16
  · rw [dif_pos e, before3_apply, before_apply, hold.1, if_pos e]
  · rw [dif_neg e, rows3_apply, own_apply, hold.2, if_neg e]

/-- The sum over sixteen positions, of group 3. -/
theorem sum3 (hold : Holds v0 v4 st h b) (hb : b < 8) (r : Fin 8) (q : Fin 256) :
    last (sixteen (stacked (before3 (k0_pay2 v0)) (rows3 (k0_pay3 v4)))) (ix2 r q)
      = Cert.Spec.PoolSample.window st h 16 b r.val (3 * 256 + q.val) := by
  have hq := q.isLt
  rw [last_apply, sixteen_apply _ (fun n q => line st h b (3 * 256 + q.val) n) (stacked3_line v0 v4 st h b hold) _ q (by dsimp only; omega)]
  unfold Cert.Spec.PoolSample.window
  refine Finset.sum_congr rfl fun j hj => ?_
  have := Finset.mem_range.mp hj
  exact line_back st h b hb r j _ (by omega) (by omega)

/-- What the point stores there: the pooling of its positions. -/
theorem value3 (hold : Holds v0 v4 st h b) (hb : b < 8) (w : Cert.Spec.PoolWeights) (sc : Cert.Spec.PoolScale)
    (wt : Vec Ideal S1x256x256 .bf16) (row : Vec Ideal S1x256 .f32)
    (hw : ∀ k q : Fin 256, wt (ix3 0 k q) = w (ix4 0 3 k q)) (hs : ∀ q : Fin 256, row (ix2 0 q) = sc (ix2 0 ⟨3 * 256 + q.val, by have := q.isLt; omega⟩))
    (r : Fin 8) (q : Fin 256) :
    k0_pay1 (k0_pay11 (k0_pay2 v0) (k0_pay3 v4) (k0_pay4 i)) wt row (ix3 0 r q)
      = Cert.Spec.PoolSample.pooledAt st h w sc b r.val 3 q := by
  rw [stored3, laid_apply, mixed_apply]
  unfold Cert.Spec.PoolSample.pooledAt
  refine congrArg₂ (fun x y : EReal => x * y) (Finset.sum_congr rfl fun k _ => congrArg₂ (fun x y : EReal => x * y) ?_ (hw k q)) (hs q)
  unfold Cert.Spec.PoolSample.deviation
  refine congrArg₂ (fun x y : EReal => x - y) (congrArg₂ Ideal.div (sum3 v0 v4 st h b hold hb r k) (countWords_apply i 16 (by decide) r)) ?_
  exact (rows3_apply (k0_pay3 v4) r k).trans ((own_apply v4 r _).trans (hold.2 r _))

end Block

/-! ## What the region finds -/

variable (m : (ℓ : Loc nD τ sig) → Buf (Elt Ideal) ℓ)

/-- The arguments. -/
def state (c : Dev nD) : Cert.Spec.PoolSample.State := m ((c : Thread nD τ).loc main_arg0)
def wide (c : Dev nD) : Cert.Spec.PoolSample.Wide := m ((c : Thread nD τ).loc main_arg1)
def weights (c : Dev nD) : Cert.Spec.PoolWeights := m ((c : Thread nD τ).loc main_arg2)
def scale (c : Dev nD) : Cert.Spec.PoolScale := m ((c : Thread nD τ).loc main_arg3)

/-- The matrices of a layer, cast, and its scale. -/
def cast (w : Vec Ideal S1x4x256x256 .f32) : Vec Ideal S4x256x256 .bf16 :=
  truncf (F := Ideal) (φ := .f32) .bf16 (shapeCast S4x256x256 w shapeCasts_S1x4x256x256_S4x256x256) bitsLt_bf16_f32

/-- The cast weights at an index. -/
theorem cast_apply (w : Vec Ideal S1x4x256x256 .f32) (g : Fin 4) (k q : Fin 256) : cast w (ix3 g k q) = w (ix4 0 g k q) := by
  pointwise [cast]

/-- The weights as the region finds them. -/
theorem found_weights (c : Dev nD) : V m c main_v1 = cast (m ((c : Thread nD τ).loc main_arg2)) := by
  entry_read
  rfl

/-- The scale as the region finds it. -/
theorem found_scale (c : Dev nD) (q : Fin 1024) : (V m c main_v3 : Vec Ideal S1x1024 .f32) (ix2 0 q) = scale m c (ix2 0 q) := by
  have e : V m c main_v3 = shapeCast S1x1024 (shapeCast S1024 (m ((c : Thread nD τ).loc main_arg3)) shapeCasts_S1x1024_S1024) shapeCasts_S1024_S1x1024 := by
    entry_read
    rfl
  rw [e]
  unfold scale
  generalize m ((c : Thread nD τ).loc main_arg3) = x
  pointwise []

/-- The samples' rows and the rows before them, as the host lines before the region make them. -/
def rows (h : Vec Ideal S64x8192 .f32) : Vec Ideal S8x8x1024 .f32 :=
  shapeCast S8x8x1024 (extractStridedSlice S64x1024 ![0, 2048] h slices_S64x8192_S64x1024_0_2048) shapeCasts_S64x1024_S8x8x1024
def halo (st : Vec Ideal S1x8x15x1024 .f32) : Vec Ideal S8x16x1024 .f32 :=
  concatenate S8x16x1024 1
    [⟨S8x1x1024, broadcastInDim S8x1x1024 ![] bcast_S_S8x1x1024 (constant (F := Ideal) S_ .f32 0x00000000#32)⟩,
     ⟨S8x15x1024, shapeCast S8x15x1024 st shapeCasts_S1x8x15x1024_S8x15x1024⟩]
    concatenates_S8x1x1024_S8x15x1024_S8x16x1024_d1

/-- The samples' rows at an index. -/
theorem rows_apply (st : Cert.Spec.PoolSample.State) (h : Vec Ideal S64x8192 .f32) (b : Fin 8) (n : Fin 8) (c : Fin 1024) :
    rows h (ix3 b n c) = Cert.Spec.PoolSample.token st h b.val n.val 0 c.val := by
  have hb := b.isLt
  have hn := n.isLt
  have hc := c.isLt
  unfold Cert.Spec.PoolSample.token
  rw [dif_pos (⟨hb, hc, Nat.zero_le _, by omega⟩ : b.val < 8 ∧ c.val < 1024 ∧ 0 ≤ n.val ∧ n.val - 0 < 8)]
  pointwise [rows]

/-- The rows before a sample at an index: sixteen positions before, a zero and then the state. -/
theorem halo_apply (st : Vec Ideal S1x8x15x1024 .f32) (h : Cert.Spec.PoolSample.Wide) (b : Fin 8) (n : Fin 16) (c : Fin 1024) :
    halo st (ix3 b n c) = Cert.Spec.PoolSample.token st h b.val n.val 16 c.val := by
  have hb := b.isLt
  have hn := n.isLt
  have hc := c.isLt
  have e : halo st (ix3 b n c) = if g : n.val < 1 then 0 else st (ix4 0 b ⟨n.val - 1, by have := n.isLt; omega⟩ c) := by
    pointwise [halo]
  rw [e]
  unfold Cert.Spec.PoolSample.token
  by_cases g : n.val < 1
  · rw [dif_pos g, dif_neg (by omega), dif_neg (by omega)]
  · rw [dif_neg g, dif_neg (by omega), dif_pos (by omega)]
    refine congrArg st (congrArg (fun x => ix4 0 b x c) (Fin.ext ?_))
    dsimp only
    omega

/-- The samples' rows as the region finds them. -/
theorem found_rows (c : Dev nD) : V m c main_v5 = rows (m ((c : Thread nD τ).loc main_arg1)) := by
  entry_read
  rfl

/-- The rows before them as the region finds them. -/
theorem found_halo (c : Dev nD) : V m c main_v8 = halo (m ((c : Thread nD τ).loc main_arg0)) := by
  entry_read
  rfl

/-! ## The blocks of a point -/

/-- The blocks of point `t`: the rows of sample `t`, those before them, and those of the result. -/
theorem places : ∀ t : Fin cfg0.N, win0_0.index t = ![t.val, 0, 0] ∧ win0_1.index t = ![t.val, 0, 0]
    ∧ win0_2.index t = ![0, 0, 0] ∧ win0_3.index t = ![0, 0] ∧ win0_4.index t = ![t.val, 0, 0] := by
  decide +kernel

/-- The number of grid points. -/
theorem points (t : Fin cfg0.N) : t.val < 8 := t.isLt.trans_eq N_0

/-- The two arrays of rows. -/
def foundHalo (c : Dev nD) : Vec Ideal S8x16x1024 .f32 := V m c main_v8
def foundRows (c : Dev nD) : Vec Ideal S8x8x1024 .f32 := V m c main_v5

/-- The block of rows before a sample: the sample's own. -/
theorem halo_block (c : Dev nD) (t : Fin cfg0.N) (n : Fin 16) (q : Fin 1024) :
    iblk m c 0 t (ix3 0 n q) = foundHalo m c (ix3 ⟨t.val, points t⟩ n q) := by
  obtain ⟨e0, e1, e2, e3, e4⟩ := places t
  unfold iblk foundHalo
  blk_ext [e0]

/-- The block of a sample's rows: the sample's own. -/
theorem rows_block (c : Dev nD) (t : Fin cfg0.N) (n : Fin 8) (q : Fin 1024) :
    iblk m c 1 t (ix3 0 n q) = foundRows m c (ix3 ⟨t.val, points t⟩ n q) := by
  obtain ⟨e0, e1, e2, e3, e4⟩ := places t
  unfold iblk foundRows
  blk_ext [e1]

/-- The two prepared arrays. -/
def castWeights (c : Dev nD) : Vec Ideal S4x256x256 .bf16 := V m c main_v1
def castScale (c : Dev nD) : Vec Ideal S1x1024 .f32 := V m c main_v3

/-- The block of cast matrices at a point: all of them. -/
theorem weights_block (c : Dev nD) (t : Fin cfg0.N) (g : Fin 4) (k q : Fin 256) : iblk m c 2 t (ix3 g k q) = castWeights m c (ix3 g k q) := by
  obtain ⟨e0, e1, e2, e3, e4⟩ := places t
  unfold iblk castWeights
  blk_ext [e2]

/-- The block of scales at a point: all of them. -/
theorem scale_block (c : Dev nD) (t : Fin cfg0.N) (q : Fin 1024) : iblk m c 3 t (ix2 0 q) = castScale m c (ix2 0 q) := by
  obtain ⟨e0, e1, e2, e3, e4⟩ := places t
  unfold iblk castScale
  blk_ext [e3]

/-- The block of weights a point reads. -/
theorem weights_read (c : Dev nD) (t : Fin cfg0.N) (g : Fin 4) (k q : Fin 256) : iblk m c 2 t (ix3 g k q) = weights m c (ix4 0 g k q) :=
  (weights_block m c t g k q).trans ((congrFun (found_weights m c) (ix3 g k q)).trans (cast_apply _ g k q))

/-- The scales a point reads. -/
theorem scale_read (c : Dev nD) (t : Fin cfg0.N) (q : Fin 1024) : iblk m c 3 t (ix2 0 q) = scale m c (ix2 0 q) :=
  (scale_block m c t q).trans (found_scale m c q)

/-- The rows a point is given are positions of sample `t`. -/
theorem holds (c : Dev nD) (t : Fin cfg0.N) : Holds (iblk m c 0 t) (iblk m c 1 t) (state m c) (wide m c) t.val :=
  ⟨fun n q => (halo_block m c t n q).trans ((congrFun (found_halo m c) _).trans (halo_apply _ (wide m c) ⟨t.val, points t⟩ n q)),
    fun n q => (rows_block m c t n q).trans ((congrFun (found_rows m c) _).trans (rows_apply (state m c) _ ⟨t.val, points t⟩ n q))⟩

/-! ## The array after the run -/

/-- What the region is to leave in the result array. -/
def full (c : Dev nD) : Vec Ideal S8x8x1024 .bf16 :=
  fun y => Cert.Spec.PoolSample.pooledAt (state m c) (wide m c) (weights m c) (scale m c) (y 0).val (y 1).val
    ⟨(y 2).val / 256, by have h : (y 2).val < 1024 := (y 2).isLt; omega⟩ ⟨(y 2).val % 256, Nat.mod_lt _ (by decide)⟩

/-- Block `t` of it. -/
def block (c : Dev nD) (t : Fin cfg0.N) : Vec Ideal S1x8x1024 .bf16 := fun y => full m c (ix3 ⟨t.val, points t⟩ (y 1) (y 2))

/-- Block `t` at a row, group and column. -/
theorem block_at (c : Dev nD) (t : Fin cfg0.N) (g : Fin 4) (r : Fin 8) (q : Fin 256) (y : S1x8x1024.Idx)
    (h0 : (y 1).val = r.val) (h1 : (y 2).val = g.val * 256 + q.val) :
    Cert.Spec.PoolSample.pooledAt (state m c) (wide m c) (weights m c) (scale m c) t.val r.val g q = block m c t y := by
  have hq := q.isLt
  unfold block full
  have a2 : (y 2).val / 256 = g.val := by omega
  have a3 : (y 2).val % 256 = q.val := by omega
  show _ = Cert.Spec.PoolSample.pooledAt _ _ _ _ t.val (y 1).val ⟨(y 2).val / 256, _⟩ ⟨(y 2).val % 256, _⟩
  rw [h0, show (⟨(y 2).val / 256, by omega⟩ : Fin 4) = g from Fin.ext a2, show (⟨(y 2).val % 256, by omega⟩ : Fin 256) = q from Fin.ext a3]

/-- The group's matrix and scale, as a point loads them. -/
theorem load_weights0 (x : Vec Ideal S4x256x256 .bf16) (k q : Fin 256) : View.ld x r0_2 (ix3 0 k q) = x (ix3 0 k q) := by
  pointwise [r0_2]

/-- The scale of group 0, as a point loads it. -/
theorem load_scale0 (x : Vec Ideal S1x1024 .f32) (q : Fin 256) : View.ld x r0_3 (ix2 0 q) = x (ix2 0 ⟨0 * 256 + q.val, by have := q.isLt; omega⟩) := by
  have e : View.ld x r0_3 (ix2 0 q) = x (ix2 0 ⟨0 + q.val, by have := q.isLt; omega⟩) := by
    pointwise [r0_3]
  exact e.trans (congrArg x (congrArg (ix2 0) (Fin.ext (by dsimp only))))

/-- The group's matrix and scale, as a point loads them. -/
theorem load_weights1 (x : Vec Ideal S4x256x256 .bf16) (k q : Fin 256) : View.ld x r0_5 (ix3 0 k q) = x (ix3 1 k q) := by
  pointwise [r0_5]

/-- The scale of group 1, as a point loads it. -/
theorem load_scale1 (x : Vec Ideal S1x1024 .f32) (q : Fin 256) : View.ld x r0_6 (ix2 0 q) = x (ix2 0 ⟨1 * 256 + q.val, by have := q.isLt; omega⟩) := by
  have e : View.ld x r0_6 (ix2 0 q) = x (ix2 0 ⟨256 + q.val, by have := q.isLt; omega⟩) := by
    pointwise [r0_6]
  exact e.trans (congrArg x (congrArg (ix2 0) (Fin.ext (by dsimp only))))

/-- The group's matrix and scale, as a point loads them. -/
theorem load_weights2 (x : Vec Ideal S4x256x256 .bf16) (k q : Fin 256) : View.ld x r0_8 (ix3 0 k q) = x (ix3 2 k q) := by
  pointwise [r0_8]

/-- The scale of group 2, as a point loads it. -/
theorem load_scale2 (x : Vec Ideal S1x1024 .f32) (q : Fin 256) : View.ld x r0_9 (ix2 0 q) = x (ix2 0 ⟨2 * 256 + q.val, by have := q.isLt; omega⟩) := by
  have e : View.ld x r0_9 (ix2 0 q) = x (ix2 0 ⟨512 + q.val, by have := q.isLt; omega⟩) := by
    pointwise [r0_9]
  exact e.trans (congrArg x (congrArg (ix2 0) (Fin.ext (by dsimp only))))

/-- The group's matrix and scale, as a point loads them. -/
theorem load_weights3 (x : Vec Ideal S4x256x256 .bf16) (k q : Fin 256) : View.ld x r0_11 (ix3 0 k q) = x (ix3 3 k q) := by
  pointwise [r0_11]

/-- The scale of group 3, as a point loads it. -/
theorem load_scale3 (x : Vec Ideal S1x1024 .f32) (q : Fin 256) : View.ld x r0_12 (ix2 0 q) = x (ix2 0 ⟨3 * 256 + q.val, by have := q.isLt; omega⟩) := by
  have e : View.ld x r0_12 (ix2 0 q) = x (ix2 0 ⟨768 + q.val, by have := q.isLt; omega⟩) := by
    pointwise [r0_12]
  exact e.trans (congrArg x (congrArg (ix2 0) (Fin.ext (by dsimp only))))

/-- Loading the rows before a sample gives all of them. -/
theorem load_before (x : Vec Ideal S1x16x1024 .f32) : View.ld x r0_0 = x := View.ld_unit_lit _ x (by decide)

/-- Loading a sample's rows gives all of them. -/
theorem load_rows (x : Vec Ideal S1x8x1024 .f32) : View.ld x r0_1 = x := View.ld_unit_lit _ x (by decide)

section Stores

variable (i : grid0.Coords) (x0 : Vec Ideal S1x16x1024 .f32) (x1 : Vec Ideal S1x8x1024 .f32) (x2 : Vec Ideal S4x256x256 .bf16) (x3 : Vec Ideal S1x1024 .f32)
  (st : Cert.Spec.PoolSample.State) (h : Cert.Spec.PoolSample.Wide) (w : Cert.Spec.PoolWeights) (sc : Cert.Spec.PoolScale) (b : Nat) (hb : b < 8) (hold : Holds x0 x1 st h b)
  (hw : ∀ (g : Fin 4) (k q : Fin 256), x2 (ix3 g k q) = w (ix4 0 g k q)) (hs : ∀ q : Fin 1024, x3 (ix2 0 q) = sc (ix2 0 q))

include hb hold hw hs

/-- The store of group 0, from the point's blocks. -/
theorem left0 (r : Fin 8) (q : Fin 256) :
    k0_pay5 i (View.ld x0 r0_0) (View.ld x1 r0_1) (View.ld x2 r0_2) (View.ld x3 r0_3) (ix3 0 r q)
      = Cert.Spec.PoolSample.pooledAt st h w sc b r.val 0 q := by
  rw [load_before, load_rows]
  exact value0 i x0 x1 st h b hold hb w sc _ _ (fun k q => (load_weights0 x2 k q).trans (hw 0 k q)) (fun q => (load_scale0 x3 q).trans (hs _)) r q

/-- The store of group 1, from the point's blocks. -/
theorem left1 (r : Fin 8) (q : Fin 256) :
    k0_pay7 (k0_pay3 (View.ld x1 r0_1)) (k0_pay4 i) (k0_pay6 (View.ld x0 r0_0)) (View.ld x2 r0_5) (View.ld x3 r0_6) (ix3 0 r q)
      = Cert.Spec.PoolSample.pooledAt st h w sc b r.val 1 q := by
  rw [load_before, load_rows]
  exact value1 i x0 x1 st h b hold hb w sc _ _ (fun k q => (load_weights1 x2 k q).trans (hw 1 k q)) (fun q => (load_scale1 x3 q).trans (hs _)) r q

/-- The store of group 2, from the point's blocks. -/
theorem left2 (r : Fin 8) (q : Fin 256) :
    k0_pay10 (k0_pay3 (View.ld x1 r0_1)) (k0_pay8 (k0_pay2 (View.ld x0 r0_0)) (k0_pay3 (View.ld x1 r0_1))) (k0_pay9 (k0_pay4 i)) (View.ld x2 r0_8) (View.ld x3 r0_9) (ix3 0 r q)
      = Cert.Spec.PoolSample.pooledAt st h w sc b r.val 2 q := by
  rw [load_before, load_rows]
  exact value2 i x0 x1 st h b hold hb w sc _ _ (fun k q => (load_weights2 x2 k q).trans (hw 2 k q)) (fun q => (load_scale2 x3 q).trans (hs _)) r q

/-- The store of group 3, from the point's blocks. -/
theorem left3 (r : Fin 8) (q : Fin 256) :
    k0_pay1 (k0_pay11 (k0_pay2 (View.ld x0 r0_0)) (k0_pay3 (View.ld x1 r0_1)) (k0_pay4 i)) (View.ld x2 r0_11) (View.ld x3 r0_12) (ix3 0 r q)
      = Cert.Spec.PoolSample.pooledAt st h w sc b r.val 3 q := by
  rw [load_before, load_rows]
  exact value3 i x0 x1 st h b hold hb w sc _ _ (fun k q => (load_weights3 x2 k q).trans (hw 3 k q)) (fun q => (load_scale3 x3 q).trans (hs _)) r q

/-- The four stores leave, at every index, the pooling of its position, group and column. -/
theorem out_eq (G : Vec Ideal S1x8x1024 .bf16)
    (hG : ∀ (g : Fin 4) (r : Fin 8) (q : Fin 256) (y : S1x8x1024.Idx), (y 1).val = r.val → (y 2).val = g.val * 256 + q.val →
      Cert.Spec.PoolSample.pooledAt st h w sc b r.val g q = G y) (y : S1x8x1024.Idx) :
    out0_4 i x0 x1 x2 x3 y = G y := by
  have l0 := left0 i x0 x1 x2 x3 st h w sc b hb hold hw hs
  have l1 := left1 i x0 x1 x2 x3 st h w sc b hb hold hw hs
  have l2 := left2 i x0 x1 x2 x3 st h w sc b hb hold hw hs
  have l3 := left3 i x0 x1 x2 x3 st h w sc b hb hold hw hs
  unfold out0_4 k0_pay12 k0_pay13 k0_pay14
  generalize k0_pay5 i (View.ld x0 r0_0) (View.ld x1 r0_1) (View.ld x2 r0_2) (View.ld x3 r0_3) = p0 at l0 ⊢
  generalize k0_pay7 (k0_pay3 (View.ld x1 r0_1)) (k0_pay4 i) (k0_pay6 (View.ld x0 r0_0)) (View.ld x2 r0_5) (View.ld x3 r0_6) = p1 at l1 ⊢
  generalize k0_pay10 (k0_pay3 (View.ld x1 r0_1)) (k0_pay8 (k0_pay2 (View.ld x0 r0_0)) (k0_pay3 (View.ld x1 r0_1))) (k0_pay9 (k0_pay4 i)) (View.ld x2 r0_8) (View.ld x3 r0_9) = p2 at l2 ⊢
  generalize k0_pay1 (k0_pay11 (k0_pay2 (View.ld x0 r0_0)) (k0_pay3 (View.ld x1 r0_1)) (k0_pay4 i)) (View.ld x2 r0_11) (View.ld x3 r0_12) = p3 at l3 ⊢
  refine View.canon_apply_of_pieces G _ (View.PiecesOf.mem (show View.PiecesOf _ [_, _, _, _] from ⟨fun x => ?_, fun x => ?_, fun x => ?_, fun x => ?_, trivial⟩)) y (cover0_4 _ _ _ _ y)
  · obtain ⟨r, q, rfl⟩ : ∃ (r : Fin 8) (q : Fin 256), x = ix3 0 r q :=
      ⟨x 1, x 2, (eq_ix3 x).trans (congrArg (fun a => ix3 a (x 1) (x 2)) (Fin.ext (by have h : (x 0).val < 1 := (x 0).isLt; show (x 0).val = 0; omega)))⟩
    refine (l3 r q).trans (hG 3 r q _ ?_ ?_)
    · show 0 + 1 * r.val = r.val
      omega
    · show 768 + 1 * q.val = 3 * 256 + q.val
      omega
  · obtain ⟨r, q, rfl⟩ : ∃ (r : Fin 8) (q : Fin 256), x = ix3 0 r q :=
      ⟨x 1, x 2, (eq_ix3 x).trans (congrArg (fun a => ix3 a (x 1) (x 2)) (Fin.ext (by have h : (x 0).val < 1 := (x 0).isLt; show (x 0).val = 0; omega)))⟩
    refine (l2 r q).trans (hG 2 r q _ ?_ ?_)
    · show 0 + 1 * r.val = r.val
      omega
    · show 512 + 1 * q.val = 2 * 256 + q.val
      omega
  · obtain ⟨r, q, rfl⟩ : ∃ (r : Fin 8) (q : Fin 256), x = ix3 0 r q :=
      ⟨x 1, x 2, (eq_ix3 x).trans (congrArg (fun a => ix3 a (x 1) (x 2)) (Fin.ext (by have h : (x 0).val < 1 := (x 0).isLt; show (x 0).val = 0; omega)))⟩
    refine (l1 r q).trans (hG 1 r q _ ?_ ?_)
    · show 0 + 1 * r.val = r.val
      omega
    · show 256 + 1 * q.val = 1 * 256 + q.val
      omega
  · obtain ⟨r, q, rfl⟩ : ∃ (r : Fin 8) (q : Fin 256), x = ix3 0 r q :=
      ⟨x 1, x 2, (eq_ix3 x).trans (congrArg (fun a => ix3 a (x 1) (x 2)) (Fin.ext (by have h : (x 0).val < 1 := (x 0).isLt; show (x 0).val = 0; omega)))⟩
    refine (l0 r q).trans (hG 0 r q _ ?_ ?_)
    · show 0 + 1 * r.val = r.val
      omega
    · show 0 + 1 * q.val = 0 * 256 + q.val
      omega

end Stores

/-- A point leaves its block. -/
theorem block_left (c : Dev nD) (t : Fin cfg0.N) (y : S1x8x1024.Idx) :
    out0_4 (grid0.coords t) (iblk m c 0 t) (iblk m c 1 t) (iblk m c 2 t) (iblk m c 3 t) y = block m c t y :=
  out_eq (grid0.coords t) _ _ _ _ (state m c) (wide m c) (weights m c) (scale m c) t.val (points t) (holds m c t)
    (weights_read m c t) (scale_read m c t) _ (block_at m c t) y

/-- After the run the result array is `full`. -/
theorem final_4 (c : Dev nD) : (dats m 0 c).arrAt 4 cfg0.N = full m c := by
  refine (dats m 0 c).arrAt_eq_of_covers 4 _ (by decide +kernel) fun t hf y => ?_
  obtain ⟨e0, e1, e2, e3, e4⟩ := places t
  blk_simp
  rw [after0_4, block_left]
  unfold block
  refine congrArg (full m c) ?_
  blk_ext [e4]

/-- The region's result array, rows of the samples below one another. -/
def flat (x : Vec Ideal S8x8x1024 .bf16) : Vec Ideal S64x1024 .bf16 := shapeCast S64x1024 x shapeCasts_S8x8x1024_S64x1024

/-- It, at an index. -/
theorem flat_apply (x : Vec Ideal S8x8x1024 .bf16) (r : Fin 64) (q : Fin 1024) :
    flat x (ix2 r q) = x (ix3 ⟨r.val / 8, by have := r.isLt; omega⟩ ⟨r.val % 8, Nat.mod_lt _ (by decide)⟩ q) := by
  pointwise [flat]

/-- The windows' arrays are different arrays. -/
theorem arrays_apart : Function.Injective (Pipeline.arrRef (sig := sig) spec0) := by decide

/-- What the buffers hold when the region is over. -/
def over (c : Dev nD) : Valuation τ sig (Elt Ideal) :=
  Pipeline.withArrays spec0 c (V0 m c) fun w => (dats m 0 c).arrAt w cfg0.N

/-- The result array after the region. -/
theorem over_full (c : Dev nD) : over m c (Proc.devRef .tc main_v9) = full m c :=
  (Pipeline.withArrays_arr spec0 arrays_apart c _ _ 4).trans (final_4 m c)

/-- What the line after the region reads. -/
def left (c : Dev nD) : Vec Ideal S8x8x1024 .bf16 := over m c (Proc.devRef .tc main_v9)

/-- The array the program returns: the pooling of the specification. -/
theorem result (c : Dev nD) : Pipeline.afterTail₀ cfgs (dats m) 0 (V0 m) [hostOps1] c main_v10
    = Cert.Spec.PoolSample.pooled (state m c) (wide m c) (weights m c) (scale m c) := by
  refine (show _ = flat (left m c) from rfl).trans ?_
  rw [show left m c = full m c from over_full m c]
  funext i
  obtain ⟨r, q, rfl⟩ : ∃ (r : Fin 64) (q : Fin 1024), i = ix2 r q := ⟨i 0, i 1, eq_ix2 i⟩
  rw [flat_apply]
  rfl

end Cert.Kernel11Ideal.Hand

end
-- ==== Proof.PoolSampleReference.lean ====
/- The reference of the pooling of the samples, at an index. -/
module

public import proofs.«01_k».proof.Proof.PoolSampleSpec
public import proofs.«01_k».proof.Proof.Gen.Reference11Ideal.Run
public import Idealize.ShloMosaic.Lib.IdealHost
public import Idealize.ShloMosaic.Lib.Pointwise

@[expose] public section

set_option maxRecDepth 16384

noncomputable section

namespace Cert.Reference11Ideal.Hand

open Cert.Reference11Ideal Cert.Reference11Ideal.Gen
open Idealize.ShloMosaic Idealize.ShloMosaic.TcCoe Idealize.ShloMosaic.Tactic

/-- The pooled columns, the rows split by sample. -/
def tokens (h : Vec Ideal S64x8192 .f32) : Vec Ideal S8x8x1024 .f32 :=
  shapeCast S8x8x1024 (extractStridedSlice S64x1024 ![0, 2048] h slices_S64x8192_S64x1024_0_2048) shapeCasts_S64x1024_S8x8x1024

/-- The pooled columns at an index. -/
theorem tokens_apply (st : Vec Ideal S1x8x15x1024 .f32) (h : Vec Ideal S64x8192 .f32) (b : Fin 8) (s : Fin 8) (c : Fin 1024) :
    tokens h (ix3 b s c) = Cert.Spec.PoolSample.token st h b.val s.val 0 c.val := by
  have hb := b.isLt
  have hs := s.isLt
  have hc := c.isLt
  unfold Cert.Spec.PoolSample.token
  rw [dif_pos (⟨hb, hc, Nat.zero_le _, by omega⟩ : b.val < 8 ∧ c.val < 1024 ∧ 0 ≤ s.val ∧ s.val - 0 < 8)]
  pointwise [tokens]

/-- The state's fifteen positions, then the sample's. -/
def extended (st : Vec Ideal S1x8x15x1024 .f32) (u : Vec Ideal S8x8x1024 .f32) : Vec Ideal S8x23x1024 .f32 :=
  concatenate S8x23x1024 1
    [⟨S8x15x1024, shapeCast S8x15x1024 st shapeCasts_S1x8x15x1024_S8x15x1024⟩, ⟨S8x8x1024, u⟩]
    concatenates_S8x15x1024_S8x8x1024_S8x23x1024_d1

/-- Position `n` of it is the position `j` before position `s`, where `n + j = s + 15`. -/
theorem extended_apply (st : Vec Ideal S1x8x15x1024 .f32) (h : Vec Ideal S64x8192 .f32) (b : Fin 8) (n : Fin 23) (c : Fin 1024) (s j q : Nat)
    (hn : n.val + j = s + 15) (hj : j ≤ 15) (hs : s < 8) (hq : c.val = q) :
    extended st (tokens h) (ix3 b n c) = Cert.Spec.PoolSample.token st h b.val s j q := by
  subst hq
  have hb := b.isLt
  have hc := c.isLt
  have e : extended st (tokens h) (ix3 b n c) = if g : n.val < 15 then st (ix4 0 b ⟨n.val, g⟩ c)
      else tokens h (ix3 b ⟨n.val - 15, by have := n.isLt; omega⟩ c) := by
    generalize tokens h = u
    pointwise [extended]
  rw [e]
  by_cases g : n.val < 15
  · rw [dif_pos g]
    unfold Cert.Spec.PoolSample.token
    rw [dif_neg (by omega), dif_pos (by omega)]
    refine congrArg st (congrArg₂ (fun x y => ix4 0 x y c) (Fin.ext rfl) (Fin.ext ?_))
    dsimp only
    omega
  · rw [dif_neg g, tokens_apply st h]
    unfold Cert.Spec.PoolSample.token
    rw [dif_pos (by dsimp only; omega), dif_pos (by omega)]
    refine congrArg h (congrArg₂ ix2 (Fin.ext ?_) rfl)
    dsimp only
    omega

/-- The counts of a window's positions, from the word of its width. -/
def counts (v : BitVec 32) : Vec Ideal S8x8x256 .f32 :=
  broadcastInDim S8x8x256 ![0, 1, 2] bcast_S1x8x1_S8x8x256_0_1_2 (broadcastInDim S1x8x1 ![1] bcast_S8_S1x8x1_1
    (sitofp (F := Ideal) .f32 (minsi (broadcastInDim S8 ![] bcast_S_S8 (constantI S_ 32 v)) (addi (addi (broadcastInDim S8 ![] bcast_S_S8 (constantI S_ 32 16384#32)) (iotaInDim S8 32 0)) (broadcastInDim S8 ![] bcast_S_S8 (constantI S_ 32 1#32))))))

/-- The counts at an index. -/
theorem counts_apply (w : Nat) (hw : w ≤ 16) (b : Fin 8) (s : Fin 8) (k : Fin 256) :
    counts (BitVec.ofNat 32 w) (ix3 b s k) = Cert.Spec.PoolSample.count w s.val := by
  rw [← Cert.Spec.PoolSample.count_word w s.val hw s.isLt, BitVec.ofNat_add]
  generalize BitVec.ofNat 32 w = v
  pointwise [counts]
  rfl

/-- The sum over two positions, of group 0. -/
def sum2 (e : Vec Ideal S8x23x1024 .f32) : Vec Ideal S8x8x256 .f32 :=
  (addf (F := Ideal) (φ := .f32) (extractStridedSlice S8x8x256 ![0, 15, 0] e slices_S8x23x1024_S8x8x256_0_15_0)
      (extractStridedSlice S8x8x256 ![0, 14, 0] e slices_S8x23x1024_S8x8x256_0_14_0))

/-- It is the window's sum of the specification. -/
theorem sum2_apply (st : Vec Ideal S1x8x15x1024 .f32) (h : Vec Ideal S64x8192 .f32) (b : Fin 8) (s : Fin 8) (k : Fin 256) :
    sum2 (extended st (tokens h)) (ix3 b s k) = Cert.Spec.PoolSample.window st h 2 b.val s.val (0 * 256 + k.val) := by
  have hs := s.isLt
  have back := extended_apply st h b
  generalize extended st (tokens h) = e at back
  unfold Cert.Spec.PoolSample.window
  simp only [Finset.sum_range_succ, Finset.sum_range_zero, zero_add]
  pointwise [sum2]
  repeat' first
    | exact back _ _ _ _ _ (by first | rfl | (dsimp only; omega)) (by omega) hs (by first | rfl | (dsimp only; omega))
    | refine congrArg₂ (fun x y : EReal => x + y) ?_ ?_

/-- The sum over four positions, of group 1. -/
def sum4 (e : Vec Ideal S8x23x1024 .f32) : Vec Ideal S8x8x256 .f32 :=
  (addf (F := Ideal) (φ := .f32) (addf (F := Ideal) (φ := .f32) (addf (F := Ideal) (φ := .f32) (extractStridedSlice S8x8x256 ![0, 15, 256] e slices_S8x23x1024_S8x8x256_0_15_256)
      (extractStridedSlice S8x8x256 ![0, 14, 256] e slices_S8x23x1024_S8x8x256_0_14_256))
      (extractStridedSlice S8x8x256 ![0, 13, 256] e slices_S8x23x1024_S8x8x256_0_13_256))
      (extractStridedSlice S8x8x256 ![0, 12, 256] e slices_S8x23x1024_S8x8x256_0_12_256))

/-- It is the window's sum of the specification. -/
theorem sum4_apply (st : Vec Ideal S1x8x15x1024 .f32) (h : Vec Ideal S64x8192 .f32) (b : Fin 8) (s : Fin 8) (k : Fin 256) :
    sum4 (extended st (tokens h)) (ix3 b s k) = Cert.Spec.PoolSample.window st h 4 b.val s.val (1 * 256 + k.val) := by
  have hs := s.isLt
  have back := extended_apply st h b
  generalize extended st (tokens h) = e at back
  unfold Cert.Spec.PoolSample.window
  simp only [Finset.sum_range_succ, Finset.sum_range_zero, zero_add]
  pointwise [sum4]
  repeat' first
    | exact back _ _ _ _ _ (by first | rfl | (dsimp only; omega)) (by omega) hs (by first | rfl | (dsimp only; omega))
    | refine congrArg₂ (fun x y : EReal => x + y) ?_ ?_

/-- The sum over eight positions, of group 2. -/
def sum8 (e : Vec Ideal S8x23x1024 .f32) : Vec Ideal S8x8x256 .f32 :=
  (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (extractStridedSlice S8x8x256 ![0, 15, 512] e slices_S8x23x1024_S8x8x256_0_15_512)
      (extractStridedSlice S8x8x256 ![0, 14, 512] e slices_S8x23x1024_S8x8x256_0_14_512))
      (extractStridedSlice S8x8x256 ![0, 13, 512] e slices_S8x23x1024_S8x8x256_0_13_512))
      (extractStridedSlice S8x8x256 ![0, 12, 512] e slices_S8x23x1024_S8x8x256_0_12_512))
      (extractStridedSlice S8x8x256 ![0, 11, 512] e slices_S8x23x1024_S8x8x256_0_11_512))
      (extractStridedSlice S8x8x256 ![0, 10, 512] e slices_S8x23x1024_S8x8x256_0_10_512))
      (extractStridedSlice S8x8x256 ![0, 9, 512] e slices_S8x23x1024_S8x8x256_0_9_512))
      (extractStridedSlice S8x8x256 ![0, 8, 512] e slices_S8x23x1024_S8x8x256_0_8_512))

/-- It is the window's sum of the specification. -/
theorem sum8_apply (st : Vec Ideal S1x8x15x1024 .f32) (h : Vec Ideal S64x8192 .f32) (b : Fin 8) (s : Fin 8) (k : Fin 256) :
    sum8 (extended st (tokens h)) (ix3 b s k) = Cert.Spec.PoolSample.window st h 8 b.val s.val (2 * 256 + k.val) := by
  have hs := s.isLt
  have back := extended_apply st h b
  generalize extended st (tokens h) = e at back
  unfold Cert.Spec.PoolSample.window
  simp only [Finset.sum_range_succ, Finset.sum_range_zero, zero_add]
  pointwise [sum8]
  repeat' first
    | exact back _ _ _ _ _ (by first | rfl | (dsimp only; omega)) (by omega) hs (by first | rfl | (dsimp only; omega))
    | refine congrArg₂ (fun x y : EReal => x + y) ?_ ?_

/-- The sum over sixteen positions, of group 3. -/
def sum16 (e : Vec Ideal S8x23x1024 .f32) : Vec Ideal S8x8x256 .f32 :=
  (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (extractStridedSlice S8x8x256 ![0, 15, 768] e slices_S8x23x1024_S8x8x256_0_15_768)
      (extractStridedSlice S8x8x256 ![0, 14, 768] e slices_S8x23x1024_S8x8x256_0_14_768))
      (extractStridedSlice S8x8x256 ![0, 13, 768] e slices_S8x23x1024_S8x8x256_0_13_768))
      (extractStridedSlice S8x8x256 ![0, 12, 768] e slices_S8x23x1024_S8x8x256_0_12_768))
      (extractStridedSlice S8x8x256 ![0, 11, 768] e slices_S8x23x1024_S8x8x256_0_11_768))
      (extractStridedSlice S8x8x256 ![0, 10, 768] e slices_S8x23x1024_S8x8x256_0_10_768))
      (extractStridedSlice S8x8x256 ![0, 9, 768] e slices_S8x23x1024_S8x8x256_0_9_768))
      (extractStridedSlice S8x8x256 ![0, 8, 768] e slices_S8x23x1024_S8x8x256_0_8_768))
      (extractStridedSlice S8x8x256 ![0, 7, 768] e slices_S8x23x1024_S8x8x256_0_7_768))
      (extractStridedSlice S8x8x256 ![0, 6, 768] e slices_S8x23x1024_S8x8x256_0_6_768))
      (extractStridedSlice S8x8x256 ![0, 5, 768] e slices_S8x23x1024_S8x8x256_0_5_768))
      (extractStridedSlice S8x8x256 ![0, 4, 768] e slices_S8x23x1024_S8x8x256_0_4_768))
      (extractStridedSlice S8x8x256 ![0, 3, 768] e slices_S8x23x1024_S8x8x256_0_3_768))
      (extractStridedSlice S8x8x256 ![0, 2, 768] e slices_S8x23x1024_S8x8x256_0_2_768))
      (extractStridedSlice S8x8x256 ![0, 1, 768] e slices_S8x23x1024_S8x8x256_0_1_768))
      (extractStridedSlice S8x8x256 ![0, 0, 768] e slices_S8x23x1024_S8x8x256_0_0_768))

/-- It is the window's sum of the specification. -/
theorem sum16_apply (st : Vec Ideal S1x8x15x1024 .f32) (h : Vec Ideal S64x8192 .f32) (b : Fin 8) (s : Fin 8) (k : Fin 256) :
    sum16 (extended st (tokens h)) (ix3 b s k) = Cert.Spec.PoolSample.window st h 16 b.val s.val (3 * 256 + k.val) := by
  have hs := s.isLt
  have back := extended_apply st h b
  generalize extended st (tokens h) = e at back
  unfold Cert.Spec.PoolSample.window
  simp only [Finset.sum_range_succ, Finset.sum_range_zero, zero_add]
  pointwise [sum16]
  repeat' first
    | exact back _ _ _ _ _ (by first | rfl | (dsimp only; omega)) (by omega) hs (by first | rfl | (dsimp only; omega))
    | refine congrArg₂ (fun x y : EReal => x + y) ?_ ?_

/-- The four groups side by side. -/
def beside (a0 a1 a2 a3 : Vec Ideal S8x8x256 .f32) : Vec Ideal S8x8x4x256 .f32 :=
  concatenate S8x8x4x256 2
    [⟨S8x8x1x256, broadcastInDim S8x8x1x256 ![0, 1, 3] bcast_S8x8x256_S8x8x1x256_0_1_3 a0⟩,
     ⟨S8x8x1x256, broadcastInDim S8x8x1x256 ![0, 1, 3] bcast_S8x8x256_S8x8x1x256_0_1_3 a1⟩,
     ⟨S8x8x1x256, broadcastInDim S8x8x1x256 ![0, 1, 3] bcast_S8x8x256_S8x8x1x256_0_1_3 a2⟩,
     ⟨S8x8x1x256, broadcastInDim S8x8x1x256 ![0, 1, 3] bcast_S8x8x256_S8x8x1x256_0_1_3 a3⟩]
    concatenates_S8x8x1x256_S8x8x1x256_S8x8x1x256_S8x8x1x256_S8x8x4x256_d2

/-- The four groups at an index: the group's own array. -/
theorem beside_apply (a0 a1 a2 a3 : Vec Ideal S8x8x256 .f32) (b : Fin 8) (s : Fin 8) (g : Fin 4) (k : Fin 256) :
    beside a0 a1 a2 a3 (ix4 b s g k) = if g.val < 1 then a0 (ix3 b s k) else if g.val < 2 then a1 (ix3 b s k)
      else if g.val < 3 then a2 (ix3 b s k) else a3 (ix3 b s k) := by
  pointwise [beside]
  split_ifs <;> first | rfl | omega

/-- The means of a group. -/
def means (v : BitVec 32) (x : Vec Ideal S8x8x256 .f32) : Vec Ideal S8x8x256 .f32 := Host.divf (F := Ideal) (φ := .f32) x (counts v)

/-- The means at an index. -/
theorem means_apply (w : Nat) (hw : w ≤ 16) (x : Vec Ideal S8x8x256 .f32) (b : Fin 8) (s : Fin 8) (k : Fin 256) :
    means (BitVec.ofNat 32 w) x (ix3 b s k) = Ideal.div (x (ix3 b s k)) (Cert.Spec.PoolSample.count w s.val) := by
  rw [← counts_apply w hw b s k]
  rfl

/-- The means less the positions themselves. -/
def deviations (st : Vec Ideal S1x8x15x1024 .f32) (u : Vec Ideal S8x8x1024 .f32) : Vec Ideal S8x8x4x256 .f32 :=
  subf (F := Ideal) (φ := .f32)
    (beside (means 2#32 (sum2 (extended st u))) (means 4#32 (sum4 (extended st u))) (means 8#32 (sum8 (extended st u))) (means 16#32 (sum16 (extended st u))))
    (shapeCast S8x8x4x256 u shapeCasts_S8x8x1024_S8x8x4x256)

/-- The difference at an index is the difference of the entries. -/
theorem deviations_split (st : Vec Ideal S1x8x15x1024 .f32) (u : Vec Ideal S8x8x1024 .f32) (i : S8x8x4x256.Idx) :
    deviations st u i = (beside (means 2#32 (sum2 (extended st u))) (means 4#32 (sum4 (extended st u))) (means 8#32 (sum8 (extended st u))) (means 16#32 (sum16 (extended st u))) i
      - shapeCast S8x8x4x256 u shapeCasts_S8x8x1024_S8x8x4x256 i : EReal) :=
  rfl

/-- The means less the positions, at an index. -/
theorem deviations_apply (st : Vec Ideal S1x8x15x1024 .f32) (h : Vec Ideal S64x8192 .f32) (b : Fin 8) (s : Fin 8) (g : Fin 4) (k : Fin 256) :
    deviations st (tokens h) (ix4 b s g k) = Cert.Spec.PoolSample.deviation st h g.val b.val s.val k.val := by
  have hk := k.isLt
  have hg := g.isLt
  have self : shapeCast S8x8x4x256 (tokens h) shapeCasts_S8x8x1024_S8x8x4x256 (ix4 b s g k)
      = Cert.Spec.PoolSample.token st h b.val s.val 0 (g.val * 256 + k.val) := by
    rw [← tokens_apply st h b s ⟨g.val * 256 + k.val, by omega⟩]
    generalize tokens h = u
    pointwise []
  have m0 := (means_apply 2 (by decide) _ b s k).trans (congrArg (fun x => Ideal.div x _) (sum2_apply st h b s k))
  have m1 := (means_apply 4 (by decide) _ b s k).trans (congrArg (fun x => Ideal.div x _) (sum4_apply st h b s k))
  have m2 := (means_apply 8 (by decide) _ b s k).trans (congrArg (fun x => Ideal.div x _) (sum8_apply st h b s k))
  have m3 := (means_apply 16 (by decide) _ b s k).trans (congrArg (fun x => Ideal.div x _) (sum16_apply st h b s k))
  rw [deviations_split, self]
  clear self
  unfold Cert.Spec.PoolSample.deviation
  refine congrArg (fun x : EReal => x - _) ?_
  generalize means (BitVec.ofNat 32 2) (sum2 (extended st (tokens h))) = a0 at m0 ⊢
  generalize means (BitVec.ofNat 32 4) (sum4 (extended st (tokens h))) = a1 at m1 ⊢
  generalize means (BitVec.ofNat 32 8) (sum8 (extended st (tokens h))) = a2 at m2 ⊢
  generalize means (BitVec.ofNat 32 16) (sum16 (extended st (tokens h))) = a3 at m3 ⊢
  rw [beside_apply]
  have cases : g.val = 0 ∨ g.val = 1 ∨ g.val = 2 ∨ g.val = 3 := by omega
  rcases cases with e | e | e | e
  · rw [if_pos (by omega), m0, e, show Cert.Spec.width 0 = 2 from rfl]
  · rw [if_neg (by omega), if_pos (by omega), m1, e, show Cert.Spec.width 1 = 4 from rfl]
  · rw [if_neg (by omega), if_neg (by omega), if_pos (by omega), m2, e, show Cert.Spec.width 2 = 8 from rfl]
  · rw [if_neg (by omega), if_neg (by omega), if_neg (by omega), m3, e, show Cert.Spec.width 3 = 16 from rfl]

/-- The deviations mixed within each group and scaled, the rows of the samples one below the other. -/
def mixed (d : Vec Ideal S8x8x4x256 .f32) (w : Vec Ideal S1x4x256x256 .f32) (sc : Vec Ideal S1x1024 .f32) : Vec Ideal S64x1024 .bf16 :=
  truncf (F := Ideal) (φ := .f32) .bf16
    (shapeCast S64x1024
      (mulf (F := Ideal) (φ := .f32)
        (shapeCast S8x8x1024
          (transpose S8x8x4x256 [2, 3, 0, 1]
            (Host.dotGeneral (F := Ideal) (φ₁ := .f32) (φ₂ := .f32) dot_S4x256x256_S8x8x4x256_S4x256x8x8_1_3_2_01_0_2 none
              (shapeCast S4x256x256 w shapeCasts_S1x4x256x256_S4x256x256) d)
            transposes_S4x256x8x8_S8x8x4x256_2_3_0_1)
          shapeCasts_S8x8x4x256_S8x8x1024)
        (broadcastInDim S8x8x1024 ![0, 1, 2] bcast_S1x1x1024_S8x8x1024_0_1_2 (broadcastInDim S1x1x1024 ![2] bcast_S1024_S1x1x1024_2
          (shapeCast S1024 sc shapeCasts_S1x1024_S1024))))
      shapeCasts_S8x8x1024_S64x1024)
    bitsLt_bf16_f32

/-- The mixed deviations at an index: the deviations of a position against a column of its group's matrix, scaled. -/
theorem mixed_apply (d : Vec Ideal S8x8x4x256 .f32) (w : Vec Ideal S1x4x256x256 .f32) (sc : Vec Ideal S1x1024 .f32) (r : Fin 64) (c : Fin 1024) :
    mixed d w sc (ix2 r c)
      = ((∑ k : Fin 256, w (ix4 0 ⟨c.val / 256, by have := c.isLt; omega⟩ k ⟨c.val % 256, Nat.mod_lt _ (by decide)⟩)
          * d (ix4 ⟨r.val / 8, by have := r.isLt; omega⟩ ⟨r.val % 8, Nat.mod_lt _ (by decide)⟩ ⟨c.val / 256, by have := c.isLt; omega⟩ k))
        * sc (ix2 0 c) : EReal) := by
  pointwise [mixed]

/-- The reference's result: the pooling of the specification. -/
theorem value_eq (st : Vec Ideal S1x8x15x1024 .f32) (h : Vec Ideal S64x8192 .f32) (w : Vec Ideal S1x4x256x256 .f32) (sc : Vec Ideal S1x1024 .f32) :
    mixed (deviations st (tokens h)) w sc = Cert.Spec.PoolSample.pooled st h w sc := by
  funext i
  obtain ⟨r, c, rfl⟩ : ∃ (r : Fin 64) (c : Fin 1024), i = ix2 r c := ⟨i 0, i 1, eq_ix2 i⟩
  refine (mixed_apply _ w sc r c).trans ?_
  unfold Cert.Spec.PoolSample.pooled Cert.Spec.PoolSample.pooledAt
  refine congrArg₂ (fun x y : EReal => x * y) (Finset.sum_congr rfl fun k _ => ?_) (congrArg sc (congrArg (ix2 0) (Fin.ext ?_)))
  · rw [mul_comm]
    exact congrArg (fun x : EReal => x * _) (deviations_apply st h _ _ _ k)
  · show c.val = c.val / 256 * 256 + c.val % 256
    omega

/-- The reference's run leaves just that. -/
theorem result_eq (m : (ℓ : Loc nD τ sig) → Buf (Elt Ideal) ℓ) (c : Dev nD) :
    Cert.Reference11Ideal.Value.res_main_v111 m c = Cert.Spec.PoolSample.pooled (m ((c : Thread nD τ).loc main_arg0)) (m ((c : Thread nD τ).loc main_arg1))
      (m ((c : Thread nD τ).loc main_arg2)) (m ((c : Thread nD τ).loc main_arg3)) := by
  rw [← value_eq]
  rfl

end Cert.Reference11Ideal.Hand

end
-- ==== Proof.PoolSampleClaim.lean ====
/- The claims about the pooling of the samples: the two runs of the kernel, the reference's, and their common result. -/
module

public import proofs.«01_k».proof.Proof.PoolSampleValue
public import proofs.«01_k».proof.Proof.PoolSampleReference
public import proofs.«01_k».proof.Proof.Gen.Kernel11.Frame
public import proofs.«01_k».proof.Proof.Gen.Kernel11Ideal.Frame

@[expose] public section

noncomputable section

namespace Cert.Proof.PoolSample

open Idealize.ShloMosaic Idealize.SL.Sem

/-- The kernel runs, leaves its arguments, and ends quiescent. -/
theorem frame_kernel : quiescent_Kernel11 (hKernel11 := Cert.Kernel11.Gen.facts) :=
  fun m ρ _ => Cert.Kernel11.Gen.frame m ρ

/-- So does the kernel over the reals. -/
theorem frame_ideal : quiescent_Kernel11Ideal (hKernel11Ideal := Cert.Kernel11Ideal.Gen.facts) :=
  fun m ρ _ => Cert.Kernel11Ideal.Gen.frame m ρ

/-- So does the reference. -/
theorem frame_reference : quiescent_Reference11Ideal (hReference11Ideal := Cert.Reference11Ideal.Gen.facts) :=
  fun m ρ _ => (θ_run Cert.Reference11Ideal.defs _ _).mono
    (fun r h => ⟨fun c => (h c).2, sem_eq_zero_of_no_sems (by decide) r.2⟩)
    (Cert.Reference11Ideal.Value.run (F := Ideal) m ρ)

/-- Kernel and reference end with the same result: the windows' means less the positions, mixed and scaled. -/
theorem value : algebraic_Kernel11Ideal_Reference11Ideal (hKernel11Ideal := Cert.Kernel11Ideal.Gen.facts)
    (hReference11Ideal := Cert.Reference11Ideal.Gen.facts) := by
  intro m g m' g' _ he
  refine ⟨fun c => Cert.Spec.PoolSample.pooled (Cert.Kernel11Ideal.Hand.state m c) (Cert.Kernel11Ideal.Hand.wide m c)
    (Cert.Kernel11Ideal.Hand.weights m c) (Cert.Kernel11Ideal.Hand.scale m c), ?_, ?_⟩
  · exact (θ_run Cert.Kernel11Ideal.defs _ _).mono (fun _ h c => ⟨
        ((h.1 c).2 Cert.Kernel11Ideal.main_v10 (Pipeline.mem_restRefs_of Cert.Kernel11Ideal.main_v10 (by decide) (by decide))).trans
          (Cert.Kernel11Ideal.Hand.result m c), h.2.1 c⟩)
      (θ_run_and (Cert.Kernel11Ideal.Gen.run_main (F := Ideal) m g) (Cert.Kernel11Ideal.Gen.frame (F := Ideal) m g))
  · refine (θ_run Cert.Reference11Ideal.defs _ _).mono (fun _ h c => ⟨(h c).1.trans ?_, (h c).2⟩)
      (Cert.Reference11Ideal.Value.run (F := Ideal) m' g')
    obtain ⟨e0, e1, e2, e3⟩ := he c
    rw [Cert.Reference11Ideal.Hand.result_eq, e0, e1, e2, e3]
    rfl

end Cert.Proof.PoolSample

end
-- ==== Proof.TablesGate.lean ====
/- What the gate and up projection's precondition says: every word of the table of experts is the number of an expert,
   and the number of blocks in use lies between 1 and 161. -/
module

public import proofs.«01_k».proof.Defs
public import proofs.«01_k».proof.Proof.Tables
public import Idealize.ShloMosaic.Lib.ReduceAll
public import Idealize.ShloMosaic.Lib.StableHlo.Predicate
public import Idealize.ShloMosaic.Lib.Affine

@[expose] public section

namespace Cert.Tables

open Idealize.ShloMosaic

variable {F : FTy → Type} [FloatOps F]

instance : Subsingleton Pre_tables_in_range.S_.Idx := ⟨fun a b => funext fun x => x.elim0⟩

/-- The gate and up projection's precondition: the words of its table name experts. -/
theorem words [Pre_tables_in_range.Facts] (t0 : IVec Pre_tables_in_range.S168 32) (t1 : IVec Pre_tables_in_range.S1 32)
    (x : IVec Pre_tables_in_range.S41216x1024 32) (w : FVec F Pre_tables_in_range.S32x2048x4096 .f32) (b : FVec F Pre_tables_in_range.S32x1x4096 .f32)
    (h : Pre_tables_in_range.fn t0 t1 x w b = fun _ => 1#1) (i : Pre_tables_in_range.S168.Idx) : (t0 i).toNat < 32 := by
  have h' := congrFun h (fun x => x.elim0)
  unfold Pre_tables_in_range.fn at h'
  have hi := Host.reduce_andi_all _ _ _ _ _ (IntOp.andi_eq_one.mp h').1 i
  have hand := IntOp.andi_eq_one.mp hi
  exact lt_of_range _ hand.1 hand.2

/-- The gate and up projection's precondition: between 1 and 161 blocks are in use. -/
theorem count [Pre_tables_in_range.Facts] (t0 : IVec Pre_tables_in_range.S168 32) (t1 : IVec Pre_tables_in_range.S1 32)
    (x : IVec Pre_tables_in_range.S41216x1024 32) (w : FVec F Pre_tables_in_range.S32x2048x4096 .f32) (b : FVec F Pre_tables_in_range.S32x1x4096 .f32)
    (h : Pre_tables_in_range.fn t0 t1 x w b = fun _ => 1#1) (i : Pre_tables_in_range.S1.Idx) : 1 ≤ (t1 i).toNat ∧ (t1 i).toNat ≤ 161 := by
  have h' := congrFun h (fun x => x.elim0)
  unfold Pre_tables_in_range.fn at h'
  have hi := Host.reduce_andi_all _ _ _ _ _ (IntOp.andi_eq_one.mp h').2 i
  have hand := IntOp.andi_eq_one.mp hi
  exact count_of_range _ hand.1 hand.2

end Cert.Tables

end
-- ==== Proof.GateIdealRun.lean ====
/- The gate and up projection's body, one grid point at a time: what it reads, and what it leaves in the two carried
   casts of the weights and in the output block, in each of its four cases (the blocks of weights changed, or not; the
   block of rows in use, or not). -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Pipeline.ValueKit
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts and the word of used blocks, as the body is handed them. -/
abbrev tbE : Memref sig .tc .smem S168 .i32 := Memref.whole main_arg0
abbrev tbN : Memref sig .tc .smem S1 .i32 := Memref.whole main_arg1

/-- A table on core `c`, held read-only at contents `f`. -/
abbrev TbC (c : Dev nD) {S : Shape} {e : EltTy} (M : Memref sig .tc .smem S e) : Type := Buf (Elt F) (M.view.loc (c : Thread nD τ))
abbrev tbHeld (c : Dev nD) {S : Shape} {e : EltTy} (M : Memref sig .tc .smem S e) (f : TbC (F := F) c M) : sProp 𝕄 :=
  M.view.loc (c : Thread nD τ) ↦{fullShare.right} f

/-- The word of the table at the block before point `i`'s, and at point `i`'s block, as the body reads them. -/
abbrev prevWord (c : Dev nD) (i : grid0.Coords) (f : TbC (F := F) c tbE) : BitVec 32 :=
  tbE.view.readAt (Elt F) (Rect.unit (s := S168) (k0_off2 i) S1.size (k0_off2_inb i)).toLoadRect f (Shape.Idx.first (numel1_S1.symm ▸ Nat.one_pos))
abbrev curWord (c : Dev nD) (i : grid0.Coords) (f : TbC (F := F) c tbE) : BitVec 32 :=
  tbE.view.readAt (Elt F) (Rect.unit (s := S168) (k0_off1 i) S1.size (k0_off1_inb i)).toLoadRect f (Shape.Idx.first (numel1_S1.symm ▸ Nat.one_pos))

/-- The body's test of a change of weights: the first block of a sweep, or a word that differs from the one before. -/
abbrev changed (i : grid0.Coords) (v3 v6 : BitVec 32) : Prop :=
  (Scalar.cmpi .ne (Scalar.extui (Scalar.ori (Scalar.cmpi .eq (BitVec.ofNat 32 (i 1).val) 0#32) (Scalar.cmpi .ne v6 v3))) 0#32) = 1#1

/-- The word of used blocks, as the body reads it. -/
abbrev usedWord (c : Dev nD) (f : TbC (F := F) c tbN) : BitVec 32 :=
  tbN.view.readAt (Elt F) (Rect.unit (s := S1) ![0] S1.size inb_S1_S1_0).toLoadRect f (Shape.Idx.first (numel1_S1.symm ▸ Nat.one_pos))

set_option maxHeartbeats 2000000 in
/-- The body where the weights changed: the scratches end at the casts of the point's weights; the block of rows is in use, and its result is the payload of its rows with what the scratches hold. -/
theorem run_changed_used (c : Dev nD) (i : grid0.Coords)
    (arg4 : Memref sig .tc .vmem S256x1024 .i32) (harg4 : arg4.IsWhole)
    (arg5 : Memref sig .tc .vmem S1x2048x1024 .f32) (harg5 : arg5.IsWhole)
    (arg6 : Memref sig .tc .vmem S1x2048x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S256x1024 .bf16) (harg9 : arg9.IsWhole)
    (arg10 : Memref sig .tc .vmem S2048x1024 .bf16) (harg10 : arg10.IsWhole)
    (arg11 : Memref sig .tc .vmem S2048x1024 .bf16) (harg11 : arg11.IsWhole)
    (x0 : Vec F S256x1024 .i32) (x1 x2 : Vec F S1x2048x1024 .f32) (x3 x4 : Vec F S1x1x1024 .f32) (xt0 : TbC (F := F) c tbE) (xt1 : TbC (F := F) c tbN)
    (hc : changed i (prevWord c i xt0) (curWord c i xt0))
    (hu : k0_cond2 i (usedWord c xt1) = 1#1) (hn : ¬k0_cond3 i (usedWord c xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
        ∗ (∃ d, owns (c : Thread nD τ) arg9 fullShare d) ∗ (∃ d, owns (c : Thread nD τ) arg10 fullShare d) ∗ (∃ d, owns (c : Thread nD τ) arg11 fullShare d) ∗ tbHeld c tbE xt0 ∗ tbHeld c tbN xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ owns (c : Thread nD τ) arg9 fullShare (k0_pay4 x0 (k0_pay1 x1) x3 (k0_pay2 x2) x4) ∗ owns (c : Thread nD τ) arg10 fullShare (k0_pay1 x1) ∗ owns (c : Thread nD τ) arg11 fullShare (k0_pay2 x2)
            ∗ tbHeld c tbE xt0 ∗ tbHeld c tbN xt1) -∗ K ⟨⟩))
      ⊢ wp frame (wpE (defs₀ (F := F)) Variants.none c none) E
          (cc0_moe_gate_up i tbE (Memref.isWhole_whole _) tbN (Memref.isWhole_whole _) arg4 harg4 arg5 harg5 arg6 harg6 arg7 harg7 arg8 harg8 arg9 harg9 arg10 harg10 arg11 harg11) K := by
  simp only [cc0_moe_gate_up_eq_skeleton]; unfold cc0_moe_gate_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%dg, %fg, -, HG⟩, ⟨%du, %fu, -, HU⟩, HT0, HT1, Hk⟩
  obtain rfl := harg4.eq_unread hf0
  obtain rfl := harg5.eq_unread hf1
  obtain rfl := harg6.eq_unread hf2
  obtain rfl := harg7.eq_unread hf3
  obtain rfl := harg8.eq_unread hf4
  sl_exec (disch := first | sl_exact hc | sl_exact hu | sl_exact hn)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine (View.read_writes_eq_canon _ _ _ (View.cover_of_tiledL _ S256x1024.size (by sl_kernel_rfl))).trans ?_
    frame_out
  isplitl [HG]
  · iexists _; isplitr; swap; · iexact HG
    ipureintro
    refine (View.read_writes_eq_canon _ _ _ (View.cover_of_tiledL _ S2048x1024.size (by sl_kernel_rfl))).trans ?_
    frame_out
  isplitl [HU]
  · iexists _; isplitr; swap; · iexact HU
    ipureintro
    refine (View.read_writes_eq_canon _ _ _ (View.cover_of_tiledL _ S2048x1024.size (by sl_kernel_rfl))).trans ?_
    frame_out
  isplitl [HT0]; · iexact HT0
  iexact HT1

set_option maxHeartbeats 2000000 in
/-- The body where the weights changed: the scratches end at the casts of the point's weights; the block of rows is not in use, and its result is zero. -/
theorem run_changed_idle (c : Dev nD) (i : grid0.Coords)
    (arg4 : Memref sig .tc .vmem S256x1024 .i32) (harg4 : arg4.IsWhole)
    (arg5 : Memref sig .tc .vmem S1x2048x1024 .f32) (harg5 : arg5.IsWhole)
    (arg6 : Memref sig .tc .vmem S1x2048x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S256x1024 .bf16) (harg9 : arg9.IsWhole)
    (arg10 : Memref sig .tc .vmem S2048x1024 .bf16) (harg10 : arg10.IsWhole)
    (arg11 : Memref sig .tc .vmem S2048x1024 .bf16) (harg11 : arg11.IsWhole)
    (x0 : Vec F S256x1024 .i32) (x1 x2 : Vec F S1x2048x1024 .f32) (x3 x4 : Vec F S1x1x1024 .f32) (xt0 : TbC (F := F) c tbE) (xt1 : TbC (F := F) c tbN)
    (hc : changed i (prevWord c i xt0) (curWord c i xt0))
    (hu : ¬k0_cond2 i (usedWord c xt1) = 1#1) (hn : k0_cond3 i (usedWord c xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
        ∗ (∃ d, owns (c : Thread nD τ) arg9 fullShare d) ∗ (∃ d, owns (c : Thread nD τ) arg10 fullShare d) ∗ (∃ d, owns (c : Thread nD τ) arg11 fullShare d) ∗ tbHeld c tbE xt0 ∗ tbHeld c tbN xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ owns (c : Thread nD τ) arg9 fullShare k0_pay3 ∗ owns (c : Thread nD τ) arg10 fullShare (k0_pay1 x1) ∗ owns (c : Thread nD τ) arg11 fullShare (k0_pay2 x2)
            ∗ tbHeld c tbE xt0 ∗ tbHeld c tbN xt1) -∗ K ⟨⟩))
      ⊢ wp frame (wpE (defs₀ (F := F)) Variants.none c none) E
          (cc0_moe_gate_up i tbE (Memref.isWhole_whole _) tbN (Memref.isWhole_whole _) arg4 harg4 arg5 harg5 arg6 harg6 arg7 harg7 arg8 harg8 arg9 harg9 arg10 harg10 arg11 harg11) K := by
  simp only [cc0_moe_gate_up_eq_skeleton]; unfold cc0_moe_gate_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%dg, %fg, -, HG⟩, ⟨%du, %fu, -, HU⟩, HT0, HT1, Hk⟩
  obtain rfl := harg4.eq_unread hf0
  obtain rfl := harg5.eq_unread hf1
  obtain rfl := harg6.eq_unread hf2
  obtain rfl := harg7.eq_unread hf3
  obtain rfl := harg8.eq_unread hf4
  sl_exec (disch := first | sl_exact hc | sl_exact hu | sl_exact hn)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine (View.read_writes_eq_canon _ _ _ (View.cover_of_tiledL _ S256x1024.size (by sl_kernel_rfl))).trans ?_
    frame_out
  isplitl [HG]
  · iexists _; isplitr; swap; · iexact HG
    ipureintro
    refine (View.read_writes_eq_canon _ _ _ (View.cover_of_tiledL _ S2048x1024.size (by sl_kernel_rfl))).trans ?_
    frame_out
  isplitl [HU]
  · iexists _; isplitr; swap; · iexact HU
    ipureintro
    refine (View.read_writes_eq_canon _ _ _ (View.cover_of_tiledL _ S2048x1024.size (by sl_kernel_rfl))).trans ?_
    frame_out
  isplitl [HT0]; · iexact HT0
  iexact HT1

set_option maxHeartbeats 2000000 in
/-- The body where the weights are those of the point before: the scratches stay as they were found; the block of rows is in use, and its result is the payload of its rows with what the scratches hold. -/
theorem run_same_used (c : Dev nD) (i : grid0.Coords)
    (arg4 : Memref sig .tc .vmem S256x1024 .i32) (harg4 : arg4.IsWhole)
    (arg5 : Memref sig .tc .vmem S1x2048x1024 .f32) (harg5 : arg5.IsWhole)
    (arg6 : Memref sig .tc .vmem S1x2048x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S256x1024 .bf16) (harg9 : arg9.IsWhole)
    (arg10 : Memref sig .tc .vmem S2048x1024 .bf16) (harg10 : arg10.IsWhole)
    (arg11 : Memref sig .tc .vmem S2048x1024 .bf16) (harg11 : arg11.IsWhole)
    (x0 : Vec F S256x1024 .i32) (x1 x2 : Vec F S1x2048x1024 .f32) (x3 x4 : Vec F S1x1x1024 .f32) (xt0 : TbC (F := F) c tbE) (xt1 : TbC (F := F) c tbN)
    (xg xu : Vec F S2048x1024 .bf16)
    (hc : ¬changed i (prevWord c i xt0) (curWord c i xt0))
    (hu : k0_cond2 i (usedWord c xt1) = 1#1) (hn : ¬k0_cond3 i (usedWord c xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
        ∗ (∃ d, owns (c : Thread nD τ) arg9 fullShare d) ∗ owns (c : Thread nD τ) arg10 fullShare xg ∗ owns (c : Thread nD τ) arg11 fullShare xu ∗ tbHeld c tbE xt0 ∗ tbHeld c tbN xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ owns (c : Thread nD τ) arg9 fullShare (k0_pay4 x0 xg x3 xu x4) ∗ owns (c : Thread nD τ) arg10 fullShare xg ∗ owns (c : Thread nD τ) arg11 fullShare xu
            ∗ tbHeld c tbE xt0 ∗ tbHeld c tbN xt1) -∗ K ⟨⟩))
      ⊢ wp frame (wpE (defs₀ (F := F)) Variants.none c none) E
          (cc0_moe_gate_up i tbE (Memref.isWhole_whole _) tbN (Memref.isWhole_whole _) arg4 harg4 arg5 harg5 arg6 harg6 arg7 harg7 arg8 harg8 arg9 harg9 arg10 harg10 arg11 harg11) K := by
  simp only [cc0_moe_gate_up_eq_skeleton]; unfold cc0_moe_gate_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fg, %hfg, HG⟩, ⟨%fu, %hfu, HU⟩, HT0, HT1, Hk⟩
  obtain rfl := harg4.eq_unread hf0
  obtain rfl := harg5.eq_unread hf1
  obtain rfl := harg6.eq_unread hf2
  obtain rfl := harg7.eq_unread hf3
  obtain rfl := harg8.eq_unread hf4
  obtain rfl := harg10.eq_unread hfg
  obtain rfl := harg11.eq_unread hfu
  sl_exec (disch := first | sl_exact hc | sl_exact hu | sl_exact hn)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine (View.read_writes_eq_canon _ _ _ (View.cover_of_tiledL _ S256x1024.size (by sl_kernel_rfl))).trans ?_
    frame_out
  isplitl [HG]
  · iexists _; isplitr; · ipureintro; exact harg10.read_unread _
    iexact HG
  isplitl [HU]
  · iexists _; isplitr; · ipureintro; exact harg11.read_unread _
    iexact HU
  isplitl [HT0]; · iexact HT0
  iexact HT1

set_option maxHeartbeats 2000000 in
/-- The body where the weights are those of the point before: the scratches stay as they were found; the block of rows is not in use, and its result is zero. -/
theorem run_same_idle (c : Dev nD) (i : grid0.Coords)
    (arg4 : Memref sig .tc .vmem S256x1024 .i32) (harg4 : arg4.IsWhole)
    (arg5 : Memref sig .tc .vmem S1x2048x1024 .f32) (harg5 : arg5.IsWhole)
    (arg6 : Memref sig .tc .vmem S1x2048x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S256x1024 .bf16) (harg9 : arg9.IsWhole)
    (arg10 : Memref sig .tc .vmem S2048x1024 .bf16) (harg10 : arg10.IsWhole)
    (arg11 : Memref sig .tc .vmem S2048x1024 .bf16) (harg11 : arg11.IsWhole)
    (x0 : Vec F S256x1024 .i32) (x1 x2 : Vec F S1x2048x1024 .f32) (x3 x4 : Vec F S1x1x1024 .f32) (xt0 : TbC (F := F) c tbE) (xt1 : TbC (F := F) c tbN)
    (xg xu : Vec F S2048x1024 .bf16)
    (hc : ¬changed i (prevWord c i xt0) (curWord c i xt0))
    (hu : ¬k0_cond2 i (usedWord c xt1) = 1#1) (hn : k0_cond3 i (usedWord c xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
        ∗ (∃ d, owns (c : Thread nD τ) arg9 fullShare d) ∗ owns (c : Thread nD τ) arg10 fullShare xg ∗ owns (c : Thread nD τ) arg11 fullShare xu ∗ tbHeld c tbE xt0 ∗ tbHeld c tbN xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ owns (c : Thread nD τ) arg9 fullShare k0_pay3 ∗ owns (c : Thread nD τ) arg10 fullShare xg ∗ owns (c : Thread nD τ) arg11 fullShare xu
            ∗ tbHeld c tbE xt0 ∗ tbHeld c tbN xt1) -∗ K ⟨⟩))
      ⊢ wp frame (wpE (defs₀ (F := F)) Variants.none c none) E
          (cc0_moe_gate_up i tbE (Memref.isWhole_whole _) tbN (Memref.isWhole_whole _) arg4 harg4 arg5 harg5 arg6 harg6 arg7 harg7 arg8 harg8 arg9 harg9 arg10 harg10 arg11 harg11) K := by
  simp only [cc0_moe_gate_up_eq_skeleton]; unfold cc0_moe_gate_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fg, %hfg, HG⟩, ⟨%fu, %hfu, HU⟩, HT0, HT1, Hk⟩
  obtain rfl := harg4.eq_unread hf0
  obtain rfl := harg5.eq_unread hf1
  obtain rfl := harg6.eq_unread hf2
  obtain rfl := harg7.eq_unread hf3
  obtain rfl := harg8.eq_unread hf4
  obtain rfl := harg10.eq_unread hfg
  obtain rfl := harg11.eq_unread hfu
  sl_exec (disch := first | sl_exact hc | sl_exact hu | sl_exact hn)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine (View.read_writes_eq_canon _ _ _ (View.cover_of_tiledL _ S256x1024.size (by sl_kernel_rfl))).trans ?_
    frame_out
  isplitl [HG]
  · iexists _; isplitr; · ipureintro; exact harg10.read_unread _
    iexact HG
  isplitl [HU]
  · iexists _; isplitr; · ipureintro; exact harg11.read_unread _
    iexact HU
  isplitl [HT0]; · iexact HT0
  iexact HT1

end Cert.KernelIdeal.Hand

end
-- ==== Proof.GateIdealFrame.lean ====
/- The gate and up projection's launch: the tables read off the launch memory, the blocks of its windows, the invariant of
   the two carried casts of the weights, the body at a generic point, and the run to its final arrays. -/
module

public import proofs.«01_k».proof.Proof.GateIdealRun
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entry: the arrays and the tables -/

/-- Core `c`'s buffers when the pipeline starts: those of the launch, the program being the call alone. -/
abbrev V (c : Dev nD) (b : Ref sig .tc) : Buf (Elt F) ((c : Thread nD τ).loc b) := m ((c : Thread nD τ).loc b)

set_option maxHeartbeats 800000 in
/-- The program is the one call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The contents of the two tables (the machine has one device). -/
def tbl : pre0.Contents (Elt F) := fun j => V m (0 : Dev nD) (pre0.ref j)

/-- The region finds the prefetched words as the arguments give them. -/
theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables that the pipeline lends the body, one by one. -/
theorem tables_eq (c : Dev nD) : (Pipeline.ΦT pre0 (tbl m) c : sProp 𝕄) = iprop(tbHeld c tbE (tbl m 0) ∗ tbHeld c tbN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, as the launch left its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The casts of point `t`'s gate weights and of its up weights. -/
def gcast (hO : Ok m) (c : Dev nD) (t : Fin (cfgM m hO).N) : Vec F S2048x1024 .bf16 := k0_pay1 (iblk m hO c 1 t)
def ucast (hO : Ok m) (c : Dev nD) (t : Fin (cfgM m hO).N) : Vec F S2048x1024 .bf16 := k0_pay2 (iblk m hO c 2 t)

/-- The block of results of point `t`: computed where the block of rows is in use, zero elsewhere. -/
def oblk (hO : Ok m) (c : Dev nD) (t : Fin (cfgM m hO).N) : Vec F S256x1024 .bf16 :=
  if k0_cond2 (grid0.coords t) (usedWord c (tbl m 1)) = 1#1 then
    k0_pay4 (iblk m hO c 0 t) (gcast m hO c t) (iblk m hO c 3 t) (ucast m hO c t) (iblk m hO c 4 t)
  else k0_pay3

/-- The scratches with the carried casts. -/
abbrev scG : Memref sig .tc .vmem S2048x1024 .bf16 := Memref.whole cc0_scratch0
abbrev scU : Memref sig .tc .vmem S2048x1024 .bf16 := Memref.whole cc0_scratch1

/-- What the body finds and leaves besides its windows: before the first point the scratches at anything; after point
    `n - 1` the scratches at the casts of that point's weights. -/
def carryAt (hO : Ok m) (c : Dev nD) : (n : ℕ) → n < (cfgM m hO).N + 1 → sProp 𝕄
  | 0, _ => Pipeline.ΦA spec0 c
  | k + 1, h => iprop(iprop(owns (c : Thread nD τ) scG fullShare (gcast m hO c ⟨k, Nat.lt_of_succ_lt_succ h⟩)
      ∗ owns (c : Thread nD τ) scU fullShare (ucast m hO c ⟨k, Nat.lt_of_succ_lt_succ h⟩)) ∗ (∃ r, prngReg c r))

/-- The same, at the pipeline's position `n`. -/
def carry (hO : Ok m) (c : Dev nD) (n : Fin ((cfgM m hO).N + 1)) : sProp 𝕄 := carryAt m hO c n.val n.isLt

/-- What the region holds beside its windows: its scratch, with any contents, and the register of random bits. -/
theorem scoped_eq (c : Dev nD) :
    (Pipeline.ΦA spec0 c : sProp 𝕄)
      = iprop(iprop((∃ d, owns (c : Thread nD τ) scG fullShare d) ∗ (∃ d, owns (c : Thread nD τ) scU fullShare d)) ∗ (∃ r, prngReg c r)) := by
  unfold Pipeline.ΦA; rw [scopedRest0_eq]; simp only [scG, scU, owns_whole]; try rfl

/-- Before the first point the scratch holds anything. -/
theorem carry_zero (hO : Ok m) (c : Dev nD) : carry m hO c 0 = Pipeline.ΦA spec0 c := rfl

/-- Before a later point the scratch holds the cast weights of the point before. -/
theorem carryAt_pos (hO : Ok m) (c : Dev nD) : ∀ (n : ℕ) (hn : n < (cfgM m hO).N) (h0 : n ≠ 0),
    carryAt m hO c n (Nat.lt_succ_of_lt hn)
      = iprop(iprop(owns (c : Thread nD τ) scG fullShare (gcast m hO c ⟨n - 1, lt_of_le_of_lt (Nat.sub_le _ _) hn⟩)
          ∗ owns (c : Thread nD τ) scU fullShare (ucast m hO c ⟨n - 1, lt_of_le_of_lt (Nat.sub_le _ _) hn⟩)) ∗ (∃ r, prngReg c r))
  | 0, _, h0 => absurd rfl h0
  | _ + 1, _, _ => rfl

/-- What is carried to a point, by the point's number. -/
theorem carry_castSucc (hO : Ok m) (c : Dev nD) (t : Fin (cfgM m hO).N) :
    carry m hO c t.castSucc = carryAt m hO c t.val (Nat.lt_succ_of_lt t.isLt) := by
  unfold carry
  have e : ∀ (a b : ℕ) (ha : a < (cfgM m hO).N + 1) (hb : b < (cfgM m hO).N + 1), a = b → carryAt m hO c a ha = carryAt m hO c b hb :=
    fun a b ha hb h => by subst h; rfl
  exact e _ _ _ _ (Fin.val_castSucc t)

/-- After a point the scratch holds that point's cast weights. -/
theorem carry_succ (hO : Ok m) (c : Dev nD) (t : Fin (cfgM m hO).N) :
    carry m hO c t.succ = iprop(iprop(owns (c : Thread nD τ) scG fullShare (gcast m hO c t) ∗ owns (c : Thread nD τ) scU fullShare (ucast m hO c t)) ∗ (∃ r, prngReg c r)) := rfl

/-- At every point what is carried gives the scratch with some contents. -/
theorem carryAt_any (hO : Ok m) (c : Dev nD) : ∀ (n : ℕ) (hn : n < (cfgM m hO).N + 1),
    carryAt m hO c n hn ⊢ iprop(iprop((∃ d, owns (c : Thread nD τ) scG fullShare d) ∗ (∃ d, owns (c : Thread nD τ) scU fullShare d)) ∗ (∃ r, prngReg c r))
  | 0, _ => by
    rw [show carryAt m hO c 0 _ = Pipeline.ΦA spec0 c from rfl, scoped_eq]
  | k + 1, h => by
    rw [show carryAt m hO c (k + 1) h
      = iprop(iprop(owns (c : Thread nD τ) scG fullShare (gcast m hO c ⟨k, Nat.lt_of_succ_lt_succ h⟩)
          ∗ owns (c : Thread nD τ) scU fullShare (ucast m hO c ⟨k, Nat.lt_of_succ_lt_succ h⟩)) ∗ (∃ r, prngReg c r)) from rfl]
    iintro ⟨⟨HG, HU⟩, Hg⟩
    isplitl [HG HU]
    · isplitl [HG]; · iexists _; iexact HG
      iexists _; iexact HU
    iexact Hg

/-- Whatever the point, the scratches are there at some contents. -/
theorem carry_any (hO : Ok m) (c : Dev nD) (n : Fin ((cfgM m hO).N + 1)) :
    carry m hO c n ⊢ iprop(iprop((∃ d, owns (c : Thread nD τ) scG fullShare d) ∗ (∃ d, owns (c : Thread nD τ) scU fullShare d)) ∗ (∃ r, prngReg c r)) :=
  carryAt_any m hO c n.val n.isLt

/-- The pipeline's proof data: inputs keep their blocks, the output's buffer ends each point at `oblk`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => oblk m hO c t
  Φ n := iprop(carry m hO c n ∗ Pipeline.ΦT pre0 (tbl m) c)
  q w := Pipeline.shareOf spec0 w
  owed _ := 0

/-- The arrays of the windows are those the region finds. -/
theorem A_eq (hO : Ok m) (c : Dev nD) (w : Fin (cfgM m hO).W) : (dats m hO 0 c).A w = V m c (Pipeline.arrRef spec0 w) := by
  dsimp only [dats]

/-- What a point leaves in window 0. -/
theorem after_0 (hO : Ok m) (c : Dev nD) (t : Fin (cfgM m hO).N) : (dats m hO 0 c).after 0 t = iblk m hO c 0 t := by dsimp only [dats]; try rfl

/-- What a point leaves in window 1. -/
theorem after_1 (hO : Ok m) (c : Dev nD) (t : Fin (cfgM m hO).N) : (dats m hO 0 c).after 1 t = iblk m hO c 1 t := by dsimp only [dats]; try rfl

/-- What a point leaves in window 2. -/
theorem after_2 (hO : Ok m) (c : Dev nD) (t : Fin (cfgM m hO).N) : (dats m hO 0 c).after 2 t = iblk m hO c 2 t := by dsimp only [dats]; try rfl

/-- What a point leaves in window 3. -/
theorem after_3 (hO : Ok m) (c : Dev nD) (t : Fin (cfgM m hO).N) : (dats m hO 0 c).after 3 t = iblk m hO c 3 t := by dsimp only [dats]; try rfl

/-- What a point leaves in window 4. -/
theorem after_4 (hO : Ok m) (c : Dev nD) (t : Fin (cfgM m hO).N) : (dats m hO 0 c).after 4 t = iblk m hO c 4 t := by dsimp only [dats]; try rfl

/-- What a point leaves in window 5. -/
theorem after_5 (hO : Ok m) (c : Dev nD) (t : Fin (cfgM m hO).N) : (dats m hO 0 c).after 5 t = oblk m hO c t := by dsimp only [dats]; try rfl

/-- At every point the buffers of the five inputs hold their blocks. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- What a point finds in window 1. -/
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What a point finds in window 2. -/
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What a point finds in window 3. -/
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What a point finds in window 4. -/
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## Unchanged weights -/

/-- The offset of the word before, at a point that is not the first of its sweep, is the offset of the previous point's word, -/
theorem off_prev : ∀ t : Fin grid0.N, (h : (grid0.coords t 1).val ≠ 0) →
    k0_off2 (grid0.coords t) = k0_off1 (grid0.coords ⟨t.val - 1, by have := t.isLt; omega⟩) := by decide +kernel

/-- and the previous point lies in the same sweep, so it is not the point itself. -/
theorem sweep_prev : ∀ t : Fin grid0.N, (h : (grid0.coords t 1).val ≠ 0) →
    (grid0.coords ⟨t.val - 1, by have := t.isLt; omega⟩ 0).val = (grid0.coords t 0).val ∧ t.val ≠ 0 := by decide +kernel

/-- The two conditions on a block's use are each other's opposite: the block lies below the count, or it does not. -/
theorem used_or_idle (i : grid0.Coords) (v : BitVec 32) :
    (k0_cond2 i v = 1#1 ∧ ¬k0_cond3 i v = 1#1) ∨ (¬k0_cond2 i v = 1#1 ∧ k0_cond3 i v = 1#1) := by
  have key : ∀ p : Bool, Scalar.cmpi .ne (Scalar.extui (BitVec.ofBool p) : BitVec 32) 0#32 = BitVec.ofBool p := by decide
  have h2 : k0_cond2 i v = BitVec.ofBool ((BitVec.ofNat 32 (i 1).val).slt v) := key _
  have h3 : k0_cond3 i v = BitVec.ofBool (v.sle (BitVec.ofNat 32 (i 1).val)) := key _
  rw [h2, h3, BitVec.sle_eq_not_slt]
  cases (BitVec.ofNat 32 (i 1).val).slt v
  · exact .inr ⟨by decide, by decide⟩
  · exact .inl ⟨by decide, by decide⟩

/-- The test's last steps: a set bit among the two makes the condition true. -/
theorem or_true_word : ∀ p q : Bool, (p || q) = true →
    Scalar.cmpi .ne (Scalar.extui (Scalar.ori (BitVec.ofBool p) (BitVec.ofBool q)) : BitVec 32) 0#32 = 1#1 := by decide

/-- What the test of a change says when it fails: not the first point of a sweep, and equal words. -/
theorem of_unchanged (i : grid0.Coords) (v3 v6 : BitVec 32) (h : ¬changed i v3 v6) : (i 1).val ≠ 0 ∧ v6 = v3 := by
  constructor
  · intro h0
    apply h
    unfold changed
    rw [h0]
    exact or_true_word (0#32 == 0#32) (v6 != v3) rfl
  · by_contra hne
    apply h
    unfold changed
    refine or_true_word (BitVec.ofNat 32 (i 1).val == 0#32) (v6 != v3) ?_
    simp [hne]

/-- A word of the table depends on its offset alone. -/
theorem word_congr (c : Dev nD) (f : TbC (F := F) c tbE) {off off' : Fin 1 → Nat} (h : off = off')
    (h1 : ∀ a, off a + S1.size a ≤ S168.size a) (h2 : ∀ a, off' a + S1.size a ≤ S168.size a) :
    tbE.view.readAt (Elt F) (Rect.unit (s := S168) off S1.size h1).toLoadRect f (Shape.Idx.first (numel1_S1.symm ▸ Nat.one_pos))
      = tbE.view.readAt (Elt F) (Rect.unit (s := S168) off' S1.size h2).toLoadRect f (Shape.Idx.first (numel1_S1.symm ▸ Nat.one_pos)) := by
  subst h; rfl

/-- Equal words at a point and the one before name the same blocks of weights, so their casts are the carried ones. -/
theorem wcast_same (hO : Ok m) (c : Dev nD) (t : Fin (cfgM m hO).N)
    (h : ¬changed (grid0.coords t) (prevWord c (grid0.coords t) (tbl m 0)) (curWord c (grid0.coords t) (tbl m 0))) :
    t.val ≠ 0 ∧ gcast m hO c ⟨t.val - 1, lt_of_le_of_lt (Nat.sub_le _ _) t.isLt⟩ = gcast m hO c t
      ∧ ucast m hO c ⟨t.val - 1, lt_of_le_of_lt (Nat.sub_le _ _) t.isLt⟩ = ucast m hO c t := by
  obtain ⟨h0, hw⟩ := of_unchanged (grid0.coords t) _ _ h
  obtain ⟨hsw, hz⟩ := sweep_prev t h0
  refine ⟨hz, ?_⟩
  have hoff := off_prev t h0
  generalize hs : (⟨t.val - 1, lt_of_le_of_lt (Nat.sub_le _ _) t.isLt⟩ : Fin grid0.N) = s at hoff hsw
  have hword : curWord c (grid0.coords t) (tbl m 0) = curWord c (grid0.coords s) (tbl m 0) := by
    rw [hw]; exact word_congr c (tbl m 0) hoff _ _
  have hix1 : ((cfgM m hO).win 1).index s = ((cfgM m hO).win 1).index t := by
    show ![BitVec.toNat (curWord c (grid0.coords s) (tbl m 0)), (0#32).toNat, (BitVec.ofNat 32 (grid0.coords s 0).val).toNat]
      = ![BitVec.toNat (curWord c (grid0.coords t) (tbl m 0)), (0#32).toNat, (BitVec.ofNat 32 (grid0.coords t 0).val).toNat]
    rw [hword, hsw]
  have hf1 := (dats m hO 0 c).fetched_congr 1 hix1 rfl (fun _ => Classical.arbitrary _)
  have hsf1 : (dats m hO 0 c).fetched 1 s (fun _ => Classical.arbitrary _) = iblk m hO c 1 s := by
    unfold Dat.fetched Dat.blockOf iblk; rw [A_eq]; try rfl
  have htf1 : (dats m hO 0 c).fetched 1 t (fun _ => Classical.arbitrary _) = iblk m hO c 1 t := by
    unfold Dat.fetched Dat.blockOf iblk; rw [A_eq]; try rfl
  have hix2 : ((cfgM m hO).win 2).index s = ((cfgM m hO).win 2).index t := by
    show ![BitVec.toNat (curWord c (grid0.coords s) (tbl m 0)), (0#32).toNat, (Scalar.addi 2#32 (BitVec.ofNat 32 (grid0.coords s 0).val)).toNat]
      = ![BitVec.toNat (curWord c (grid0.coords t) (tbl m 0)), (0#32).toNat, (Scalar.addi 2#32 (BitVec.ofNat 32 (grid0.coords t 0).val)).toNat]
    rw [hword, hsw]
  have hf2 := (dats m hO 0 c).fetched_congr 2 hix2 rfl (fun _ => Classical.arbitrary _)
  have hsf2 : (dats m hO 0 c).fetched 2 s (fun _ => Classical.arbitrary _) = iblk m hO c 2 s := by
    unfold Dat.fetched Dat.blockOf iblk; rw [A_eq]; try rfl
  have htf2 : (dats m hO 0 c).fetched 2 t (fun _ => Classical.arbitrary _) = iblk m hO c 2 t := by
    unfold Dat.fetched Dat.blockOf iblk; rw [A_eq]; try rfl
  unfold gcast ucast
  exact ⟨congrArg k0_pay1 (hsf1.symm.trans (hf1.trans htf1)), congrArg k0_pay2 (hsf2.symm.trans (hf2.trans htf2))⟩

/-! ## The body at a generic point -/

abbrev ms_0 (hO : Ok m) (t : Fin (cfgM m hO).N) : Memref sig .tc .vmem S256x1024 .i32 := spec0_0.stage ((cfgM m hO).slots t 0)
abbrev ms_1 (hO : Ok m) (t : Fin (cfgM m hO).N) : Memref sig .tc .vmem S1x2048x1024 .f32 := spec0_1.stage ((cfgM m hO).slots t 1)
abbrev ms_2 (hO : Ok m) (t : Fin (cfgM m hO).N) : Memref sig .tc .vmem S1x2048x1024 .f32 := spec0_2.stage ((cfgM m hO).slots t 2)
abbrev ms_3 (hO : Ok m) (t : Fin (cfgM m hO).N) : Memref sig .tc .vmem S1x1x1024 .f32 := spec0_3.stage ((cfgM m hO).slots t 3)
abbrev ms_4 (hO : Ok m) (t : Fin (cfgM m hO).N) : Memref sig .tc .vmem S1x1x1024 .f32 := spec0_4.stage ((cfgM m hO).slots t 4)
abbrev ms_5 (hO : Ok m) (t : Fin (cfgM m hO).N) : Memref sig .tc .vmem S256x1024 .bf16 := spec0_5.stage ((cfgM m hO).slots t 5)

/-- The body as the pipeline calls it at point `t`. -/
abbrev bodyAt (hO : Ok m) (t : Fin (cfgM m hO).N) : Prog (TpuEff nD τ sig (Elt F) Λ₀ .tc) PUnit :=
  cc0_moe_gate_up (grid0.coords t) (Memref.whole main_arg0) (Memref.isWhole_whole _) (Memref.whole main_arg1) (Memref.isWhole_whole _)
    (ms_0 m hO t) (hstage0_0 (((cfgM m hO).slots t 0).cast nbuf0_0))
    (ms_1 m hO t) (hstage0_1 (((cfgM m hO).slots t 1).cast nbuf0_1))
    (ms_2 m hO t) (hstage0_2 (((cfgM m hO).slots t 2).cast nbuf0_2))
    (ms_3 m hO t) (hstage0_3 (((cfgM m hO).slots t 3).cast nbuf0_3))
    (ms_4 m hO t) (hstage0_4 (((cfgM m hO).slots t 4).cast nbuf0_4))
    (ms_5 m hO t) (hstage0_5 (((cfgM m hO).slots t 5).cast nbuf0_5))
    (Memref.whole cc0_scratch0) (Memref.isWhole_whole _) (Memref.whole cc0_scratch1) (Memref.isWhole_whole _)

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t))

set_option maxHeartbeats 1600000 in
/-- The body at any point: with changed weights it fills the scratches, with unchanged ones it finds them filled; the block
    of results is computed where the rows are in use. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl, after_0, after_1, after_2, after_3, after_4, after_5]
  rw [show (dats m hO 0 c).Φ t.castSucc = iprop(carry m hO c t.castSucc ∗ Pipeline.ΦT pre0 (tbl m) c) from rfl,
    show (dats m hO 0 c).Φ t.succ = iprop(carry m hO c t.succ ∗ Pipeline.ΦT pre0 (tbl m) c) from rfl, tables_eq, carry_succ]
  by_cases hc : changed (grid0.coords t) (prevWord c (grid0.coords t) (tbl m 0)) (curWord c (grid0.coords t) (tbl m 0))
  · rcases used_or_idle (grid0.coords t) (usedWord c (tbl m 1)) with ⟨hu, hn⟩ | ⟨hu, hn⟩
    · rw [show oblk m hO c t = k0_pay4 (iblk m hO c 0 t) (gcast m hO c t) (iblk m hO c 3 t) (ucast m hO c t) (iblk m hO c 4 t) from if_pos hu]
      refine (sep_mono (sep_mono (carry_any m hO c t.castSucc) .rfl) .rfl).trans ?_
      iintro ⟨⟨⟨⟨HG, HU⟩, Hg⟩, ⟨HT0, HT1⟩⟩, Ho, ⟨%d0, H0⟩, ⟨%d1, H1⟩, ⟨%d2, H2⟩, ⟨%d3, H3⟩, ⟨%d4, H4⟩, ⟨%d5, H5⟩⟩
      iapply ((run_changed_used c (grid0.coords t) _ _ _ _ _ _ _ _ _ _ _ _ _ _ _ _ (iblk m hO c 0 t) (iblk m hO c 1 t) (iblk m hO c 2 t) (iblk m hO c 3 t) (iblk m hO c 4 t) (tbl m 0) (tbl m 1) hc hu hn) Set.univ _)
      isplitl [H0]; · iexact H0
      isplitl [H1]; · iexact H1
      isplitl [H2]; · iexact H2
      isplitl [H3]; · iexact H3
      isplitl [H4]; · iexact H4
      isplitl [H5]; · iexists _; iexact H5
      isplitl [HG]; · iexact HG
      isplitl [HU]; · iexact HU
      isplitl [HT0]; · iexact HT0
      isplitl [HT1]; · iexact HT1
      iintro ⟨H0, H1, H2, H3, H4, H5, HG, HU, HT0, HT1⟩
      isplitl [HG HU Hg HT0 HT1]
      · isplitl [HG HU Hg]
        · isplitl [HG HU]
          · isplitl [HG]; · iexact HG
            iexact HU
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
    · rw [show oblk m hO c t = k0_pay3 from if_neg hu]
      refine (sep_mono (sep_mono (carry_any m hO c t.castSucc) .rfl) .rfl).trans ?_
      iintro ⟨⟨⟨⟨HG, HU⟩, Hg⟩, ⟨HT0, HT1⟩⟩, Ho, ⟨%d0, H0⟩, ⟨%d1, H1⟩, ⟨%d2, H2⟩, ⟨%d3, H3⟩, ⟨%d4, H4⟩, ⟨%d5, H5⟩⟩
      iapply ((run_changed_idle c (grid0.coords t) _ _ _ _ _ _ _ _ _ _ _ _ _ _ _ _ (iblk m hO c 0 t) (iblk m hO c 1 t) (iblk m hO c 2 t) (iblk m hO c 3 t) (iblk m hO c 4 t) (tbl m 0) (tbl m 1) hc hu hn) Set.univ _)
      isplitl [H0]; · iexact H0
      isplitl [H1]; · iexact H1
      isplitl [H2]; · iexact H2
      isplitl [H3]; · iexact H3
      isplitl [H4]; · iexact H4
      isplitl [H5]; · iexists _; iexact H5
      isplitl [HG]; · iexact HG
      isplitl [HU]; · iexact HU
      isplitl [HT0]; · iexact HT0
      isplitl [HT1]; · iexact HT1
      iintro ⟨H0, H1, H2, H3, H4, H5, HG, HU, HT0, HT1⟩
      isplitl [HG HU Hg HT0 HT1]
      · isplitl [HG HU Hg]
        · isplitl [HG HU]
          · isplitl [HG]; · iexact HG
            iexact HU
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
  · obtain ⟨h0, hwg, hwu⟩ := wcast_same m hO c t hc
    rw [carry_castSucc, carryAt_pos m hO c t.val t.isLt h0, hwg, hwu]
    rcases used_or_idle (grid0.coords t) (usedWord c (tbl m 1)) with ⟨hu, hn⟩ | ⟨hu, hn⟩
    · rw [show oblk m hO c t = k0_pay4 (iblk m hO c 0 t) (gcast m hO c t) (iblk m hO c 3 t) (ucast m hO c t) (iblk m hO c 4 t) from if_pos hu]
      iintro ⟨⟨⟨⟨HG, HU⟩, Hg⟩, ⟨HT0, HT1⟩⟩, Ho, ⟨%d0, H0⟩, ⟨%d1, H1⟩, ⟨%d2, H2⟩, ⟨%d3, H3⟩, ⟨%d4, H4⟩, ⟨%d5, H5⟩⟩
      iapply ((run_same_used c (grid0.coords t) _ _ _ _ _ _ _ _ _ _ _ _ _ _ _ _ (iblk m hO c 0 t) (iblk m hO c 1 t) (iblk m hO c 2 t) (iblk m hO c 3 t) (iblk m hO c 4 t) (tbl m 0) (tbl m 1) (gcast m hO c t) (ucast m hO c t) hc hu hn) Set.univ _)
      isplitl [H0]; · iexact H0
      isplitl [H1]; · iexact H1
      isplitl [H2]; · iexact H2
      isplitl [H3]; · iexact H3
      isplitl [H4]; · iexact H4
      isplitl [H5]; · iexists _; iexact H5
      isplitl [HG]; · iexact HG
      isplitl [HU]; · iexact HU
      isplitl [HT0]; · iexact HT0
      isplitl [HT1]; · iexact HT1
      iintro ⟨H0, H1, H2, H3, H4, H5, HG, HU, HT0, HT1⟩
      isplitl [HG HU Hg HT0 HT1]
      · isplitl [HG HU Hg]
        · isplitl [HG HU]
          · isplitl [HG]; · iexact HG
            iexact HU
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
    · rw [show oblk m hO c t = k0_pay3 from if_neg hu]
      iintro ⟨⟨⟨⟨HG, HU⟩, Hg⟩, ⟨HT0, HT1⟩⟩, Ho, ⟨%d0, H0⟩, ⟨%d1, H1⟩, ⟨%d2, H2⟩, ⟨%d3, H3⟩, ⟨%d4, H4⟩, ⟨%d5, H5⟩⟩
      iapply ((run_same_idle c (grid0.coords t) _ _ _ _ _ _ _ _ _ _ _ _ _ _ _ _ (iblk m hO c 0 t) (iblk m hO c 1 t) (iblk m hO c 2 t) (iblk m hO c 3 t) (iblk m hO c 4 t) (tbl m 0) (tbl m 1) (gcast m hO c t) (ucast m hO c t) hc hu hn) Set.univ _)
      isplitl [H0]; · iexact H0
      isplitl [H1]; · iexact H1
      isplitl [H2]; · iexact H2
      isplitl [H3]; · iexact H3
      isplitl [H4]; · iexact H4
      isplitl [H5]; · iexists _; iexact H5
      isplitl [HG]; · iexact HG
      isplitl [HU]; · iexact HU
      isplitl [HT0]; · iexact HT0
      isplitl [HT1]; · iexact HT1
      iintro ⟨H0, H1, H2, H3, H4, H5, HG, HU, HT0, HT1⟩
      isplitl [HG HU Hg HT0 HT1]
      · isplitl [HG HU Hg]
        · isplitl [HG HU]
          · isplitl [HG]; · iexact HG
            iexact HU
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5

/-- The body the run calls at a point is the kernel's body there. -/
theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output is stored at every point, in one branch or the other. -/
theorem live_5 (hO : Ok m) (t : Fin (cfgM m hO).N) : (cfgM m hO).idle 5 ((cfgM m hO).grid.coords t) = false := by
  show (!(k0_cond2 (grid0.coords t) ((tbl m).atD 1 ![0]) == 1#1) && !(k0_cond3 (grid0.coords t) ((tbl m).atD 1 ![0]) == 1#1)) = false
  rcases used_or_idle (grid0.coords t) ((tbl m).atD 1 ![0]) with ⟨h, _⟩ | ⟨_, h⟩ <;> simp [h]

/-- A buffer at what the body leaves there, as the pipeline takes it back at a point live for its window. -/
theorem hand_back (hO : Ok m) (c : Dev nD) (w : Fin (cfgM m hO).W) (t : Fin (cfgM m hO).N) (h : (cfgM m hO).idle w ((cfgM m hO).grid.coords t) = false) :
    owns (c : Thread nD τ) (((cfgM m hO).win w).stage ((cfgM m hO).slots t w)) fullShare ((dats m hO 0 c).after w t)
      ⊢ (match (cfgM m hO).idle w ((cfgM m hO).grid.coords t) with
          | true =>
            match ((cfgM m hO).win w).flush t with
            | false => iprop(∃ d, owns (c : Thread nD τ) (((cfgM m hO).win w).stage ((cfgM m hO).slots t w)) fullShare ((dats m hO 0 c).before w t d))
            | true => owns (c : Thread nD τ) (((cfgM m hO).win w).stage ((cfgM m hO).slots t w)) fullShare ((dats m hO 0 c).after w t)
          | false => owns (c : Thread nD τ) (((cfgM m hO).win w).stage ((cfgM m hO).slots t w)) fullShare ((dats m hO 0 c).after w t) : sProp 𝕄) := by
  rw [h]

/-- The body does at every point what the run asks of it. -/
theorem body_obligation (hO : Ok m) (c : Dev nD) : BodyObligation (dats (F := F) m hO 0 c) (defs₀ (F := F)) Variants.none () Set.univ := fun t => by
  rw [bigSep_W0, bigSep_W0, defs_row m hO]
  exact triple_restated (sound_body m hO c t) rfl .rfl fun _ =>
    sep_mono .rfl (sep_mono .rfl (sep_mono .rfl (sep_mono .rfl (sep_mono .rfl (sep_mono .rfl (sep_mono .rfl (hand_back m hO c 5 t (live_5 m hO t))))))))

/-! ## The run -/

set_option backward.isDefEq.respectTransparency.types false in
/-- Every weakly fair execution ends, with each array at what the write-backs left and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := fun c => by
      rw [show (dats m hO 0 c).Φ 0 = iprop(carry m hO c 0 ∗ Pipeline.ΦT pre0 (tbl m) c) from rfl, carry_zero m hO c])
    (hout := fun c => by
      rw [show (dats m hO 0 c).Φ (Fin.last _) = iprop(carry m hO c (Fin.last _) ∗ Pipeline.ΦT pre0 (tbl m) c) from rfl]
      exact (sep_mono (carry_any m hO c _) .rfl).trans ((sep_mono (.of_eq (scoped_eq c).symm) .rfl).trans sep_elim_left))

/-- The final state: the arguments as launched, the result at what the last write-back left, the counters at zero. -/
theorem run_final (hO : Ok m) : θ_run defs (onTc (τ := τ) (main (F := F))) ⟨m, fun _ => 0, ρ⟩ (fun r => (∀ c : Dev nD,
      r.2.mem ((c.tc : Thread nD τ).loc main_v0) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 5,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 3).trans (((dats m hO 0 c).arrAt_in 3 rfl _).trans (A_eq m hO c 3))⟩, h.2⟩) (run_main m ρ hO)

end Cert.KernelIdeal.Hand

end
-- ==== Proof.GateIdealOk.lean ====
/- The gate and up projection's tables name blocks inside their arrays: the side condition of the launch, from words
   below 32 and a count between 1 and 161. -/
module

public import proofs.«01_k».proof.Proof.GateIdealFrame
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The index in the table of the word of coordinates `i`. -/
abbrev wordIdx (i : grid0.Coords) : S168.Idx := ix1 (n0 := 168) ⟨(i 1).val, lt_trans (show (i 1).val < 161 from (i 1).isLt) (by decide)⟩

/-- The word the body reads at coordinates `i` is the table's at the second of them. -/
theorem curWord_eq (c : Dev nD) (i : grid0.Coords) (f : TbC (F := F) c tbE) :
    curWord c i f = f (wordIdx i) := by
  unfold curWord
  refine congrArg f ?_
  funext a
  refine Fin.ext ?_
  obtain rfl : a = (0 : Fin 1) := Subsingleton.elim (α := Fin 1) _ _
  have h : (i 1).val < 161 := (i 1).isLt
  show (Scalar.indexCast (BitVec.ofNat 32 (i 1).val) : Index).toNat + 1 * 0 = (i 1).val
  show ((BitVec.ofNat 32 (i 1).val)).toNat + 1 * 0 = (i 1).val
  rw [BitVec.toNat_ofNat, Nat.mod_eq_of_lt (by omega)]; omega

/-- The number of blocks in use, as the table holds it. -/
abbrev cnt : BitVec 32 := tbl m 1 (ix1 (n0 := 1) 0)

/-- The word of used blocks that the body reads is the table's. -/
theorem usedWord_eq (c : Dev nD) (f : TbC (F := F) c tbN) : usedWord c f = f (ix1 (n0 := 1) 0) := by
  unfold usedWord
  refine congrArg f ?_
  funext a
  obtain rfl : a = (0 : Fin 1) := Subsingleton.elim (α := Fin 1) _ _
  rfl

/-- A point's second coordinate is below 161, its first below 2. -/
theorem coord_one_lt (i : grid0.Coords) : (i 1).val < 161 := (i 1).isLt

/-- The first coordinate of a point is below two. -/
theorem coord_zero_lt (i : grid0.Coords) : (i 0).val < 2 := (i 0).isLt

/-- The lesser of a small number and a small count less one, both taken as words. -/
theorem min_word (k : Nat) (n : BitVec 32) (hk : k < 161) (h1 : 1 ≤ n.toNat) (h2 : n.toNat ≤ 161) :
    (Scalar.minsi (BitVec.ofNat 32 k) (Scalar.subi n 1#32)).toNat = min k (n.toNat - 1) := by
  have e3 : (BitVec.ofNat 32 k).toNat = k := by rw [BitVec.toNat_ofNat]; exact Nat.mod_eq_of_lt (by omega)
  have e4 : (n - 1#32).toNat = n.toNat - 1 := by
    rw [BitVec.toNat_sub]
    show (2 ^ 32 - 1 + n.toNat) % 2 ^ 32 = _
    have := n.isLt
    omega
  have e1 := BitVec.toInt_eq_toNat_cond (n - 1#32)
  have e2 := BitVec.toInt_eq_toNat_cond (BitVec.ofNat 32 k)
  rw [e4] at e1
  rw [e3] at e2
  rw [if_pos (by omega)] at e1 e2
  show (if (BitVec.ofNat 32 k).slt (n - 1#32) then BitVec.ofNat 32 k else n - 1#32).toNat = _
  unfold BitVec.slt
  rw [e1, e2]
  by_cases hlt : k < n.toNat - 1
  · rw [if_pos (by simpa using hlt), e3]; omega
  · rw [if_neg (by simpa using hlt), e4]; omega

/-- A small number as a word is that number. -/
theorem word_small (k : Nat) (hk : k < 161) : (BitVec.ofNat 32 k).toNat = k := by
  rw [BitVec.toNat_ofNat]; exact Nat.mod_eq_of_lt (by omega)

/-- Two more than a small number, as words. -/
theorem word_two_add (k : Nat) (hk : k < 2) : (Scalar.addi 2#32 (BitVec.ofNat 32 k)).toNat = 2 + k := by
  show (2#32 + BitVec.ofNat 32 k).toNat = _
  rw [BitVec.toNat_add, word_small k (by omega)]
  show (2 + k) % 2 ^ 32 = 2 + k
  omega

/-- The index of the rows' block: the point's block of rows, or the last one in use. -/
theorem transform_0 (i : grid0.Coords) (h1 : 1 ≤ (cnt m).toNat) (h2 : (cnt m).toNat ≤ 161) :
    cc0_transform_0 inb_S1_S1_0 numel1_S1 (tbl m) i = ![min (i 1).val ((cnt m).toNat - 1), 0] := by
  rw [← min_word _ _ (coord_one_lt i) h1 h2, show cnt m = usedWord (0 : Dev nD) (tbl m 1) from (usedWord_eq _ _).symm]
  rfl

/-- The indices of the weights' blocks and of the biases': the word read, and the column tile of the gate or of the up half. -/
theorem transform_1 (i : grid0.Coords) : cc0_transform_1 k0_off1_inb numel1_S1 (tbl m) i = ![(tbl m 0 (wordIdx i)).toNat, 0, (i 0).val] := by
  rw [← curWord_eq (0 : Dev nD) i (tbl m 0)]
  show ![BitVec.toNat (curWord (0 : Dev nD) i (tbl m 0)), (0#32).toNat, (BitVec.ofNat 32 (i 0).val).toNat] = _
  rw [word_small _ (lt_trans (coord_zero_lt i) (by decide))]; rfl

/-- The index of window 2's block: the word read, then the second half of the columns. -/
theorem transform_2 (i : grid0.Coords) : cc0_transform_2 k0_off1_inb numel1_S1 (tbl m) i = ![(tbl m 0 (wordIdx i)).toNat, 0, 2 + (i 0).val] := by
  rw [← curWord_eq (0 : Dev nD) i (tbl m 0)]
  show ![BitVec.toNat (curWord (0 : Dev nD) i (tbl m 0)), (0#32).toNat, (Scalar.addi 2#32 (BitVec.ofNat 32 (i 0).val)).toNat] = _
  rw [word_two_add _ (coord_zero_lt i)]; rfl

/-- The index of window 3's block. -/
theorem transform_3 (i : grid0.Coords) : cc0_transform_3 k0_off1_inb numel1_S1 (tbl m) i = ![(tbl m 0 (wordIdx i)).toNat, 0, (i 0).val] := transform_1 m i

/-- The index of window 4's block. -/
theorem transform_4 (i : grid0.Coords) : cc0_transform_4 k0_off1_inb numel1_S1 (tbl m) i = ![(tbl m 0 (wordIdx i)).toNat, 0, 2 + (i 0).val] := transform_2 m i

/-- Words below 32 and a count between 1 and 161 name blocks inside the arrays. -/
theorem ok_of_words (h : ∀ i : S168.Idx, (tbl m 0 i).toNat < 32) (h1 : 1 ≤ (cnt m).toNat) (h2 : (cnt m).toNat ≤ 161) : Ok m := by
  refine ⟨fun i => ⟨fun a => ?_, Or.inl rfl⟩, fun i => ⟨fun a => ?_, Or.inl rfl⟩, fun i => ⟨fun a => ?_, Or.inl rfl⟩, fun i => ⟨fun a => ?_, Or.inl rfl⟩, fun i => ⟨fun a => ?_, Or.inl rfl⟩⟩
  · rw [transform_0 m i h1 h2]
    have := coord_one_lt i
    match a with
    | ⟨0, _⟩ => show (min (i 1).val ((cnt m).toNat - 1) + 1) * 256 ≤ 41216; omega
    | ⟨1, _⟩ => show (0 + 1) * 1024 ≤ 1024; omega
  · rw [transform_1]
    have := h (wordIdx i)
    have := coord_zero_lt i
    match a with
    | ⟨0, _⟩ => show ((tbl m 0 _).toNat + 1) * 1 ≤ 32; omega
    | ⟨1, _⟩ => show (0 + 1) * 2048 ≤ 2048; omega
    | ⟨2, _⟩ => show ((i 0).val + 1) * 1024 ≤ 4096; omega
  · rw [transform_2]
    have := h (wordIdx i)
    have := coord_zero_lt i
    match a with
    | ⟨0, _⟩ => show ((tbl m 0 _).toNat + 1) * 1 ≤ 32; omega
    | ⟨1, _⟩ => show (0 + 1) * 2048 ≤ 2048; omega
    | ⟨2, _⟩ => show (2 + (i 0).val + 1) * 1024 ≤ 4096; omega
  · rw [transform_3]
    have := h (wordIdx i)
    have := coord_zero_lt i
    match a with
    | ⟨0, _⟩ => show ((tbl m 0 _).toNat + 1) * 1 ≤ 32; omega
    | ⟨1, _⟩ => show (0 + 1) * 1 ≤ 1; omega
    | ⟨2, _⟩ => show ((i 0).val + 1) * 1024 ≤ 4096; omega
  · rw [transform_4]
    have := h (wordIdx i)
    have := coord_zero_lt i
    match a with
    | ⟨0, _⟩ => show ((tbl m 0 _).toNat + 1) * 1 ≤ 32; omega
    | ⟨1, _⟩ => show (0 + 1) * 1 ≤ 1; omega
    | ⟨2, _⟩ => show (2 + (i 0).val + 1) * 1024 ≤ 4096; omega

end Cert.KernelIdeal.Hand

end
-- ==== Proof.GateSpec.lean ====
/- The gate and up projection as mathematics: block by block of 256 rows, the rows against the two halves of the columns of
   the block's expert, and the gated product of the two; zero in the blocks that are not in use. -/
module

public import proofs.«01_k».proof.Proof.DownSpec

@[expose] public section

noncomputable section

namespace Cert.Spec

open Idealize.ShloMosaic

/-- The two numbers packed in a word: the one of its low half, and the one of its high half. -/
def low (v : BitVec 32) : Ideal .f32 := Ideal.ofBits .f32 (v <<< (16#32 : BitVec 32))
def high (v : BitVec 32) : Ideal .f32 := Ideal.ofBits .f32 (v &&& 4294901760#32)

/-- Whichever unit shifts or masks the word, these are the numbers it makes. -/
theorem low_of_shift (u : ArithUnit) (v : BitVec 32) : Ideal.ofBits .f32 (IntOp.shli u v 16#32) = low v :=
  congrArg (Ideal.ofBits .f32) (if_pos (by decide))

/-- A word under the mask of its upper half reads as the upper half's number. -/
theorem high_of_mask (v : BitVec 32) : Ideal.ofBits .f32 (IntOp.andi v 4294901760#32) = high v := rfl

/-- A small number, compared as signed with a small word, compares as the natural numbers do. -/
theorem slt_small (k : Nat) (n : BitVec 32) (hk : k < 161) (hn : n.toNat ≤ 161) : (BitVec.ofNat 32 k).slt n = decide (k < n.toNat) := by
  have e1 := BitVec.toInt_eq_toNat_cond n
  have e2 := BitVec.toInt_eq_toNat_cond (BitVec.ofNat 32 k)
  have e3 : (BitVec.ofNat 32 k).toNat = k := by rw [BitVec.toNat_ofNat]; exact Nat.mod_eq_of_lt (by omega)
  rw [e3] at e2
  rw [if_pos (by omega)] at e1 e2
  unfold BitVec.slt
  rw [e1, e2]
  simp only [Nat.cast_lt]

/-- The gated product of a gate entry and an up entry, both clipped: `(up + 1) · gate · σ(1.702 · gate)`. -/
def gated (g u : Ideal .f32) : Ideal .f32 :=
  ((min (Ideal.ofBits .f32 0x40E00000#32) (max (Ideal.ofBits .f32 0xC0E00000#32) u) + 1 : Ideal .f32)
    * ((min g (Ideal.ofBits .f32 0x40E00000#32) : Ideal .f32) * Ideal.logistic ((Ideal.ofBits .f32 0x3FD9DB23#32 * min g (Ideal.ofBits .f32 0x40E00000#32) : Ideal .f32)) : Ideal .f32) : Ideal .f32)

/-- A packed row, unpacked, against a column, plus a bias. -/
def against (x : Fin 1024 → BitVec 32) (w : Fin 2048 → Ideal .f32) (b : Ideal .f32) : Ideal .f32 :=
  ((∑ k : Fin 1024, (low (x k) * w (⟨k.val, by have := k.isLt; omega⟩ : Fin 2048) : Ideal .f32))
    + (∑ k : Fin 1024, (high (x k) * w (⟨1024 + k.val, by have := k.isLt; omega⟩ : Fin 2048) : Ideal .f32)) + b : Ideal .f32)

/-- Equal rows, columns and biases give equal products. -/
theorem against_congr {x x' : Fin 1024 → BitVec 32} {w w' : Fin 2048 → Ideal .f32} {b b' : Ideal .f32}
    (hx : x = x') (hw : w = w') (hb : b = b') : against x w b = against x' w' b' := by rw [hx, hw, hb]

/-- Row `r`, unpacked, against column `p` of the matrix of the row's expert, plus the expert's bias. -/
def hidden (t : (⟨1, ![168]⟩ : Shape).Idx → BitVec 32) (h : ∀ i, (t i).toNat < 32)
    (x : (⟨2, ![41216, 1024]⟩ : Shape).Idx → BitVec 32) (w : (⟨3, ![32, 2048, 4096]⟩ : Shape).Idx → Elt Ideal .f32)
    (b : (⟨3, ![32, 1, 4096]⟩ : Shape).Idx → Elt Ideal .f32) (r : Fin 41216) (p : Fin 4096) : Ideal .f32 :=
  against (fun k => x (ix2 r k)) (fun k => w (ix3 (expert t h r) k p)) (b (ix3 (expert t h r) 0 p))

/-- Row `r` of the result at column `q`, where `n` blocks are in use. -/
def gate (t : (⟨1, ![168]⟩ : Shape).Idx → BitVec 32) (h : ∀ i, (t i).toNat < 32) (n : BitVec 32)
    (x : (⟨2, ![41216, 1024]⟩ : Shape).Idx → BitVec 32) (w : (⟨3, ![32, 2048, 4096]⟩ : Shape).Idx → Elt Ideal .f32)
    (b : (⟨3, ![32, 1, 4096]⟩ : Shape).Idx → Elt Ideal .f32) (r : Fin 41216) (q : Fin 2048) : Ideal .bf16 :=
  if (blockOf r).val < n.toNat then
    gated (hidden t h x w b r ⟨q.val, by have := q.isLt; omega⟩) (hidden t h x w b r ⟨2048 + q.val, by have := q.isLt; omega⟩)
  else (0 : EReal)

end Cert.Spec

end
-- ==== Proof.GateIdealValue.lean ====
/- The gate and up projection's value over the reals: the block of each point at its indices, and the array after the run. -/
module

public import proofs.«01_k».proof.Proof.GateIdealOk
public import proofs.«01_k».proof.Proof.GateSpec
public import Idealize.ShloMosaic.Lib.Pointwise
public import Idealize.ShloMosaic.Lib.Pipeline.ValueKit.Basic
public import Idealize.ShloMosaic.Lib.StableHlo.Predicate

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The payload at row `r` and column `q`: the row, unpacked, against the gate column and the up column, plus their
    biases, and the gated product of the two. -/
theorem pay4_apply (x : Vec Ideal S256x1024 .i32) (wg wu : Vec Ideal S1x2048x1024 .f32) (bg bu : Vec Ideal S1x1x1024 .f32) (r : Fin 256) (q : Fin 1024) :
    k0_pay4 x (k0_pay1 wg) bg (k0_pay2 wu) bu (ix2 r q)
      = Cert.Spec.gated (Cert.Spec.against (fun k => x (ix2 r k)) (fun k => wg (ix3 0 k q)) (bg (ix3 0 0 q)))
          (Cert.Spec.against (fun k => x (ix2 r k)) (fun k => wu (ix3 0 k q)) (bu (ix3 0 0 q))) := by
  pointwise [k0_pay4, k0_pay2, k0_pay1]
  simp only [Cert.Spec.low_of_shift, Cert.Spec.high_of_mask]
  rfl

/-- The payload of a block not in use is zero. -/
theorem pay3_apply (r : Fin 256) (q : Fin 1024) : (k0_pay3 (F := Ideal)) (ix2 r q) = (0 : EReal) :=
  Ideal.ofBits_zero_bf16

/-- The coordinates of point `t`: the row block runs fastest. -/
theorem coords_of : ∀ t : Fin grid0.N, (grid0.coords t 1).val = t.val % 161 ∧ (grid0.coords t 0).val = t.val / 161 := by decide +kernel

/-- A block of rows is in use exactly where its number is below the count. -/
theorem used_iff (i : grid0.Coords) (v : BitVec 32) (hv : v.toNat ≤ 161) : k0_cond2 i v = 1#1 ↔ (i 1).val < v.toNat := by
  have key : ∀ p : Bool, Scalar.cmpi .ne (Scalar.extui (BitVec.ofBool p) : BitVec 32) 0#32 = BitVec.ofBool p := by decide
  have h2 : k0_cond2 i v = BitVec.ofBool ((BitVec.ofNat 32 (i 1).val).slt v) := key _
  rw [h2, Cert.Spec.slt_small _ _ (coord_one_lt i) hv, StableHlo.Predicate.ofBool_eq_one_iff, decide_eq_true_eq]

/-- Row `r` and column `q` of point `t`'s block in the whole array. -/
def rowOf (t : Fin grid0.N) (r : Fin 256) : Fin 41216 :=
  ⟨(grid0.coords t 1).val * 256 + r.val, by have := coord_one_lt (grid0.coords t); have := r.isLt; omega⟩
def colOf (t : Fin grid0.N) (q : Fin 1024) : Fin 2048 :=
  ⟨(grid0.coords t 0).val * 1024 + q.val, by have := coord_zero_lt (grid0.coords t); have := q.isLt; omega⟩

/-- The rows of a point lie in its block of rows. -/
theorem blockOf_rowOf (t : Fin grid0.N) (r : Fin 256) : (Cert.Spec.blockOf (rowOf t r)).val = (grid0.coords t 1).val := by
  show ((grid0.coords t 1).val * 256 + r.val) / 256 = (grid0.coords t 1).val
  have := r.isLt; omega

/-- The word a point looks up is that of its block of rows. -/
theorem wordIdx_block (t : Fin grid0.N) (r : Fin 256) : wordIdx (grid0.coords t) = ix1 (Cert.Spec.blockOf (rowOf t r)) := by
  unfold wordIdx
  congr 1
  exact Fin.ext (blockOf_rowOf t r).symm

/-- The column of the gate half, and of the up half, that column `q` of the result is made of. -/
def gcol (q : Fin 2048) : Fin 4096 := ⟨q.val, by have := q.isLt; omega⟩
def ucol (q : Fin 2048) : Fin 4096 := ⟨2048 + q.val, by have := q.isLt; omega⟩

variable (h : ∀ i : S168.Idx, (tbl m 0 i).toNat < 32) (h1 : 1 ≤ (cnt m).toNat) (h2 : (cnt m).toNat ≤ 161)

include h1 h2 in
/-- The block of rows at its indices, where it is in use. -/
theorem iblk_0 (hO : Ok m) (c : Dev nD) (t : Fin (cfgM m hO).N) (hu : (grid0.coords t 1).val < (cnt m).toNat) (r : Fin 256) (k : Fin 1024) :
    iblk m hO c 0 t (ix2 r k) = V m c main_arg2 (ix2 (rowOf t r) k) := by
  show V m c main_arg2 ((((cfgM m hO).win 0).rect t).emb (ix2 r k)) = _
  refine congrArg (V m c main_arg2) ?_
  funext a
  refine Fin.ext ?_
  refine (Window.rect_emb_val ((cfgM m hO).win 0) t (ix2 r k) a).trans ?_
  rw [show ((cfgM m hO).win 0).index t = _ from transform_0 m (grid0.coords t) h1 h2, Nat.min_eq_left (by omega)]
  match a with
  | ⟨0, _⟩ => rfl
  | ⟨1, _⟩ => show 0 * 1024 + k.val = k.val; omega

/-- The block of gate weights at its indices: columns of the matrix of the expert that the table names. -/
theorem iblk_1 (hO : Ok m) (c : Dev nD) (t : Fin (cfgM m hO).N) (r : Fin 256) (k : Fin 2048) (q : Fin 1024) :
    iblk m hO c 1 t (ix3 0 k q) = V m c main_arg3 (ix3 (Cert.Spec.expert (tbl m 0) h (rowOf t r)) k (gcol (colOf t q))) := by
  show V m c main_arg3 ((((cfgM m hO).win 1).rect t).emb (ix3 0 k q)) = _
  refine congrArg (V m c main_arg3) ?_
  funext a
  refine Fin.ext ?_
  refine (Window.rect_emb_val ((cfgM m hO).win 1) t (ix3 0 k q) a).trans ?_
  rw [show ((cfgM m hO).win 1).index t = _ from transform_1 m (grid0.coords t), wordIdx_block t r]
  match a with
  | ⟨0, _⟩ => show (tbl m 0 _).toNat * 1 + 0 = (tbl m 0 _).toNat; omega
  | ⟨1, _⟩ => show 0 * 2048 + k.val = k.val; omega
  | ⟨2, _⟩ => show ((grid0.coords t 0).val) * 1024 + q.val = ((grid0.coords t 0).val * 1024 + q.val); omega

/-- The block of up weights at its indices: columns of the matrix of the expert that the table names. -/
theorem iblk_2 (hO : Ok m) (c : Dev nD) (t : Fin (cfgM m hO).N) (r : Fin 256) (k : Fin 2048) (q : Fin 1024) :
    iblk m hO c 2 t (ix3 0 k q) = V m c main_arg3 (ix3 (Cert.Spec.expert (tbl m 0) h (rowOf t r)) k (ucol (colOf t q))) := by
  show V m c main_arg3 ((((cfgM m hO).win 2).rect t).emb (ix3 0 k q)) = _
  refine congrArg (V m c main_arg3) ?_
  funext a
  refine Fin.ext ?_
  refine (Window.rect_emb_val ((cfgM m hO).win 2) t (ix3 0 k q) a).trans ?_
  rw [show ((cfgM m hO).win 2).index t = _ from transform_2 m (grid0.coords t), wordIdx_block t r]
  match a with
  | ⟨0, _⟩ => show (tbl m 0 _).toNat * 1 + 0 = (tbl m 0 _).toNat; omega
  | ⟨1, _⟩ => show 0 * 2048 + k.val = k.val; omega
  | ⟨2, _⟩ => show (2 + (grid0.coords t 0).val) * 1024 + q.val = 2048 + ((grid0.coords t 0).val * 1024 + q.val); omega

/-- The block of gate biases at its indices. -/
theorem iblk_3 (hO : Ok m) (c : Dev nD) (t : Fin (cfgM m hO).N) (r : Fin 256) (q : Fin 1024) :
    iblk m hO c 3 t (ix3 0 0 q) = V m c main_arg4 (ix3 (Cert.Spec.expert (tbl m 0) h (rowOf t r)) 0 (gcol (colOf t q))) := by
  show V m c main_arg4 ((((cfgM m hO).win 3).rect t).emb (ix3 0 0 q)) = _
  refine congrArg (V m c main_arg4) ?_
  funext a
  refine Fin.ext ?_
  refine (Window.rect_emb_val ((cfgM m hO).win 3) t (ix3 0 0 q) a).trans ?_
  rw [show ((cfgM m hO).win 3).index t = _ from transform_3 m (grid0.coords t), wordIdx_block t r]
  match a with
  | ⟨0, _⟩ => show (tbl m 0 _).toNat * 1 + 0 = (tbl m 0 _).toNat; omega
  | ⟨1, _⟩ => show 0 * 1 + 0 = 0; omega
  | ⟨2, _⟩ => show ((grid0.coords t 0).val) * 1024 + q.val = ((grid0.coords t 0).val * 1024 + q.val); omega

/-- The block of up biases at its indices. -/
theorem iblk_4 (hO : Ok m) (c : Dev nD) (t : Fin (cfgM m hO).N) (r : Fin 256) (q : Fin 1024) :
    iblk m hO c 4 t (ix3 0 0 q) = V m c main_arg4 (ix3 (Cert.Spec.expert (tbl m 0) h (rowOf t r)) 0 (ucol (colOf t q))) := by
  show V m c main_arg4 ((((cfgM m hO).win 4).rect t).emb (ix3 0 0 q)) = _
  refine congrArg (V m c main_arg4) ?_
  funext a
  refine Fin.ext ?_
  refine (Window.rect_emb_val ((cfgM m hO).win 4) t (ix3 0 0 q) a).trans ?_
  rw [show ((cfgM m hO).win 4).index t = _ from transform_4 m (grid0.coords t), wordIdx_block t r]
  match a with
  | ⟨0, _⟩ => show (tbl m 0 _).toNat * 1 + 0 = (tbl m 0 _).toNat; omega
  | ⟨1, _⟩ => show 0 * 1 + 0 = 0; omega
  | ⟨2, _⟩ => show (2 + (grid0.coords t 0).val) * 1024 + q.val = 2048 + ((grid0.coords t 0).val * 1024 + q.val); omega

/-- The number of the point that a row's block and a column's tile are worked at. -/
def pointOf (hO : Ok m) (r : Fin 41216) (q : Fin 2048) : Fin (cfgM m hO).N :=
  ⟨q.val / 1024 * 161 + r.val / 256, show q.val / 1024 * 161 + r.val / 256 < 322 by have := r.isLt; have := q.isLt; omega⟩

/-- The whole result: the mathematical gate and up projection of the launch memory. -/
def out (c : Dev nD) : S41216x2048.Idx → Elt Ideal .bf16 :=
  fun i => Cert.Spec.gate (tbl m 0) h (cnt m) (V m c main_arg2) (V m c main_arg3) (V m c main_arg4) (i 0) (i 1)

include h1 h2 in
/-- The block that point `t` writes is the block of `out`. -/
theorem oblk_apply (hO : Ok m) (c : Dev nD) (t : Fin (cfgM m hO).N) (r : Fin 256) (q : Fin 1024) :
    oblk m hO c t (ix2 r q) = out m h c (ix2 (rowOf t r) (colOf t q)) := by
  have hw : usedWord c (tbl m 1) = cnt m := usedWord_eq c (tbl m 1)
  have hi := used_iff (grid0.coords t) (cnt m) h2
  have hb := blockOf_rowOf t r
  show oblk m hO c t (ix2 r q) = Cert.Spec.gate (tbl m 0) h (cnt m) (V m c main_arg2) (V m c main_arg3) (V m c main_arg4) (rowOf t r) (colOf t q)
  unfold Cert.Spec.gate oblk
  by_cases hu : (grid0.coords t 1).val < (cnt m).toNat
  · rw [if_pos (show (Cert.Spec.blockOf (rowOf t r)).val < (cnt m).toNat by rw [hb]; exact hu),
      if_pos (show k0_cond2 (grid0.coords t) (usedWord c (tbl m 1)) = 1#1 by rw [hw]; exact hi.mpr hu)]
    refine (pay4_apply (iblk m hO c 0 t) (iblk m hO c 1 t) (iblk m hO c 2 t) (iblk m hO c 3 t) (iblk m hO c 4 t) r q).trans ?_
    have e0 : (fun k => iblk m hO c 0 t (ix2 r k)) = fun k => V m c main_arg2 (ix2 (rowOf t r) k) := funext fun k => iblk_0 m h1 h2 hO c t hu r k
    have e1 : (fun k => iblk m hO c 1 t (ix3 0 k q)) = fun k => V m c main_arg3 (ix3 (Cert.Spec.expert (tbl m 0) h (rowOf t r)) k (gcol (colOf t q))) := funext fun k => iblk_1 m h hO c t r k q
    have e2 : (fun k => iblk m hO c 2 t (ix3 0 k q)) = fun k => V m c main_arg3 (ix3 (Cert.Spec.expert (tbl m 0) h (rowOf t r)) k (ucol (colOf t q))) := funext fun k => iblk_2 m h hO c t r k q
    have e3 := iblk_3 m h hO c t r q
    have e4 := iblk_4 m h hO c t r q
    exact congrArg₂ Cert.Spec.gated (Cert.Spec.against_congr e0 e1 e3) (Cert.Spec.against_congr e0 e2 e4)
  · rw [if_neg (show ¬(Cert.Spec.blockOf (rowOf t r)).val < (cnt m).toNat by rw [hb]; exact hu),
      if_neg (show ¬k0_cond2 (grid0.coords t) (usedWord c (tbl m 1)) = 1#1 by rw [hw]; exact fun e => hu (hi.mp e))]
    exact pay3_apply r q

/-- The result's block at point `t`. -/
theorem index_5 (hO : Ok m) (t : Fin (cfgM m hO).N) : ((cfgM m hO).win 5).index t = ![(grid0.coords t 1).val, (grid0.coords t 0).val] := by
  show ![(BitVec.ofNat 32 (grid0.coords t 1).val).toNat, (BitVec.ofNat 32 (grid0.coords t 0).val).toNat] = _
  rw [word_small _ (coord_one_lt _), word_small _ (lt_trans (coord_zero_lt _) (by decide))]

/-- Every point writes its block back. -/
theorem flush_5 (hO : Ok m) (t : Fin (cfgM m hO).N) : ((cfgM m hO).win 5).flush t = true :=
  (Pipeline.Window.flushOf_reads cc0_transform_5 reads0_5 hreads0_5 1 (by decide) (by decide) (Pipeline.Window.sep_of_coord cc0_transform_5 1 0 (fun _ => rfl) (by decide)) (P := 1) (m := 0) (by decide) rfl t).mpr (Nat.mod_one _)

include h1 h2 in
/-- After the run the result array is `out`. -/
theorem final_5 (hO : Ok m) (c : Dev nD) : (dats m hO 0 c).arrAt 5 (cfgM m hO).N = out m h c := by
  refine (dats m hO 0 c).arrAt_eq_of_cover 5 (out m h c) (fun t _ => ?_) fun (i : S41216x2048.Idx) => ?_
  · show (dats m hO 0 c).after 5 t = _
    rw [after_5]
    funext j
    obtain ⟨r, q, rfl⟩ : ∃ (r : Fin 256) (q : Fin 1024), j = ix2 r q := ⟨j 0, j 1, eq_ix2 j⟩
    rw [oblk_apply m h h1 h2]
    show _ = out m h c ((((cfgM m hO).win 5).rect t).emb (ix2 r q))
    refine congrArg (out m h c) ?_
    funext a
    refine Fin.ext ?_
    refine Eq.symm ((Window.rect_emb_val ((cfgM m hO).win 5) t (ix2 r q) a).trans ?_)
    rw [index_5]
    match a with
    | ⟨0, _⟩ => rfl
    | ⟨1, _⟩ => rfl
  · refine ⟨pointOf m hO (i 0) (i 1), flush_5 m hO _, ?_⟩
    have hm := (((cfgM m hO).win 5).blk (pointOf m hO (i 0) (i 1))).view.emb_mem_set (ix2 (⟨(i 0).val % 256, Nat.mod_lt _ (by decide)⟩ : Fin 256) (⟨(i 1).val % 1024, Nat.mod_lt _ (by decide)⟩ : Fin 1024))
    have he : (((cfgM m hO).win 5).rect (pointOf m hO (i 0) (i 1))).emb (ix2 (⟨(i 0).val % 256, Nat.mod_lt _ (by decide)⟩ : Fin 256) (⟨(i 1).val % 1024, Nat.mod_lt _ (by decide)⟩ : Fin 1024)) = i := by
      have i0 : (i 0).val < 41216 := (i 0).isLt
      have i1 : (i 1).val < 2048 := (i 1).isLt
      obtain ⟨c1, c0⟩ := coords_of (pointOf m hO (i 0) (i 1))
      funext a
      refine Fin.ext ((Window.rect_emb_val ((cfgM m hO).win 5) (pointOf m hO (i 0) (i 1)) _ a).trans ?_)
      rw [index_5, c1, c0]
      match a with
      | ⟨0, _⟩ => show ((i 1).val / 1024 * 161 + (i 0).val / 256) % 161 * 256 + (i 0).val % 256 = (i 0).val; omega
      | ⟨1, _⟩ => show ((i 1).val / 1024 * 161 + (i 0).val / 256) / 161 * 1024 + (i 1).val % 1024 = (i 1).val; omega
    exact Eq.mp (congrArg (fun x : S41216x2048.Idx => x ∈ (((cfgM m hO).win 5).blk (pointOf m hO (i 0) (i 1))).view.set) he) hm

end Cert.KernelIdeal.Hand

end
-- ==== Proof.GateReference.lean ====
/- The gate and up projection's reference at an index: the mathematical gate and up projection. -/
module

public import proofs.«01_k».proof.Proof.Gather
public import proofs.«01_k».proof.Proof.GateSpec
public import proofs.«01_k».proof.Proof.Gen.ReferenceIdeal.Run
public import Idealize.ShloMosaic.Lib.Routing.OpsPair
public import Idealize.ShloMosaic.Lib.StableHlo.Predicate
public import Idealize.ShloMosaic.Lib.Pointwise
public import Idealize.ShloMosaic.Lib.Pointwise.IndexBridge

@[expose] public section

noncomputable section

namespace Cert.ReferenceIdeal.Hand

open Cert.ReferenceIdeal Cert.ReferenceIdeal.Gen
open Idealize.ShloMosaic

/-- The words at which the reference reads its tables: those of the table of experts, a negative one moved up by 32. -/
def words (t : S168.Idx → BitVec 32) : IVec S161x1 32 :=
  broadcastInDim S161x1 ![0] bcast_S161_S161x1_0 (select (cmpi .slt (extractStridedSlice S161 ![0] t slices_S168_S161_0) (broadcastInDim S161 ![] bcast_S_S161 (constantI S_ 32 0#32))) (addi (extractStridedSlice S161 ![0] t slices_S168_S161_0) (broadcastInDim S161 ![] bcast_S_S161 (constantI S_ 32 32#32))) (extractStridedSlice S161 ![0] t slices_S168_S161_0))

/-- No word is negative, so each is the table's. -/
theorem words_apply (t : S168.Idx → BitVec 32) (h : ∀ i, (t i).toNat < 32) (n : Fin 161) :
    (words t (ix2 n 0)).toInt = (t (ix1 (⟨n.val, by have := n.isLt; omega⟩ : Fin 168))).toNat := by
  have e : words t (ix2 n 0) = Scalar.select (IntOp.cmpi .slt (t (ix1 (⟨n.val, by have := n.isLt; omega⟩ : Fin 168))) 0#32) (t (ix1 (⟨n.val, by have := n.isLt; omega⟩ : Fin 168)) + 32#32) (t (ix1 (⟨n.val, by have := n.isLt; omega⟩ : Fin 168))) := by
    pointwise [words]
    rfl
  have hh := h (ix1 (⟨n.val, by have := n.isLt; omega⟩ : Fin 168))
  rw [e, Routing.wrap_of_lt _ _ (by omega)]
  exact StableHlo.Predicate.toInt_eq_toNat_of_lt (by omega)

/-- The gathered matrices at their indices. -/
theorem gather_w (t : S168.Idx → BitVec 32) (h : ∀ i, (t i).toNat < 32) (w : FVec Ideal S32x2048x4096 .f32) (n : Fin 161) (p : Fin 2048) (q : Fin 4096) :
    Host.gather gather_S32x2048x4096_S161x1_S161x2048x4096_12_0_n_n_0_1_120484096 w (words t) (ix3 n p q)
      = w (ix3 (⟨(t (ix1 (⟨n.val, by have := n.isLt; omega⟩ : Fin 168))).toNat, h _⟩ : Fin 32) p q) := by
  have e := words_apply t h n
  rw [ix2_eq_valueIdx] at e
  rw [ix3_eq_valueIdx, ix3_eq_valueIdx]
  exact Cert.Layout.gather_matrix 32 2048 4096 161 _ w (words t) n p q ⟨_, h _⟩ e

/-- The gathered biases at their indices. -/
theorem gather_b (t : S168.Idx → BitVec 32) (h : ∀ i, (t i).toNat < 32) (b : FVec Ideal S32x1x4096 .f32) (n : Fin 161) (p : Fin 1) (q : Fin 4096) :
    Host.gather gather_S32x1x4096_S161x1_S161x1x4096_12_0_n_n_0_1_114096 b (words t) (ix3 n p q)
      = b (ix3 (⟨(t (ix1 (⟨n.val, by have := n.isLt; omega⟩ : Fin 168))).toNat, h _⟩ : Fin 32) p q) := by
  have e := words_apply t h n
  rw [ix2_eq_valueIdx] at e
  rw [ix3_eq_valueIdx, ix3_eq_valueIdx]
  exact Cert.Layout.gather_matrix 32 1 4096 161 _ b (words t) n p q ⟨_, h _⟩ e

/-- The rows, unpacked, against the matrices of their blocks, plus the biases. -/
def hid (t : S168.Idx → BitVec 32) (x : IVec S41216x1024 32) (w : FVec Ideal S32x2048x4096 .f32) (b : FVec Ideal S32x1x4096 .f32) : FVec Ideal S161x256x4096 .f32 :=
  addf (Host.dotGeneral dot_S161x256x2048_S161x2048x4096_S161x256x4096_2_1_1_2_0_0 none (shapeCast _ (concatenate S41216x2048 1 [⟨S41216x1024, (bitcastToFloat (F := Ideal) .f32 (Host.shli x (broadcastInDim S41216x1024 ![] bcast_S_S41216x1024 (constantI S_ 32 16#32))))⟩, ⟨S41216x1024, (bitcastToFloat (F := Ideal) .f32 (andi x (broadcastInDim S41216x1024 ![] bcast_S_S41216x1024 (constantI S_ 32 4294901760#32))))⟩] concatenates_S41216x1024_S41216x1024_S41216x2048_d1) shapeCasts_S41216x2048_S161x256x2048) (Host.gather gather_S32x2048x4096_S161x1_S161x2048x4096_12_0_n_n_0_1_120484096 w (words t))) (broadcastInDim S161x256x4096 ![0, 1, 2] bcast_S161x1x4096_S161x256x4096_0_1_2 (Host.gather gather_S32x1x4096_S161x1_S161x1x4096_12_0_n_n_0_1_114096 b (words t)))

/-- The same at block `n`, its row `r`, and column `p`. -/
theorem hid_apply (t : S168.Idx → BitVec 32) (h : ∀ i, (t i).toNat < 32) (x : IVec S41216x1024 32) (w : FVec Ideal S32x2048x4096 .f32) (b : FVec Ideal S32x1x4096 .f32)
    (n : Fin 161) (r : Fin 256) (p : Fin 4096) :
    hid t x w b (ix3 n r p) = Cert.Spec.hidden t h x w b (⟨n.val * 256 + r.val, by have := n.isLt; have := r.isLt; omega⟩ : Fin 41216) p := by
  have hn : Cert.Spec.blockOf (⟨n.val * 256 + r.val, by have := n.isLt; have := r.isLt; omega⟩ : Fin 41216) = (⟨n.val, by have := n.isLt; omega⟩ : Fin 168) := by
    refine Fin.ext ?_
    show (n.val * 256 + r.val) / 256 = n.val
    have := r.isLt; omega
  unfold Cert.Spec.hidden Cert.Spec.against Cert.Spec.expert
  simp only [hn]
  pointwise [hid]
  simp only [gather_w t h, gather_b t h, Cert.Spec.low_of_shift, Cert.Spec.high_of_mask]

/-- The reference's result as a function of its arguments. -/
def value (t : S168.Idx → BitVec 32) (n : S1.Idx → BitVec 32) (x : IVec S41216x1024 32) (w : FVec Ideal S32x2048x4096 .f32) (b : FVec Ideal S32x1x4096 .f32) : FVec Ideal S41216x2048 .bf16 :=
  truncf .bf16 (shapeCast _ (select (broadcastInDim S161x256x2048 ![0, 1, 2] bcast_S161x1x1_S161x256x2048_0_1_2 (broadcastInDim S161x1x1 ![0] bcast_S161_S161x1x1_0 (cmpi .slt (iotaInDim S161 32 0) (broadcastInDim S161 ![] bcast_S_S161 (shapeCast _ n shapeCasts_S1_S_))))) (mulf (addf (minimumf (broadcastInDim S161x256x2048 ![] bcast_S_S161x256x2048 (id (constant S_ .f32 0x40E00000#32))) (maximumf (broadcastInDim S161x256x2048 ![] bcast_S_S161x256x2048 (id (constant S_ .f32 0xC0E00000#32))) (extractStridedSlice S161x256x2048 ![0, 0, 2048] (hid t x w b) slices_S161x256x4096_S161x256x2048_0_0_2048))) (broadcastInDim S161x256x2048 ![] bcast_S_S161x256x2048 (constant S_ .f32 0x3F800000#32))) (mulf (minimumf (extractStridedSlice S161x256x2048 ![0, 0, 0] (hid t x w b) slices_S161x256x4096_S161x256x2048_0_0_0) (broadcastInDim S161x256x2048 ![] bcast_S_S161x256x2048 (constant S_ .f32 0x40E00000#32))) (Host.divf (broadcastInDim S161x256x2048 ![] bcast_S_S161x256x2048 (constant S_ .f32 0x3F800000#32)) (addf (broadcastInDim S161x256x2048 ![] bcast_S_S161x256x2048 (constant S_ .f32 0x3F800000#32)) (Host.exp (Host.negf (mulf (broadcastInDim S161x256x2048 ![] bcast_S_S161x256x2048 (constant S_ .f32 0x3FD9DB23#32)) (minimumf (extractStridedSlice S161x256x2048 ![0, 0, 0] (hid t x w b) slices_S161x256x4096_S161x256x2048_0_0_0) (broadcastInDim S161x256x2048 ![] bcast_S_S161x256x2048 (constant S_ .f32 0x40E00000#32)))))))))) (broadcastInDim S161x256x2048 ![] bcast_S_S161x256x2048 (id (constant S_ .f32 0x00000000#32)))) shapeCasts_S161x256x2048_S41216x2048) bitsLt_bf16_f32

/-- The reference's result at row `r` and column `q`. -/
theorem value_apply (t : S168.Idx → BitVec 32) (h : ∀ i, (t i).toNat < 32) (n : S1.Idx → BitVec 32) (hn : (n (ix1 0)).toNat ≤ 161) (x : IVec S41216x1024 32) (w : FVec Ideal S32x2048x4096 .f32) (b : FVec Ideal S32x1x4096 .f32)
    (r : Fin 41216) (q : Fin 2048) : value t n x w b (ix2 r q) = Cert.Spec.gate t h (n (ix1 0)) x w b r q := by
  pointwise [value]
  simp only [hid_apply t h]
  have hr : (⟨r.val / 256 * 256 + r.val % 256, by have := r.isLt; omega⟩ : Fin 41216) = r := Fin.ext (by show r.val / 256 * 256 + r.val % 256 = r.val; omega)
  have hc : IntOp.cmpi .slt (BitVec.ofNat 32 (r.val / 256)) (n (ix1 0)) = BitVec.ofBool (decide (r.val / 256 < (n (ix1 0)).toNat)) :=
    congrArg BitVec.ofBool (Cert.Spec.slt_small _ _ (by have := r.isLt; omega) hn)
  unfold Cert.Spec.gate
  rw [hr, hc]
  by_cases hu : r.val / 256 < (n (ix1 0)).toNat
  · rw [if_pos (show (Cert.Spec.blockOf r).val < (n (ix1 0)).toNat from hu), decide_eq_true hu]
    rfl
  · rw [if_neg (show ¬(Cert.Spec.blockOf r).val < (n (ix1 0)).toNat from hu), decide_eq_false hu]
    exact Ideal.ofBits_zero_f32

end Cert.ReferenceIdeal.Hand

end
-- ==== Proof.GateClaim.lean ====
/- The claims about the gate and up projection: the two runs of the kernel, the reference's, and their common result. -/
module

public import proofs.«01_k».proof.Proof.TablesGate
public import proofs.«01_k».proof.Proof.GateOk
public import proofs.«01_k».proof.Proof.GateIdealValue
public import proofs.«01_k».proof.Proof.GateReference
public import proofs.«01_k».proof.Proof.Gen.Pre_tables_in_range

@[expose] public section

noncomputable section

namespace Cert.Proof.Gate

open Idealize.ShloMosaic Idealize.SL.Sem

/-- The precondition makes every word of the table the number of an expert: at the bit patterns, and over the reals. -/
theorem words_bits (m : (ℓ : Loc Cert.Kernel.nD Cert.Kernel.τ Cert.Kernel.sig) → Buf (Elt Bits) ℓ)
    (h : Pre_Kernel (hPre_tables_in_range := Cert.Pre_tables_in_range.Gen.facts) m) (i : Cert.Kernel.S168.Idx) :
    (Cert.Kernel.Hand.tbl m 0 i : BitVec 32).toNat < 32 :=
  Cert.Tables.words _ _ _ _ _ (h 0) i

/-- Under the precondition the table's words, as the kernel over the reals holds them, are numbers of experts. -/
theorem words_ideal (m : (ℓ : Loc Cert.KernelIdeal.nD Cert.KernelIdeal.τ Cert.KernelIdeal.sig) → Buf (Elt Ideal) ℓ)
    (h : Pre_KernelIdeal (hPre_tables_in_range := Cert.Pre_tables_in_range.Gen.facts) m) (i : Cert.KernelIdeal.S168.Idx) :
    (Cert.KernelIdeal.Hand.tbl m 0 i : BitVec 32).toNat < 32 :=
  Cert.Tables.words _ _ _ _ _ (h 0) i

/-- It also puts the number of blocks in use between 1 and 161. -/
theorem count_bits (m : (ℓ : Loc Cert.Kernel.nD Cert.Kernel.τ Cert.Kernel.sig) → Buf (Elt Bits) ℓ)
    (h : Pre_Kernel (hPre_tables_in_range := Cert.Pre_tables_in_range.Gen.facts) m) :
    1 ≤ (Cert.Kernel.Hand.cnt m).toNat ∧ (Cert.Kernel.Hand.cnt m).toNat ≤ 161 :=
  Cert.Tables.count _ _ _ _ _ (h 0) _

/-- Under the precondition the number of blocks in use, as the kernel over the reals holds it, is between 1 and 161. -/
theorem count_ideal (m : (ℓ : Loc Cert.KernelIdeal.nD Cert.KernelIdeal.τ Cert.KernelIdeal.sig) → Buf (Elt Ideal) ℓ)
    (h : Pre_KernelIdeal (hPre_tables_in_range := Cert.Pre_tables_in_range.Gen.facts) m) :
    1 ≤ (Cert.KernelIdeal.Hand.cnt m).toNat ∧ (Cert.KernelIdeal.Hand.cnt m).toNat ≤ 161 :=
  Cert.Tables.count _ _ _ _ _ (h 0) _

/-- The kernel runs, leaves its arguments, and ends quiescent. -/
theorem frame_kernel : quiescent_Kernel (hKernel := Cert.Kernel.Gen.facts) (hPre_tables_in_range := Cert.Pre_tables_in_range.Gen.facts) :=
  fun m ρ hp => (θ_run Cert.Kernel.defs _ _).mono (fun _ h => ⟨fun c => (h.1 c).2, h.2⟩)
    (Cert.Kernel.Hand.run_final (F := Bits) m ρ (Cert.Kernel.Hand.ok_of_words m (words_bits m hp) (count_bits m hp).1 (count_bits m hp).2))

/-- So does the kernel over the reals. -/
theorem frame_ideal : quiescent_KernelIdeal (hKernelIdeal := Cert.KernelIdeal.Gen.facts) (hPre_tables_in_range := Cert.Pre_tables_in_range.Gen.facts) :=
  fun m ρ hp => (θ_run Cert.KernelIdeal.defs _ _).mono (fun _ h => ⟨fun c => (h.1 c).2, h.2⟩)
    (Cert.KernelIdeal.Hand.run_final (F := Ideal) m ρ (Cert.KernelIdeal.Hand.ok_of_words m (words_ideal m hp) (count_ideal m hp).1 (count_ideal m hp).2))

/-- So does the reference. -/
theorem frame_reference : quiescent_ReferenceIdeal (hReferenceIdeal := Cert.ReferenceIdeal.Gen.facts) (hPre_tables_in_range := Cert.Pre_tables_in_range.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- Kernel and reference end with the same result: the mathematical gate and up projection of the arguments. -/
theorem value : algebraic_KernelIdeal_ReferenceIdeal (hKernelIdeal := Cert.KernelIdeal.Gen.facts)
    (hReferenceIdeal := Cert.ReferenceIdeal.Gen.facts) (hPre_tables_in_range := Cert.Pre_tables_in_range.Gen.facts) := by
  intro m g m' g' hp he
  have hw := words_ideal m hp
  obtain ⟨h1, h2⟩ := count_ideal m hp
  have hO := Cert.KernelIdeal.Hand.ok_of_words m hw h1 h2
  refine ⟨fun c => Cert.KernelIdeal.Hand.out m hw c, ?_, ?_⟩
  · exact (θ_run Cert.KernelIdeal.defs _ _).mono
      (fun _ h c => ⟨(h.1 c).1.trans (Cert.KernelIdeal.Hand.final_5 m hw h1 h2 hO c), (h.1 c).2⟩)
      (Cert.KernelIdeal.Hand.run_final (F := Ideal) m g hO)
  · refine (θ_run Cert.ReferenceIdeal.defs _ _).mono (fun _ h c => ⟨(h c).1.trans ?_, (h c).2⟩)
      (Cert.ReferenceIdeal.Value.run (F := Ideal) m' g')
    obtain ⟨e0, e1, e2, e3, e4⟩ := he c
    unfold Cert.ReferenceIdeal.Value.res_main_v50
    rw [e0, e1, e2, e3, e4]
    obtain rfl : c = 0 := Subsingleton.elim _ _
    funext (j : Cert.ReferenceIdeal.S41216x2048.Idx)
    obtain ⟨r, q, rfl⟩ : ∃ (r : Fin 41216) (q : Fin 2048), j = ix2 r q := ⟨j 0, j 1, eq_ix2 j⟩
    exact Cert.ReferenceIdeal.Hand.value_apply _ hw _ h2 _ _ _ r q

end Cert.Proof.Gate

end
-- ==== Proof.lean ====
/- The claims of this directory, assembled from the modules that prove them. -/
module

public import proofs.«01_k».proof.Defs
public import proofs.«01_k».proof.Proof.DownClaim
public import proofs.«01_k».proof.Proof.ProjPromptClaim
public import proofs.«01_k».proof.Proof.ProjSampleClaim
public import proofs.«01_k».proof.Proof.CastClaim
public import proofs.«01_k».proof.Proof.MergeClaim
public import proofs.«01_k».proof.Proof.PoolClaim
public import proofs.«01_k».proof.Proof.PostClaim
public import proofs.«01_k».proof.Proof.MergeSampleClaim
public import proofs.«01_k».proof.Proof.PostSampleClaim
public import proofs.«01_k».proof.Proof.PoolSampleClaim
public import proofs.«01_k».proof.Proof.GateClaim
public import proofs.«01_k».proof.Proof.Gen.Pre_tables_in_range
public import proofs.«01_k».proof.Proof.Gen.Kernel.Skeleton
public import proofs.«01_k».proof.Proof.Gen.Kernel.Launch
public import proofs.«01_k».proof.Proof.Gen.KernelIdeal.Skeleton
public import proofs.«01_k».proof.Proof.Gen.KernelIdeal.Launch
public import proofs.«01_k».proof.Proof.Gen.ReferenceIdeal.Run
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import Idealize.ShloMosaic.Adequacy
public import Idealize.ShloMosaic.Init

@[expose] public section

noncomputable section

namespace Cert.Proof

/-- All the claims: the gate and up projection of the mixture of experts, its down projection, the input projection of
    the prompt and of the samples, the cast of the prompt's keys and values, the pooling of the prompt, the merge of its
    two branches, the norm and the router after it, and these last three calls on the samples. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_tables_in_range.Gen.facts, Cert.Pre_tables_in_range2.Gen.facts,
    Gate.frame_kernel, Gate.frame_ideal, Gate.frame_reference, Down.frame_kernel, Down.frame_ideal, Down.frame_reference, Prompt.frame_kernel, Prompt.frame_ideal, Prompt.frame_reference, Sample.frame_kernel, Sample.frame_ideal, Sample.frame_reference, Cast.frame_kernel, Cast.frame_ideal, Cast.frame_reference, Merge.frame_kernel, Merge.frame_ideal, Merge.frame_reference, Pool.frame_kernel, Pool.frame_ideal, Pool.frame_reference, Post.frame_kernel, Post.frame_ideal, Post.frame_reference, MergeSample.frame_kernel, MergeSample.frame_ideal, MergeSample.frame_reference, PostSample.frame_kernel, PostSample.frame_ideal, PostSample.frame_reference, PoolSample.frame_kernel, PoolSample.frame_ideal, PoolSample.frame_reference,
    trivial, Gate.value, trivial, Down.value, trivial, Prompt.value, trivial, Sample.value, trivial, Cast.value, trivial, Merge.value, trivial, Pool.value, Post.preserves, Post.value, trivial, MergeSample.value, PostSample.preserves, PostSample.value, trivial, PoolSample.value⟩

end Cert.Proof

end
